-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_idx_and_finite [hPre_idx_and_finite : Cert.Pre_idx_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_idx_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_and_finite [hPre_idx_and_finite : Cert.Pre_idx_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstIdeal_batch_in_range [hPre_batch_in_range : Cert.Pre_batch_in_range.Facts] (m : (ℓ : Loc Cert.FirstIdeal.nD Cert.FirstIdeal.τ Cert.FirstIdeal.sig) → Buf (Elt Ideal) ℓ) : Prop :=
  ∀ c : Dev Cert.FirstIdeal.nD,
    (Cert.Pre_batch_in_range.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6))) = (fun _ => 1#1)

def Pre_FirstReferenceIdeal (m : (ℓ : Loc Cert.FirstReferenceIdeal.nD Cert.FirstReferenceIdeal.τ Cert.FirstReferenceIdeal.sig) → Buf (Elt Ideal) ℓ) : Prop :=
  True

def Pre_FirstReferenceIdeal_batch_in_range [hPre_batch_in_range : Cert.Pre_batch_in_range.Facts] (m : (ℓ : Loc Cert.FirstReferenceIdeal.nD Cert.FirstReferenceIdeal.τ Cert.FirstReferenceIdeal.sig) → Buf (Elt Ideal) ℓ) : Prop :=
  ∀ c : Dev Cert.FirstReferenceIdeal.nD,
    (Cert.Pre_batch_in_range.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6))) = (fun _ => 1#1)

def Pre_Cells (m : (ℓ : Loc Cert.Cells.nD Cert.Cells.τ Cert.Cells.sig) → Buf (Elt Bits) ℓ) : Prop :=
  True

def Pre_CellsIdeal (m : (ℓ : Loc Cert.CellsIdeal.nD Cert.CellsIdeal.τ Cert.CellsIdeal.sig) → Buf (Elt Ideal) ℓ) : Prop :=
  True

def Pre_CellsReferenceIdeal (m : (ℓ : Loc Cert.CellsReferenceIdeal.nD Cert.CellsReferenceIdeal.τ Cert.CellsReferenceIdeal.sig) → Buf (Elt Ideal) ℓ) : Prop :=
  True

def Pre_Rank (m : (ℓ : Loc Cert.Rank.nD Cert.Rank.τ Cert.Rank.sig) → Buf (Elt Bits) ℓ) : Prop :=
  True

def Pre_RankIdeal (m : (ℓ : Loc Cert.RankIdeal.nD Cert.RankIdeal.τ Cert.RankIdeal.sig) → Buf (Elt Ideal) ℓ) : Prop :=
  True

def Pre_RankIdeal_cid_is_cell [hPre_cid_is_cell : Cert.Pre_cid_is_cell.Facts] (m : (ℓ : Loc Cert.RankIdeal.nD Cert.RankIdeal.τ Cert.RankIdeal.sig) → Buf (Elt Ideal) ℓ) : Prop :=
  ∀ c : Dev Cert.RankIdeal.nD,
    (Cert.Pre_cid_is_cell.fn (F := Ideal) (m ((c.tc : Thread Cert.RankIdeal.nD Cert.RankIdeal.τ).loc Cert.RankIdeal.main_arg0)) (m ((c.tc : Thread Cert.RankIdeal.nD Cert.RankIdeal.τ).loc Cert.RankIdeal.main_arg1))) = (fun _ => 1#1)

def Pre_RankReferenceIdeal (m : (ℓ : Loc Cert.RankReferenceIdeal.nD Cert.RankReferenceIdeal.τ Cert.RankReferenceIdeal.sig) → Buf (Elt Ideal) ℓ) : Prop :=
  True

def Pre_RankReferenceIdeal_cid_is_cell [hPre_cid_is_cell : Cert.Pre_cid_is_cell.Facts] (m : (ℓ : Loc Cert.RankReferenceIdeal.nD Cert.RankReferenceIdeal.τ Cert.RankReferenceIdeal.sig) → Buf (Elt Ideal) ℓ) : Prop :=
  ∀ c : Dev Cert.RankReferenceIdeal.nD,
    (Cert.Pre_cid_is_cell.fn (F := Ideal) (m ((c.tc : Thread Cert.RankReferenceIdeal.nD Cert.RankReferenceIdeal.τ).loc Cert.RankReferenceIdeal.main_arg0)) (m ((c.tc : Thread Cert.RankReferenceIdeal.nD Cert.RankReferenceIdeal.τ).loc Cert.RankReferenceIdeal.main_arg1))) = (fun _ => 1#1)

def Pre_Back [hPre_perm_in_rows : Cert.Pre_perm_in_rows.Facts] (m : (ℓ : Loc Cert.Back.nD Cert.Back.τ Cert.Back.sig) → Buf (Elt Bits) ℓ) : Prop :=
  ∀ c : Dev Cert.Back.nD,
    (Cert.Pre_perm_in_rows.fn (F := Bits) (m ((c.tc : Thread Cert.Back.nD Cert.Back.τ).loc Cert.Back.main_arg0)) (m ((c.tc : Thread Cert.Back.nD Cert.Back.τ).loc Cert.Back.main_arg1))) = (fun _ => 1#1)

def Pre_BackIdeal [hPre_perm_in_rows : Cert.Pre_perm_in_rows.Facts] (m : (ℓ : Loc Cert.BackIdeal.nD Cert.BackIdeal.τ Cert.BackIdeal.sig) → Buf (Elt Ideal) ℓ) : Prop :=
  ∀ c : Dev Cert.BackIdeal.nD,
    (Cert.Pre_perm_in_rows.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1))) = (fun _ => 1#1)

def Pre_BackReferenceIdeal (m : (ℓ : Loc Cert.BackReferenceIdeal.nD Cert.BackReferenceIdeal.τ Cert.BackReferenceIdeal.sig) → Buf (Elt Ideal) ℓ) : Prop :=
  True

def Pre_BackReferenceIdeal_perm_in_rows [hPre_perm_in_rows : Cert.Pre_perm_in_rows.Facts] (m : (ℓ : Loc Cert.BackReferenceIdeal.nD Cert.BackReferenceIdeal.τ Cert.BackReferenceIdeal.sig) → Buf (Elt Ideal) ℓ) : Prop :=
  ∀ c : Dev Cert.BackReferenceIdeal.nD,
    (Cert.Pre_perm_in_rows.fn (F := Ideal) (m ((c.tc : Thread Cert.BackReferenceIdeal.nD Cert.BackReferenceIdeal.τ).loc Cert.BackReferenceIdeal.main_arg0)) (m ((c.tc : Thread Cert.BackReferenceIdeal.nD Cert.BackReferenceIdeal.τ).loc Cert.BackReferenceIdeal.main_arg1))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_idx_and_finite [hKernelIdeal : Cert.KernelIdeal.Facts] [hPre_idx_and_finite : Cert.Pre_idx_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_idx_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_idx_and_finite [hReferenceIdeal : Cert.ReferenceIdeal.Facts] [hPre_idx_and_finite : Cert.Pre_idx_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ r.2.sem = fun _ => 0)

def quiescent_FirstIdeal_pre_batch_in_range [hFirstIdeal : Cert.FirstIdeal.Facts] [hPre_batch_in_range : Cert.Pre_batch_in_range.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal_batch_in_range m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6))
      ∧ r.2.sem = fun _ => 0)

def quiescent_FirstReferenceIdeal_pre_batch_in_range [hFirstReferenceIdeal : Cert.FirstReferenceIdeal.Facts] [hPre_batch_in_range : Cert.Pre_batch_in_range.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal_batch_in_range m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6))
      ∧ r.2.sem = fun _ => 0)

def quiescent_Cells [hCells : Cert.Cells.Facts] : Prop :=
  ∀ (m : (ℓ : Loc Cert.Cells.nD Cert.Cells.τ Cert.Cells.sig) → Buf (Elt Bits) ℓ) (g : Dev Cert.Cells.nD → PrngReg), Pre_Cells m →
    θ_run (Cert.Cells.defs (F := Bits)) (onTc (τ := Cert.Cells.τ) (Cert.Cells.main (F := Bits))) ⟨m, fun _ => 0, g⟩ (fun r => (∀ c : Dev Cert.Cells.nD,
      r.2.mem ((c.tc : Thread Cert.Cells.nD Cert.Cells.τ).loc Cert.Cells.main_arg0) = m ((c.tc : Thread Cert.Cells.nD Cert.Cells.τ).loc Cert.Cells.main_arg0)
      ∧ r.2.mem ((c.tc : Thread Cert.Cells.nD Cert.Cells.τ).loc Cert.Cells.main_arg1) = m ((c.tc : Thread Cert.Cells.nD Cert.Cells.τ).loc Cert.Cells.main_arg1))
      ∧ r.2.sem = fun _ => 0)

def quiescent_CellsIdeal [hCellsIdeal : Cert.CellsIdeal.Facts] : Prop :=
  ∀ (m : (ℓ : Loc Cert.CellsIdeal.nD Cert.CellsIdeal.τ Cert.CellsIdeal.sig) → Buf (Elt Ideal) ℓ) (g : Dev Cert.CellsIdeal.nD → PrngReg), Pre_CellsIdeal m →
    θ_run (Cert.CellsIdeal.defs (F := Ideal)) (onTc (τ := Cert.CellsIdeal.τ) (Cert.CellsIdeal.main (F := Ideal))) ⟨m, fun _ => 0, g⟩ (fun r => (∀ c : Dev Cert.CellsIdeal.nD,
      r.2.mem ((c.tc : Thread Cert.CellsIdeal.nD Cert.CellsIdeal.τ).loc Cert.CellsIdeal.main_arg0) = m ((c.tc : Thread Cert.CellsIdeal.nD Cert.CellsIdeal.τ).loc Cert.CellsIdeal.main_arg0)
      ∧ r.2.mem ((c.tc : Thread Cert.CellsIdeal.nD Cert.CellsIdeal.τ).loc Cert.CellsIdeal.main_arg1) = m ((c.tc : Thread Cert.CellsIdeal.nD Cert.CellsIdeal.τ).loc Cert.CellsIdeal.main_arg1))
      ∧ r.2.sem = fun _ => 0)

def quiescent_CellsReferenceIdeal [hCellsReferenceIdeal : Cert.CellsReferenceIdeal.Facts] : Prop :=
  ∀ (m : (ℓ : Loc Cert.CellsReferenceIdeal.nD Cert.CellsReferenceIdeal.τ Cert.CellsReferenceIdeal.sig) → Buf (Elt Ideal) ℓ) (g : Dev Cert.CellsReferenceIdeal.nD → PrngReg), Pre_CellsReferenceIdeal m →
    θ_run (Cert.CellsReferenceIdeal.defs (F := Ideal)) (onTc (τ := Cert.CellsReferenceIdeal.τ) (Cert.CellsReferenceIdeal.main (F := Ideal))) ⟨m, fun _ => 0, g⟩ (fun r => (∀ c : Dev Cert.CellsReferenceIdeal.nD,
      r.2.mem ((c.tc : Thread Cert.CellsReferenceIdeal.nD Cert.CellsReferenceIdeal.τ).loc Cert.CellsReferenceIdeal.main_arg0) = m ((c.tc : Thread Cert.CellsReferenceIdeal.nD Cert.CellsReferenceIdeal.τ).loc Cert.CellsReferenceIdeal.main_arg0)
      ∧ r.2.mem ((c.tc : Thread Cert.CellsReferenceIdeal.nD Cert.CellsReferenceIdeal.τ).loc Cert.CellsReferenceIdeal.main_arg1) = m ((c.tc : Thread Cert.CellsReferenceIdeal.nD Cert.CellsReferenceIdeal.τ).loc Cert.CellsReferenceIdeal.main_arg1))
      ∧ r.2.sem = fun _ => 0)

def quiescent_Rank [hRank : Cert.Rank.Facts] : Prop :=
  ∀ (m : (ℓ : Loc Cert.Rank.nD Cert.Rank.τ Cert.Rank.sig) → Buf (Elt Bits) ℓ) (g : Dev Cert.Rank.nD → PrngReg), Pre_Rank m →
    θ_run (Cert.Rank.defs (F := Bits)) (onTc (τ := Cert.Rank.τ) (Cert.Rank.main (F := Bits))) ⟨m, fun _ => 0, g⟩ (fun r => (∀ c : Dev Cert.Rank.nD,
      r.2.mem ((c.tc : Thread Cert.Rank.nD Cert.Rank.τ).loc Cert.Rank.main_arg0) = m ((c.tc : Thread Cert.Rank.nD Cert.Rank.τ).loc Cert.Rank.main_arg0)
      ∧ r.2.mem ((c.tc : Thread Cert.Rank.nD Cert.Rank.τ).loc Cert.Rank.main_arg1) = m ((c.tc : Thread Cert.Rank.nD Cert.Rank.τ).loc Cert.Rank.main_arg1))
      ∧ r.2.sem = fun _ => 0)

def quiescent_RankIdeal [hRankIdeal : Cert.RankIdeal.Facts] : Prop :=
  ∀ (m : (ℓ : Loc Cert.RankIdeal.nD Cert.RankIdeal.τ Cert.RankIdeal.sig) → Buf (Elt Ideal) ℓ) (g : Dev Cert.RankIdeal.nD → PrngReg), Pre_RankIdeal m →
    θ_run (Cert.RankIdeal.defs (F := Ideal)) (onTc (τ := Cert.RankIdeal.τ) (Cert.RankIdeal.main (F := Ideal))) ⟨m, fun _ => 0, g⟩ (fun r => (∀ c : Dev Cert.RankIdeal.nD,
      r.2.mem ((c.tc : Thread Cert.RankIdeal.nD Cert.RankIdeal.τ).loc Cert.RankIdeal.main_arg0) = m ((c.tc : Thread Cert.RankIdeal.nD Cert.RankIdeal.τ).loc Cert.RankIdeal.main_arg0)
      ∧ r.2.mem ((c.tc : Thread Cert.RankIdeal.nD Cert.RankIdeal.τ).loc Cert.RankIdeal.main_arg1) = m ((c.tc : Thread Cert.RankIdeal.nD Cert.RankIdeal.τ).loc Cert.RankIdeal.main_arg1))
      ∧ r.2.sem = fun _ => 0)

def quiescent_RankIdeal_pre_cid_is_cell [hRankIdeal : Cert.RankIdeal.Facts] [hPre_cid_is_cell : Cert.Pre_cid_is_cell.Facts] : Prop :=
  ∀ (m : (ℓ : Loc Cert.RankIdeal.nD Cert.RankIdeal.τ Cert.RankIdeal.sig) → Buf (Elt Ideal) ℓ) (g : Dev Cert.RankIdeal.nD → PrngReg), Pre_RankIdeal_cid_is_cell m →
    θ_run (Cert.RankIdeal.defs (F := Ideal)) (onTc (τ := Cert.RankIdeal.τ) (Cert.RankIdeal.main (F := Ideal))) ⟨m, fun _ => 0, g⟩ (fun r => (∀ c : Dev Cert.RankIdeal.nD,
      r.2.mem ((c.tc : Thread Cert.RankIdeal.nD Cert.RankIdeal.τ).loc Cert.RankIdeal.main_arg0) = m ((c.tc : Thread Cert.RankIdeal.nD Cert.RankIdeal.τ).loc Cert.RankIdeal.main_arg0)
      ∧ r.2.mem ((c.tc : Thread Cert.RankIdeal.nD Cert.RankIdeal.τ).loc Cert.RankIdeal.main_arg1) = m ((c.tc : Thread Cert.RankIdeal.nD Cert.RankIdeal.τ).loc Cert.RankIdeal.main_arg1))
      ∧ r.2.sem = fun _ => 0)

def quiescent_RankReferenceIdeal [hRankReferenceIdeal : Cert.RankReferenceIdeal.Facts] : Prop :=
  ∀ (m : (ℓ : Loc Cert.RankReferenceIdeal.nD Cert.RankReferenceIdeal.τ Cert.RankReferenceIdeal.sig) → Buf (Elt Ideal) ℓ) (g : Dev Cert.RankReferenceIdeal.nD → PrngReg), Pre_RankReferenceIdeal m →
    θ_run (Cert.RankReferenceIdeal.defs (F := Ideal)) (onTc (τ := Cert.RankReferenceIdeal.τ) (Cert.RankReferenceIdeal.main (F := Ideal))) ⟨m, fun _ => 0, g⟩ (fun r => (∀ c : Dev Cert.RankReferenceIdeal.nD,
      r.2.mem ((c.tc : Thread Cert.RankReferenceIdeal.nD Cert.RankReferenceIdeal.τ).loc Cert.RankReferenceIdeal.main_arg0) = m ((c.tc : Thread Cert.RankReferenceIdeal.nD Cert.RankReferenceIdeal.τ).loc Cert.RankReferenceIdeal.main_arg0)
      ∧ r.2.mem ((c.tc : Thread Cert.RankReferenceIdeal.nD Cert.RankReferenceIdeal.τ).loc Cert.RankReferenceIdeal.main_arg1) = m ((c.tc : Thread Cert.RankReferenceIdeal.nD Cert.RankReferenceIdeal.τ).loc Cert.RankReferenceIdeal.main_arg1))
      ∧ r.2.sem = fun _ => 0)

def quiescent_RankReferenceIdeal_pre_cid_is_cell [hRankReferenceIdeal : Cert.RankReferenceIdeal.Facts] [hPre_cid_is_cell : Cert.Pre_cid_is_cell.Facts] : Prop :=
  ∀ (m : (ℓ : Loc Cert.RankReferenceIdeal.nD Cert.RankReferenceIdeal.τ Cert.RankReferenceIdeal.sig) → Buf (Elt Ideal) ℓ) (g : Dev Cert.RankReferenceIdeal.nD → PrngReg), Pre_RankReferenceIdeal_cid_is_cell m →
    θ_run (Cert.RankReferenceIdeal.defs (F := Ideal)) (onTc (τ := Cert.RankReferenceIdeal.τ) (Cert.RankReferenceIdeal.main (F := Ideal))) ⟨m, fun _ => 0, g⟩ (fun r => (∀ c : Dev Cert.RankReferenceIdeal.nD,
      r.2.mem ((c.tc : Thread Cert.RankReferenceIdeal.nD Cert.RankReferenceIdeal.τ).loc Cert.RankReferenceIdeal.main_arg0) = m ((c.tc : Thread Cert.RankReferenceIdeal.nD Cert.RankReferenceIdeal.τ).loc Cert.RankReferenceIdeal.main_arg0)
      ∧ r.2.mem ((c.tc : Thread Cert.RankReferenceIdeal.nD Cert.RankReferenceIdeal.τ).loc Cert.RankReferenceIdeal.main_arg1) = m ((c.tc : Thread Cert.RankReferenceIdeal.nD Cert.RankReferenceIdeal.τ).loc Cert.RankReferenceIdeal.main_arg1))
      ∧ r.2.sem = fun _ => 0)

def quiescent_Back [hBack : Cert.Back.Facts] [hPre_perm_in_rows : Cert.Pre_perm_in_rows.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (Cert.Back.threads (F := Bits)) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1))
      ∧ r.2.sem = fun _ => 0)

def quiescent_BackIdeal [hBackIdeal : Cert.BackIdeal.Facts] [hPre_perm_in_rows : Cert.Pre_perm_in_rows.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (Cert.BackIdeal.threads (F := Ideal)) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1))
      ∧ r.2.sem = fun _ => 0)

def quiescent_BackReferenceIdeal_pre_perm_in_rows [hBackReferenceIdeal : Cert.BackReferenceIdeal.Facts] [hPre_perm_in_rows : Cert.Pre_perm_in_rows.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal_perm_in_rows m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1))
      ∧ r.2.sem = fun _ => 0)

def preserves_Kernel_KernelIdeal : Prop :=
  True

def algebraic_KernelIdeal_ReferenceIdeal_pre_idx_and_finite [hKernelIdeal : Cert.KernelIdeal.Facts] [hReferenceIdeal : Cert.ReferenceIdeal.Facts] [hPre_idx_and_finite : Cert.Pre_idx_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_idx_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_First_FirstIdeal : Prop :=
  True

def algebraic_FirstIdeal_FirstReferenceIdeal_pre_batch_in_range [hFirstIdeal : Cert.FirstIdeal.Facts] [hFirstReferenceIdeal : Cert.FirstReferenceIdeal.Facts] [hPre_batch_in_range : Cert.Pre_batch_in_range.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal_batch_in_range m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)
      ∧ m' ((c.tc : Thread Cert.FirstReferenceIdeal.nD Cert.FirstReferenceIdeal.τ).loc Cert.FirstReferenceIdeal.main_arg5) = m ((c.tc : Thread Cert.FirstIdeal.nD Cert.FirstIdeal.τ).loc Cert.FirstIdeal.main_arg5)
      ∧ m' ((c.tc : Thread Cert.FirstReferenceIdeal.nD Cert.FirstReferenceIdeal.τ).loc Cert.FirstReferenceIdeal.main_arg6) = m ((c.tc : Thread Cert.FirstIdeal.nD Cert.FirstIdeal.τ).loc Cert.FirstIdeal.main_arg6)) →
    ∃ (v0 : (c : Dev Cert.FirstIdeal.nD) → Buf (Elt Ideal) ((c.tc : Thread Cert.FirstIdeal.nD Cert.FirstIdeal.τ).loc Cert.FirstIdeal.main_v13_0)) (v1 : (c : Dev Cert.FirstIdeal.nD) → Buf (Elt Ideal) ((c.tc : Thread Cert.FirstIdeal.nD Cert.FirstIdeal.τ).loc Cert.FirstIdeal.main_v13_1)) (v2 : (c : Dev Cert.FirstIdeal.nD) → Buf (Elt Ideal) ((c.tc : Thread Cert.FirstIdeal.nD Cert.FirstIdeal.τ).loc Cert.FirstIdeal.main_arg1)) (v3 : (c : Dev Cert.FirstIdeal.nD) → Buf (Elt Ideal) ((c.tc : Thread Cert.FirstIdeal.nD Cert.FirstIdeal.τ).loc Cert.FirstIdeal.main_arg2)) (v4 : (c : Dev Cert.FirstIdeal.nD) → Buf (Elt Ideal) ((c.tc : Thread Cert.FirstIdeal.nD Cert.FirstIdeal.τ).loc Cert.FirstIdeal.main_arg3)) (v5 : (c : Dev Cert.FirstIdeal.nD) → Buf (Elt Ideal) ((c.tc : Thread Cert.FirstIdeal.nD Cert.FirstIdeal.τ).loc Cert.FirstIdeal.main_arg4)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v13_0) = v0 c
          ∧ r.2.mem ((c.tc : Thread Cert.FirstIdeal.nD Cert.FirstIdeal.τ).loc Cert.FirstIdeal.main_v13_1) = v1 c
          ∧ r.2.mem ((c.tc : Thread Cert.FirstIdeal.nD Cert.FirstIdeal.τ).loc Cert.FirstIdeal.main_arg1) = v2 c
          ∧ r.2.mem ((c.tc : Thread Cert.FirstIdeal.nD Cert.FirstIdeal.τ).loc Cert.FirstIdeal.main_arg2) = v3 c
          ∧ r.2.mem ((c.tc : Thread Cert.FirstIdeal.nD Cert.FirstIdeal.τ).loc Cert.FirstIdeal.main_arg3) = v4 c
          ∧ r.2.mem ((c.tc : Thread Cert.FirstIdeal.nD Cert.FirstIdeal.τ).loc Cert.FirstIdeal.main_arg4) = v5 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v16) = v0 c
          ∧ r.2.mem ((c.tc : Thread Cert.FirstReferenceIdeal.nD Cert.FirstReferenceIdeal.τ).loc Cert.FirstReferenceIdeal.main_v21) = v1 c
          ∧ r.2.mem ((c.tc : Thread Cert.FirstReferenceIdeal.nD Cert.FirstReferenceIdeal.τ).loc Cert.FirstReferenceIdeal.main_v19) = v2 c
          ∧ r.2.mem ((c.tc : Thread Cert.FirstReferenceIdeal.nD Cert.FirstReferenceIdeal.τ).loc Cert.FirstReferenceIdeal.main_arg2) = v3 c
          ∧ r.2.mem ((c.tc : Thread Cert.FirstReferenceIdeal.nD Cert.FirstReferenceIdeal.τ).loc Cert.FirstReferenceIdeal.main_arg3) = v4 c
          ∧ r.2.mem ((c.tc : Thread Cert.FirstReferenceIdeal.nD Cert.FirstReferenceIdeal.τ).loc Cert.FirstReferenceIdeal.main_arg4) = v5 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6))

def preserves_Cells_CellsIdeal : Prop :=
  True

def algebraic_CellsIdeal_CellsReferenceIdeal [hCellsIdeal : Cert.CellsIdeal.Facts] [hCellsReferenceIdeal : Cert.CellsReferenceIdeal.Facts] : Prop :=
  ∀ (m : (ℓ : Loc Cert.CellsIdeal.nD Cert.CellsIdeal.τ Cert.CellsIdeal.sig) → Buf (Elt Ideal) ℓ) (g : Dev Cert.CellsIdeal.nD → PrngReg)
    (m' : (ℓ : Loc Cert.CellsReferenceIdeal.nD Cert.CellsReferenceIdeal.τ Cert.CellsReferenceIdeal.sig) → Buf (Elt Ideal) ℓ) (g' : Dev Cert.CellsReferenceIdeal.nD → PrngReg), Pre_CellsIdeal m →
    (∀ c : Dev Cert.CellsIdeal.nD,
      m' ((c.tc : Thread Cert.CellsReferenceIdeal.nD Cert.CellsReferenceIdeal.τ).loc Cert.CellsReferenceIdeal.main_arg0) = m ((c.tc : Thread Cert.CellsIdeal.nD Cert.CellsIdeal.τ).loc Cert.CellsIdeal.main_arg0)
      ∧ m' ((c.tc : Thread Cert.CellsReferenceIdeal.nD Cert.CellsReferenceIdeal.τ).loc Cert.CellsReferenceIdeal.main_arg1) = m ((c.tc : Thread Cert.CellsIdeal.nD Cert.CellsIdeal.τ).loc Cert.CellsIdeal.main_arg1)) →
    ∃ (v0 : (c : Dev Cert.CellsIdeal.nD) → Buf (Elt Ideal) ((c.tc : Thread Cert.CellsIdeal.nD Cert.CellsIdeal.τ).loc Cert.CellsIdeal.main_v4_0)) (v1 : (c : Dev Cert.CellsIdeal.nD) → Buf (Elt Ideal) ((c.tc : Thread Cert.CellsIdeal.nD Cert.CellsIdeal.τ).loc Cert.CellsIdeal.main_v4_1)),
      θ_run (Cert.CellsIdeal.defs (F := Ideal)) (onTc (τ := Cert.CellsIdeal.τ) (Cert.CellsIdeal.main (F := Ideal))) ⟨m, fun _ => 0, g⟩ (fun r => ∀ c : Dev Cert.CellsIdeal.nD,
          r.2.mem ((c.tc : Thread Cert.CellsIdeal.nD Cert.CellsIdeal.τ).loc Cert.CellsIdeal.main_v4_0) = v0 c
          ∧ r.2.mem ((c.tc : Thread Cert.CellsIdeal.nD Cert.CellsIdeal.τ).loc Cert.CellsIdeal.main_v4_1) = v1 c
          ∧ r.2.mem ((c.tc : Thread Cert.CellsIdeal.nD Cert.CellsIdeal.τ).loc Cert.CellsIdeal.main_arg0) = m ((c.tc : Thread Cert.CellsIdeal.nD Cert.CellsIdeal.τ).loc Cert.CellsIdeal.main_arg0)
          ∧ r.2.mem ((c.tc : Thread Cert.CellsIdeal.nD Cert.CellsIdeal.τ).loc Cert.CellsIdeal.main_arg1) = m ((c.tc : Thread Cert.CellsIdeal.nD Cert.CellsIdeal.τ).loc Cert.CellsIdeal.main_arg1))
      ∧ θ_run (Cert.CellsReferenceIdeal.defs (F := Ideal)) (onTc (τ := Cert.CellsReferenceIdeal.τ) (Cert.CellsReferenceIdeal.main (F := Ideal))) ⟨m', fun _ => 0, g'⟩ (fun r => ∀ c : Dev Cert.CellsReferenceIdeal.nD,
          r.2.mem ((c.tc : Thread Cert.CellsReferenceIdeal.nD Cert.CellsReferenceIdeal.τ).loc Cert.CellsReferenceIdeal.main_v27) = v0 c
          ∧ r.2.mem ((c.tc : Thread Cert.CellsReferenceIdeal.nD Cert.CellsReferenceIdeal.τ).loc Cert.CellsReferenceIdeal.main_v30) = v1 c
          ∧ r.2.mem ((c.tc : Thread Cert.CellsReferenceIdeal.nD Cert.CellsReferenceIdeal.τ).loc Cert.CellsReferenceIdeal.main_arg0) = m' ((c.tc : Thread Cert.CellsReferenceIdeal.nD Cert.CellsReferenceIdeal.τ).loc Cert.CellsReferenceIdeal.main_arg0)
          ∧ r.2.mem ((c.tc : Thread Cert.CellsReferenceIdeal.nD Cert.CellsReferenceIdeal.τ).loc Cert.CellsReferenceIdeal.main_arg1) = m' ((c.tc : Thread Cert.CellsReferenceIdeal.nD Cert.CellsReferenceIdeal.τ).loc Cert.CellsReferenceIdeal.main_arg1))

def preserves_Rank_RankIdeal : Prop :=
  True

def algebraic_RankIdeal_RankReferenceIdeal_pre_cid_is_cell [hRankIdeal : Cert.RankIdeal.Facts] [hRankReferenceIdeal : Cert.RankReferenceIdeal.Facts] [hPre_cid_is_cell : Cert.Pre_cid_is_cell.Facts] : Prop :=
  ∀ (m : (ℓ : Loc Cert.RankIdeal.nD Cert.RankIdeal.τ Cert.RankIdeal.sig) → Buf (Elt Ideal) ℓ) (g : Dev Cert.RankIdeal.nD → PrngReg)
    (m' : (ℓ : Loc Cert.RankReferenceIdeal.nD Cert.RankReferenceIdeal.τ Cert.RankReferenceIdeal.sig) → Buf (Elt Ideal) ℓ) (g' : Dev Cert.RankReferenceIdeal.nD → PrngReg), Pre_RankIdeal_cid_is_cell m →
    (∀ c : Dev Cert.RankIdeal.nD,
      m' ((c.tc : Thread Cert.RankReferenceIdeal.nD Cert.RankReferenceIdeal.τ).loc Cert.RankReferenceIdeal.main_arg0) = m ((c.tc : Thread Cert.RankIdeal.nD Cert.RankIdeal.τ).loc Cert.RankIdeal.main_arg0)
      ∧ m' ((c.tc : Thread Cert.RankReferenceIdeal.nD Cert.RankReferenceIdeal.τ).loc Cert.RankReferenceIdeal.main_arg1) = m ((c.tc : Thread Cert.RankIdeal.nD Cert.RankIdeal.τ).loc Cert.RankIdeal.main_arg1)) →
    ∃ (v0 : (c : Dev Cert.RankIdeal.nD) → Buf (Elt Ideal) ((c.tc : Thread Cert.RankIdeal.nD Cert.RankIdeal.τ).loc Cert.RankIdeal.main_v0_0)) (v1 : (c : Dev Cert.RankIdeal.nD) → Buf (Elt Ideal) ((c.tc : Thread Cert.RankIdeal.nD Cert.RankIdeal.τ).loc Cert.RankIdeal.main_v0_1)),
      θ_run (Cert.RankIdeal.defs (F := Ideal)) (onTc (τ := Cert.RankIdeal.τ) (Cert.RankIdeal.main (F := Ideal))) ⟨m, fun _ => 0, g⟩ (fun r => ∀ c : Dev Cert.RankIdeal.nD,
          r.2.mem ((c.tc : Thread Cert.RankIdeal.nD Cert.RankIdeal.τ).loc Cert.RankIdeal.main_v0_0) = v0 c
          ∧ r.2.mem ((c.tc : Thread Cert.RankIdeal.nD Cert.RankIdeal.τ).loc Cert.RankIdeal.main_v0_1) = v1 c
          ∧ r.2.mem ((c.tc : Thread Cert.RankIdeal.nD Cert.RankIdeal.τ).loc Cert.RankIdeal.main_arg0) = m ((c.tc : Thread Cert.RankIdeal.nD Cert.RankIdeal.τ).loc Cert.RankIdeal.main_arg0)
          ∧ r.2.mem ((c.tc : Thread Cert.RankIdeal.nD Cert.RankIdeal.τ).loc Cert.RankIdeal.main_arg1) = m ((c.tc : Thread Cert.RankIdeal.nD Cert.RankIdeal.τ).loc Cert.RankIdeal.main_arg1))
      ∧ θ_run (Cert.RankReferenceIdeal.defs (F := Ideal)) (onTc (τ := Cert.RankReferenceIdeal.τ) (Cert.RankReferenceIdeal.main (F := Ideal))) ⟨m', fun _ => 0, g'⟩ (fun r => ∀ c : Dev Cert.RankReferenceIdeal.nD,
          r.2.mem ((c.tc : Thread Cert.RankReferenceIdeal.nD Cert.RankReferenceIdeal.τ).loc Cert.RankReferenceIdeal.main_v35) = v0 c
          ∧ r.2.mem ((c.tc : Thread Cert.RankReferenceIdeal.nD Cert.RankReferenceIdeal.τ).loc Cert.RankReferenceIdeal.main_v36) = v1 c
          ∧ r.2.mem ((c.tc : Thread Cert.RankReferenceIdeal.nD Cert.RankReferenceIdeal.τ).loc Cert.RankReferenceIdeal.main_arg0) = m' ((c.tc : Thread Cert.RankReferenceIdeal.nD Cert.RankReferenceIdeal.τ).loc Cert.RankReferenceIdeal.main_arg0)
          ∧ r.2.mem ((c.tc : Thread Cert.RankReferenceIdeal.nD Cert.RankReferenceIdeal.τ).loc Cert.RankReferenceIdeal.main_arg1) = m' ((c.tc : Thread Cert.RankReferenceIdeal.nD Cert.RankReferenceIdeal.τ).loc Cert.RankReferenceIdeal.main_arg1))

def preserves_Back_BackIdeal : Prop :=
  True

def algebraic_BackIdeal_BackReferenceIdeal [hBackIdeal : Cert.BackIdeal.Facts] [hBackReferenceIdeal : Cert.BackReferenceIdeal.Facts] [hPre_perm_in_rows : Cert.Pre_perm_in_rows.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)) →
    ∃ (v0 : (c : Dev Cert.BackIdeal.nD) → Buf (Elt Ideal) ((c.tc : Thread Cert.BackIdeal.nD Cert.BackIdeal.τ).loc Cert.BackIdeal.main_v1)),
      θ_run (Cert.BackIdeal.defs (F := Ideal)) (Cert.BackIdeal.threads (F := Ideal)) ⟨m, fun _ => 0, g⟩ (fun r => ∀ c : Dev Cert.BackIdeal.nD,
          r.2.mem ((c.tc : Thread Cert.BackIdeal.nD Cert.BackIdeal.τ).loc Cert.BackIdeal.main_v1) = v0 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v7) = v0 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1))

def Claim : Prop :=
  ∃ (hKernel : Cert.Kernel.Facts) (hKernelIdeal : Cert.KernelIdeal.Facts) (hReferenceIdeal : Cert.ReferenceIdeal.Facts) (hFirst : Cert.First.Facts) (hFirstIdeal : Cert.FirstIdeal.Facts) (hFirstReferenceIdeal : Cert.FirstReferenceIdeal.Facts) (hCells : Cert.Cells.Facts) (hCellsIdeal : Cert.CellsIdeal.Facts) (hCellsReferenceIdeal : Cert.CellsReferenceIdeal.Facts) (hRank : Cert.Rank.Facts) (hRankIdeal : Cert.RankIdeal.Facts) (hRankReferenceIdeal : Cert.RankReferenceIdeal.Facts) (hBack : Cert.Back.Facts) (hBackIdeal : Cert.BackIdeal.Facts) (hBackReferenceIdeal : Cert.BackReferenceIdeal.Facts) (hPre_idx_in_rows : Cert.Pre_idx_in_rows.Facts) (hPre_idx_and_finite : Cert.Pre_idx_and_finite.Facts) (hPre_batch_in_range : Cert.Pre_batch_in_range.Facts) (hPre_cid_is_cell : Cert.Pre_cid_is_cell.Facts) (hPre_perm_in_rows : Cert.Pre_perm_in_rows.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_KernelIdeal_pre_idx_and_finite (hKernelIdeal := hKernelIdeal) (hPre_idx_and_finite := hPre_idx_and_finite)
    ∧ quiescent_ReferenceIdeal (hReferenceIdeal := hReferenceIdeal)
    ∧ quiescent_ReferenceIdeal_pre_idx_and_finite (hReferenceIdeal := hReferenceIdeal) (hPre_idx_and_finite := hPre_idx_and_finite)
    ∧ quiescent_First (hFirst := hFirst)
    ∧ quiescent_FirstIdeal (hFirstIdeal := hFirstIdeal)
    ∧ quiescent_FirstIdeal_pre_batch_in_range (hFirstIdeal := hFirstIdeal) (hPre_batch_in_range := hPre_batch_in_range)
    ∧ quiescent_FirstReferenceIdeal (hFirstReferenceIdeal := hFirstReferenceIdeal)
    ∧ quiescent_FirstReferenceIdeal_pre_batch_in_range (hFirstReferenceIdeal := hFirstReferenceIdeal) (hPre_batch_in_range := hPre_batch_in_range)
    ∧ quiescent_Cells (hCells := hCells)
    ∧ quiescent_CellsIdeal (hCellsIdeal := hCellsIdeal)
    ∧ quiescent_CellsReferenceIdeal (hCellsReferenceIdeal := hCellsReferenceIdeal)
    ∧ quiescent_Rank (hRank := hRank)
    ∧ quiescent_RankIdeal (hRankIdeal := hRankIdeal)
    ∧ quiescent_RankIdeal_pre_cid_is_cell (hRankIdeal := hRankIdeal) (hPre_cid_is_cell := hPre_cid_is_cell)
    ∧ quiescent_RankReferenceIdeal (hRankReferenceIdeal := hRankReferenceIdeal)
    ∧ quiescent_RankReferenceIdeal_pre_cid_is_cell (hRankReferenceIdeal := hRankReferenceIdeal) (hPre_cid_is_cell := hPre_cid_is_cell)
    ∧ quiescent_Back (hBack := hBack) (hPre_perm_in_rows := hPre_perm_in_rows)
    ∧ quiescent_BackIdeal (hBackIdeal := hBackIdeal) (hPre_perm_in_rows := hPre_perm_in_rows)
    ∧ quiescent_BackReferenceIdeal (hBackReferenceIdeal := hBackReferenceIdeal)
    ∧ quiescent_BackReferenceIdeal_pre_perm_in_rows (hBackReferenceIdeal := hBackReferenceIdeal) (hPre_perm_in_rows := hPre_perm_in_rows)
    ∧ preserves_Kernel_KernelIdeal
    ∧ algebraic_KernelIdeal_ReferenceIdeal_pre_idx_and_finite (hKernelIdeal := hKernelIdeal) (hReferenceIdeal := hReferenceIdeal) (hPre_idx_and_finite := hPre_idx_and_finite)
    ∧ preserves_First_FirstIdeal
    ∧ algebraic_FirstIdeal_FirstReferenceIdeal_pre_batch_in_range (hFirstIdeal := hFirstIdeal) (hFirstReferenceIdeal := hFirstReferenceIdeal) (hPre_batch_in_range := hPre_batch_in_range)
    ∧ preserves_Cells_CellsIdeal
    ∧ algebraic_CellsIdeal_CellsReferenceIdeal (hCellsIdeal := hCellsIdeal) (hCellsReferenceIdeal := hCellsReferenceIdeal)
    ∧ preserves_Rank_RankIdeal
    ∧ algebraic_RankIdeal_RankReferenceIdeal_pre_cid_is_cell (hRankIdeal := hRankIdeal) (hRankReferenceIdeal := hRankReferenceIdeal) (hPre_cid_is_cell := hPre_cid_is_cell)
    ∧ preserves_Back_BackIdeal
    ∧ algebraic_BackIdeal_BackReferenceIdeal (hBackIdeal := hBackIdeal) (hBackReferenceIdeal := hBackReferenceIdeal) (hPre_perm_in_rows := hPre_perm_in_rows)
-- ==== Pre_batch_in_range.lean ====
abbrev S16384x64 : Shape := ⟨2, ![16384, 64]⟩
abbrev S16384x3 : Shape := ⟨2, ![16384, 3]⟩
abbrev S16384 : Shape := ⟨1, ![16384]⟩
abbrev S4 : Shape := ⟨1, ![4]⟩
abbrev S68x128 : Shape := ⟨2, ![68, 128]⟩
abbrev S128 : Shape := ⟨1, ![128]⟩
abbrev S_ : Shape := ⟨0, ![]⟩

class Facts : Prop where
  bcast_S_S16384 : S_.BroadcastsInDim S16384 (![] : Fin 0 → Fin S16384.rank)
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S16384x64 .f32) (main_arg1 : FVec F S16384x3 .f32) (main_arg2 : IVec S16384 32) (main_arg3 : FVec F S16384 .f32) (main_arg4 : FVec F S4 .f32) (main_arg5 : FVec F S68x128 .f32) (main_arg6 : FVec F S128 .f32) : IVec S16384 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 32 := constantI S_ 32 4#32
  let main_v2 : IVec S16384 32 := broadcastInDim S16384 ![] bcast_S_S16384 main_c_0
  let main_v3 : IVec S16384 1 := cmpi .slt main_arg2 main_v2
  let main_v4 : IVec S16384 1 := andi main_v1 main_v3
  let main_cst : FVec F S_ .f32 := constant S_ .f32 0x00000000#32
  let main_v5 : FVec F S4 .f32 := broadcastInDim S4 ![] bcast_S_S4 main_cst
  let main_v6 : IVec S4 1 := cmpf .une main_arg4 main_v5
  let main_v7 : FVec F S4 .f32 := Host.absf main_arg4
  let main_cst_1 : FVec F S_ .f32 := constant S_ .f32 0x7F800000#32
  let main_v8 : FVec F S4 .f32 := broadcastInDim S4 ![] bcast_S_S4 main_cst_1
  let main_v9 : IVec S4 1 := cmpf .olt main_v7 main_v8
  let main_v10 : IVec S4 1 := andi main_v6 main_v9
  let main_c_2 : IVec S_ 1 := constantI S_ 1 1#1
  let main_v11 : IVec S_ 1 := (fun x v => Host.reduce IntOp.andi x v reducesTo_S4_S_d0 h_S_) main_v10 main_c_2
  let main_v12 : IVec S16384 1 := broadcastInDim S16384 ![] bcast_S_S16384 main_v11
  let main_v13 : IVec S16384 1 := andi main_v4 main_v12
  main_v13
-- ==== Pre_cid_is_cell.lean ====
abbrev S16384x1 : Shape := ⟨2, ![16384, 1]⟩
abbrev S1x1024 : Shape := ⟨2, ![1, 1024]⟩
abbrev S_ : Shape := ⟨0, ![]⟩

class Facts : Prop where
  bcast_S_S16384x1 : S_.BroadcastsInDim S16384x1 (![] : Fin 0 → Fin S16384x1.rank)

variable [Facts]

def fn {F : FTy → Type} [FloatOps F] (main_arg0 : FVec F S16384x1 .f32) (main_arg1 : FVec F S1x1024 .f32) : IVec S16384x1 1 :=
  let main_cst : FVec F S_ .f32 := constant S_ .f32 0x00000000#32
  let main_v0 : FVec F S16384x1 .f32 := broadcastInDim S16384x1 ![] bcast_S_S16384x1 main_cst
  let main_v1 : IVec S16384x1 1 := cmpf .oge main_arg0 main_v0
  let main_cst_0 : FVec F S_ .f32 := constant S_ .f32 0x44800000#32
  let main_v2 : FVec F S16384x1 .f32 := broadcastInDim S16384x1 ![] bcast_S_S16384x1 main_cst_0
  let main_v3 : IVec S16384x1 1 := cmpf .olt main_arg0 main_v2
  let main_v4 : IVec S16384x1 1 := andi main_v1 main_v3
  let main_v5 : FVec F S16384x1 .f32 := Host.floor main_arg0
  let main_v6 : IVec S16384x1 1 := cmpf .oeq main_arg0 main_v5
  let main_v7 : IVec S16384x1 1 := andi main_v4 main_v6
  main_v7
-- ==== Pre_idx_and_finite.lean ====
abbrev S16384x128 : Shape := ⟨2, ![16384, 128]⟩
abbrev S16384x32 : Shape := ⟨2, ![16384, 32]⟩
abbrev S128x128 : Shape := ⟨2, ![128, 128]⟩
abbrev S128 : Shape := ⟨1, ![128]⟩
abbrev S_ : Shape := ⟨0, ![]⟩
abbrev S16384 : Shape := ⟨1, ![16384]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16384x32 : S_.BroadcastsInDim S16384x32 (![] : Fin 0 → Fin S16384x32.rank)
  reducesTo_S16384x32_S_d0_1 : S16384x32.ReducesTo [0, 1] S_
  reducesTo_S16384x32_S16384_d1 : S16384x32.ReducesTo [1] S16384
  reducesTo_S16384_S_d0 : S16384.ReducesTo [0] S_

variable [Facts]

def fn_part3 {F : FTy → Type} [FloatOps F] (main_v39 : IVec S_ 1) (main_v46 : IVec S16384x32 1) (main_v49 : IVec S_ 1) : IVec S16384x32 1 :=
  let main_v50 : IVec S16384x32 1 := broadcastInDim S16384x32 ![] bcast_S_S16384x32 main_v49
  let main_v51 : IVec S16384x32 1 := andi main_v46 main_v50
  let main_v52 : IVec S16384x32 1 := broadcastInDim S16384x32 ![] bcast_S_S16384x32 main_v39
  let main_v53 : IVec S16384x32 1 := andi main_v51 main_v52
  main_v53

def fn_part2 {F : FTy → Type} [FloatOps F] (main_arg1 : IVec S16384x32 32) (main_arg3 : FVec F S16384x32 .f32) (main_arg6 : FVec F S128 .f32) (main_v28 : IVec S_ 1) (main_v33 : IVec S16384x32 1) : IVec S16384x32 1 :=
  let main_c_12 : IVec S_ 1 := constantI S_ 1 1#1
  let main_v34 : IVec S_ 1 := (fun x v => Host.reduce IntOp.andi x v reducesTo_S16384x32_S_d0_1 h_S_) main_v33 main_c_12
  let main_cst_13 : FVec F S_ .f32 := constant S_ .f32 0x3F800000#32
  let main_v35 : FVec F S16384x32 .f32 := broadcastInDim S16384x32 ![] bcast_S_S16384x32 main_cst_13
  let main_v36 : IVec S16384x32 1 := cmpf .oeq main_arg3 main_v35
  let main_c_14 : IVec S_ 1 := constantI S_ 1 0#1
  let main_v37 : IVec S16384 1 := (fun x v => Host.reduce IntOp.ori x v reducesTo_S16384x32_S16384_d1 h_S_) main_v36 main_c_14
  let main_c_15 : IVec S_ 1 := constantI S_ 1 1#1
  let main_v38 : IVec S_ 1 := (fun x v => Host.reduce IntOp.andi x v reducesTo_S16384_S_d0 h_S_) main_v37 main_c_15
  let main_v39 : IVec S_ 1 := andi main_v34 main_v38
  let main_c_16 : IVec S_ 32 := constantI S_ 32 0#32
  let main_v40 : IVec S16384x32 32 := broadcastInDim S16384x32 ![] bcast_S_S16384x32 main_c_16
  let main_v41 : IVec S16384x32 1 := cmpi .sge main_arg1 main_v40
  let main_c_17 : IVec S_ 32 := constantI S_ 32 16384#32
  let main_v42 : IVec S16384x32 32 := broadcastInDim S16384x32 ![] bcast_S_S16384x32 main_c_17
  let main_v43 : IVec S16384x32 1 := cmpi .slt main_arg1 main_v42
  let main_v44 : IVec S16384x32 1 := andi main_v41 main_v43
  let main_v45 : IVec S16384x32 1 := broadcastInDim S16384x32 ![] bcast_S_S16384x32 main_v28
  let main_v46 : IVec S16384x32 1 := andi main_v44 main_v45
  let main_cst_18 : FVec F S_ .f32 := constant S_ .f32 0x00000000#32
  let main_v47 : FVec F S128 .f32 := broadcastInDim S128 ![] bcast_S_S128 main_cst_18
  let main_v48 : IVec S128 1 := cmpf .oge main_arg6 main_v47
  let main_c_19 : IVec S_ 1 := constantI S_ 1 1#1
  let main_v49 : IVec S_ 1 := (fun x v => Host.reduce IntOp.andi x v reducesTo_S128_S_d0 h_S_) main_v48 main_c_19
  fn_part3 (F := F) main_v39 main_v46 main_v49

def fn_part1 {F : FTy → Type} [FloatOps F] (main_arg1 : IVec S16384x32 32) (main_arg3 : FVec F S16384x32 .f32) (main_arg6 : FVec F S128 .f32) (main_arg7 : FVec F S128 .f32) (main_v13 : IVec S_ 1) (main_v16 : IVec S128 1) : IVec S16384x32 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_cst_10 : FVec F S_ .f32 := constant S_ .f32 0x00000000#32
  let main_v29 : FVec F S16384x32 .f32 := broadcastInDim S16384x32 ![] bcast_S_S16384x32 main_cst_10
  let main_v30 : IVec S16384x32 1 := cmpf .oeq main_arg3 main_v29
  let main_cst_11 : FVec F S_ .f32 := constant S_ .f32 0x3F800000#32
  let main_v31 : FVec F S16384x32 .f32 := broadcastInDim S16384x32 ![] bcast_S_S16384x32 main_cst_11
  let main_v32 : IVec S16384x32 1 := cmpf .oeq main_arg3 main_v31
  let main_v33 : IVec S16384x32 1 := ori main_v30 main_v32
  fn_part2 (F := F) main_arg1 main_arg3 main_arg6 main_v28 main_v33

def fn {F : FTy → Type} [FloatOps F] (main_arg0 : FVec F S16384x128 .f32) (main_arg1 : IVec S16384x32 32) (main_arg2 : FVec F S16384x128 .f32) (main_arg3 : FVec F S16384x32 .f32) (main_arg4 : FVec F S128x128 .f32) (main_arg5 : FVec F S128 .f32) (main_arg6 : FVec F S128 .f32) (main_arg7 : FVec F S128 .f32) : IVec S16384x32 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .f32 := Host.absf main_arg2
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg3 main_arg6 main_arg7 main_v13 main_v16
-- ==== Pre_idx_in_rows.lean ====
abbrev S16384x128 : Shape := ⟨2, ![16384, 128]⟩
abbrev S16384x32 : Shape := ⟨2, ![16384, 32]⟩
abbrev S128x128 : Shape := ⟨2, ![128, 128]⟩
abbrev S128 : Shape := ⟨1, ![128]⟩
abbrev S_ : Shape := ⟨0, ![]⟩

class Facts : Prop where
  bcast_S_S16384x32 : S_.BroadcastsInDim S16384x32 (![] : Fin 0 → Fin S16384x32.rank)

variable [Facts]

def fn {F : FTy → Type} [FloatOps F] (main_arg0 : FVec F S16384x128 .f32) (main_arg1 : IVec S16384x32 32) (main_arg2 : FVec F S16384x128 .f32) (main_arg3 : FVec F S16384x32 .f32) (main_arg4 : FVec F S128x128 .f32) (main_arg5 : FVec F S128 .f32) (main_arg6 : FVec F S128 .f32) (main_arg7 : FVec F S128 .f32) : IVec S16384x32 1 :=
  let main_c : IVec S_ 32 := constantI S_ 32 0#32
  let main_v0 : IVec S16384x32 32 := broadcastInDim S16384x32 ![] bcast_S_S16384x32 main_c
  let main_v1 : IVec S16384x32 1 := cmpi .sge main_arg1 main_v0
  let main_c_0 : IVec S_ 32 := constantI S_ 32 16384#32
  let main_v2 : IVec S16384x32 32 := broadcastInDim S16384x32 ![] bcast_S_S16384x32 main_c_0
  let main_v3 : IVec S16384x32 1 := cmpi .slt main_arg1 main_v2
  let main_v4 : IVec S16384x32 1 := andi main_v1 main_v3
  main_v4
-- ==== Pre_perm_in_rows.lean ====
abbrev S16384x128 : Shape := ⟨2, ![16384, 128]⟩
abbrev S16384x1 : Shape := ⟨2, ![16384, 1]⟩
abbrev S_ : Shape := ⟨0, ![]⟩

class Facts : Prop where
  bcast_S_S16384x1 : S_.BroadcastsInDim S16384x1 (![] : Fin 0 → Fin S16384x1.rank)

variable [Facts]

def fn {F : FTy → Type} [FloatOps F] (main_arg0 : FVec F S16384x128 .f32) (main_arg1 : IVec S16384x1 32) : IVec S16384x1 1 :=
  let main_c : IVec S_ 32 := constantI S_ 32 0#32
  let main_v0 : IVec S16384x1 32 := broadcastInDim S16384x1 ![] bcast_S_S16384x1 main_c
  let main_v1 : IVec S16384x1 1 := cmpi .sge main_arg1 main_v0
  let main_c_0 : IVec S_ 32 := constantI S_ 32 16384#32
  let main_v2 : IVec S16384x1 32 := broadcastInDim S16384x1 ![] bcast_S_S16384x1 main_c_0
  let main_v3 : IVec S16384x1 1 := cmpi .slt main_arg1 main_v2
  let main_v4 : IVec S16384x1 1 := andi main_v1 main_v3
  main_v4
-- ==== Kernel.lean ====
abbrev S16384x128 : Shape := ⟨2, ![16384, 128]⟩
abbrev S16384x32 : Shape := ⟨2, ![16384, 32]⟩
abbrev S128x128 : Shape := ⟨2, ![128, 128]⟩
abbrev S128 : Shape := ⟨1, ![128]⟩
abbrev S1x524288 : Shape := ⟨2, ![1, 524288]⟩
abbrev S524288x128 : Shape := ⟨2, ![524288, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S256 : Shape := ⟨1, ![256]⟩
abbrev S1x128 : Shape := ⟨2, ![1, 128]⟩
abbrev S512x128 : Shape := ⟨2, ![512, 128]⟩
abbrev S512x32 : Shape := ⟨2, ![512, 32]⟩
abbrev S512x32x128 : Shape := ⟨3, ![512, 32, 128]⟩
abbrev S512x1x128 : Shape := ⟨3, ![512, 1, 128]⟩
abbrev S512x32x1 : Shape := ⟨3, ![512, 32, 1]⟩
abbrev S1x512x32 : Shape := ⟨3, ![1, 512, 32]⟩
abbrev S1x1x1 : Shape := ⟨3, ![1, 1, 1]⟩
abbrev S2048x128 : Shape := ⟨2, ![2048, 128]⟩
abbrev S1x1 : Shape := ⟨2, ![1, 1]⟩

abbrev nBuf : Table → Nat
  | .hbm => 18
  | .local .tc .vmem => 22
  | .local .scVector .vmem => 2
  | _ => 0

abbrev bufTy : (tb : Table) → Fin (nBuf tb) → BufTy
  | .hbm, ⟨0, _⟩ => ⟨S16384x128, .f32⟩
  | .hbm, ⟨1, _⟩ => ⟨S16384x32, .i32⟩
  | .hbm, ⟨2, _⟩ => ⟨S16384x128, .f32⟩
  | .hbm, ⟨3, _⟩ => ⟨S16384x32, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x524288, .i32⟩
  | .hbm, ⟨9, _⟩ => ⟨S524288x128, .f32⟩
  | .hbm, ⟨10, _⟩ => ⟨S1x128, .f32⟩
  | .hbm, ⟨11, _⟩ => ⟨S16384x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S16384x128, .f32⟩
  | .local .tc .vmem, ⟨0, _⟩ => ⟨S16384x128, .f32⟩
  | .local .tc .vmem, ⟨1, _⟩ => ⟨S16384x128, .f32⟩
  | .local .tc .vmem, ⟨2, _⟩ => ⟨S512x128, .f32⟩
  | .local .tc .vmem, ⟨3, _⟩ => ⟨S512x128, .f32⟩
  | .local .tc .vmem, ⟨4, _⟩ => ⟨S512x32, .f32⟩
  | .local .tc .vmem, ⟨5, _⟩ => ⟨S512x32, .f32⟩
  | .local .tc .vmem, ⟨6, _⟩ => ⟨S128x128, .f32⟩
  | .local .tc .vmem, ⟨7, _⟩ => ⟨S1x128, .f32⟩
  | .local .tc .vmem, ⟨8, _⟩ => ⟨S512x128, .f32⟩
  | .local .tc .vmem, ⟨9, _⟩ => ⟨S512x128, .f32⟩
  | .local .tc .vmem, ⟨10, _⟩ => ⟨S1x128, .f32⟩
  | .local .tc .vmem, ⟨11, _⟩ => ⟨S1x128, .f32⟩
  | .local .tc .vmem, ⟨12, _⟩ => ⟨S1x128, .f32⟩
  | .local .tc .vmem, ⟨13, _⟩ => ⟨S2048x128, .f32⟩
  | .local .tc .vmem, ⟨14, _⟩ => ⟨S2048x128, .f32⟩
  | .local .tc .vmem, ⟨15, _⟩ => ⟨S1x128, .f32⟩
  | .local .tc .vmem, ⟨16, _⟩ => ⟨S1x128, .f32⟩
  | .local .tc .vmem, ⟨17, _⟩ => ⟨S1x128, .f32⟩
  | .local .tc .vmem, ⟨18, _⟩ => ⟨S1x128, .f32⟩
  | .local .tc .vmem, ⟨19, _⟩ => ⟨S1x128, .f32⟩
  | .local .tc .vmem, ⟨20, _⟩ => ⟨S2048x128, .f32⟩
  | .local .tc .vmem, ⟨21, _⟩ => ⟨S2048x128, .f32⟩
  | .local .scVector .vmem, ⟨0, _⟩ => ⟨S2x1x256, .i32⟩
  | .local .scVector .vmem, ⟨1, _⟩ => ⟨S2x256x128, .f32⟩
  | _, _ => ⟨S16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_arg0_scv : Ref sig .scVector := ⟨.hbm, 0, rfl⟩
abbrev main_v0_scv : Ref sig .scVector := ⟨.hbm, 8, rfl⟩
abbrev main_v1_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg5_1 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem7_0 : DmaSem sig := 16
abbrev cc1_sem8_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v7_r0 : BitVec 32 := Scalar.addi c0_i32_1_r0 v4
  let v22_r0 : BitVec 32 := Scalar.muli c256_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c64_i32_27_r0 : BitVec 32 := 64#32
  let v32_r0 : BitVec 32 := Scalar.addi c0_i32_26_r0 c64_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c63_i32_68_r0 : BitVec 32 := 63#32
  let v83_r0 : BitVec 1 := Scalar.cmpi .sge arg5_r0 c63_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c256_i32_100_r0 : BitVec 32 := 256#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v76_r0 : BitVec 32 := Scalar.addi v75_r0 v4
  let v145_r0 : BitVec 32 := Scalar.muli c256_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c256_i32_99_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v144_r0 : BitVec 32 := Scalar.muli c256_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x256x128.size a ≤ S2x256x128.size a)
theorem k0_off10_inb : ∀ (arg8_r0 : BitVec 32) (k0_hw2 : k0_chk2 arg8_r0), ∀ a, (k0_off10 arg8_r0) a + S1x256x128.size a ≤ S2x256x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x256.size a ≤ S2x1x256.size a)
theorem k0_off11_inb : ∀ (arg7_r0 : BitVec 32) (k0_hw3 : k0_chk3 arg7_r0), ∀ a, (k0_off11 arg7_r0) a + S1x1x256.size a ≤ S2x1x256.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c63_i32_55_r0 : BitVec 32 := 63#32
  let v65_r0 : BitVec 1 := Scalar.cmpi .eq arg5_r0 c63_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c256_i32_100_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v145_r0 : BitVec 32 := Scalar.muli c256_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c256_i32_100_r0 : BitVec 32 := 256#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v71_r0 : BitVec 32 := Scalar.addi v70_r0 v4
  let v145_r0 : BitVec 32 := Scalar.muli c256_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x256.size a ≤ S2x1x256.size a) ∧
  (∀ (k0_h1 : k0_cond1 i k0_t1 arg10_r0 = 1#1), ∀ a, (k0_off5 i arg10_r0) a + S1x256.size a ≤ S1x524288.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x256.size a ≤ S2x1x256.size a) ∧
  (∀ (k0_h2 : k0_cond2 i k0_t1 arg10_r0 = 1#1), ∀ a, (k0_off8 i arg10_r0) a + S1x256.size a ≤ S1x524288.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x256x128.size a ≤ S2x256x128.size a) ∧
  (∀ (k0_h5 : k0_cond5 i k0_t1 arg10_r0 = 1#1), ∀ a, (k0_off13 i arg10_r0) a + S256x128.size a ≤ S524288x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x256x128.size a ≤ S2x256x128.size a) ∧
  (∀ (k0_h7 : k0_cond7 i k0_t1 arg10_r0 = 1#1), ∀ a, (k0_off16 i arg10_r0) a + S256x128.size a ≤ S524288x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x256.size a ≤ S2x1x256.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x256.size a ≤ S1x524288.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x256.size a ≤ S2x1x256.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x256.size a ≤ S1x524288.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x256x128.size a ≤ S2x256x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S256x128.size a ≤ S524288x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x256x128.size a ≤ S2x256x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S256x128.size a ≤ S524288x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c256_i32_47_r0 : BitVec 32 := 256#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c63_i32_33_r0 : BitVec 32 := 63#32
  let v37_r0 : BitVec 32 := Scalar.select v36_r0 c63_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v38_r0 : BitVec 32 := Scalar.addi v37_r0 v4
  let v55_r0 : BitVec 32 := Scalar.muli c256_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S256x128.size a ≤ S524288x128.size a)
theorem k0_off19_inb : ∀ (i : grid0.Coords) (v33_4_r0 : BitVec 32) (k0_hw5 : k0_chk5 i v33_4_r0), ∀ a, (k0_off19 i v33_4_r0) a + S256x128.size a ≤ S524288x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x256x128.size a ≤ S2x256x128.size a) ∧
  (∀ a, (k0_off20 v33_3_r0) a + S1.size a ≤ S2.size a) ∧
  (∀ a, (k0_off21 v33_3_r0) a + S1x256x128.size a ≤ S2x256x128.size a)
theorem k0_off18_inb : ∀ (v33_3_r0 : BitVec 32) (k0_hw4 : k0_chk4 v33_3_r0), ∀ a, (k0_off18 v33_3_r0) a + S1x256x128.size a ≤ S2x256x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x256x128.size a ≤ S2x256x128.size a := fun v33_3_r0 k0_hw4 => k0_hw4.2.2

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16384x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2048x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x128 : Shape := ⟨2, ![16384, 128]⟩
abbrev S16384x32 : Shape := ⟨2, ![16384, 32]⟩
abbrev S128x128 : Shape := ⟨2, ![128, 128]⟩
abbrev S128 : Shape := ⟨1, ![128]⟩
abbrev S_ : Shape := ⟨0, ![]⟩
abbrev S16384x32x1 : Shape := ⟨3, ![16384, 32, 1]⟩
abbrev S16384x32x128 : Shape := ⟨3, ![16384, 32, 128]⟩
abbrev S16384x1x128 : Shape := ⟨3, ![16384, 1, 128]⟩
abbrev S1x1x128 : Shape := ⟨3, ![1, 1, 128]⟩

abbrev nBuf : Space → Nat
  | .hbm => 93
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x32, .i32⟩
  | .hbm, ⟨2, _⟩ => ⟨S16384x128, .f32⟩
  | .hbm, ⟨3, _⟩ => ⟨S16384x32, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .i32⟩
  | .hbm, ⟨9, _⟩ => ⟨S16384x32, .i32⟩
  | .hbm, ⟨10, _⟩ => ⟨S16384x32, .i1⟩
  | .hbm, ⟨11, _⟩ => ⟨S_, .i32⟩
  | .hbm, ⟨12, _⟩ => ⟨S16384x32, .i32⟩
  | .hbm, ⟨13, _⟩ => ⟨S16384x32, .i32⟩
  | .hbm, ⟨14, _⟩ => ⟨S16384x32, .i32⟩
  | .hbm, ⟨15, _⟩ => ⟨S16384x32x1, .i32⟩
  | .hbm, ⟨16, _⟩ => ⟨S16384x32x128, .f32⟩
  | .hbm, ⟨17, _⟩ => ⟨S16384x1x128, .f32⟩
  | .hbm, ⟨18, _⟩ => ⟨S16384x32x128, .f32⟩
  | .hbm, ⟨19, _⟩ => ⟨S16384x32x128, .f32⟩
  | .hbm, ⟨20, _⟩ => ⟨S_, .f32⟩
  | .hbm, ⟨21, _⟩ => ⟨S16384x32x128, .f32⟩
  | .hbm, ⟨22, _⟩ => ⟨S16384x32x128, .i1⟩
  | .hbm, ⟨23, _⟩ => ⟨S_, .f32⟩
  | .hbm, ⟨24, _⟩ => ⟨S16384x32x128, .f32⟩
  | .hbm, ⟨25, _⟩ => ⟨S16384x32x128, .f32⟩
  | .hbm, ⟨26, _⟩ => ⟨S16384x32x128, .f32⟩
  | .hbm, ⟨27, _⟩ => ⟨S16384x32x128, .f32⟩
  | .hbm, ⟨28, _⟩ => ⟨S1x1x128, .f32⟩
  | .hbm, ⟨29, _⟩ => ⟨S16384x32x128, .f32⟩
  | .hbm, ⟨30, _⟩ => ⟨S16384x32x128, .f32⟩
  | .hbm, ⟨31, _⟩ => ⟨S_, .f32⟩
  | .hbm, ⟨32, _⟩ => ⟨S16384x32x128, .f32⟩
  | .hbm, ⟨33, _⟩ => ⟨S16384x32x128, .i1⟩
  | .hbm, ⟨34, _⟩ => ⟨S_, .f32⟩
  | .hbm, ⟨35, _⟩ => ⟨S16384x32x128, .f32⟩
  | .hbm, ⟨36, _⟩ => ⟨S16384x32x128, .f32⟩
  | .hbm, ⟨37, _⟩ => ⟨S16384x32x128, .f32⟩
  | .hbm, ⟨38, _⟩ => ⟨S16384x32x1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S16384x32x128, .f32⟩
  | .hbm, ⟨44, _⟩ => ⟨S16384x32x128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S1x1x128, .f32⟩
  | .hbm, ⟨50, _⟩ => ⟨S16384x32x128, .f32⟩
  | .hbm, ⟨51, _⟩ => ⟨S16384x32x128, .f32⟩
  | .hbm, ⟨52, _⟩ => ⟨S16384x32x128, .f32⟩
  | .hbm, ⟨53, _⟩ => ⟨S16384x32x128, .f32⟩
  | .hbm, ⟨54, _⟩ => ⟨S16384x32x128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S1x1x128, .f32⟩
  | .hbm, ⟨60, _⟩ => ⟨S16384x32x128, .f32⟩
  | .hbm, ⟨61, _⟩ => ⟨S16384x32x128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S1x1x128, .f32⟩
  | .hbm, ⟨67, _⟩ => ⟨S16384x32x128, .f32⟩
  | .hbm, ⟨68, _⟩ => ⟨S16384x32x128, .f32⟩
  | .hbm, ⟨69, _⟩ => ⟨S1x1x128, .f32⟩
  | .hbm, ⟨70, _⟩ => ⟨S16384x32x128, .f32⟩
  | .hbm, ⟨71, _⟩ => ⟨S16384x32x128, .f32⟩
  | .hbm, ⟨72, _⟩ => ⟨S1x1x128, .f32⟩
  | .hbm, ⟨73, _⟩ => ⟨S16384x32x128, .f32⟩
  | .hbm, ⟨74, _⟩ => ⟨S16384x32x128, .f32⟩
  | .hbm, ⟨75, _⟩ => ⟨S_, .f32⟩
  | .hbm, ⟨76, _⟩ => ⟨S16384x32x1, .f32⟩
  | .hbm, ⟨77, _⟩ => ⟨S16384x32x1, .i1⟩
  | .hbm, ⟨78, _⟩ => ⟨S_, .f32⟩
  | .hbm, ⟨79, _⟩ => ⟨S_, .f32⟩
  | .hbm, ⟨80, _⟩ => ⟨S16384x32x128, .i1⟩
  | .hbm, ⟨81, _⟩ => ⟨S16384x32x128, .f32⟩
  | .hbm, ⟨82, _⟩ => ⟨S16384x32x128, .f32⟩
  | .hbm, ⟨83, _⟩ => ⟨S_, .f32⟩
  | .hbm, ⟨84, _⟩ => ⟨S16384x128, .f32⟩
  | .hbm, ⟨85, _⟩ => ⟨S16384x128, .f32⟩
  | .hbm, ⟨86, _⟩ => ⟨S_, .f32⟩
  | .hbm, ⟨87, _⟩ => ⟨S16384x128, .f32⟩
  | .hbm, ⟨88, _⟩ => ⟨S16384x128, .i1⟩
  | .hbm, ⟨89, _⟩ => ⟨S_, .f32⟩
  | .hbm, ⟨90, _⟩ => ⟨S_, .f32⟩
  | .hbm, ⟨91, _⟩ => ⟨S16384x128, .f32⟩
  | .hbm, ⟨92, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_call3_v0 : Ref sig .tc := ⟨.hbm, 90, rfl⟩
abbrev main_call3_v1 : Ref sig .tc := ⟨.hbm, 91, rfl⟩
abbrev main_v63 : Ref sig .tc := ⟨.hbm, 92, rfl⟩

abbrev nD : Nat := 1
abbrev τ : Topo := Topo.v7x

variable {F : FTy → Type} [FloatOps F]
-- ==== First.lean ====
abbrev S16384x64 : Shape := ⟨2, ![16384, 64]⟩
abbrev S16384x3 : Shape := ⟨2, ![16384, 3]⟩
abbrev S16384 : Shape := ⟨1, ![16384]⟩
abbrev S4 : Shape := ⟨1, ![4]⟩
abbrev S68x128 : Shape := ⟨2, ![68, 128]⟩
abbrev S128 : Shape := ⟨1, ![128]⟩
abbrev S_ : Shape := ⟨0, ![]⟩
abbrev S16384x4 : Shape := ⟨2, ![16384, 4]⟩
abbrev S16384x1 : Shape := ⟨2, ![16384, 1]⟩
abbrev S16384x8 : Shape := ⟨2, ![16384, 8]⟩
abbrev S8 : Shape := ⟨1, ![8]⟩
abbrev S1x8 : Shape := ⟨2, ![1, 8]⟩
abbrev S64x128 : Shape := ⟨2, ![64, 128]⟩
abbrev S4x128 : Shape := ⟨2, ![4, 128]⟩
abbrev S8x128 : Shape := ⟨2, ![8, 128]⟩
abbrev S1x128 : Shape := ⟨2, ![1, 128]⟩
abbrev S16384x128 : Shape := ⟨2, ![16384, 128]⟩
abbrev S2048x64 : Shape := ⟨2, ![2048, 64]⟩
abbrev S2048x8 : Shape := ⟨2, ![2048, 8]⟩
abbrev S2048x1 : Shape := ⟨2, ![2048, 1]⟩
abbrev S2048x128 : Shape := ⟨2, ![2048, 128]⟩
abbrev S2048 : Shape := ⟨1, ![2048]⟩

abbrev nBuf : Space → Nat
  | .hbm => 25
  | .vmem => 14
  | .smem => 0
  | _ => 0

abbrev bufTy : (tb : Table) → Fin (tcTables nBuf tb) → BufTy
  | .hbm, ⟨0, _⟩ => ⟨S16384x64, .f32⟩
  | .hbm, ⟨1, _⟩ => ⟨S16384x3, .f32⟩
  | .hbm, ⟨2, _⟩ => ⟨S16384, .i32⟩
  | .hbm, ⟨3, _⟩ => ⟨S16384, .f32⟩
  | .hbm, ⟨4, _⟩ => ⟨S4, .f32⟩
  | .hbm, ⟨5, _⟩ => ⟨S68x128, .f32⟩
  | .hbm, ⟨6, _⟩ => ⟨S128, .f32⟩
  | .hbm, ⟨7, _⟩ => ⟨S16384, .f32⟩
  | .hbm, ⟨8, _⟩ => ⟨S_, .f32⟩
  | .hbm, ⟨9, _⟩ => ⟨S16384x4, .f32⟩
  | .hbm, ⟨10, _⟩ => ⟨S16384x1, .f32⟩
  | .hbm, ⟨11, _⟩ => ⟨S16384x8, .f32⟩
  | .hbm, ⟨12, _⟩ => ⟨S_, .f32⟩
  | .hbm, ⟨13, _⟩ => ⟨S4, .f32⟩
  | .hbm, ⟨14, _⟩ => ⟨S8, .f32⟩
  | .hbm, ⟨15, _⟩ => ⟨S1x8, .f32⟩
  | .hbm, ⟨16, _⟩ => ⟨S64x128, .f32⟩
  | .hbm, ⟨17, _⟩ => ⟨S4x128, .f32⟩
  | .hbm, ⟨18, _⟩ => ⟨S_, .f32⟩
  | .hbm, ⟨19, _⟩ => ⟨S4x128, .f32⟩
  | .hbm, ⟨20, _⟩ => ⟨S8x128, .f32⟩
  | .hbm, ⟨21, _⟩ => ⟨S16384x1, .f32⟩
  | .hbm, ⟨22, _⟩ => ⟨S1x128, .f32⟩
  | .hbm, ⟨23, _⟩ => ⟨S16384x128, .f32⟩
  | .hbm, ⟨24, _⟩ => ⟨S16384x128, .f32⟩
  | .local _ .vmem, ⟨0, _⟩ => ⟨S2048x64, .f32⟩
  | .local _ .vmem, ⟨1, _⟩ => ⟨S2048x64, .f32⟩
  | .local _ .vmem, ⟨2, _⟩ => ⟨S2048x8, .f32⟩
  | .local _ .vmem, ⟨3, _⟩ => ⟨S2048x8, .f32⟩
  | .local _ .vmem, ⟨4, _⟩ => ⟨S2048x1, .f32⟩
  | .local _ .vmem, ⟨5, _⟩ => ⟨S2048x1, .f32⟩
  | .local _ .vmem, ⟨6, _⟩ => ⟨S1x8, .f32⟩
  | .local _ .vmem, ⟨7, _⟩ => ⟨S64x128, .f32⟩
  | .local _ .vmem, ⟨8, _⟩ => ⟨S8x128, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FirstReferenceIdeal.lean ====
abbrev S16384x64 : Shape := ⟨2, ![16384, 64]⟩
abbrev S16384x3 : Shape := ⟨2, ![16384, 3]⟩
abbrev S16384 : Shape := ⟨1, ![16384]⟩
abbrev S4 : Shape := ⟨1, ![4]⟩
abbrev S68x128 : Shape := ⟨2, ![68, 128]⟩
abbrev S128 : Shape := ⟨1, ![128]⟩
abbrev S_ : Shape := ⟨0, ![]⟩
abbrev S16384x1 : Shape := ⟨2, ![16384, 1]⟩
abbrev S16384x4 : Shape := ⟨2, ![16384, 4]⟩
abbrev S16384x68 : Shape := ⟨2, ![16384, 68]⟩
abbrev S16384x128 : Shape := ⟨2, ![16384, 128]⟩
abbrev S1x128 : Shape := ⟨2, ![1, 128]⟩
abbrev S4x128 : Shape := ⟨2, ![4, 128]⟩

abbrev nBuf : Space → Nat
  | .hbm => 31
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x3, .f32⟩
  | .hbm, ⟨2, _⟩ => ⟨S16384, .i32⟩
  | .hbm, ⟨3, _⟩ => ⟨S16384, .f32⟩
  | .hbm, ⟨4, _⟩ => ⟨S4, .f32⟩
  | .hbm, ⟨5, _⟩ => ⟨S68x128, .f32⟩
  | .hbm, ⟨6, _⟩ => ⟨S128, .f32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S16384, .f32⟩
  | .hbm, ⟨16, _⟩ => ⟨S16384x1, .f32⟩
  | .hbm, ⟨17, _⟩ => ⟨S16384x3, .f32⟩
  | .hbm, ⟨18, _⟩ => ⟨S16384x3, .f32⟩
  | .hbm, ⟨19, _⟩ => ⟨S16384x1, .f32⟩
  | .hbm, ⟨20, _⟩ => ⟨S16384x4, .f32⟩
  | .hbm, ⟨21, _⟩ => ⟨S16384x68, .f32⟩
  | .hbm, ⟨22, _⟩ => ⟨S16384x128, .f32⟩
  | .hbm, ⟨23, _⟩ => ⟨S1x128, .f32⟩
  | .hbm, ⟨24, _⟩ => ⟨S16384x128, .f32⟩
  | .hbm, ⟨25, _⟩ => ⟨S16384x128, .f32⟩
  | .hbm, ⟨26, _⟩ => ⟨S16384x3, .f32⟩
  | .hbm, ⟨27, _⟩ => ⟨S16384x3, .f32⟩
  | .hbm, ⟨28, _⟩ => ⟨S16384x3, .f32⟩
  | .hbm, ⟨29, _⟩ => ⟨S4x128, .f32⟩
  | .hbm, ⟨30, _⟩ => ⟨S16384x128, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Cells.lean ====
abbrev S16384x3 : Shape := ⟨2, ![16384, 3]⟩
abbrev S16384 : Shape := ⟨1, ![16384]⟩
abbrev S_ : Shape := ⟨0, ![]⟩
abbrev S16384x4 : Shape := ⟨2, ![16384, 4]⟩
abbrev S16384x1 : Shape := ⟨2, ![16384, 1]⟩
abbrev S16384x8 : Shape := ⟨2, ![16384, 8]⟩
abbrev S1x1024 : Shape := ⟨2, ![1, 1024]⟩
abbrev S512x8 : Shape := ⟨2, ![512, 8]⟩
abbrev S512x1 : Shape := ⟨2, ![512, 1]⟩
abbrev S512x1024 : Shape := ⟨2, ![512, 1024]⟩
abbrev S1024 : Shape := ⟨1, ![1024]⟩

abbrev nBuf : Space → Nat
  | .hbm => 9
  | .vmem => 5
  | .smem => 0
  | _ => 0

abbrev bufTy : (tb : Table) → Fin (tcTables nBuf tb) → BufTy
  | .hbm, ⟨0, _⟩ => ⟨S16384x3, .f32⟩
  | .hbm, ⟨1, _⟩ => ⟨S16384, .i32⟩
  | .hbm, ⟨2, _⟩ => ⟨S16384, .f32⟩
  | .hbm, ⟨3, _⟩ => ⟨S_, .f32⟩
  | .hbm, ⟨4, _⟩ => ⟨S16384x4, .f32⟩
  | .hbm, ⟨5, _⟩ => ⟨S16384x1, .f32⟩
  | .hbm, ⟨6, _⟩ => ⟨S16384x8, .f32⟩
  | .hbm, ⟨7, _⟩ => ⟨S16384x1, .f32⟩
  | .hbm, ⟨8, _⟩ => ⟨S1x1024, .f32⟩
  | .local _ .vmem, ⟨0, _⟩ => ⟨S512x8, .f32⟩
  | .local _ .vmem, ⟨1, _⟩ => ⟨S512x8, .f32⟩
  | .local _ .vmem, ⟨2, _⟩ => ⟨S512x1, .f32⟩
  | .local _ .vmem, ⟨3, _⟩ => ⟨S512x1, .f32⟩
  | .local _ .vmem, ⟨4, _⟩ => ⟨S1x1024, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== CellsReferenceIdeal.lean ====
abbrev S16384x3 : Shape := ⟨2, ![16384, 3]⟩
abbrev S16384 : Shape := ⟨1, ![16384]⟩
abbrev S_ : Shape := ⟨0, ![]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384, .i32⟩
  | .hbm, ⟨2, _⟩ => ⟨S_, .f32⟩
  | .hbm, ⟨3, _⟩ => ⟨S16384x3, .f32⟩
  | .hbm, ⟨4, _⟩ => ⟨S16384x3, .f32⟩
  | .hbm, ⟨5, _⟩ => ⟨S16384x3, .f32⟩
  | .hbm, ⟨6, _⟩ => ⟨S_, .i32⟩
  | .hbm, ⟨7, _⟩ => ⟨S_, .i32⟩
  | .hbm, ⟨8, _⟩ => ⟨S_, .f32⟩
  | .hbm, ⟨9, _⟩ => ⟨S16384x3, .f32⟩
  | .hbm, ⟨10, _⟩ => ⟨S16384x3, .f32⟩
  | .hbm, ⟨11, _⟩ => ⟨S_, .f32⟩
  | .hbm, ⟨12, _⟩ => ⟨S16384x3, .f32⟩
  | .hbm, ⟨13, _⟩ => ⟨S16384x3, .f32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S16384x1, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S16384x1, .f32⟩
  | .hbm, ⟨25, _⟩ => ⟨S16384, .f32⟩
  | .hbm, ⟨26, _⟩ => ⟨S16384, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S16384x1, .f32⟩
  | .hbm, ⟨31, _⟩ => ⟨S16384, .f32⟩
  | .hbm, ⟨32, _⟩ => ⟨S16384, .f32⟩
  | .hbm, ⟨33, _⟩ => ⟨S16384x1, .f32⟩
  | .hbm, ⟨34, _⟩ => ⟨S1024, .i32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x1024, .i1⟩
  | .hbm, ⟨40, _⟩ => ⟨S16384x1, .f32⟩
  | .hbm, ⟨41, _⟩ => ⟨S16384x1024, .f32⟩
  | .hbm, ⟨42, _⟩ => ⟨S_, .f32⟩
  | .hbm, ⟨43, _⟩ => ⟨S1024, .f32⟩
  | .hbm, ⟨44, _⟩ => ⟨S1x1024, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Rank.lean ====
abbrev S16384x1 : Shape := ⟨2, ![16384, 1]⟩
abbrev S1x1024 : Shape := ⟨2, ![1, 1024]⟩
abbrev S512x1 : Shape := ⟨2, ![512, 1]⟩
abbrev S1024x1024 : Shape := ⟨2, ![1024, 1024]⟩
abbrev S512x1024 : Shape := ⟨2, ![512, 1024]⟩
abbrev S512x512 : Shape := ⟨2, ![512, 512]⟩
abbrev S512 : Shape := ⟨1, ![512]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1, .f32⟩
  | .hbm, ⟨1, _⟩ => ⟨S1x1024, .f32⟩
  | .hbm, ⟨2, _⟩ => ⟨S16384x1, .i32⟩
  | .hbm, ⟨3, _⟩ => ⟨S1x1024, .f32⟩
  | .local _ .vmem, ⟨0, _⟩ => ⟨S512x1, .f32⟩
  | .local _ .vmem, ⟨1, _⟩ => ⟨S512x1, .f32⟩
  | .local _ .vmem, ⟨2, _⟩ => ⟨S1x1024, .f32⟩
  | .local _ .vmem, ⟨3, _⟩ => ⟨S512x1, .i32⟩
  | .local _ .vmem, ⟨4, _⟩ => ⟨S512x1, .i32⟩
  | .local _ .vmem, ⟨5, _⟩ => ⟨S1x1024, .f32⟩
  | .local _ .vmem, ⟨6, _⟩ => ⟨S1x1024, .f32⟩
  | _, _ => ⟨S16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RankReferenceIdeal.lean ====
abbrev S16384x1 : Shape := ⟨2, ![16384, 1]⟩
abbrev S1x1024 : Shape := ⟨2, ![1, 1024]⟩
abbrev S1024 : Shape := ⟨1, ![1024]⟩
abbrev S1024x1 : Shape := ⟨2, ![1024, 1]⟩
abbrev S1024x1024 : Shape := ⟨2, ![1024, 1024]⟩
abbrev S_ : Shape := ⟨0, ![]⟩
abbrev S16384 : Shape := ⟨1, ![16384]⟩
abbrev S1x16384 : Shape := ⟨2, ![1, 16384]⟩
abbrev S16384x16384 : Shape := ⟨2, ![16384, 16384]⟩
abbrev S16384x1024 : Shape := ⟨2, ![16384, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16384x1, .f32⟩
  | .hbm, ⟨1, _⟩ => ⟨S1x1024, .f32⟩
  | .hbm, ⟨2, _⟩ => ⟨S1024, .i32⟩
  | .hbm, ⟨3, _⟩ => ⟨S1024, .f32⟩
  | .hbm, ⟨4, _⟩ => ⟨S1024x1, .f32⟩
  | .hbm, ⟨5, _⟩ => ⟨S1x1024, .f32⟩
  | .hbm, ⟨6, _⟩ => ⟨S1024x1024, .f32⟩
  | .hbm, ⟨7, _⟩ => ⟨S1024x1024, .f32⟩
  | .hbm, ⟨8, _⟩ => ⟨S1024x1024, .i1⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024, .f32⟩
  | .hbm, ⟨18, _⟩ => ⟨S16384, .f32⟩
  | .hbm, ⟨19, _⟩ => ⟨S16384, .i32⟩
  | .hbm, ⟨20, _⟩ => ⟨S1x16384, .f32⟩
  | .hbm, ⟨21, _⟩ => ⟨S16384x1, .f32⟩
  | .hbm, ⟨22, _⟩ => ⟨S16384x16384, .f32⟩
  | .hbm, ⟨23, _⟩ => ⟨S16384x16384, .f32⟩
  | .hbm, ⟨24, _⟩ => ⟨S16384x16384, .i1⟩
  | .hbm, ⟨25, _⟩ => ⟨S1x16384, .i32⟩
  | .hbm, ⟨26, _⟩ => ⟨S16384x1, .i32⟩
  | .hbm, ⟨27, _⟩ => ⟨S16384x16384, .i32⟩
  | .hbm, ⟨28, _⟩ => ⟨S16384x16384, .i32⟩
  | .hbm, ⟨29, _⟩ => ⟨S16384x16384, .i1⟩
  | .hbm, ⟨30, _⟩ => ⟨S16384x16384, .i1⟩
  | .hbm, ⟨31, _⟩ => ⟨S1x1024, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .i1⟩
  | .hbm, ⟨36, _⟩ => ⟨S_, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x16384, .f32⟩
  | .hbm, ⟨44, _⟩ => ⟨S_, .f32⟩
  | .hbm, ⟨45, _⟩ => ⟨S16384, .f32⟩
  | .hbm, ⟨46, _⟩ => ⟨S16384, .f32⟩
  | .hbm, ⟨47, _⟩ => ⟨S16384, .i32⟩
  | .hbm, ⟨48, _⟩ => ⟨S16384x1, .i32⟩
  | .hbm, ⟨49, _⟩ => ⟨S1x1024, .f32⟩
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Back.lean ====
abbrev S16384x128 : Shape := ⟨2, ![16384, 128]⟩
abbrev S16384x1 : Shape := ⟨2, ![16384, 1]⟩
abbrev S1x16384 : Shape := ⟨2, ![1, 16384]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S256 : Shape := ⟨1, ![256]⟩

abbrev nBuf : Table → Nat
  | .hbm => 4
  | .local .scVector .vmem => 2
  | _ => 0

abbrev bufTy : (tb : Table) → Fin (nBuf tb) → BufTy
  | .hbm, ⟨0, _⟩ => ⟨S16384x128, .f32⟩
  | .hbm, ⟨1, _⟩ => ⟨S16384x1, .i32⟩
  | .hbm, ⟨2, _⟩ => ⟨S1x16384, .i32⟩
  | .hbm, ⟨3, _⟩ => ⟨S16384x128, .f32⟩
  | .local .scVector .vmem, ⟨0, _⟩ => ⟨S2x1x256, .i32⟩
  | .local .scVector .vmem, ⟨1, _⟩ => ⟨S2x256x128, .f32⟩
  | _, _ => ⟨S16384x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_14_r0 : BitVec 32 := 0#32
  let c2_i32_15_r0 : BitVec 32 := 2#32
  let v21_r0 : BitVec 32 := Scalar.remui c0_i32_14_r0 c2_i32_15_r0
  let c0_i32_16_r0 : BitVec 32 := 0#32
  let c0_i32_17_r0 : BitVec 32 := 0#32
  ![v21_r0.toNat, 0, 0]
def k0_off2 (i : grid0.Coords) : Fin 2 → Nat :=
  let c0_i32_18_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v7_r0 : BitVec 32 := Scalar.addi c0_i32_1_r0 v4
  let v22_r0 : BitVec 32 := Scalar.muli c256_i32_r0 v7_r0
  ![0, v22_r0.toNat]
def k0_off3 : Fin 1 → Nat :=
  let c0_i32_14_r0 : BitVec 32 := 0#32
  let c2_i32_15_r0 : BitVec 32 := 2#32
  let v21_r0 : BitVec 32 := Scalar.remui c0_i32_14_r0 c2_i32_15_r0
  ![v21_r0.toNat]
@[reducible] def k0_t1_loop : Scf.Loop 32 :=
  let c0_i32_28_r0 : BitVec 32 := 0#32
  let c2_i32_29_r0 : BitVec 32 := 2#32
  let v32_r0 : BitVec 32 := Scalar.addi c0_i32_28_r0 c2_i32_29_r0
  let c1_i32_30_r0 : BitVec 32 := 1#32
  ⟨c0_i32_28_r0, v32_r0, c1_i32_30_r0⟩
def k0_off4 (arg6_r0 : BitVec 32) : Fin 3 → Nat :=
  let c2_i32_101_r0 : BitVec 32 := 2#32
  let v144_r0 : BitVec 32 := Scalar.remui arg6_r0 c2_i32_101_r0
  let c0_i32_103_r0 : BitVec 32 := 0#32
  let c0_i32_104_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v82_r0 : BitVec 1 := Scalar.cmpi .ne v66_r0 v76_r0
  let c0_i32_28_r0 : BitVec 32 := 0#32
  let c1_i32_30_r0 : BitVec 32 := 1#32
  let arg5_r0 : BitVec 32 := Scf.iv c0_i32_28_r0 c1_i32_30_r0 k0_t1
  let c1_i32_70_r0 : BitVec 32 := 1#32
  let v83_r0 : BitVec 1 := Scalar.cmpi .sge arg5_r0 c1_i32_70_r0
  let true_71_r0 : BitVec 1 := 1#1
  let v84_r0 : BitVec 1 := Scalar.xori v83_r0 true_71_r0
  let v85_r0 : BitVec 1 := Scalar.andi v82_r0 v84_r0
  let true_72_r0 : BitVec 1 := 1#1
  let v86_r0 : BitVec 1 := Scalar.andi v85_r0 true_72_r0
  let v87_r0 : BitVec 32 := Scalar.extui v86_r0
  let c0_i32_73_r0 : BitVec 32 := 0#32
  let v88_r0 : BitVec 1 := Scalar.cmpi .ne v87_r0 c0_i32_73_r0
  v88_r0

def k0_off5 (i : grid0.Coords) (arg10_r0 : BitVec 32) : Fin 2 → Nat :=
  let c0_i32_105_r0 : BitVec 32 := 0#32
  let c256_i32_102_r0 : BitVec 32 := 256#32
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v76_r0 : BitVec 32 := Scalar.addi v75_r0 v4
  let v145_r0 : BitVec 32 := Scalar.muli c256_i32_102_r0 v76_r0
  ![0, v145_r0.toNat]
def k0_off6 (arg6_r0 : BitVec 32) : Fin 1 → Nat :=
  let c2_i32_101_r0 : BitVec 32 := 2#32
  let v144_r0 : BitVec 32 := Scalar.remui arg6_r0 c2_i32_101_r0
  ![v144_r0.toNat]
def k0_off7 (arg7_r0 : BitVec 32) : Fin 3 → Nat :=
  let c2_i32_102_r0 : BitVec 32 := 2#32
  let v145_r0 : BitVec 32 := Scalar.remui arg7_r0 c2_i32_102_r0
  let c0_i32_103_r0 : BitVec 32 := 0#32
  let c0_i32_104_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v96_r0 : BitVec 1 := Scalar.cmpi .ne v66_r0 v71_r0
  let c0_i32_28_r0 : BitVec 32 := 0#32
  let c1_i32_30_r0 : BitVec 32 := 1#32
  let arg5_r0 : BitVec 32 := Scf.iv c0_i32_28_r0 c1_i32_30_r0 k0_t1
  let c0_i32_56_r0 : BitVec 32 := 0#32
  let v64_r0 : BitVec 1 := Scalar.cmpi .eq arg5_r0 c0_i32_56_r0
  let v97_r0 : BitVec 1 := Scalar.ori v96_r0 v64_r0
  let c0_i32_78_r0 : BitVec 32 := 0#32
  let v98_r0 : BitVec 1 := Scalar.cmpi .sge arg5_r0 c0_i32_78_r0
  let v99_r0 : BitVec 1 := Scalar.andi v97_r0 v98_r0
  let v100_r0 : BitVec 32 := Scalar.extui v99_r0
  let c0_i32_79_r0 : BitVec 32 := 0#32
  let v101_r0 : BitVec 1 := Scalar.cmpi .ne v100_r0 c0_i32_79_r0
  v101_r0

def k0_off8 (i : grid0.Coords) (arg10_r0 : BitVec 32) : Fin 2 → Nat :=
  let c0_i32_105_r0 : BitVec 32 := 0#32
  let c256_i32_101_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v144_r0 : BitVec 32 := Scalar.muli c256_i32_101_r0 v66_r0
  ![0, v144_r0.toNat]
def k0_off9 (arg7_r0 : BitVec 32) : Fin 1 → Nat :=
  let c2_i32_102_r0 : BitVec 32 := 2#32
  let v145_r0 : BitVec 32 := Scalar.remui arg7_r0 c2_i32_102_r0
  ![v145_r0.toNat]
def k0_off10 (arg8_r0 : BitVec 32) : Fin 3 → Nat :=
  let c2_i32_83_r0 : BitVec 32 := 2#32
  let v109_r0 : BitVec 32 := Scalar.remui arg8_r0 c2_i32_83_r0
  let c0_i32_101_r1 : BitVec 32 := 0#32
  let c0_i32_102_r1 : BitVec 32 := 0#32
  ![v109_r0.toNat, 0, 0]

def k0_chk2 (arg8_r0 : BitVec 32) : Prop :=
  (∀ a, (k0_off10 arg8_r0) a + S1x256x128.size a ≤ S2x256x128.size a)
theorem k0_off10_inb : ∀ (arg8_r0 : BitVec 32) (k0_hw2 : k0_chk2 arg8_r0), ∀ a, (k0_off10 arg8_r0) a + S1x256x128.size a ≤ S2x256x128.size a := fun arg8_r0 k0_hw2 => k0_hw2

def k0_off11 (arg7_r0 : BitVec 32) : Fin 3 → Nat :=
  let c2_i32_82_r0 : BitVec 32 := 2#32
  let v108_r0 : BitVec 32 := Scalar.remui arg7_r0 c2_i32_82_r0
  let c0_i32_103_r1 : BitVec 32 := 0#32
  let c0_i32_104_r1 : BitVec 32 := 0#32
  ![v108_r0.toNat, 0, 0]

def k0_chk3 (arg7_r0 : BitVec 32) : Prop :=
  (∀ a, (k0_off11 arg7_r0) a + S1x1x256.size a ≤ S2x1x256.size a)
theorem k0_off11_inb : ∀ (arg7_r0 : BitVec 32) (k0_hw3 : k0_chk3 arg7_r0), ∀ a, (k0_off11 arg7_r0) a + S1x1x256.size a ≤ S2x1x256.size a := fun arg7_r0 k0_hw3 => k0_hw3

def k0_off12 (arg8_r0 : BitVec 32) : Fin 3 → Nat :=
  let c2_i32_101_r0 : BitVec 32 := 2#32
  let v144_r0 : BitVec 32 := Scalar.remui arg8_r0 c2_i32_101_r0
  let c0_i32_103_r0 : BitVec 32 := 0#32
  let c0_i32_104_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v115_r0 : BitVec 1 := Scalar.cmpi .ne v66_r0 v76_r0
  let c0_i32_28_r0 : BitVec 32 := 0#32
  let c1_i32_30_r0 : BitVec 32 := 1#32
  let arg5_r0 : BitVec 32 := Scf.iv c0_i32_28_r0 c1_i32_30_r0 k0_t1
  let c1_i32_57_r0 : BitVec 32 := 1#32
  let v65_r0 : BitVec 1 := Scalar.cmpi .eq arg5_r0 c1_i32_57_r0
  let v116_r0 : BitVec 1 := Scalar.ori v115_r0 v65_r0
  let v117_r0 : BitVec 32 := Scalar.extui v116_r0
  let c0_i32_86_r0 : BitVec 32 := 0#32
  let v118_r0 : BitVec 1 := Scalar.cmpi .ne v117_r0 c0_i32_86_r0
  v118_r0

def k0_off13 (i : grid0.Coords) (arg10_r0 : BitVec 32) : Fin 2 → Nat :=
  let c256_i32_102_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v145_r0 : BitVec 32 := Scalar.muli c256_i32_102_r0 v66_r0
  let c0_i32_105_r0 : BitVec 32 := 0#32
  ![v145_r0.toNat, 0]
def k0_off14 (arg8_r0 : BitVec 32) : Fin 1 → Nat :=
  let c2_i32_101_r0 : BitVec 32 := 2#32
  let v144_r0 : BitVec 32 := Scalar.remui arg8_r0 c2_i32_101_r0
  ![v144_r0.toNat]
def k0_off15 (arg9_r0 : BitVec 32) : Fin 3 → Nat :=
  let c2_i32_101_r0 : BitVec 32 := 2#32
  let v144_r0 : BitVec 32 := Scalar.remui arg9_r0 c2_i32_101_r0
  let c0_i32_103_r0 : BitVec 32 := 0#32
  let c0_i32_104_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v128_r0 : BitVec 1 := Scalar.cmpi .ne v66_r0 v71_r0
  let c0_i32_28_r0 : BitVec 32 := 0#32
  let c1_i32_30_r0 : BitVec 32 := 1#32
  let arg5_r0 : BitVec 32 := Scf.iv c0_i32_28_r0 c1_i32_30_r0 k0_t1
  let c0_i32_56_r0 : BitVec 32 := 0#32
  let v64_r0 : BitVec 1 := Scalar.cmpi .eq arg5_r0 c0_i32_56_r0
  let true_92_r0 : BitVec 1 := 1#1
  let v129_r0 : BitVec 1 := Scalar.xori v64_r0 true_92_r0
  let v130_r0 : BitVec 1 := Scalar.andi v128_r0 v129_r0
  let v131_r0 : BitVec 32 := Scalar.extui v130_r0
  let c0_i32_93_r0 : BitVec 32 := 0#32
  let v132_r0 : BitVec 1 := Scalar.cmpi .ne v131_r0 c0_i32_93_r0
  v132_r0

def k0_off16 (i : grid0.Coords) (arg10_r0 : BitVec 32) : Fin 2 → Nat :=
  let c256_i32_102_r0 : BitVec 32 := 256#32
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v71_r0 : BitVec 32 := Scalar.addi v70_r0 v4
  let v145_r0 : BitVec 32 := Scalar.muli c256_i32_102_r0 v71_r0
  let c0_i32_105_r0 : BitVec 32 := 0#32
  ![v145_r0.toNat, 0]
def k0_off17 (arg9_r0 : BitVec 32) : Fin 1 → Nat :=
  let c2_i32_101_r0 : BitVec 32 := 2#32
  let v144_r0 : BitVec 32 := Scalar.remui arg9_r0 c2_i32_101_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x256.size a ≤ S2x1x256.size a) ∧
  (∀ (k0_h1 : k0_cond1 i k0_t1 arg10_r0 = 1#1), ∀ a, (k0_off5 i arg10_r0) a + S1x256.size a ≤ S1x16384.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x256.size a ≤ S2x1x256.size a) ∧
  (∀ (k0_h2 : k0_cond2 i k0_t1 arg10_r0 = 1#1), ∀ a, (k0_off8 i arg10_r0) a + S1x256.size a ≤ S1x16384.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x256x128.size a ≤ S2x256x128.size a) ∧
  (∀ (k0_h5 : k0_cond5 i k0_t1 arg10_r0 = 1#1), ∀ a, (k0_off13 i arg10_r0) a + S256x128.size a ≤ S16384x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x256x128.size a ≤ S2x256x128.size a) ∧
  (∀ (k0_h7 : k0_cond7 i k0_t1 arg10_r0 = 1#1), ∀ a, (k0_off16 i arg10_r0) a + S256x128.size a ≤ S16384x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x256.size a ≤ S2x1x256.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x256.size a ≤ S1x16384.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x256.size a ≤ S2x1x256.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x256.size a ≤ S1x16384.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x256x128.size a ≤ S2x256x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S256x128.size a ≤ S16384x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x256x128.size a ≤ S2x256x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S256x128.size a ≤ S16384x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_48_r0 : BitVec 32 := 2#32
  let v54_r0 : BitVec 32 := Scalar.remui v33_3_r0 c2_i32_48_r0
  let c0_i32_50_r0 : BitVec 32 := 0#32
  let c0_i32_51_r0 : BitVec 32 := 0#32
  ![v54_r0.toNat, 0, 0]

def k0_off19 (i : grid0.Coords) (v33_4_r0 : BitVec 32) : Fin 2 → Nat :=
  let c256_i32_49_r0 : BitVec 32 := 256#32
  let true_33_r0 : BitVec 1 := 1#1
  let c1_i32_32_r0 : BitVec 32 := 1#32
  let v34_r0 : BitVec 32 := Scalar.subi v33_4_r0 c1_i32_32_r0
  let v35_r0 : BitVec 32 := Scalar.select true_33_r0 v34_r0 v33_4_r0
  let c_m1_i32_34_r0 : BitVec 32 := 4294967295#32
  let v36_r0 : BitVec 1 := Scalar.cmpi .eq v35_r0 c_m1_i32_34_r0
  let c1_i32_35_r0 : BitVec 32 := 1#32
  let v37_r0 : BitVec 32 := Scalar.select v36_r0 c1_i32_35_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v38_r0 : BitVec 32 := Scalar.addi v37_r0 v4
  let v55_r0 : BitVec 32 := Scalar.muli c256_i32_49_r0 v38_r0
  let c0_i32_52_r0 : BitVec 32 := 0#32
  ![v55_r0.toNat, 0]

def k0_chk5 (i : grid0.Coords) (v33_4_r0 : BitVec 32) : Prop :=
  (∀ a, (k0_off19 i v33_4_r0) a + S256x128.size a ≤ S16384x128.size a)
theorem k0_off19_inb : ∀ (i : grid0.Coords) (v33_4_r0 : BitVec 32) (k0_hw5 : k0_chk5 i v33_4_r0), ∀ a, (k0_off19 i v33_4_r0) a + S256x128.size a ≤ S16384x128.size a := fun i v33_4_r0 k0_hw5 => k0_hw5

def k0_off20 (v33_3_r0 : BitVec 32) : Fin 1 → Nat :=
  let c2_i32_48_r0 : BitVec 32 := 2#32
  let v54_r0 : BitVec 32 := Scalar.remui v33_3_r0 c2_i32_48_r0
  ![v54_r0.toNat]
def k0_off21 (v33_3_r0 : BitVec 32) : Fin 3 → Nat :=
  let c2_i32_48_r0 : BitVec 32 := 2#32
  let v54_r0 : BitVec 32 := Scalar.remui v33_3_r0 c2_i32_48_r0
  let c0_i32_54_r0 : BitVec 32 := 0#32
  let c0_i32_55_r0 : BitVec 32 := 0#32
  ![v54_r0.toNat, 0, 0]

def k0_chk4 (v33_3_r0 : BitVec 32) : Prop :=
  (∀ a, (k0_off18 v33_3_r0) a + S1x256x128.size a ≤ S2x256x128.size a) ∧
  (∀ a, (k0_off20 v33_3_r0) a + S1.size a ≤ S2.size a) ∧
  (∀ a, (k0_off21 v33_3_r0) a + S1x256x128.size a ≤ S2x256x128.size a)
theorem k0_off18_inb : ∀ (v33_3_r0 : BitVec 32) (k0_hw4 : k0_chk4 v33_3_r0), ∀ a, (k0_off18 v33_3_r0) a + S1x256x128.size a ≤ S2x256x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x256x128.size a ≤ S2x256x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== BackReferenceIdeal.lean ====
abbrev S16384x128 : Shape := ⟨2, ![16384, 128]⟩
abbrev S16384x1 : Shape := ⟨2, ![16384, 1]⟩
abbrev S16384 : Shape := ⟨1, ![16384]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x1, .i32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Words.lean ====
/-
  The words a task of the gather computes, in closed form: the loop's carried words before trip `t`, the conditions of
  its branches, the offsets of its slots, semaphores and blocks, and the checks that assume them in range.
-/
module

public import proofs.«01_k».proof.Proof.Gen.KernelIdeal

@[expose] public section

namespace Cert.Proof.Words

open Cert.KernelIdeal Cert.KernelIdeal.Gen
open Idealize.ShloMosaic

/-- The fetches started before trip `t`. -/
abbrev aW (t : ℕ) : BitVec 32 := BitVec.ofNat 32 (min (t + 1) 64)
/-- The blocks gathered before trip `t`. -/
abbrev bW (t : ℕ) : BitVec 32 := BitVec.ofNat 32 t
/-- The copies out that have been waited for before trip `t`. -/
abbrev dW (t : ℕ) : BitVec 32 := BitVec.ofNat 32 (t - 1)
/-- The block of trip `t`, within the task's 64. -/
abbrev eW (t : ℕ) : BitVec 32 := BitVec.ofNat 32 (t % 64)

/-- The carried words before trip `t`. -/
abbrev carry (t : ℕ) : BitVec 32 × BitVec 32 × BitVec 32 × BitVec 32 × BitVec 32 := (aW t, bW t, bW t, dW t, eW t)

/-- The first block of the task at coordinates `i`, as the kernel computes it. -/
abbrev w4 (i : grid0.Coords) : BitVec 32 :=
  Scalar.muli (Scalar.addi (Scalar.addi 0#32 (Scalar.muli (BitVec.ofNat 32 (i 1).val) 1#32)) (Scalar.muli (BitVec.ofNat 32 (i 0).val) 16#32)) 64#32

/-- The first row of the task at coordinates `i`. -/
abbrev base (i : grid0.Coords) : ℕ := 16384 * (i 1).val + 262144 * (i 0).val

theorem cond1_eq : ∀ (i : grid0.Coords) (t : Fin k0_t1_loop.trips), k0_cond1 i t (eW t) = if t.val < 63 then 1#1 else 0#1 := by decide +kernel
theorem cond2_eq : ∀ (i : grid0.Coords) (t : Fin k0_t1_loop.trips), k0_cond2 i t (eW t) = 1#1 := by decide +kernel
theorem cond5_eq : ∀ (i : grid0.Coords) (t : Fin k0_t1_loop.trips), k0_cond5 i t (eW t) = 1#1 := by decide +kernel
theorem cond7_eq : ∀ (i : grid0.Coords) (t : Fin k0_t1_loop.trips), k0_cond7 i t (eW t) = if 0 < t.val then 1#1 else 0#1 := by decide +kernel

theorem off4_eq : ∀ t : Fin k0_t1_loop.trips, t.val < 63 → k0_off4 (aW t) = ![(t.val + 1) % 2, 0, 0] := by decide +kernel
theorem off5_eq : ∀ (i : grid0.Coords) (t : Fin k0_t1_loop.trips), t.val < 63 → k0_off5 i (eW t) = ![0, base i + 256 * (t.val + 1)] := by decide +kernel
theorem off6_eq : ∀ t : Fin k0_t1_loop.trips, t.val < 63 → k0_off6 (aW t) = ![(t.val + 1) % 2] := by decide +kernel
theorem off7_eq : ∀ t : Fin k0_t1_loop.trips, k0_off7 (bW t) = ![t.val % 2, 0, 0] := by decide +kernel
theorem off8_eq : ∀ (i : grid0.Coords) (t : Fin k0_t1_loop.trips), k0_off8 i (eW t) = ![0, base i + 256 * t.val] := by decide +kernel
theorem off9_eq : ∀ t : Fin k0_t1_loop.trips, k0_off9 (bW t) = ![t.val % 2] := by decide +kernel
theorem off10_eq : ∀ t : Fin k0_t1_loop.trips, k0_off10 (bW t) = ![t.val % 2, 0, 0] := by decide +kernel
theorem off11_eq : ∀ t : Fin k0_t1_loop.trips, k0_off11 (bW t) = ![t.val % 2, 0, 0] := by decide +kernel
theorem off12_eq : ∀ t : Fin k0_t1_loop.trips, k0_off12 (bW t) = ![t.val % 2, 0, 0] := by decide +kernel
theorem off13_eq : ∀ (i : grid0.Coords) (t : Fin k0_t1_loop.trips), k0_off13 i (eW t) = ![base i + 256 * t.val, 0] := by decide +kernel
theorem off14_eq : ∀ t : Fin k0_t1_loop.trips, k0_off14 (bW t) = ![t.val % 2] := by decide +kernel
theorem off15_eq : ∀ t : Fin k0_t1_loop.trips, k0_off15 (dW t) = ![(t.val - 1) % 2, 0, 0] := by decide +kernel
theorem off16_eq : ∀ (i : grid0.Coords) (t : Fin k0_t1_loop.trips), 0 < t.val → k0_off16 i (eW t) = ![base i + 256 * (t.val - 1), 0] := by decide +kernel
theorem off17_eq : ∀ t : Fin k0_t1_loop.trips, k0_off17 (dW t) = ![(t.val - 1) % 2] := by decide +kernel
theorem off19_eq : ∀ i : grid0.Coords, k0_off19 i (eW 64) = ![base i + 256 * 63, 0] := by decide +kernel
theorem off20_eq : k0_off20 (dW 64) = ![1] := by decide +kernel
theorem off21_eq : k0_off21 (dW 64) = ![1, 0, 0] := by decide +kernel

theorem chk1 : ∀ (i : grid0.Coords) (t : Fin k0_t1_loop.trips), k0_chk1 i t (aW t) (bW t) (bW t) (dW t) (eW t) := by decide +kernel
theorem chk2 : ∀ t : Fin k0_t1_loop.trips, k0_chk2 (bW t) := by decide +kernel
theorem chk3 : ∀ t : Fin k0_t1_loop.trips, k0_chk3 (bW t) := by decide +kernel
theorem chk4 : k0_chk4 (dW 64) := by decide +kernel
theorem chk5 : ∀ i : grid0.Coords, k0_chk5 i (eW 64) := by decide +kernel

end Cert.Proof.Words
-- ==== Proof.Slots.lean ====
/-
  The pieces of memory a task of the gather moves: the two slots of its index buffer, the two slots of its row buffer,
  the blocks of the index list and of the result; which elements each is, and what a copy or a gather puts there.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.KernelIdeal.Skeleton

@[expose] public section

noncomputable section

namespace Cert.Proof.Slots

open Cert.KernelIdeal Cert.KernelIdeal.Gen Cert.Proof.Words
open Idealize.ShloMosaic
open Idealize.ShloMosaic.ValueIdx (ix1 ix2 eq_ix2)

variable {F : FTy → Type}

/-! ## The gather's value -/

/-- Word `k` of an index list. -/
def word (I : S1x524288.Idx → BitVec 32) (k : ℕ) : BitVec 32 := if h : k < 524288 then I (ix2 (0 : Fin 1) ⟨k, h⟩) else 0#32

/-- The row of the table a word names (the last row for a word past the end). -/
def rowNo (w : BitVec 32) : Fin 16384 := ⟨min w.toNat 16383, by omega⟩

/-- The rows of the table `T` that the words of `I` name, one after another. -/
def rowsOf {α : Type} (T : S16384x128.Idx → α) (I : S1x524288.Idx → BitVec 32) : S524288x128.Idx → α :=
  fun j => T (ix2 (rowNo (word I (j 0).val)) (j 1))

/-! ## The pieces, at an offset -/

abbrev inS (off : Fin S2x1x256.rank → ℕ) (h : ∀ a, off a + S1x1x256.size a ≤ S2x1x256.size a) : Memref sig .scVector .vmem S1x256 .i32 :=
  ((Memref.whole cc0_scoped0).slice (Rect.unit (s := S2x1x256) off S1x1x256.size h) (fun _ => rfl)).squeeze S1x256 squeezes_S1x1x256_S1x256
abbrev offS (off : Fin S2x1x256.rank → ℕ) (h : ∀ a, off a + S1x1x256.size a ≤ S2x1x256.size a) : Memref sig .scVector .vmem S256 .i32 :=
  ((inS off h).slice (Rect.unit (s := S1x256) ![0, 0] S1x256.size inb_S1x256_S1x256_0_0) (fun _ => rfl)).squeeze S256 squeezes_S1x256_S256
abbrev rowS (off : Fin S2x256x128.rank → ℕ) (h : ∀ a, off a + S1x256x128.size a ≤ S2x256x128.size a) : Memref sig .scVector .vmem S256x128 .f32 :=
  ((Memref.whole cc0_scoped2).slice (Rect.unit (s := S2x256x128) off S1x256x128.size h) (fun _ => rfl)).squeeze S256x128 squeezes_S1x256x128_S256x128
abbrev idxB (off : Fin S1x524288.rank → ℕ) (h : ∀ a, off a + S1x256.size a ≤ S1x524288.size a) : Memref sig .scVector .hbm S1x256 .i32 :=
  (Memref.whole main_v0_scv).slice (Rect.unit (s := S1x524288) off S1x256.size h) (fun _ => rfl)
abbrev outB (off : Fin S524288x128.rank → ℕ) (h : ∀ a, off a + S256x128.size a ≤ S524288x128.size a) : Memref sig .scVector .hbm S256x128 .f32 :=
  (Memref.whole main_v1_scv).slice (Rect.unit (s := S524288x128) off S256x128.size h) (fun _ => rfl)
abbrev tabW : Memref sig .scVector .hbm S16384x128 .f32 :=
  (Memref.whole main_arg0_scv).slice (Rect.unit (s := S16384x128) ![0, 0] S16384x128.size inb_S16384x128_S16384x128_0_0) (fun _ => rfl)
abbrev semI (off : Fin S2.rank → ℕ) (h : ∀ a, off a + S1.size a ≤ S2.size a) : DmaSem sig :=
  ((cc0_scoped1.slice (Rect.unit (s := S2) off S1.size h)).squeeze S_ squeezes_S1_S_).sem
abbrev semO (off : Fin S2.rank → ℕ) (h : ∀ a, off a + S1.size a ≤ S2.size a) : DmaSem sig :=
  ((cc0_scoped3.slice (Rect.unit (s := S2) off S1.size h)).squeeze S_ squeezes_S1_S_).sem

/-! ## The semaphores -/

/-- Index slot `s`'s semaphore, and row slot `s`'s. -/
def iSem (s : Fin 2) : DmaSem sig := ⟨s.val, Nat.lt_trans s.isLt (by decide)⟩
def oSem (s : Fin 2) : DmaSem sig := ⟨2 + s.val, Nat.lt_of_lt_of_le (Nat.add_lt_add_left s.isLt 2) (by decide)⟩

theorem semI_eq : ∀ (s : Fin 2) (h : ∀ a, (![s.val] : Fin 1 → ℕ) a + S1.size a ≤ S2.size a), semI ![s.val] h = iSem s := by decide +kernel
theorem semO_eq : ∀ (s : Fin 2) (h : ∀ a, (![s.val] : Fin 1 → ℕ) a + S1.size a ≤ S2.size a), semO ![s.val] h = oSem s := by decide +kernel

/-! ## Which elements each piece is -/

def inSet (s : ℕ) : Finset S2x1x256.Idx := Finset.univ.filter fun y => (y 0).val = s
def rowSet (s : ℕ) : Finset S2x256x128.Idx := Finset.univ.filter fun y => (y 0).val = s
def idxSet (b : ℕ) : Finset S1x524288.Idx := Finset.univ.filter fun y => b ≤ (y 1).val ∧ (y 1).val < b + 256
def outSet (b n : ℕ) : Finset S524288x128.Idx := Finset.univ.filter fun y => b ≤ (y 0).val ∧ (y 0).val < b + n

theorem set_inS (s : ℕ) (h : ∀ a, (![s, 0, 0] : Fin 3 → ℕ) a + S1x1x256.size a ≤ S2x1x256.size a) : (inS ![s, 0, 0] h).view.set = inSet s := by
  show (((View.whole cc0_scoped0).slice _).reshape _ _).set = _
  rw [View.set_reshape, View.set_slice_whole]
  ext y; unfold inSet
  refine Rect.mem_set_unit.trans ?_
  show (∀ a : Fin 3, (![s, 0, 0] : Fin 3 → ℕ) a ≤ (y a).val ∧ (y a).val < (![s, 0, 0] : Fin 3 → ℕ) a + S1x1x256.size a) ↔ _
  rw [Finset.mem_filter, Fin.forall_fin_succ, Fin.forall_fin_succ, Fin.forall_fin_one]
  have h1 : (y 1).val < 1 := (y 1).isLt
  have h2 : (y 2).val < 256 := (y 2).isLt
  show ((s ≤ (y 0).val ∧ (y 0).val < s + 1) ∧ (0 ≤ (y 1).val ∧ (y 1).val < 0 + 1) ∧ (0 ≤ (y 2).val ∧ (y 2).val < 0 + 256)) ↔ _
  simp only [Finset.mem_univ, true_and]; omega

theorem set_offS (s : ℕ) (h : ∀ a, (![s, 0, 0] : Fin 3 → ℕ) a + S1x1x256.size a ≤ S2x1x256.size a) : (offS ![s, 0, 0] h).view.set = inSet s := by
  rw [← set_inS s h]
  show (((inS ![s, 0, 0] h).view.slice _).reshape _ _).set = _
  rw [View.set_reshape, View.set_slice]
  have : (Rect.unit (s := S1x256) ![0, 0] S1x256.size inb_S1x256_S1x256_0_0).set = Finset.univ := by
    ext y; rw [Rect.mem_set_unit, Fin.forall_fin_two]
    have h0 : (y 0).val < 1 := (y 0).isLt
    have h1 : (y 1).val < 256 := (y 1).isLt
    show ((0 ≤ (y 0).val ∧ (y 0).val < 0 + 1) ∧ (0 ≤ (y 1).val ∧ (y 1).val < 0 + 256)) ↔ _
    simp only [Finset.mem_univ, iff_true]; omega
  rw [this]; rfl

theorem set_rowS (s : ℕ) (h : ∀ a, (![s, 0, 0] : Fin 3 → ℕ) a + S1x256x128.size a ≤ S2x256x128.size a) : (rowS ![s, 0, 0] h).view.set = rowSet s := by
  show (((View.whole cc0_scoped2).slice _).reshape _ _).set = _
  rw [View.set_reshape, View.set_slice_whole]
  ext y; unfold rowSet
  refine Rect.mem_set_unit.trans ?_
  show (∀ a : Fin 3, (![s, 0, 0] : Fin 3 → ℕ) a ≤ (y a).val ∧ (y a).val < (![s, 0, 0] : Fin 3 → ℕ) a + S1x256x128.size a) ↔ _
  rw [Finset.mem_filter, Fin.forall_fin_succ, Fin.forall_fin_succ, Fin.forall_fin_one]
  have h1 : (y 1).val < 256 := (y 1).isLt
  have h2 : (y 2).val < 128 := (y 2).isLt
  show ((s ≤ (y 0).val ∧ (y 0).val < s + 1) ∧ (0 ≤ (y 1).val ∧ (y 1).val < 0 + 256) ∧ (0 ≤ (y 2).val ∧ (y 2).val < 0 + 128)) ↔ _
  simp only [Finset.mem_univ, true_and]; omega

theorem set_idxB (b : ℕ) (h : ∀ a, (![0, b] : Fin 2 → ℕ) a + S1x256.size a ≤ S1x524288.size a) : (idxB ![0, b] h).view.set = idxSet b := by
  show ((View.whole main_v0_scv).slice _).set = _
  rw [View.set_slice_whole]
  ext y; unfold idxSet
  refine Rect.mem_set_unit.trans ?_
  show (∀ a : Fin 2, (![0, b] : Fin 2 → ℕ) a ≤ (y a).val ∧ (y a).val < (![0, b] : Fin 2 → ℕ) a + S1x256.size a) ↔ _
  rw [Finset.mem_filter, Fin.forall_fin_two]
  have h0 : (y 0).val < 1 := (y 0).isLt
  show ((0 ≤ (y 0).val ∧ (y 0).val < 0 + 1) ∧ (b ≤ (y 1).val ∧ (y 1).val < b + 256)) ↔ _
  simp only [Finset.mem_univ, true_and]; omega

theorem set_outB (b : ℕ) (h : ∀ a, (![b, 0] : Fin 2 → ℕ) a + S256x128.size a ≤ S524288x128.size a) : (outB ![b, 0] h).view.set = outSet b 256 := by
  show ((View.whole main_v1_scv).slice _).set = _
  rw [View.set_slice_whole]
  ext y; unfold outSet
  refine Rect.mem_set_unit.trans ?_
  show (∀ a : Fin 2, (![b, 0] : Fin 2 → ℕ) a ≤ (y a).val ∧ (y a).val < (![b, 0] : Fin 2 → ℕ) a + S256x128.size a) ↔ _
  rw [Finset.mem_filter, Fin.forall_fin_two]
  have h1 : (y 1).val < 128 := (y 1).isLt
  show ((b ≤ (y 0).val ∧ (y 0).val < b + 256) ∧ (0 ≤ (y 1).val ∧ (y 1).val < 0 + 128)) ↔ _
  simp only [Finset.mem_univ, true_and]; omega

theorem set_tabW : (tabW).view.set = Finset.univ := by
  show ((View.whole main_arg0_scv).slice _).set = _
  rw [View.set_slice_whole]
  ext y
  refine Rect.mem_set_unit.trans ?_
  show (∀ a : Fin 2, (![0, 0] : Fin 2 → ℕ) a ≤ (y a).val ∧ (y a).val < (![0, 0] : Fin 2 → ℕ) a + S16384x128.size a) ↔ _
  rw [Fin.forall_fin_two]
  have h0 : (y 0).val < 16384 := (y 0).isLt
  have h1 : (y 1).val < 128 := (y 1).isLt
  show ((0 ≤ (y 0).val ∧ (y 0).val < 0 + 16384) ∧ (0 ≤ (y 1).val ∧ (y 1).val < 0 + 128)) ↔ _
  simp only [Finset.mem_univ, iff_true]; omega

/-! ## What is read there -/

/-- A block of the index list, read: its words in order. -/
theorem read_idxB (I : S1x524288.Idx → BitVec 32) (b : ℕ) (h : ∀ a, (![0, b] : Fin 2 → ℕ) a + S1x256.size a ≤ S1x524288.size a) (y : S1x256.Idx) :
    (idxB ![0, b] h).view.read (Elt F) I y = word I (b + (y 1).val) := by
  have hb : b + 256 ≤ 524288 := h 1
  have h1 : (y 1).val < 256 := (y 1).isLt
  have h0 : (y 0).val < 1 := (y 0).isLt
  unfold word; rw [dif_pos (by omega)]
  show I ((idxB ![0, b] h).view.emb y) = _
  congr 1
  funext a
  match a with
  | 0 => exact Fin.ext (show 0 + 1 * (y 0).val = 0 by omega)
  | 1 => exact Fin.ext (show b + 1 * (y 1).val = b + (y 1).val by omega)

/-- The index slot read as the gather's list: the slot's words. -/
theorem read_offS (f : S2x1x256.Idx → BitVec 32) (off : Fin 3 → ℕ) (h : ∀ a, off a + S1x1x256.size a ≤ S2x1x256.size a) (x : S256.Idx) :
    (offS off h).view.read (Elt F) f x = (inS off h).view.read (Elt F) f (ix2 (0 : Fin 1) (x 0)) := by
  show (inS off h).view.read (Elt F) f ((Rect.unit (s := S1x256) ![0, 0] S1x256.size inb_S1x256_S1x256_0_0).emb (Shape.reshapeEquiv _ x)) = _
  congr 1
  rw [show Shape.reshapeEquiv squeezes_S1x256_S256.numel_eq x = ix2 (0 : Fin 1) (x 0) from
    Shape.reshapeEquiv_eq_of_rowMajor (s := S1x256) _ (by
      have e2 := Shape.rowMajor_val_two (d := ![1, 256]) (ix2 (0 : Fin 1) (x 0))
      have e1 := Shape.rowMajor_val_one (d := ![256]) x
      refine e2.trans (Eq.trans ?_ e1.symm)
      show 0 * 256 + (x 0).val = (x 0).val
      omega)]
  funext a
  match a with
  | 0 => exact Fin.ext (show 0 + 1 * 0 = 0 by omega)
  | 1 => exact Fin.ext (show 0 + 1 * (x 0).val = (x 0).val by omega)

theorem read_tabW (T : S16384x128.Idx → Elt F .f32) : (tabW).view.read (Elt F) T = T := by
  funext y
  show T ((Rect.unit (s := S16384x128) ![0, 0] S16384x128.size inb_S16384x128_S16384x128_0_0).emb y) = _
  congr 1
  funext a
  match a with
  | 0 => exact Fin.ext (show 0 + 1 * (y 0).val = (y 0).val by omega)
  | 1 => exact Fin.ext (show 0 + 1 * (y 1).val = (y 1).val by omega)

/-- What the block `b` of the result is to hold. -/
def payOf (T : S16384x128.Idx → Elt F .f32) (I : S1x524288.Idx → BitVec 32) (b : ℕ) : S256x128.Idx → Elt F .f32 :=
  fun y => T (ix2 (rowNo (word I (b + (y 0).val))) (y 1))

/-- The gather's payload, for a list that holds block `b`'s words. -/
theorem payload_eq (T : S16384x128.Idx → Elt F .f32) (I : S1x524288.Idx → BitVec 32) (b : ℕ) (g : S256.Idx → Elt F .i32)
    (hg : ∀ x : S256.Idx, g x = word I (b + (x 0).val)) (hn : S256.numel = S256x128.size gathers_S16384x128_S256x128.axis')
    (hin : ∀ x, (g x).toNat < S16384x128.size gathers_S16384x128_S256x128.axis) :
    SparseCore.gatherPayload (F := F) gathers_S16384x128_S256x128 T (SparseCore.rows g hn hin) = payOf T I b := by
  funext y
  unfold SparseCore.gatherPayload payOf
  congr 1
  have key : g (S256.rowMajor.symm ((y 0).cast hn.symm)) = word I (b + (y 0).val) := by
    rw [hg]; congr 2
    have e := Shape.rowMajor_val_one (d := ![256]) (S256.rowMajor.symm ((y 0).cast hn.symm))
    rw [show (⟨1, ![256]⟩ : Shape).rowMajor (S256.rowMajor.symm ((y 0).cast hn.symm)) = (y 0).cast hn.symm from Equiv.apply_symm_apply _ _] at e
    exact e.symm
  funext a
  match a with
  | 0 =>
    refine (Shape.Gathers.idx_axis gathers_S16384x128_S256x128 (SparseCore.rows g hn hin) y).trans (Fin.ext ?_)
    show (g (S256.rowMajor.symm ((y 0).cast hn.symm))).toNat = min (word I (b + (y 0).val)).toNat 16383
    have := hin (S256.rowMajor.symm ((y 0).cast hn.symm))
    rw [key] at this ⊢
    have h2 : (word I (b + (y 0).val)).toNat < 16384 := this
    omega
  | 1 => exact Fin.ext (Shape.Gathers.idx_of_ne gathers_S16384x128_S256x128 (SparseCore.rows g hn hin) y 1 (by decide))

/-- A block of the result, written with what it is to hold: the result there. -/
theorem write_outB (T : S16384x128.Idx → Elt F .f32) (I : S1x524288.Idx → BitVec 32) (b : ℕ)
    (h : ∀ a, (![b, 0] : Fin 2 → ℕ) a + S256x128.size a ≤ S524288x128.size a) (f : S524288x128.Idx → Elt F .f32) :
    ∀ j ∈ outSet b 256, (outB ![b, 0] h).view.write (Elt F) f (payOf T I b) Finset.univ j = rowsOf T I j := by
  intro j hj
  rw [← set_outB b h] at hj
  obtain ⟨y, -, rfl⟩ := Finset.mem_map.mp hj
  refine (View.write_emb_of_mem (v := (outB ![b, 0] h).view) f (payOf T I b) (Finset.mem_univ y)).trans ?_
  show payOf T I b y = rowsOf T I ((outB ![b, 0] h).view.emb y)
  unfold payOf rowsOf
  congr 1
  have e0 : ((outB ![b, 0] h).view.emb y 0).val = b + (y 0).val := by
    show b + 1 * (y 0).val = _; omega
  have e1 : (outB ![b, 0] h).view.emb y 1 = y 1 := Fin.ext (show 0 + 1 * (y 1).val = (y 1).val by omega)
  rw [e0, e1]

end Cert.Proof.Slots
-- ==== Proof.Moves.lean ====
/-
  The moves of a task of the gather, one rule each: the fetch of a block of the index list into an index slot and its
  wait; the gather of the rows a slot's words name into a row slot; the copy of a row slot out to a block of the result
  and its wait. Each is stated for the offsets the program computes, given their closed form.
-/
module

public import proofs.«01_k».proof.Proof.Slots

@[expose] public section

noncomputable section

namespace Cert.Proof.Moves

open Cert.KernelIdeal Cert.KernelIdeal.Gen Cert.Proof.Words Cert.Proof.Slots

open Idealize.ShloMosaic
open Idealize.ShloMosaic.ValueIdx (ix1 ix2 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance : (EP (F := F)).LandsIn (upEmb : UEmb _ (MT nD τ sig (HIx 1) (Elt F) ℕ UU ℕ)) := by unfold EP; infer_instance

abbrev tLoc (d : Dev nD) : Loc nD τ sig := (SparseCore.T d).loc main_arg0
abbrev iLoc (d : Dev nD) : Loc nD τ sig := (SparseCore.T d).loc main_v0
abbrev oLoc (d : Dev nD) : Loc nD τ sig := (SparseCore.T d).loc main_v1

abbrev cV (L : grid0.Coords) : Fin τ.nSC := (L 0).castLE hcore0
abbrev jV (L : grid0.Coords) : Fin τ.nSub := (L 1).castLE hsub0

theorem ok_in : ∀ (s : Fin 2) a, (![s.val, 0, 0] : Fin 3 → ℕ) a + S1x1x256.size a ≤ S2x1x256.size a := by decide
theorem ok_row : ∀ (s : Fin 2) a, (![s.val, 0, 0] : Fin 3 → ℕ) a + S1x256x128.size a ≤ S2x256x128.size a := by decide
abbrev inM (s : Fin 2) : Memref sig .scVector .vmem S1x256 .i32 := inS ![s.val, 0, 0] (ok_in s)
abbrev rowM (s : Fin 2) : Memref sig .scVector .vmem S256x128 .f32 := rowS ![s.val, 0, 0] (ok_row s)

/-- What a fetch, a gather and a copy out credit. -/
def NI : ℕ := (inM 0).view.dmaCredit
def NG : ℕ := (rowM 0).view.dmaCredit
def NO : ℕ := (outB ![0, 0] (by decide)).view.dmaCredit
theorem NI_pos : 0 < NI := View.dmaCredit_pos _ (by decide)
theorem NO_pos : 0 < NO := View.dmaCredit_pos _ (by decide)
theorem NG_eq : ∀ s : Fin 2, ∑ j, ((rowM s).slice (S256x128.rowRect gathers_S16384x128_S256x128.axis' j)
    (S256x128.stride_rowRect gathers_S16384x128_S256x128.axis' j)).view.dmaCredit = NG := by decide +kernel

section Moves

variable [FloatOps F] (d : Dev nD) (L : grid0.Coords)
variable (Tb : Buf (Elt F) (tLoc d)) (Ix : Buf (Elt F) (iLoc d)) (O₀ : Buf (Elt F) (oLoc d)) (qT qI : PosShare TreeShare)

abbrev thr (d : Dev nD) (L : grid0.Coords) : Thread nD τ := V d (cV L) (jV L)
abbrev sLoc (d : Dev nD) (L : grid0.Coords) : Loc nD τ sig := (thr d L).loc cc0_scoped0
abbrev rLoc (d : Dev nD) (L : grid0.Coords) : Loc nD τ sig := (thr d L).loc cc0_scoped2

/-- The share of the index list index slot `s`'s fetches read it with. -/
def iq (s : Fin 2) : PosShare TreeShare := if s = 0 then qI.left else qI.right

/-- Index slot `s` holds the 256 words from `b` on. -/
def InFact (s : Fin 2) (b : ℕ) (f : Buf (Elt F) (sLoc d L)) : Prop :=
  (inM s).view.read (Elt F) f = fun y => word Ix (b + (y 1).val)
/-- Row slot `s` holds the rows the 256 words from `b` on name. -/
def RowFact (s : Fin 2) (b : ℕ) (f : Buf (Elt F) (rLoc d L)) : Prop :=
  (rowM s).view.read (Elt F) f = payOf Tb Ix b

def inFree (s : Fin 2) : sProp 𝕄 :=
  iprop((∃ f : Buf (Elt F) (sLoc d L), sLoc d L ↦[inSet s.val]{fullShare} f) ∗ semVal (thr d L, .dma (iSem s)) 0 ∗ iLoc d ↦{iq qI s} Ix)
def inD (s : Fin 2) (b : ℕ) : sProp 𝕄 :=
  iprop((∃ f : Buf (Elt F) (sLoc d L), (sLoc d L ↦[inSet s.val]{fullShare} f) ∗ ⌜InFact d L Ix s b f⌝) ∗ iLoc d ↦[idxSet b]{iq qI s} Ix)
def inBusy (s : Fin 2) (b : ℕ) : sProp 𝕄 :=
  iprop(Transfers.Flight countersEmb (thr d L) (.dma (iSem s)) (default : HIx 1) NI (inD d L Ix qI s b) ∗ iLoc d ↦[Finset.univ \ idxSet b]{iq qI s} Ix)
def inFull (s : Fin 2) (b : ℕ) : sProp 𝕄 :=
  iprop((∃ f : Buf (Elt F) (sLoc d L), (sLoc d L ↦[inSet s.val]{fullShare} f) ∗ ⌜InFact d L Ix s b f⌝) ∗ semVal (thr d L, .dma (iSem s)) 0 ∗ iLoc d ↦{iq qI s} Ix)
def rowFree (s : Fin 2) : sProp 𝕄 := iprop(∃ f : Buf (Elt F) (rLoc d L), rLoc d L ↦[rowSet s.val]{fullShare} f)
def rowFull (s : Fin 2) (b : ℕ) : sProp 𝕄 :=
  iprop(∃ f : Buf (Elt F) (rLoc d L), (rLoc d L ↦[rowSet s.val]{fullShare} f) ∗ ⌜RowFact d L Tb Ix s b f⌝)
def outFree (s : Fin 2) : sProp 𝕄 := iprop(rowFree (F := F) d L s ∗ semVal (thr d L, .dma (oSem s)) 0)
def outD (s : Fin 2) (b : ℕ) : sProp 𝕄 :=
  iprop((oLoc d ↦[outSet b 256]{fullShare} (rowsOf Tb Ix : Buf (Elt F) (oLoc d))) ∗ rowFree (F := F) d L s)
def outBusy (s : Fin 2) (b : ℕ) : sProp 𝕄 :=
  Transfers.Flight countersEmb (thr d L) (.dma (oSem s)) (default : HIx 1) NO (outD d L Tb Ix s b)

theorem inFull_free (s : Fin 2) (b : ℕ) : inFull d L Ix qI s b ⊢ inFree d L Ix qI s := by
  unfold inFull inFree
  iintro ⟨⟨%f, H, -⟩, Hs, Hi⟩
  isplitl [H]; · iexists f; iexact H
  isplitl [Hs] <;> iassumption

theorem issueIn (s : Fin 2) (b : ℕ) {off4 : Fin 3 → ℕ} {h4} (e4 : off4 = ![s.val, 0, 0]) {off5 : Fin 2 → ℕ} {h5} (e5 : off5 = ![0, b])
    {off6 : Fin 1 → ℕ} {h6} (e6 : off6 = ![s.val]) {hsrc hdst hsem}
    {α : Type} {k : PUnit → Prog (TpuEff nD τ sig (Elt F) Λ₀ (thr d L).2) α} {Q : α → sProp 𝕄} :
    inFree d L Ix qI s ⊢ iprop((inBusy d L Ix qI s b -∗ wp frame (wpE (defs₀ (F := F)) 𝒱₀ (thr d L) none) Set.univ (k ⟨⟩) Q)
      -∗ wp frame (wpE (defs₀ (F := F)) 𝒱₀ (thr d L) none) Set.univ
          (.op (.enqueueDma (idxB off5 h5) (.here (inS off4 h4)) (.dma (semI off6 h6)) hsrc hdst hsem) k) Q) := by
  subst e4 e5 e6
  have es := semI_eq s h6
  generalize semI ![s.val] h6 = x at *
  subst es
  unfold inFree
  iintro ⟨⟨%f, Hs⟩, Hv, Hi⟩ Hk
  ihave Hi := (pointsTo_split_subset (q := iq qI s) (f := Ix) (S := Finset.univ) (Finset.subset_univ (idxSet b))).1 $$ Hi
  icases Hi with ⟨Hi, Hir⟩
  iapply (Transfers.wp_dmaLocal countersEmb 𝒱₀ (thr d L) none (src := idxB ![0, b] h5) (via := .same) (dst := inS ![s.val, 0, 0] h4) (Sd := inSet s.val)
    (sm := .dma (iSem s)) (fs := Ix) (fd := f) (q := iq qI s) (default : HIx 1) NI rfl NI_pos (by rw [set_inS])) $$ [Hs Hv Hi]
  · isplitl [Hi]
    · rw [set_idxB]; iexact Hi
    isplitl [Hs] <;> iassumption
  iintro Hfl
  iapply Hk
  unfold inBusy
  isplitl [Hfl]
  · iapply (Transfers.Flight_mono countersEmb (thr d L) ?_) $$ Hfl
    unfold inD
    iintro ⟨Hs, Hi⟩
    isplitl [Hs]
    · iexists _
      isplitl [Hs]; · iexact Hs
      ipureintro
      unfold InFact
      refine (View.read_write_univ (v := (inS ![s.val, 0, 0] h4).view) _ _).trans ?_
      funext y
      exact read_idxB Ix b h5 y
    · rw [set_idxB]; iexact Hi
  · iexact Hir

theorem waitIn (s : Fin 2) (b : ℕ) (O : CellTallies nD τ sig (HIx 1)) (W : Waits sig (HIx 1)) {off4 : Fin 3 → ℕ} {h4} {off5 : Fin 2 → ℕ} {h5}
    {off6 : Fin 1 → ℕ} {h6} (e6 : off6 = ![s.val]) {hsrc hdst}
    {α : Type} {k : PUnit → Prog (TpuEff nD τ sig (Elt F) Λ₀ (thr d L).2) α} {Q : α → sProp 𝕄} :
    iprop(inBusy d L Ix qI s b ∗ owes (thr d L) O W ∗ Transfers.MayWaits (thr d L) (default : HIx 1) O)
      ⊢ iprop((iprop(inFull d L Ix qI s b ∗ owes (thr d L) O (insert (SemLoc.dma (iSem s), (default : HIx 1)) W))
          -∗ wp frame (wpE (defs₀ (F := F)) 𝒱₀ (thr d L) none) Set.univ (k ⟨⟩) Q)
      -∗ wp frame (wpE (defs₀ (F := F)) 𝒱₀ (thr d L) none) Set.univ
          (.op (.waitDma2 (semI off6 h6) (idxB off5 h5) (inS off4 h4) hsrc hdst) k) Q) := by
  subst e6
  have es := semI_eq s h6
  generalize semI ![s.val] h6 = x at *
  subst es
  unfold inBusy
  iintro ⟨⟨Hfl, Hir⟩, HO, #Hmw⟩ Hk
  iapply (Transfers.wp_waitLocalO countersEmb 𝒱₀ (thr d L) none (default : HIx 1) (N := NI) (rfl : (inS off4 h4).view.dmaCredit = NI)) $$ [Hfl HO]
  · isplitl [Hfl]; · iexact Hfl
    isplitl [HO]; · iexact HO
    iapply (Transfers.MayWaits.elim (SemLoc.dma (iSem s))) $$ Hmw
  iintro ⟨HD, Hv, HO⟩
  iapply Hk
  isplitr [HO]
  · unfold inFull inD
    icases HD with ⟨Hf, Hi⟩
    isplitl [Hf]; · iexact Hf
    isplitl [Hv]; · iexact Hv
    iapply (pointsTo_split_subset (q := iq qI s) (f := Ix) (S := Finset.univ) (Finset.subset_univ (idxSet b))).2
    isplitl [Hi] <;> iassumption
  · iexact HO

/-- The gather of a row slot's rows and its wait. -/
theorem gather (s s' : Fin 2) (b : ℕ) (O : CellTallies nD τ sig (HIx 1)) (W : Waits sig (HIx 1)) (hI : ∀ k, (word Ix k).toNat < 16384)
    {off10 off10' : Fin 3 → ℕ} {h10 h10'} (e10 : off10 = ![s'.val, 0, 0]) {off11 : Fin 3 → ℕ} {h11} (e11 : off11 = ![s.val, 0, 0])
    {hp hn hsrc he hsp hr hw1 hw2}
    {α : Type} {k : PUnit → Prog (TpuEff nD τ sig (Elt F) Λ₀ (thr d L).2) α} {Q : α → sProp 𝕄} :
    iprop(inFull d L Ix qI s b ∗ rowFree (F := F) d L s' ∗ (tLoc d ↦{qT} Tb) ∗ semVal (thr d L, .dma cc0_scoped4.sem) 0
        ∗ owes (thr d L) O W ∗ Transfers.MayWaits (thr d L) (default : HIx 1) O)
      ⊢ iprop((iprop(inFull d L Ix qI s b ∗ rowFull d L Tb Ix s' b ∗ (tLoc d ↦{qT} Tb) ∗ semVal (thr d L, .dma cc0_scoped4.sem) 0
            ∗ owes (thr d L) O (insert (SemLoc.dma cc0_scoped4.sem, (default : HIx 1)) W))
          -∗ wp frame (wpE (defs₀ (F := F)) 𝒱₀ (thr d L) none) Set.univ (k ⟨⟩) Q)
      -∗ wp frame (wpE (defs₀ (F := F)) 𝒱₀ (thr d L) none) Set.univ
          (SparseCore.enqueueIndirectGather hp tabW (rowS off10 h10) gathers_S16384x128_S256x128 (offS off11 h11) hn cc0_scoped4.sem hsrc he hsp hr
            >>= fun _ => SparseCore.waitIndirectGather cc0_scoped4.sem tabW (rowS off10' h10') hw1 hw2 >>= k) Q) := by
  subst e10 e11
  unfold inFull rowFree
  iintro ⟨⟨⟨%fi, Hin, %hfi⟩, Hv, Hi⟩, ⟨%fr, Hr⟩, HT, Hg, HO, #Hmw⟩ Hk
  have hoff : ∀ x : S256.Idx, (offS ![s.val, 0, 0] h11).view.read (Elt F) fi x = word Ix (b + (x 0).val) := fun x => by
    rw [read_offS]
    exact congrFun hfi (ix2 (0 : Fin 1) (x 0))
  have hin : ∀ x, ((offS ![s.val, 0, 0] h11).view.read (Elt F) fi x).toNat < S16384x128.size gathers_S16384x128_S256x128.axis := fun x => by
    rw [hoff]; exact hI _
  iapply (SparseCore.wp_indirectGatherLocal countersEmb 𝒱₀ (thr d L) none (hg := gathers_S16384x128_S256x128) (src := tabW) (dst := rowS ![s'.val, 0, 0] h10)
    (offs := offS ![s.val, 0, 0] h11) (q := qT) (qo := fullShare) (fs := Tb) (fd := fr) (fo := fi) (default : HIx 1) NG (NG_eq s') (by decide) hin) $$ [Hin Hr HT Hg]
  · isplitl [HT]; · rw [set_tabW]; iexact HT
    isplitl [Hr]; · rw [set_rowS]; iexact Hr
    isplitl [Hin]; · rw [set_offS]; iexact Hin
    iexact Hg
  iintro Hfl
  iapply (Transfers.wp_waitLocalO countersEmb 𝒱₀ (thr d L) none (default : HIx 1) (N := NG) (rfl : (rowS off10' h10').view.dmaCredit = NG)) $$ [Hfl HO]
  · isplitl [Hfl]; · iexact Hfl
    isplitl [HO]; · iexact HO
    iapply (Transfers.MayWaits.elim (SemLoc.dma cc0_scoped4.sem)) $$ Hmw
  iintro ⟨⟨Hr, HT, Hin⟩, Hg, HO⟩
  iapply Hk
  isplitl [Hin Hv Hi]
  · isplitl [Hin]
    · iexists fi
      isplitl [Hin]; · rw [set_offS]; iexact Hin
      ipureintro; exact hfi
    isplitl [Hv] <;> iassumption
  isplitl [Hr]
  · unfold rowFull
    iexists _
    isplitl [Hr]; · rw [set_rowS]; iexact Hr
    ipureintro
    unfold RowFact
    refine (View.read_write_univ (v := (rowS ![s'.val, 0, 0] h10).view) _ _).trans ?_
    rw [read_tabW]
    exact payload_eq Tb Ix b _ hoff _ hin
  isplitl [HT]; · rw [set_tabW]; iexact HT
  isplitl [Hg] <;> iassumption

theorem issueOut (s : Fin 2) (b : ℕ) {off12 : Fin 3 → ℕ} {h12} (e12 : off12 = ![s.val, 0, 0]) {off13 : Fin 2 → ℕ} {h13} (e13 : off13 = ![b, 0])
    {off14 : Fin 1 → ℕ} {h14} (e14 : off14 = ![s.val]) {hsrc hdst hsem}
    {α : Type} {k : PUnit → Prog (TpuEff nD τ sig (Elt F) Λ₀ (thr d L).2) α} {Q : α → sProp 𝕄} :
    iprop(rowFull d L Tb Ix s b ∗ semVal (thr d L, .dma (oSem s)) 0 ∗ (oLoc d ↦[outSet b 256]{fullShare} O₀))
      ⊢ iprop((outBusy d L Tb Ix s b -∗ wp frame (wpE (defs₀ (F := F)) 𝒱₀ (thr d L) none) Set.univ (k ⟨⟩) Q)
      -∗ wp frame (wpE (defs₀ (F := F)) 𝒱₀ (thr d L) none) Set.univ
          (.op (.enqueueDma (rowS off12 h12) (.here (outB off13 h13)) (.dma (semO off14 h14)) hsrc hdst hsem) k) Q) := by
  subst e12 e13 e14
  have es := semO_eq s h14
  generalize semO ![s.val] h14 = x at *
  subst es
  unfold rowFull
  iintro ⟨⟨%f, Hr, %hf⟩, Hv, Ho⟩ Hk
  iapply (Transfers.wp_dmaLocal countersEmb 𝒱₀ (thr d L) none (src := rowS ![s.val, 0, 0] h12) (via := .same) (dst := outB ![b, 0] h13) (Sd := outSet b 256)
    (sm := .dma (oSem s)) (fs := f) (fd := O₀) (q := fullShare) (default : HIx 1) NO rfl NO_pos (by rw [set_outB])) $$ [Hr Hv Ho]
  · isplitl [Hr]
    · rw [set_rowS]; iexact Hr
    isplitl [Ho] <;> iassumption
  iintro Hfl
  iapply Hk
  unfold outBusy
  iapply (Transfers.Flight_mono countersEmb (thr d L) ?_) $$ Hfl
  unfold outD rowFree
  have hw : (ReadAs.same : ReadAs (Elt F) S256x128 .f32 S256x128 .f32).apply ((rowS ![s.val, 0, 0] h12).view.read (Elt F) f) = payOf Tb Ix b := hf
  rw [hw]
  iintro ⟨Ho, Hr⟩
  isplitl [Ho]
  · rw [show (oLoc d ↦[outSet b 256]{fullShare} (rowsOf Tb Ix : Buf (Elt F) (oLoc d)) : sProp 𝕄) = _ from
      pointsTo_congr fun j hj => (write_outB (F := F) Tb Ix b h13 O₀ j hj).symm]
    iexact Ho
  · iexists f; rw [set_rowS]; iexact Hr

theorem waitOut (s : Fin 2) (b : ℕ) (O : CellTallies nD τ sig (HIx 1)) (W : Waits sig (HIx 1)) {off12 : Fin 3 → ℕ} {h12} {off13 : Fin 2 → ℕ} {h13}
    {off14 : Fin 1 → ℕ} {h14} (e14 : off14 = ![s.val]) {hsrc hdst}
    {α : Type} {k : PUnit → Prog (TpuEff nD τ sig (Elt F) Λ₀ (thr d L).2) α} {Q : α → sProp 𝕄} :
    iprop(outBusy d L Tb Ix s b ∗ owes (thr d L) O W ∗ Transfers.MayWaits (thr d L) (default : HIx 1) O)
      ⊢ iprop((iprop((oLoc d ↦[outSet b 256]{fullShare} (rowsOf Tb Ix : Buf (Elt F) (oLoc d))) ∗ outFree (F := F) d L s
            ∗ owes (thr d L) O (insert (SemLoc.dma (oSem s), (default : HIx 1)) W))
          -∗ wp frame (wpE (defs₀ (F := F)) 𝒱₀ (thr d L) none) Set.univ (k ⟨⟩) Q)
      -∗ wp frame (wpE (defs₀ (F := F)) 𝒱₀ (thr d L) none) Set.univ
          (.op (.waitDma2 (semO off14 h14) (rowS off12 h12) (outB off13 h13) hsrc hdst) k) Q) := by
  subst e14
  have es := semO_eq s h14
  generalize semO ![s.val] h14 = x at *
  subst es
  unfold outBusy
  iintro ⟨Hfl, HO, #Hmw⟩ Hk
  iapply (Transfers.wp_waitLocalO countersEmb 𝒱₀ (thr d L) none (default : HIx 1) (N := NO) (rfl : (outB off13 h13).view.dmaCredit = NO)) $$ [Hfl HO]
  · isplitl [Hfl]; · iexact Hfl
    isplitl [HO]; · iexact HO
    iapply (Transfers.MayWaits.elim (SemLoc.dma (oSem s))) $$ Hmw
  iintro ⟨HD, Hv, HO⟩
  iapply Hk
  unfold outD outFree
  icases HD with ⟨Ho, Hr⟩
  isplitl [Ho]; · iexact Ho
  isplitl [Hr Hv]
  · isplitl [Hr] <;> iassumption
  · iexact HO

end Moves

end Cert.Proof.Moves
-- ==== Proof.Task.lean ====
/-
  A task of the gather: trip by trip, the fetch of the next block of the index list starts, the fetch of this trip's
  block is waited for, the rows it names are gathered and copied out, and the copy of the trip before is waited for.
  After the last trip every block of the task's part of the result holds the rows its words name.
-/
module

public import proofs.«01_k».proof.Proof.Moves

@[expose] public section

noncomputable section

namespace Cert.Proof.Task

open Cert.KernelIdeal Cert.KernelIdeal.Gen Cert.Proof.Words Cert.Proof.Slots Cert.Proof.Moves

open Idealize.ShloMosaic
open Idealize.ShloMosaic.ValueIdx (ix1 ix2 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)
variable (Tb : Buf (Elt F) (tLoc d)) (Ix : Buf (Elt F) (iLoc d)) (O₀ : Buf (Elt F) (oLoc d)) (qT qI : PosShare TreeShare)

/-- Trip `t`'s slot. -/
def pr (t : ℕ) : Fin 2 := ⟨t % 2, Nat.mod_lt _ (by decide)⟩
theorem pr_add_two (t : ℕ) : pr (t + 2) = pr t := Fin.ext (by simp [pr])
theorem pr_val (t : ℕ) : (pr t).val = t % 2 := rfl
theorem pr_pred (t : ℕ) (h : 0 < t) : pr (t - 1) = pr (t + 1) := Fin.ext (by simp only [pr]; omega)

/-- The first row of trip `t`'s block. -/
abbrev blk (L : grid0.Coords) (t : ℕ) : ℕ := base L + 256 * t

/-- The index slots before trip `t`. -/
def inPart (t : ℕ) : sProp 𝕄 :=
  if t < 64 then iprop(inBusy d L Ix qI (pr t) (blk L t) ∗ inFree d L Ix qI (pr (t + 1)))
  else iprop(inFree d L Ix qI (pr t) ∗ inFree d L Ix qI (pr (t + 1)))
/-- The next index slot within trip `t`. -/
def inNext (t : ℕ) : sProp 𝕄 :=
  if t < 63 then inBusy d L Ix qI (pr (t + 1)) (blk L (t + 1)) else inFree d L Ix qI (pr (t + 1))
/-- The other row slot before trip `t`. -/
def outPrev (t : ℕ) : sProp 𝕄 :=
  if 0 < t then outBusy d L Tb Ix (pr (t - 1)) (blk L (t - 1)) else outFree (F := F) d L (pr (t + 1))
def todo (t : ℕ) : sProp 𝕄 :=
  bigSep (Finset.univ.filter fun n : Fin 64 => t ≤ n.val) fun n => oLoc d ↦[outSet (blk L n.val) 256]{fullShare} O₀
def done (t : ℕ) : sProp 𝕄 :=
  bigSep (Finset.univ.filter fun n : Fin 64 => n.val + 1 < t) fun n => oLoc d ↦[outSet (blk L n.val) 256]{fullShare} (rowsOf Tb Ix : Buf (Elt F) (oLoc d))

/-- What the task has done and waits with: nothing but plain waits beyond those it began with. -/
def owing (O : CellTallies nD τ sig (HIx 1)) (W : Waits sig (HIx 1)) : sProp 𝕄 :=
  iprop(∃ W', ⌜∀ p ∈ W', p ∈ W ∨ p.2 = none⌝ ∗ owes (thr d L) O W')

theorem todo_pop (t : ℕ) (h : t < 64) :
    todo d L O₀ t = iprop((oLoc d ↦[outSet (blk L t) 256]{fullShare} O₀) ∗ todo d L O₀ (t + 1)) := by
  unfold todo
  rw [SparseCore.bigSep_erase' (i := (⟨t, h⟩ : Fin 64)) (Finset.mem_filter.mpr ⟨Finset.mem_univ _, le_refl t⟩)]
  congr 2
  ext n; simp only [Finset.mem_erase, Finset.mem_filter, Finset.mem_univ, true_and, ne_eq, Fin.ext_iff]; omega

theorem done_push (t : ℕ) (h0 : 0 < t) (h : t ≤ 64) :
    done d L Tb Ix (t + 1) = iprop((oLoc d ↦[outSet (blk L (t - 1)) 256]{fullShare} (rowsOf Tb Ix : Buf (Elt F) (oLoc d))) ∗ done d L Tb Ix t) := by
  unfold done
  rw [SparseCore.bigSep_erase' (i := (⟨t - 1, by omega⟩ : Fin 64)) (Finset.mem_filter.mpr ⟨Finset.mem_univ _, by show t - 1 + 1 < t + 1; omega⟩)]
  congr 2
  ext n; simp only [Finset.mem_erase, Finset.mem_filter, Finset.mem_univ, true_and, ne_eq, Fin.ext_iff]; omega

theorem done_one : done d L Tb Ix 1 = done d L Tb Ix 0 := by
  unfold done; congr 1

def Inv (O : CellTallies nD τ sig (HIx 1)) (W : Waits sig (HIx 1)) (t : ℕ) (acc : BitVec 32 × BitVec 32 × BitVec 32 × BitVec 32 × BitVec 32) : sProp 𝕄 :=
  iprop(⌜acc = carry t⌝ ∗ inPart d L Ix qI t ∗ outPrev d L Tb Ix t ∗ outFree (F := F) d L (pr t) ∗ todo d L O₀ t ∗ done d L Tb Ix t
    ∗ (tLoc d ↦{qT} Tb) ∗ semVal (thr d L, .dma cc0_scoped4.sem) 0 ∗ owing (F := F) d L O W)

/-! ## One trip -/

/-- What the first part of trip `t` hands on: the checks, and the words the later parts compute with. -/
abbrev res1 (L : grid0.Coords) (k : Fin k0_t1_loop.trips) : Σ' (_ : k0_chk3 (bW k)) (_ : k0_chk2 (bW k)) (_ : k0_chk1 L k (aW k) (bW k) (bW k) (dW k) (eW k))
    (_ : BitVec 32) (_ : BitVec 1) (_ : BitVec 1) (_ : BitVec 32) (_ : BitVec 32) (_ : BitVec 32) (_ : BitVec 32), BitVec 1 :=
  let v5 : BitVec 32 := Scf.iv 0#32 1#32 k
  let v66 : BitVec 32 := Scalar.addi (eW k) (w4 L)
  let v68 : BitVec 32 := Scalar.select 1#1 (Scalar.subi (eW k) 1#32) (eW k)
  let v71 : BitVec 32 := Scalar.addi (Scalar.select (Scalar.cmpi .eq v68 4294967295#32) 63#32 v68) (w4 L)
  let v73 : BitVec 32 := Scalar.select 1#1 (Scalar.addi (eW k) 1#32) (eW k)
  let v76 : BitVec 32 := Scalar.addi (Scalar.select (Scalar.cmpi .eq v73 64#32) 0#32 v73) (w4 L)
  let v85 : BitVec 1 := Scalar.andi (Scalar.cmpi .ne v66 v76) (Scalar.xori (Scalar.cmpi .sge v5 63#32) 1#1)
  ⟨chk3 k, chk2 k, chk1 L k, v5, Scalar.cmpi .eq v5 0#32, Scalar.cmpi .eq v5 63#32, v66, v71, v76,
    Scalar.select (Scalar.andi v85 1#1) (Scalar.addi (aW k) 1#32) (aW k), Scalar.cmpi .ne v66 v71⟩

set_option maxHeartbeats 4000000 in
/-- The first part of a trip: the fetch of the next block starts, if there is one. -/
theorem part1 (k : Fin k0_t1_loop.trips) {Q : _ → sProp 𝕄} :
    inFree d L Ix qI (pr (k.val + 1))
      ⊢ iprop((inNext d L Ix qI k.val -∗ Q (res1 L k)) -∗ wp frame (wpE (defs₀ (F := F)) 𝒱₀ (thr d L) none) Set.univ
        (k0_part1 L (Memref.whole main_arg0_scv) (Memref.isWhole_whole _) (Memref.whole main_v0_scv) (Memref.isWhole_whole _) (Memref.whole main_v1_scv)
          (Memref.isWhole_whole _) (Memref.whole cc0_scoped0) (Memref.isWhole_whole _) cc0_scoped1 (Memref.whole cc0_scoped2) (Memref.isWhole_whole _)
          cc0_scoped3 cc0_scoped4 (w4 L) 0#32 1#32 k (aW k) (bW k) (bW k) (dW k) (eW k)) Q) := by
  rw [k0_part1_eq_skeleton]; unfold k0_part1_skel
  simp only [Prog.bind_lift]
  rw [wp_assume_of _ _ _ _ (chk3 k), wp_assume_of _ _ _ _ (chk2 k), wp_assume_of _ _ _ _ (chk1 L k)]
  have hc := cond1_eq L k
  by_cases h : k.val < 63
  · rw [if_pos h] at hc
    unfold inNext; rw [if_pos h, dif_pos hc]
    iintro Hin HQ
    iapply (issueIn d L Ix qI (pr (k.val + 1)) (blk L (k.val + 1)) (off4_eq k h) (off5_eq L k h) (off6_eq k h)) $$ Hin
    iintro Hb
    sl_step
    iapply HQ $$ Hb
  · rw [if_neg h] at hc
    unfold inNext; rw [if_neg h, dif_neg (by rw [hc]; decide)]
    iintro Hin HQ
    sl_step
    iapply HQ $$ Hin

set_option maxHeartbeats 4000000 in
/-- The second part of a trip: the fetch of this trip's block is waited for, the rows its words name are gathered. -/
theorem part2 (O : CellTallies nD τ sig (HIx 1)) (W : Waits sig (HIx 1)) (hI : ∀ k, (word Ix k).toNat < 16384) (k : Fin k0_t1_loop.trips)
    (v5 : BitVec 32) (v64 v65 : BitVec 1) (v66 v71 v76 : BitVec 32) (v96 : BitVec 1) {Q : PUnit → sProp 𝕄} :
    iprop(inBusy d L Ix qI (pr k.val) (blk L k.val) ∗ rowFree (F := F) d L (pr k.val) ∗ (tLoc d ↦{qT} Tb) ∗ semVal (thr d L, .dma cc0_scoped4.sem) 0
        ∗ owing (F := F) d L O W ∗ Transfers.MayWaits (thr d L) (default : HIx 1) O)
      ⊢ iprop((iprop(inFree d L Ix qI (pr k.val) ∗ rowFull d L Tb Ix (pr k.val) (blk L k.val) ∗ (tLoc d ↦{qT} Tb)
            ∗ semVal (thr d L, .dma cc0_scoped4.sem) 0 ∗ owing (F := F) d L O W) -∗ Q ⟨⟩)
        -∗ wp frame (wpE (defs₀ (F := F)) 𝒱₀ (thr d L) none) Set.univ
        (k0_part2 L (Memref.whole main_arg0_scv) (Memref.isWhole_whole _) (Memref.whole main_v0_scv) (Memref.isWhole_whole _) (Memref.whole main_v1_scv)
          (Memref.isWhole_whole _) (Memref.whole cc0_scoped0) (Memref.isWhole_whole _) cc0_scoped1 (Memref.whole cc0_scoped2) (Memref.isWhole_whole _)
          cc0_scoped3 cc0_scoped4 k (aW k) (bW k) (bW k) (dW k) (eW k) (chk3 k) (chk2 k) (chk1 L k) v5 v64 v65 v66 v71 v76 v96) Q) := by
  rw [k0_part2_eq_skeleton]; unfold k0_part2_skel
  rw [dif_pos (cond2_eq L k)]
  simp only [Prog.bind_lift, ite_self]
  unfold owing
  iintro ⟨Hin, Hr, HT, Hg, ⟨%W', %hW', HO⟩, #Hmw⟩ HQ
  iapply (waitIn d L Ix qI (pr k.val) (blk L k.val) O W' (off9_eq k)) $$ [Hin HO]
  · isplitl [Hin]; · iexact Hin
    isplitl [HO]; · iexact HO
    iexact Hmw
  iintro ⟨Hin, HO⟩
  iapply (gather d L Tb Ix qT qI (pr k.val) (pr k.val) (blk L k.val) O _ hI (off10_eq k) (off11_eq k)) $$ [Hin Hr HT Hg HO]
  · isplitl [Hin]; · iexact Hin
    isplitl [Hr]; · iexact Hr
    isplitl [HT]; · iexact HT
    isplitl [Hg]; · iexact Hg
    isplitl [HO]; · iexact HO
    iexact Hmw
  iintro ⟨Hin, Hr, HT, Hg, HO⟩
  sl_step
  iapply HQ
  isplitl [Hin]; · iapply (inFull_free d L Ix qI (pr k.val) (blk L k.val)) $$ Hin
  isplitl [Hr]; · iexact Hr
  isplitl [HT]; · iexact HT
  isplitl [Hg]; · iexact Hg
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-- The carried words after a trip are those before the next. -/
theorem carry_next (k : Fin k0_t1_loop.trips) :
    ((res1 L k).2.2.2.2.2.2.2.2.2.1,
      Scalar.select (Scalar.ori (Scalar.cmpi .ne (res1 L k).2.2.2.2.2.2.1 (res1 L k).2.2.2.2.2.2.2.2.1) (res1 L k).2.2.2.2.2.1) (Scalar.addi (bW k) 1#32) (bW k),
      Scalar.select (Scalar.andi (Scalar.ori (Scalar.cmpi .ne (res1 L k).2.2.2.2.2.2.1 (res1 L k).2.2.2.2.2.2.2.2.1) (res1 L k).2.2.2.2.2.1) 1#1) (Scalar.addi (bW k) 1#32) (bW k),
      Scalar.select (Scalar.andi (Scalar.andi (Scalar.cmpi .ne (res1 L k).2.2.2.2.2.2.1 (res1 L k).2.2.2.2.2.2.2.1) (Scalar.xori (res1 L k).2.2.2.2.1 1#1)) 1#1)
        (Scalar.addi (dW k) 1#32) (dW k),
      Scalar.select (Scalar.cmpi .eq (Scalar.select 1#1 (Scalar.addi (eW k) 1#32) (eW k)) 64#32) 0#32 (Scalar.select 1#1 (Scalar.addi (eW k) 1#32) (eW k)))
      = carry (k.val + 1) := by
  revert k; revert L; decide +kernel

theorem inPart_next (t : ℕ) (h : t < 64) :
    iprop(inNext d L Ix qI t ∗ inFree d L Ix qI (pr t)) ⊢ inPart d L Ix qI (t + 1) := by
  unfold inNext inPart
  rw [pr_add_two]
  by_cases h' : t < 63
  · rw [if_pos h', if_pos (by omega)]
  · rw [if_neg h', if_neg (by omega)]

set_option maxHeartbeats 4000000 in
/-- A trip, from the carried words before it. -/
theorem trip_carry (O : CellTallies nD τ sig (HIx 1)) (W : Waits sig (HIx 1)) (hI : ∀ k, (word Ix k).toNat < 16384) (k : Fin k0_t1_loop.trips) :
    iprop(Transfers.MayWaits (thr d L) (default : HIx 1) O ∗ inPart d L Ix qI k.val ∗ outPrev d L Tb Ix k.val ∗ outFree (F := F) d L (pr k.val)
        ∗ todo d L O₀ k.val ∗ done d L Tb Ix k.val ∗ (tLoc d ↦{qT} Tb) ∗ semVal (thr d L, .dma cc0_scoped4.sem) 0 ∗ owing (F := F) d L O W)
      ⊢ wp frame (wpE (defs₀ (F := F)) 𝒱₀ (thr d L) none) Set.univ
        (k0_t1_body L (Memref.whole main_arg0_scv) (Memref.isWhole_whole _) (Memref.whole main_v0_scv) (Memref.isWhole_whole _) (Memref.whole main_v1_scv)
          (Memref.isWhole_whole _) (Memref.whole cc0_scoped0) (Memref.isWhole_whole _) cc0_scoped1 (Memref.whole cc0_scoped2) (Memref.isWhole_whole _)
          cc0_scoped3 cc0_scoped4 (w4 L) k (carry k.val))
        fun acc => iprop(Transfers.MayWaits (thr d L) (default : HIx 1) O ∗ Inv d L Tb Ix O₀ qT qI O W (k.val + 1) acc) := by
  have hk : k.val < 64 := lt_of_lt_of_le k.isLt (by decide)
  unfold k0_t1_body Inv
  dsimp only
  simp only [dif_pos (cond5_eq L k), Prog.bind_lift, ite_self]
  rw [wp_bind]
  iintro ⟨#Hmw, Hin, Hprev, Hfree, Htodo, Hdone, HT, Hg, HO⟩
  ihave Hin := (Entails.of_eq (show inPart d L Ix qI k.val = iprop(inBusy d L Ix qI (pr k.val) (blk L k.val) ∗ inFree d L Ix qI (pr (k.val + 1))) from if_pos hk)) $$ Hin
  icases Hin with ⟨Hin, Hnext⟩
  iapply (part1 d L Ix qI k) $$ Hnext
  iintro Hnext
  rw [wp_bind]
  ihave Hfree := (Entails.of_eq (show outFree (F := F) d L (pr k.val) = iprop(rowFree (F := F) d L (pr k.val) ∗ semVal (thr d L, .dma (oSem (pr k.val))) 0) from rfl)) $$ Hfree
  icases Hfree with ⟨Hr, Hos⟩
  iapply (part2 d L Tb Ix qT qI O W hI k) $$ [Hin Hr HT Hg HO]
  · isplitl [Hin]; · iexact Hin
    isplitl [Hr]; · iexact Hr
    isplitl [HT]; · iexact HT
    isplitl [Hg]; · iexact Hg
    isplitl [HO]; · iexact HO
    iexact Hmw
  iintro ⟨Hin, Hr, HT, Hg, HO⟩
  ihave Htodo := (Entails.of_eq (todo_pop d L O₀ k.val hk)) $$ Htodo
  icases Htodo with ⟨Hb, Htodo⟩
  iapply (issueOut d L Tb Ix O₀ (pr k.val) (blk L k.val) (off12_eq k) (off13_eq L k) (off14_eq k)) $$ [Hr Hos Hb]
  · isplitl [Hr]; · iexact Hr
    isplitl [Hos] <;> iassumption
  iintro Hbusy
  ihave Hin := (inPart_next d L Ix qI k.val hk) $$ [Hnext Hin]
  · isplitl [Hnext] <;> iassumption
  have hc := cond7_eq L k
  by_cases h0 : 0 < k.val
  · rw [if_pos h0] at hc
    ihave Hprev := (Entails.of_eq (show outPrev d L Tb Ix k.val = outBusy d L Tb Ix (pr (k.val - 1)) (blk L (k.val - 1)) from if_pos h0)) $$ Hprev
    rw [dif_pos hc]
    ihave HO := (Entails.of_eq (show owing (F := F) d L O W = iprop(∃ W', ⌜∀ p ∈ W', p ∈ W ∨ p.2 = none⌝ ∗ owes (thr d L) O W') from rfl)) $$ HO
    icases HO with ⟨%W', %hW', HO⟩
    iapply (waitOut d L Tb Ix (pr (k.val - 1)) (blk L (k.val - 1)) O W' (off17_eq k)) $$ [Hprev HO]
    · isplitl [Hprev]; · iexact Hprev
      isplitl [HO]; · iexact HO
      iexact Hmw
    iintro ⟨Hb, Hprev, HO⟩
    sl_step
    isplitr; · iexact Hmw
    isplitr; · ipureintro; exact carry_next L k
    isplitl [Hin]; · iexact Hin
    isplitl [Hbusy]; · unfold outPrev; rw [if_pos (Nat.succ_pos _)]; iexact Hbusy
    isplitl [Hprev]; · rw [← pr_pred k.val h0]; iexact Hprev
    isplitl [Htodo]; · iexact Htodo
    isplitl [Hb Hdone]
    · rw [done_push d L Tb Ix k.val h0 (by omega)]
      isplitl [Hb] <;> iassumption
    isplitl [HT]; · iexact HT
    isplitl [Hg]; · iexact Hg
    unfold owing
    iexists _; isplitr
    swap; · iexact HO
    ipureintro; intro p hp
    rcases Finset.mem_insert.mp hp with hp | hp; · exact .inr (hp ▸ rfl)
    exact hW' p hp
  · rw [if_neg h0] at hc
    ihave Hprev := (Entails.of_eq (show outPrev d L Tb Ix k.val = outFree (F := F) d L (pr (k.val + 1)) from if_neg h0)) $$ Hprev
    rw [dif_neg (by rw [hc]; decide)]
    sl_step
    isplitr; · iexact Hmw
    isplitr; · ipureintro; exact carry_next L k
    isplitl [Hin]; · iexact Hin
    isplitl [Hbusy]; · unfold outPrev; rw [if_pos (Nat.succ_pos _)]; iexact Hbusy
    isplitl [Hprev]; · iexact Hprev
    isplitl [Htodo]; · iexact Htodo
    isplitl [Hdone]
    · have : k.val = 0 := by omega
      rw [this, done_one]; iexact Hdone
    isplitl [HT]; · iexact HT
    isplitl [Hg]; · iexact Hg
    iexact HO

theorem trip (O : CellTallies nD τ sig (HIx 1)) (W : Waits sig (HIx 1)) (hI : ∀ k, (word Ix k).toNat < 16384)
    (k : Fin k0_t1_loop.trips) (acc : BitVec 32 × BitVec 32 × BitVec 32 × BitVec 32 × BitVec 32) :
    iprop(Transfers.MayWaits (thr d L) (default : HIx 1) O ∗ Inv d L Tb Ix O₀ qT qI O W k.val acc)
      ⊢ wp frame (wpE (defs₀ (F := F)) 𝒱₀ (thr d L) none) Set.univ
        (k0_t1_body L (Memref.whole main_arg0_scv) (Memref.isWhole_whole _) (Memref.whole main_v0_scv) (Memref.isWhole_whole _) (Memref.whole main_v1_scv)
          (Memref.isWhole_whole _) (Memref.whole cc0_scoped0) (Memref.isWhole_whole _) cc0_scoped1 (Memref.whole cc0_scoped2) (Memref.isWhole_whole _)
          cc0_scoped3 cc0_scoped4 (w4 L) k acc)
        fun acc => iprop(Transfers.MayWaits (thr d L) (default : HIx 1) O ∗ Inv d L Tb Ix O₀ qT qI O W (k.val + 1) acc) := by
  have hc : ∀ _ : acc = carry k.val, iprop(Transfers.MayWaits (thr d L) (default : HIx 1) O ∗ Inv d L Tb Ix O₀ qT qI O W k.val acc)
      ⊢ wp frame (wpE (defs₀ (F := F)) 𝒱₀ (thr d L) none) Set.univ
        (k0_t1_body L (Memref.whole main_arg0_scv) (Memref.isWhole_whole _) (Memref.whole main_v0_scv) (Memref.isWhole_whole _) (Memref.whole main_v1_scv)
          (Memref.isWhole_whole _) (Memref.whole cc0_scoped0) (Memref.isWhole_whole _) cc0_scoped1 (Memref.whole cc0_scoped2) (Memref.isWhole_whole _)
          cc0_scoped3 cc0_scoped4 (w4 L) k acc)
        fun acc => iprop(Transfers.MayWaits (thr d L) (default : HIx 1) O ∗ Inv d L Tb Ix O₀ qT qI O W (k.val + 1) acc) := by
    intro ha
    subst ha
    refine BIBase.Entails.trans ?_ (trip_carry d L Tb Ix O₀ qT qI O W hI k)
    unfold Inv
    iintro ⟨#Hmw, -, H⟩
    isplitr; · iexact Hmw
    iexact H
  iintro ⟨#Hmw, HI⟩
  ihave HI := (show Inv d L Tb Ix O₀ qT qI O W k.val acc ⊢ iprop(⌜acc = carry k.val⌝ ∗ Inv d L Tb Ix O₀ qT qI O W k.val acc) by
    unfold Inv
    iintro ⟨%ha, H⟩
    isplitr; · ipureintro; exact ha
    isplitr; · ipureintro; exact ha
    iexact H) $$ HI
  icases HI with ⟨%ha, HI⟩
  iapply (hc ha)
  isplitr; · iexact Hmw
  iexact HI

end Cert.Proof.Task
-- ==== Proof.Tile.lean ====
/-
  A whole task of the gather: its scratch is split into slots, the first block of the index list is fetched, the 64
  trips run, the last copy out is waited for, and the slots are joined again.
-/
module

public import proofs.«01_k».proof.Proof.Task

@[expose] public section

noncomputable section

namespace Cert.Proof.Tile

open Cert.KernelIdeal Cert.KernelIdeal.Gen Cert.Proof.Words Cert.Proof.Slots Cert.Proof.Moves Cert.Proof.Task

open Idealize.ShloMosaic
open Idealize.ShloMosaic.ValueIdx (ix1 ix2 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)
variable (Tb : Buf (Elt F) (tLoc d)) (Ix : Buf (Elt F) (iLoc d)) (O₀ : Buf (Elt F) (oLoc d)) (qT qI : PosShare TreeShare)

theorem off1_eq : k0_off1 = ![(pr 0).val, 0, 0] := by decide +kernel
theorem off2_eq : ∀ i : grid0.Coords, k0_off2 i = ![0, base i + 256 * 0] := by decide +kernel
theorem off3_eq : k0_off3 = ![(pr 0).val] := by decide +kernel
theorem off20_eq' : k0_off20 (dW 64) = ![(pr 63).val] := off20_eq

/-! ## The blocks of the task's rows -/

theorem blocks_disjoint (b : ℕ) : ∀ n ∈ (Finset.univ : Finset (Fin 64)), ∀ n' ∈ (Finset.univ : Finset (Fin 64)), n ≠ n' →
    Disjoint (outSet (b + 256 * n.val) 256) (outSet (b + 256 * n'.val) 256) := by
  intro n _ n' _ h
  rw [Finset.disjoint_left]
  intro y h1 h2
  simp only [outSet, Finset.mem_filter, Finset.mem_univ, true_and] at h1 h2
  exact h (Fin.ext (by omega))
theorem blocks_cover (b : ℕ) : (Finset.univ : Finset (Fin 64)).biUnion (fun n => outSet (b + 256 * n.val) 256) = outSet b 16384 := by
  ext y
  simp only [outSet, Finset.mem_biUnion, Finset.mem_filter, Finset.mem_univ, true_and]
  constructor
  · rintro ⟨n, h⟩; omega
  · intro h
    exact ⟨⟨((y 0).val - b) / 256, by omega⟩, by simp only; omega⟩
theorem blocks (f : Buf (Elt F) (oLoc d)) :
    (oLoc d ↦[outSet (base L) 16384]{fullShare} f : sProp 𝕄) = bigSep Finset.univ fun n : Fin 64 => oLoc d ↦[outSet (blk L n.val) 256]{fullShare} f := by
  rw [← pointsTo_biUnion Finset.univ (ℓ := oLoc d) (fun n : Fin 64 => outSet (blk L n.val) 256) (blocks_disjoint (base L)), blocks_cover]
theorem todo_all : (oLoc d ↦[outSet (base L) 16384]{fullShare} O₀ : sProp 𝕄) = todo d L O₀ 0 := by
  rw [blocks]; unfold todo; congr 1
theorem done_all : done d L Tb Ix 65 = (oLoc d ↦[outSet (base L) 16384]{fullShare} (rowsOf Tb Ix : Buf (Elt F) (oLoc d)) : sProp 𝕄) := by
  rw [blocks]; unfold done; congr 1
theorem done_none : done d L Tb Ix 0 = (iprop(emp) : sProp 𝕄) := by
  unfold done
  rw [show (Finset.univ.filter fun n : Fin 64 => n.val + 1 < 0) = ∅ by ext n; simp, bigSep_empty]; rfl

/-! ## The slots of the scratch -/

theorem inSlots_disjoint : ∀ s ∈ (Finset.univ : Finset (Fin 2)), ∀ s' ∈ (Finset.univ : Finset (Fin 2)), s ≠ s' → Disjoint (inSet s.val) (inSet s'.val) := by
  intro s _ s' _ h
  rw [Finset.disjoint_left]
  intro y h1 h2
  simp only [inSet, Finset.mem_filter, Finset.mem_univ, true_and] at h1 h2
  exact h (Fin.ext (by omega))
theorem inSlots_cover : (Finset.univ : Finset (Fin 2)).biUnion (fun s => inSet s.val) = Finset.univ := by
  ext y
  simp only [inSet, Finset.mem_biUnion, Finset.mem_filter, Finset.mem_univ, true_and, iff_true]
  exact ⟨⟨(y 0).val, (y 0).isLt⟩, rfl⟩
theorem rowSlots_disjoint : ∀ s ∈ (Finset.univ : Finset (Fin 2)), ∀ s' ∈ (Finset.univ : Finset (Fin 2)), s ≠ s' → Disjoint (rowSet s.val) (rowSet s'.val) := by
  intro s _ s' _ h
  rw [Finset.disjoint_left]
  intro y h1 h2
  simp only [rowSet, Finset.mem_filter, Finset.mem_univ, true_and] at h1 h2
  exact h (Fin.ext (by omega))
theorem rowSlots_cover : (Finset.univ : Finset (Fin 2)).biUnion (fun s => rowSet s.val) = Finset.univ := by
  ext y
  simp only [rowSet, Finset.mem_biUnion, Finset.mem_filter, Finset.mem_univ, true_and, iff_true]
  exact ⟨⟨(y 0).val, (y 0).isLt⟩, rfl⟩

/-- A buffer is the slots it is split into, each at some contents. -/
theorem slots_split {ℓ : Loc nD τ sig} (S : Fin 2 → Finset (Idx ℓ)) (hd : ∀ s ∈ (Finset.univ : Finset (Fin 2)), ∀ s' ∈ (Finset.univ : Finset (Fin 2)), s ≠ s' → Disjoint (S s) (S s'))
    (hc : (Finset.univ : Finset (Fin 2)).biUnion S = Finset.univ) (f : Buf (Elt F) ℓ) :
    (ℓ ↦{fullShare} f : sProp 𝕄) ⊢ iprop((∃ f : Buf (Elt F) ℓ, ℓ ↦[S 0]{fullShare} f) ∗ ∃ f : Buf (Elt F) ℓ, ℓ ↦[S 1]{fullShare} f) := by
  rw [show (ℓ ↦{fullShare} f : sProp 𝕄) = bigSep Finset.univ fun s : Fin 2 => ℓ ↦[S s]{fullShare} f by
    rw [← pointsTo_biUnion Finset.univ (ℓ := ℓ) S hd, hc]]
  refine (Entails.of_eq (show (bigSep Finset.univ fun s : Fin 2 => ℓ ↦[S s]{fullShare} f : sProp 𝕄) = iprop((ℓ ↦[S 0]{fullShare} f) ∗ ℓ ↦[S 1]{fullShare} f) from
    bigSep_fin_two _)).trans ?_
  iintro ⟨H0, H1⟩
  isplitl [H0] <;> iexists f <;> iassumption
theorem slots_join {ℓ : Loc nD τ sig} (S : Fin 2 → Finset (Idx ℓ)) (hd : ∀ s ∈ (Finset.univ : Finset (Fin 2)), ∀ s' ∈ (Finset.univ : Finset (Fin 2)), s ≠ s' → Disjoint (S s) (S s'))
    (hc : (Finset.univ : Finset (Fin 2)).biUnion S = Finset.univ) :
    (iprop((∃ f : Buf (Elt F) ℓ, ℓ ↦[S 0]{fullShare} f) ∗ ∃ f : Buf (Elt F) ℓ, ℓ ↦[S 1]{fullShare} f) : sProp 𝕄) ⊢ iprop(∃ f : Buf (Elt F) ℓ, ℓ ↦{fullShare} f) := by
  iintro ⟨⟨%f, H0⟩, ⟨%g, H1⟩⟩
  ihave H := (pointsTo_biUnion_join (ℓ := ℓ) (q := fullShare) (Val := Elt F) Finset.univ S (fun s => if s = 0 then f else g) f hd) $$ [H0 H1]
  · iapply (Entails.of_eq (show iprop((ℓ ↦[S 0]{fullShare} f) ∗ ℓ ↦[S 1]{fullShare} g)
      = (bigSep Finset.univ fun s : Fin 2 => ℓ ↦[S s]{fullShare} (if s = 0 then f else g) : sProp 𝕄) by
        rw [bigSep_fin_two, if_pos rfl, if_neg (by decide)]; rfl))
    isplitl [H0] <;> iassumption
  icases H with ⟨%h, -, H⟩
  rw [hc]
  iexists h; iexact H

/-! ## The program around the loop -/

/-- The first part: the fetch of the first block. -/
theorem part3 {Q : _ → sProp 𝕄} :
    inFree d L Ix qI (pr 0)
      ⊢ iprop((inBusy d L Ix qI (pr 0) (blk L 0) -∗ Q (w4 L)) -∗ wp frame (wpE (defs₀ (F := F)) 𝒱₀ (thr d L) none) Set.univ
        (k0_part3 L (Memref.whole main_arg0_scv) (Memref.isWhole_whole _) (Memref.whole main_v0_scv) (Memref.isWhole_whole _) (Memref.whole main_v1_scv)
          (Memref.isWhole_whole _) (Memref.whole cc0_scoped0) (Memref.isWhole_whole _) cc0_scoped1 (Memref.whole cc0_scoped2) (Memref.isWhole_whole _)
          cc0_scoped3 cc0_scoped4) Q) := by
  rw [k0_part3_eq_skeleton]; unfold k0_part3_skel
  simp only [Prog.bind_lift]
  iintro Hin HQ
  iapply (issueIn d L Ix qI (pr 0) (blk L 0) off1_eq (off2_eq L) off3_eq) $$ Hin
  iintro Hb
  sl_step
  iapply HQ $$ Hb

/-- What the loop hands on. -/
abbrev res4 (L : grid0.Coords) : Σ' (v3 : BitVec 32) (v4 : BitVec 32) (_ : k0_chk5 L v4), k0_chk4 v3 := ⟨dW 64, eW 64, chk5 L, chk4⟩

set_option maxHeartbeats 4000000 in
/-- The loop. -/
theorem part4 (O : CellTallies nD τ sig (HIx 1)) (W : Waits sig (HIx 1)) (hI : ∀ k, (word Ix k).toNat < 16384) {Q : _ → sProp 𝕄} :
    iprop(Transfers.MayWaits (thr d L) (default : HIx 1) O ∗ Inv d L Tb Ix O₀ qT qI O W 0 (carry 0))
      ⊢ iprop((Inv d L Tb Ix O₀ qT qI O W 64 (carry 64) -∗ Q (res4 L)) -∗ wp frame (wpE (defs₀ (F := F)) 𝒱₀ (thr d L) none) Set.univ
        (k0_part4 L (Memref.whole main_arg0_scv) (Memref.isWhole_whole _) (Memref.whole main_v0_scv) (Memref.isWhole_whole _) (Memref.whole main_v1_scv)
          (Memref.isWhole_whole _) (Memref.whole cc0_scoped0) (Memref.isWhole_whole _) cc0_scoped1 (Memref.whole cc0_scoped2) (Memref.isWhole_whole _)
          cc0_scoped3 cc0_scoped4 (w4 L)) Q) := by
  rw [k0_part4_eq_skeleton]; unfold k0_part4_skel
  simp only [Prog.bind_lift]
  iintro HI HQ
  iapply (Scf.wp_for_bind frame (wpE (defs₀ (F := F)) 𝒱₀ (thr d L) none) Set.univ 0#32 64#32 1#32 k0_t1_ok (carry 0)
    (k0_t1_body L (Memref.whole main_arg0_scv) (Memref.isWhole_whole _) (Memref.whole main_v0_scv) (Memref.isWhole_whole _) (Memref.whole main_v1_scv)
          (Memref.isWhole_whole _) (Memref.whole cc0_scoped0) (Memref.isWhole_whole _) cc0_scoped1 (Memref.whole cc0_scoped2) (Memref.isWhole_whole _)
          cc0_scoped3 cc0_scoped4 (w4 L))
    (fun t acc => iprop(Transfers.MayWaits (thr d L) (default : HIx 1) O ∗ Inv d L Tb Ix O₀ qT qI O W t acc))
    (fun k acc => trip d L Tb Ix O₀ qT qI O W hI k acc)) $$ HI
  iintro %acc ⟨-, HI⟩
  ihave HI := (show Inv d L Tb Ix O₀ qT qI O W (Scf.trips 0#32 64#32 1#32) acc ⊢ iprop(⌜acc = carry 64⌝ ∗ Inv d L Tb Ix O₀ qT qI O W 64 (carry 64)) by
    rw [show Scf.trips 0#32 64#32 1#32 = 64 by decide +kernel]
    unfold Task.Inv
    iintro ⟨%ha, H⟩
    isplitr; · ipureintro; exact ha
    isplitr; · ipureintro; rfl
    iexact H) $$ HI
  icases HI with ⟨%ha, HI⟩
  subst ha
  rw [wp_assume_of _ _ _ _ (chk5 L), wp_assume_of _ _ _ _ chk4]
  sl_step
  iapply HQ $$ HI

set_option maxHeartbeats 4000000 in
/-- A task, from its share of the table and of the index list, its rows of the result and its scratch. -/
theorem task (O : CellTallies nD τ sig (HIx 1)) (W : Waits sig (HIx 1)) (hI : ∀ k, (word Ix k).toNat < 16384) :
    iprop(Transfers.MayWaits (thr d L) (default : HIx 1) O
        ∗ ((tLoc d ↦{qT} Tb) ∗ (iLoc d ↦{qI} Ix) ∗ oLoc d ↦[outSet (base L) 16384]{fullShare} O₀)
        ∗ ((∃ f, sLoc d L ↦{fullShare} f) ∗ ∃ f, rLoc d L ↦{fullShare} f)
        ∗ (semVal (thr d L, .dma (iSem 0)) 0 ∗ semVal (thr d L, .dma (iSem 1)) 0 ∗ semVal (thr d L, .dma (oSem 0)) 0 ∗ semVal (thr d L, .dma (oSem 1)) 0
          ∗ semVal (thr d L, .dma cc0_scoped4.sem) 0)
        ∗ owes (thr d L) O W)
      ⊢ wp frame (wpE (defs₀ (F := F)) 𝒱₀ (thr d L) none) Set.univ
        (cc0_gather_kernel L (Memref.whole main_arg0_scv) (Memref.isWhole_whole _) (Memref.whole main_v0_scv) (Memref.isWhole_whole _) (Memref.whole main_v1_scv)
          (Memref.isWhole_whole _) (Memref.whole cc0_scoped0) (Memref.isWhole_whole _) cc0_scoped1 (Memref.whole cc0_scoped2) (Memref.isWhole_whole _)
          cc0_scoped3 cc0_scoped4)
        fun _ => iprop(((tLoc d ↦{qT} Tb) ∗ (iLoc d ↦{qI} Ix) ∗ oLoc d ↦[outSet (base L) 16384]{fullShare} (rowsOf Tb Ix : Buf (Elt F) (oLoc d)))
        ∗ ((∃ f, sLoc d L ↦{fullShare} f) ∗ ∃ f, rLoc d L ↦{fullShare} f)
        ∗ (semVal (thr d L, .dma (iSem 0)) 0 ∗ semVal (thr d L, .dma (iSem 1)) 0 ∗ semVal (thr d L, .dma (oSem 0)) 0 ∗ semVal (thr d L, .dma (oSem 1)) 0
          ∗ semVal (thr d L, .dma cc0_scoped4.sem) 0)
        ∗ owing (F := F) d L O W) := by
  rw [cc0_gather_kernel_eq_skeleton]; unfold cc0_gather_kernel_skel
  simp only [Prog.bind_lift]
  rw [wp_bind]
  iintro ⟨#Hmw, ⟨HT, Hi, Ho⟩, ⟨⟨%fs, Hs⟩, ⟨%fr, Hr⟩⟩, ⟨Hi0, Hi1, Ho0, Ho1, Hg⟩, HO⟩
  ihave Hs := (slots_split (ℓ := sLoc d L) (fun s : Fin 2 => inSet s.val) inSlots_disjoint inSlots_cover fs) $$ Hs
  icases Hs with ⟨Hs0, Hs1⟩
  ihave Hr := (slots_split (ℓ := rLoc d L) (fun s : Fin 2 => rowSet s.val) rowSlots_disjoint rowSlots_cover fr) $$ Hr
  icases Hr with ⟨Hr0, Hr1⟩
  ihave Hi := (pointsTo_share (PosShare.mem_left_op_right qI)).1 $$ Hi
  icases Hi with ⟨Hil, Hir⟩
  iapply (part3 d L Ix qI) $$ [Hs0 Hi0 Hil]
  · iapply (show iprop((∃ f : Buf (Elt F) (sLoc d L), sLoc d L ↦[inSet (0 : Fin 2).val]{fullShare} f) ∗ semVal (thr d L, .dma (iSem 0)) 0 ∗ iLoc d ↦{qI.left} Ix)
      ⊢ inFree d L Ix qI (pr 0) from .rfl)
    isplitl [Hs0]; · iexact Hs0
    isplitl [Hi0] <;> iassumption
  iintro Hb
  rw [wp_bind]
  iapply (part4 d L Tb Ix O₀ qT qI O W hI) $$ [Hb Hs1 Hi1 Hir Hr0 Hr1 Ho0 Ho1 Ho HT Hg HO]
  · isplitr; · iexact Hmw
    unfold Task.Inv
    isplitr; · ipureintro; rfl
    isplitl [Hb Hs1 Hi1 Hir]
    · unfold inPart
      rw [if_pos (by decide)]
      isplitl [Hb]; · iexact Hb
      iapply (show iprop((∃ f : Buf (Elt F) (sLoc d L), sLoc d L ↦[inSet (1 : Fin 2).val]{fullShare} f) ∗ semVal (thr d L, .dma (iSem 1)) 0 ∗ iLoc d ↦{qI.right} Ix)
        ⊢ inFree d L Ix qI (pr (0 + 1)) from .rfl)
      isplitl [Hs1]; · iexact Hs1
      isplitl [Hi1] <;> iassumption
    isplitl [Hr1 Ho1]
    · unfold outPrev outFree rowFree
      rw [if_neg (by decide)]
      isplitl [Hr1]; · iexact Hr1
      iexact Ho1
    isplitl [Hr0 Ho0]
    · unfold outFree rowFree
      isplitl [Hr0]; · iexact Hr0
      iexact Ho0
    isplitl [Ho]; · rw [← todo_all]; iexact Ho
    isplitr; · rw [done_none]; iempintro
    isplitl [HT]; · iexact HT
    isplitl [Hg]; · iexact Hg
    unfold owing
    iexists W; isplitr
    · ipureintro; exact fun p hp => .inl hp
    · iexact HO
  iintro HI
  ihave HI := (Entails.of_eq (show Inv d L Tb Ix O₀ qT qI O W 64 (carry 64) = iprop(⌜carry 64 = carry 64⌝
      ∗ (inFree d L Ix qI 0 ∗ inFree d L Ix qI 1) ∗ outBusy d L Tb Ix (pr 63) (blk L 63) ∗ outFree (F := F) d L 0 ∗ todo d L O₀ 64 ∗ done d L Tb Ix 64
    ∗ (tLoc d ↦{qT} Tb) ∗ semVal (thr d L, .dma cc0_scoped4.sem) 0 ∗ owing (F := F) d L O W) from by
      unfold Task.Inv inPart outPrev; rw [if_neg (by decide), if_pos (by decide)]; rfl)) $$ HI
  icases HI with ⟨-, ⟨Hin0, Hin1⟩, Hbusy, Hfree, -, Hdone, HT, Hg, HO⟩
  ihave HO := (Entails.of_eq (show owing (F := F) d L O W = iprop(∃ W', ⌜∀ p ∈ W', p ∈ W ∨ p.2 = none⌝ ∗ owes (thr d L) O W') from rfl)) $$ HO
  icases HO with ⟨%W', %hW', HO⟩
  iapply (waitOut d L Tb Ix (pr 63) (blk L 63) O W' off20_eq') $$ [Hbusy HO]
  · isplitl [Hbusy]; · iexact Hbusy
    isplitl [HO]; · iexact HO
    iexact Hmw
  iintro ⟨Hb, Hfree', HO⟩
  sl_step
  ihave Hin0 := (show inFree d L Ix qI 0 ⊢ iprop((∃ f : Buf (Elt F) (sLoc d L), sLoc d L ↦[inSet (0 : Fin 2).val]{fullShare} f) ∗ semVal (thr d L, .dma (iSem 0)) 0 ∗ iLoc d ↦{qI.left} Ix) from .rfl) $$ Hin0
  ihave Hin1 := (show inFree d L Ix qI 1 ⊢ iprop((∃ f : Buf (Elt F) (sLoc d L), sLoc d L ↦[inSet (1 : Fin 2).val]{fullShare} f) ∗ semVal (thr d L, .dma (iSem 1)) 0 ∗ iLoc d ↦{qI.right} Ix) from .rfl) $$ Hin1
  ihave Hfree := (show outFree (F := F) d L 0 ⊢ iprop((∃ f : Buf (Elt F) (rLoc d L), rLoc d L ↦[rowSet (0 : Fin 2).val]{fullShare} f) ∗ semVal (thr d L, .dma (oSem 0)) 0) from .rfl) $$ Hfree
  ihave Hfree' := (show outFree (F := F) d L (pr 63) ⊢ iprop((∃ f : Buf (Elt F) (rLoc d L), rLoc d L ↦[rowSet (1 : Fin 2).val]{fullShare} f) ∗ semVal (thr d L, .dma (oSem 1)) 0) from .rfl) $$ Hfree'
  icases Hin0 with ⟨Hs0, Hi0, Hil⟩
  icases Hin1 with ⟨Hs1, Hi1, Hir⟩
  icases Hfree with ⟨Hr0, Ho0⟩
  icases Hfree' with ⟨Hr1, Ho1⟩
  isplitl [HT Hil Hir Hb Hdone]
  · isplitl [HT]; · iexact HT
    isplitl [Hil Hir]
    · iapply (pointsTo_share (PosShare.mem_left_op_right qI)).2
      isplitl [Hil] <;> iassumption
    rw [← done_all, done_push d L Tb Ix 64 (by decide) (by decide)]
    isplitl [Hb] <;> iassumption
  isplitl [Hs0 Hs1 Hr0 Hr1]
  · isplitl [Hs0 Hs1]
    · iapply (slots_join (ℓ := sLoc d L) (fun s : Fin 2 => inSet s.val) inSlots_disjoint inSlots_cover)
      isplitl [Hs0] <;> iassumption
    · iapply (slots_join (ℓ := rLoc d L) (fun s : Fin 2 => rowSet s.val) rowSlots_disjoint rowSlots_cover)
      isplitl [Hr0] <;> iassumption
  isplitl [Hi0 Hi1 Ho0 Ho1 Hg]
  · isplitl [Hi0]; · iexact Hi0
    isplitl [Hi1]; · iexact Hi1
    isplitl [Ho0]; · iexact Ho0
    isplitl [Ho1] <;> iassumption
  unfold owing
  iexists _; isplitr
  swap; · iexact HO
  ipureintro; intro p hp
  rcases Finset.mem_insert.mp hp with hp | hp; · exact .inr (hp ▸ rfl)
  exact hW' p hp

end Cert.Proof.Tile
-- ==== Proof.Launch.lean ====
/-
  The launch of the gather: the list of row numbers is reshaped on the host, each SparseCore takes half of the table's
  and of the list's shares and its half of the result's rows, each of its tasks a share and a sixteenth of the rows; what
  comes back is the result whole, every row the table's row its word names.
-/
module

public import proofs.«01_k».proof.Proof.Tile
public import Idealize.ShloMosaic.Lib.SparseCore.Quiescent
public import Idealize.ShloMosaic.Lib.StableHlo.Run
public import Idealize.ShloMosaic.Lib.Pipeline.Kit

@[expose] public section

noncomputable section

namespace Cert.Proof.Launch

open Cert.KernelIdeal Cert.KernelIdeal.Gen Cert.Proof.Words Cert.Proof.Slots Cert.Proof.Moves Cert.Proof.Task Cert.Proof.Tile

open Idealize.ShloMosaic
open Idealize.ShloMosaic.ValueIdx (ix1 ix2 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held wp_hlo_within)

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem eq_of {A B : sProp 𝕄} (h : A ⊢ B) (h' : B ⊢ A) : A = B := BI.Entails.antisymm h h'

/-! ## Shares: one off the left for each task, the rest passed on to the right -/

/-- What is left of share `q` once `n` parts have been taken off. -/
def rest (q : PosShare TreeShare) : ℕ → PosShare TreeShare
  | 0 => q
  | n + 1 => (rest q n).right
/-- The part taken off as number `n`. -/
def off (q : PosShare TreeShare) (n : ℕ) : PosShare TreeShare := (rest q n).left

theorem pts_off {ℓ : Loc nD τ sig} (f : Buf (Elt F) ℓ) (q : PosShare TreeShare) (n : ℕ) :
    (ℓ ↦{q} f : sProp 𝕄) = iprop((bigSep Finset.univ fun i : Fin n => ℓ ↦{off q i.val} f) ∗ ℓ ↦{rest q n} f) := by
  have key : ∀ t ≤ n, (ℓ ↦{q} f : sProp 𝕄)
      = iprop((bigSep (Finset.univ.filter fun i : Fin n => i.val < t) fun i => ℓ ↦{off q i.val} f) ∗ ℓ ↦{rest q t} f) := by
    intro t
    induction t with
    | zero =>
      intro _
      rw [show (Finset.univ.filter fun i : Fin n => i.val < 0) = ∅ by ext i; simp, bigSep_empty]
      exact (BI.Entails.antisymm emp_sep.1 emp_sep.2).symm
    | succ t ih =>
      intro ht
      rw [ih (by omega), SparseCore.bigSep_erase' (s := Finset.univ.filter fun i : Fin n => i.val < t + 1) (i := (⟨t, by omega⟩ : Fin n))
        (Finset.mem_filter.mpr ⟨Finset.mem_univ _, Nat.lt_succ_self t⟩),
        show (Finset.univ.filter fun i : Fin n => i.val < t + 1).erase ⟨t, by omega⟩ = Finset.univ.filter fun i : Fin n => i.val < t by
          ext i; simp only [Finset.mem_erase, Finset.mem_filter, Finset.mem_univ, true_and, ne_eq, Fin.ext_iff]; omega,
        show (ℓ ↦{rest q t} f : sProp 𝕄) = iprop((ℓ ↦{off q t} f) ∗ ℓ ↦{rest q (t + 1)} f) from
          BI.Entails.antisymm (pointsTo_share (PosShare.mem_left_op_right (rest q t))).1 (pointsTo_share (PosShare.mem_left_op_right (rest q t))).2]
      refine eq_of ?_ ?_
      · iintro ⟨H, H0, H1⟩
        isplitl [H H0]
        · isplitl [H0] <;> iassumption
        · iexact H1
      · iintro ⟨⟨H0, H⟩, H1⟩
        isplitl [H]; · iexact H
        isplitl [H0] <;> iassumption
  rw [show (Finset.univ : Finset (Fin n)) = Finset.univ.filter fun i : Fin n => i.val < n by ext i; simp]
  exact key n le_rfl

/-- SparseCore `c`'s half. -/
def hq (c : Fin 2) : PosShare TreeShare := if c = 0 then fullShare.left else fullShare.right
theorem pts_halves {ℓ : Loc nD τ sig} (f : Buf (Elt F) ℓ) :
    (ℓ ↦{fullShare} f : sProp 𝕄) = bigSep Finset.univ fun c : Fin 2 => ℓ ↦{hq c} f := by
  rw [bigSep_fin_two]
  exact BI.Entails.antisymm (pointsTo_share (PosShare.mem_left_op_right fullShare)).1 (pointsTo_share (PosShare.mem_left_op_right fullShare)).2

/-! ## The rows of the result, cut -/

theorem cut_disjoint (b w n : ℕ) : ∀ i ∈ (Finset.univ : Finset (Fin n)), ∀ i' ∈ (Finset.univ : Finset (Fin n)), i ≠ i' →
    Disjoint (outSet (b + w * i.val) w) (outSet (b + w * i'.val) w) := by
  intro i _ i' _ h
  rw [Finset.disjoint_left]
  intro y h1 h2
  simp only [outSet, Finset.mem_filter, Finset.mem_univ, true_and] at h1 h2
  refine h (Fin.ext ?_)
  rcases lt_trichotomy i.val i'.val with h' | h' | h'
  · have := Nat.mul_le_mul_left w (Nat.succ_le_of_lt h'); rw [Nat.mul_succ] at this; omega
  · exact h'
  · have := Nat.mul_le_mul_left w (Nat.succ_le_of_lt h'); rw [Nat.mul_succ] at this; omega
theorem cut_cover (b w n : ℕ) (hw : 0 < w) : (Finset.univ : Finset (Fin n)).biUnion (fun i => outSet (b + w * i.val) w) = outSet b (w * n) := by
  ext y
  simp only [outSet, Finset.mem_biUnion, Finset.mem_filter, Finset.mem_univ, true_and]
  constructor
  · rintro ⟨i, h⟩
    have := Nat.mul_le_mul_left w (Nat.succ_le_of_lt i.isLt); rw [Nat.mul_succ] at this; omega
  · intro h
    refine ⟨⟨((y 0).val - b) / w, Nat.div_lt_of_lt_mul (by omega)⟩, ?_⟩
    have h1 := Nat.div_add_mod ((y 0).val - b) w
    have h2 := Nat.mod_lt ((y 0).val - b) hw
    simp only
    omega
theorem pts_cut (d : Dev nD) (b w n : ℕ) (hw : 0 < w) (f : Buf (Elt F) (oLoc d)) :
    (oLoc d ↦[outSet b (w * n)]{fullShare} f : sProp 𝕄) = bigSep Finset.univ fun i : Fin n => oLoc d ↦[outSet (b + w * i.val) w]{fullShare} f := by
  rw [← pointsTo_biUnion Finset.univ (ℓ := oLoc d) (fun i : Fin n => outSet (b + w * i.val) w) (cut_disjoint b w n), cut_cover b w n hw]
theorem outSet_univ : outSet 0 (262144 * 2) = Finset.univ := by
  ext y
  have h : (y 0).val < 524288 := (y 0).isLt
  simp only [outSet, Finset.mem_filter, Finset.mem_univ, true_and, iff_true]
  omega

/-! ## What the handshakes carry -/

variable (m : (ℓ : Loc nD τ sig) → Buf (Elt F) ℓ) (ρ : Dev nD → PrngReg)

abbrev aLoc (d : Dev nD) : Loc nD τ sig := (SparseCore.T d).loc main_arg1

/-- The list as the host reshapes it. -/
def list (d : Dev nD) : Buf (Elt F) (iLoc d) := shapeCast S1x524288 (m (aLoc d)) shapeCasts_S16384x32_S1x524288
/-- The rows of the table the list names: the result. -/
def rows (d : Dev nD) : Buf (Elt F) (oLoc d) := rowsOf (m (tLoc d)) (list m d)

/-- What the proof asks of the launch memory: every word of the list names a row of the table. -/
def PreOK : Prop := ∀ d k, (word (list m d) k).toNat < 16384

/-- A part of the table's share, of the list's, and of the result's rows, at contents `f`. -/
abbrev part (d : Dev nD) (q : PosShare TreeShare) (b n : ℕ) (f : Buf (Elt F) (oLoc d)) : sProp 𝕄 :=
  iprop((tLoc d ↦{q} m (tLoc d)) ∗ (iLoc d ↦{q} list m d) ∗ oLoc d ↦[outSet b n]{fullShare} f)

abbrev corePart (d : Dev nD) (c : Fin 2) (f : Buf (Elt F) (oLoc d)) : sProp 𝕄 := part m d (hq c) (0 + 262144 * c.val) 262144 f
abbrev taskPart (d : Dev nD) (c : Fin 2) (i : Fin 16) (f : Buf (Elt F) (oLoc d)) : sProp 𝕄 :=
  part m d (off (hq c) i.val) (0 + 262144 * c.val + 16384 * i.val) 16384 f

variable [FloatOps F]

def P : (K (F := F)).Pay (nD := nD) (Val := Elt F) (Name := ℕ) (U := UU) where
  st := fun q d c => match q with | 0 => corePart m d (Fin.cast nCore_zero c) (m (oLoc d))
  dn := fun q d c => match q with | 0 => corePart m d (Fin.cast nCore_zero c) (rows m d)
  go := fun q d c i => match q with | 0 => taskPart m d (Fin.cast nCore_zero c) (Fin.cast nSub_zero i) (m (oLoc d))
  td := fun q d c i => match q with | 0 => taskPart m d (Fin.cast nCore_zero c) (Fin.cast nSub_zero i) (rows m d)
  x := fun _ _ => iprop(emp)

instance P_storable : (P (F := F) m).IsStorable where
  st q d c := match q with
    | 0 => (inferInstance : BI.Storable (upEmb : UEmb _ 𝕄) (corePart m d (Fin.cast nCore_zero c) (m (oLoc d))))
  dn q d c := match q with
    | 0 => (inferInstance : BI.Storable (upEmb : UEmb _ 𝕄) (corePart m d (Fin.cast nCore_zero c) (rows m d)))
  go q d c i := match q with
    | 0 => (inferInstance : BI.Storable (upEmb : UEmb _ 𝕄) (taskPart m d (Fin.cast nCore_zero c) (Fin.cast nSub_zero i) (m (oLoc d))))
  td q d c i := match q with
    | 0 => (inferInstance : BI.Storable (upEmb : UEmb _ 𝕄) (taskPart m d (Fin.cast nCore_zero c) (Fin.cast nSub_zero i) (rows m d)))

/-! ## A task's obligation -/

section Tile

variable (d : Dev nD) (L : grid0.Coords)

abbrev cell (d : Dev nD) (L : grid0.Coords) (s : DmaSem sig) : GSem nD τ sig := (thr d L, .dma s)

omit [FloatOps F] in
theorem ownSems0_V :
    (ownSems0 (thr d L) : sProp 𝕄)
      = iprop((semVal (cell d L (iSem 0)) 0 ∗ semVal (cell d L (iSem 1)) 0 ∗ semVal (cell d L (oSem 0)) 0 ∗ semVal (cell d L (oSem 1)) 0
            ∗ semVal (cell d L cc0_scoped4.sem) 0)
          ∗ bigSep ((((((ownCells (thr d L)).erase (cell d L (iSem 0))).erase (cell d L (iSem 1))).erase (cell d L (oSem 0))).erase (cell d L (oSem 1))).erase
              (cell d L cc0_scoped4.sem)) fun g => semVal g 0) := by
  have mem : ∀ s : DmaSem sig, (SemLoc.dma s : SemLoc sig).isScoped .scVector = true → cell d L s ∈ ownCells (thr d L) :=
    fun s h => (mem_ownCells (g := cell d L s)).mpr ⟨rfl, h⟩
  have ne : ∀ s s' : DmaSem sig, s ≠ s' → cell d L s ≠ cell d L s' := fun s s' h e => h (SemLoc.dma.inj (Prod.mk.inj e).2)
  unfold SparseCore.Cfg.ownSems0
  rw [SparseCore.bigSep_erase' (mem (iSem 0) (by decide)),
    SparseCore.bigSep_erase' (Finset.mem_erase.mpr ⟨ne _ _ (by decide), mem (iSem 1) (by decide)⟩),
    SparseCore.bigSep_erase' (Finset.mem_erase.mpr ⟨ne _ _ (by decide), Finset.mem_erase.mpr ⟨ne _ _ (by decide), mem (oSem 0) (by decide)⟩⟩),
    SparseCore.bigSep_erase' (Finset.mem_erase.mpr ⟨ne _ _ (by decide), Finset.mem_erase.mpr ⟨ne _ _ (by decide), Finset.mem_erase.mpr ⟨ne _ _ (by decide),
      mem (oSem 1) (by decide)⟩⟩⟩),
    SparseCore.bigSep_erase' (Finset.mem_erase.mpr ⟨ne _ _ (by decide), Finset.mem_erase.mpr ⟨ne _ _ (by decide), Finset.mem_erase.mpr ⟨ne _ _ (by decide),
      Finset.mem_erase.mpr ⟨ne _ _ (by decide), mem cc0_scoped4.sem (by decide)⟩⟩⟩⟩)]
  refine eq_of ?_ ?_
  · iintro ⟨H0, H1, H2, H3, H4, H⟩
    isplitl [H0 H1 H2 H3 H4]
    · isplitl [H0]; · iexact H0
      isplitl [H1]; · iexact H1
      isplitl [H2]; · iexact H2
      isplitl [H3] <;> iassumption
    · iexact H
  · iintro ⟨⟨H0, H1, H2, H3, H4⟩, H⟩
    isplitl [H0]; · iexact H0
    isplitl [H1]; · iexact H1
    isplitl [H2]; · iexact H2
    isplitl [H3]; · iexact H3
    isplitl [H4] <;> iassumption

omit [FloatOps F] in
theorem ownBufs_V :
    (ownBufs (thr d L) : sProp 𝕄)
      = iprop(((∃ f, sLoc d L ↦{fullShare} f) ∗ ∃ f, rLoc d L ↦{fullShare} f)
          ∗ bigSep (((ownRefs (τ := τ) (thr d L).2).erase ((thr d L).2.devRef cc0_scoped0)).erase ((thr d L).2.devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := (thr d L).2) (b := (thr d L).2.devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := (thr d L).2) (b := (thr d L).2.devRef cc0_scoped2) rfl⟩)]
  refine eq_of ?_ ?_
  · iintro ⟨H0, H1, H⟩
    isplitl [H0 H1]
    · isplitl [H0] <;> iassumption
    · iexact H
  · iintro ⟨⟨H0, H1⟩, H⟩
    isplitl [H0]; · iexact H0
    isplitl [H1] <;> iassumption

abbrev cL (L : grid0.Coords) : Fin 2 := Fin.cast (show grid0.bound 0 = 2 from rfl) (L 0)
abbrev jL (L : grid0.Coords) : Fin 16 := Fin.cast (show grid0.bound 1 = 16 from rfl) (L 1)

theorem base_eq : base L = 0 + 262144 * (cL L).val + 16384 * (jL L).val := by
  show 16384 * (L 1).val + 262144 * (L 0).val = 0 + 262144 * (L 0).val + 16384 * (L 1).val
  omega

/-- A task on the vector subcore at coordinates `L`, in the launch theorem's form. -/
theorem tile_body (hpre : PreOK m) (O : CellTallies nD τ sig (HIx 1)) (W : Waits sig (HIx 1)) (hO : ∀ g, O g none = 0) :
    iprop(levAts (K (F := F)).L (K (F := F)).lev ∗ emp ∗ taskPart m d (cL L) (jL L) (m (oLoc d))
        ∗ scopedBufs (thr d L) ∗ scopedSems0 (thr d L) ∗ owes (thr d L) O W)
      ⊢ wp frame (wpE (defs₀ (F := F)) 𝒱₀ (thr d L) none) Set.univ
          (cc0_gather_kernel L (Memref.whole main_arg0_scv) (Memref.isWhole_whole _) (Memref.whole main_v0_scv) (Memref.isWhole_whole _) (Memref.whole main_v1_scv)
          (Memref.isWhole_whole _) (Memref.whole cc0_scoped0) (Memref.isWhole_whole _) cc0_scoped1 (Memref.whole cc0_scoped2) (Memref.isWhole_whole _)
          cc0_scoped3 cc0_scoped4)
          fun _ => iprop(taskPart m d (cL L) (jL L) (rows m d) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V facts d (cV L) (jV L), SparseCore.Cfg.scopedSems0_V (Val := Elt F) d (cV L) (jV L), ownSems0_V, ownBufs_V]
  unfold taskPart part
  rw [← base_eq]
  iintro ⟨#Hlv, -, Hp, ⟨Hs, Hbufs⟩, ⟨Hc, Hsems⟩, HO⟩
  ihave Hmw := (show levAts (K (F := F)).L (K (F := F)).lev ⊢ Transfers.MayWaits (thr d L) (default : HIx 1) O from
    (K (F := F)).mayWaits_none (thr := thr d L) hO) $$ Hlv
  iapply (wp_wand frame (wpE (defs₀ (F := F)) 𝒱₀ (thr d L) none)) $$ [Hp Hs Hc HO]
  · iapply (task d L (m (tLoc d)) (list m d) (m (oLoc d)) (off (hq (cL L)) (jL L).val) (off (hq (cL L)) (jL L).val) O W (hpre d))
    isplitr; · iexact Hmw
    isplitl [Hp]; · iexact Hp
    isplitl [Hs]; · iexact Hs
    isplitl [Hc] <;> iassumption
  iintro %_ ⟨Hp, Hs, Hc, HO⟩
  isplitl [Hp]; · iexact Hp
  isplitl [Hs Hbufs]; · isplitl [Hs] <;> iassumption
  isplitl [Hc Hsems]; · isplitl [Hc] <;> iassumption
  ihave HO := (Entails.of_eq (show owing (F := F) d L O W = iprop(∃ W', ⌜∀ p ∈ W', p ∈ W ∨ p.2 = none⌝ ∗ owes (thr d L) O W') from rfl)) $$ HO
  icases HO with ⟨%W', %hW', HO⟩
  iexists W'; isplitr
  · ipureintro; exact fun p hp => (hW' p hp).imp_right Or.inl
  · iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s) (Memref.whole main_arg0_scv) (Memref.isWhole_whole _)
          (Memref.whole main_v0_scv) (Memref.isWhole_whole _) (Memref.whole main_v1_scv) (Memref.isWhole_whole _) (Memref.whole cc0_scoped0) (Memref.isWhole_whole _)
          cc0_scoped1 (Memref.whole cc0_scoped2) (Memref.isWhole_whole _) cc0_scoped3 cc0_scoped4) ⟨⟩ c s := rfl

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hpre O W hO

end Tile

/-! ## The parts split and join -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- A SparseCore's part is its tasks', and what is left of its shares. -/
theorem core_split (d : Dev nD) (c : Fin 2) (f : Buf (Elt F) (oLoc d)) :
    corePart m d c f = iprop((bigSep Finset.univ fun i : Fin 16 => taskPart m d c i f)
      ∗ (tLoc d ↦{rest (hq c) 16} m (tLoc d)) ∗ iLoc d ↦{rest (hq c) 16} list m d) := by
  unfold corePart taskPart part
  rw [bigSep_sep', bigSep_sep', pts_off (m (tLoc d)) (hq c) 16, pts_off (list m d) (hq c) 16, pts_cut d (0 + 262144 * c.val) 16384 16 (by decide) f]
  refine eq_of ?_ ?_
  · iintro ⟨⟨H0, H0'⟩, ⟨H1, H1'⟩, H2⟩
    isplitl [H0 H1 H2]
    · isplitl [H0]; · iexact H0
      isplitl [H1] <;> iassumption
    · isplitl [H0'] <;> iassumption
  · iintro ⟨⟨H0, H1, H2⟩, H0', H1'⟩
    isplitl [H0 H0']; · isplitl [H0] <;> iassumption
    isplitl [H1 H1']; · isplitl [H1] <;> iassumption
    iexact H2

theorem vecSplit : (K (F := F)).VecSplit' (P m) 0 := by
  intro d c
  show corePart m d (Fin.cast nCore_zero c) (m (oLoc d)) ⊢ |={Set.univ}=> iprop(
      (bigSep Finset.univ fun i : Fin ((K (F := F)).nSub 0) => taskPart m d (Fin.cast nCore_zero c) (Fin.cast nSub_zero i) (m (oLoc d)))
      ∗ ((bigSep Finset.univ fun i : Fin ((K (F := F)).nSub 0) => taskPart m d (Fin.cast nCore_zero c) (Fin.cast nSub_zero i) (rows m d))
          -∗ corePart m d (Fin.cast nCore_zero c) (rows m d)))
  rw [bigSep_tasks (F := F) (fun i => taskPart m d (Fin.cast nCore_zero c) i (m (oLoc d))),
    bigSep_tasks (F := F) (fun i => taskPart m d (Fin.cast nCore_zero c) i (rows m d)), core_split, core_split]
  iintro ⟨H, Hr⟩; imodintro
  isplitl [H]; · iexact H
  iintro H
  isplitl [H] <;> iassumption

omit [FloatOps F] in
/-- The table, the list and the result whole are the SparseCores' parts. -/
theorem whole_split (d : Dev nD) (f : Buf (Elt F) (oLoc d)) :
    (iprop((tLoc d ↦{fullShare} m (tLoc d)) ∗ (iLoc d ↦{fullShare} list m d) ∗ oLoc d ↦{fullShare} f) : sProp 𝕄)
      = bigSep Finset.univ fun c : Fin 2 => corePart m d c f := by
  unfold corePart part
  rw [bigSep_sep', bigSep_sep', pts_halves, pts_halves, ← pts_cut d 0 262144 2 (by decide) f, outSet_univ]

theorem st_eq (d : Dev nD) : (bigSep Finset.univ fun c : Fin ((K (F := F)).nCore 0) => (P m).st 0 d c)
    = iprop((tLoc d ↦{fullShare} m (tLoc d)) ∗ (iLoc d ↦{fullShare} list m d) ∗ oLoc d ↦{fullShare} m (oLoc d)) := by
  rw [whole_split]; exact bigSep_cores (fun c => corePart m d c (m (oLoc d)))
theorem dn_eq (d : Dev nD) : (bigSep Finset.univ fun c : Fin ((K (F := F)).nCore 0) => (P m).dn 0 d c)
    = iprop((tLoc d ↦{fullShare} m (tLoc d)) ∗ (iLoc d ↦{fullShare} list m d) ∗ oLoc d ↦{fullShare} rows m d) := by
  rw [whole_split]; exact bigSep_cores (fun c => corePart m d c (rows m d))

omit [FloatOps F] in
theorem emps {I : Type} (s : Finset I) : (bigSep s fun _ => iprop(emp)) = (iprop(emp) : sProp 𝕄) := bigSep_emp_const s

end Cert.Proof.Launch
-- ==== Proof.Base.lean ====
/-
  What both regions of the TensorCore share: the invariant between their points, and whole buffers read and written at once.
-/
module

public import proofs.«01_k».proof.Proof.Moves
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

noncomputable section

namespace Cert.Proof.Base

open Cert.KernelIdeal Cert.KernelIdeal.Gen Cert.Proof.Moves
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- Between the points of a region: the core's scoped buffers that stage nothing, and its generator register. -/
def ΦR {gr : Nat} {W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

/-- The waits a region finds and leaves recorded: none above the level of what the one gather has done. -/
def rec8 (c : Dev nD) : Set (SemLoc sig × HIx 1) := {p | (K (F := F)).lev (nD := nD) ((SparseCore.T c), p.1) p.2 ≤ 8}

theorem unit_emb {S : Shape} (off : Fin S.rank → ℕ) (inb : ∀ a, off a + S.size a ≤ S.size a) (x : S.Idx) :
    (Rect.unit (s := S) off S.size inb).emb x = x := by
  funext a; apply Fin.ext
  have h := (Rect.unit (s := S) off S.size inb).emb_apply x a
  rw [h]
  show off a + 1 * (x a).val = (x a).val
  have := inb a; omega

/-- A store of the whole buffer leaves its payload, whatever was stored before. -/
theorem read_writes_whole {κ : Kind} {sp : Space} {S : Shape} {e : EltTy} (v : View sig κ sp S e) (f : v.ty.Contents (Elt F)) (off : Fin S.rank → ℕ)
    (inb : ∀ a, off a + S.size a ≤ S.size a) (w : S.Idx → Elt F e) (L : List (View.Piece (Elt F) S e)) :
    v.read (Elt F) (v.writes (Elt F) f (⟨Rect.unit (s := S) off S.size inb, w⟩ :: L)) = w := by
  funext y
  have h := View.read_writes_cons_emb v f (Rect.unit (s := S) off S.size inb) w L y
  rwa [unit_emb off inb y] at h

/-- A load of the whole buffer reads its contents. -/
theorem ld_whole {S : Shape} {e : EltTy} (X : S.Idx → Elt F e) (off : Fin S.rank → ℕ)
    (inb : ∀ a, off a + S.size a ≤ S.size a) : View.ld X (Rect.unit (s := S) off S.size inb) = X :=
  funext fun y => congrArg X (unit_emb off inb y)

theorem readAt_whole {κ : Kind} {sp : Space} {S : Shape} {e : EltTy} (v : View sig κ sp S e) (f : v.ty.Contents (Elt F)) (off : Fin S.rank → ℕ)
    (inb : ∀ a, off a + S.size a ≤ S.size a) : v.readAt (Elt F) (Rect.unit (s := S) off S.size inb).toLoadRect f = v.read (Elt F) f :=
  (View.readAt_eq_ld v f _).trans (ld_whole _ off inb)

end Cert.Proof.Base

end
-- ==== Proof.Mlp.lean ====
/-
  The message network's region: what a block of the maxima and the three running sums hold after each point, and the
  body's obligation at every point.
-/
module

public import proofs.«01_k».proof.Proof.Base
public import Idealize.ShloMosaic.Lib.Tactic.Stretches

@[expose] public section

set_option maxRecDepth 16384

noncomputable section

namespace Cert.Proof.Mlp

open Cert.KernelIdeal Cert.KernelIdeal.Gen Cert.Proof.Moves Cert.Proof.Base
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) (HIx 1) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) (HIx 1) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) (HIx 1) ℕ UU ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) (HIx 1) ℕ UU ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) (HIx 1) ℕ UU ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 32 = 0 :=
  (fun t => by
    have ht : t.val < 32 := Nat.lt_of_lt_of_eq t.isLt N_1
    have e0 : (grid1.coords t 0).val = t.val / 1 % 32 := Pipeline.Grid.coords_val t 0 (by decide) rfl
    simp only [cond1_0, e0]
    word_cmp
   : ∀ t : Fin grid1.N, cond1_0 (grid1.coords t) ↔ t.val % 32 = 0)

/-! ## The body's triple -/

/-- What the running sums are added to: zeros at the first point, else what they hold. -/
def from1 (i : grid1.Coords) (z x : Vec F S1x128 .f32) : Vec F S1x128 .f32 := open Classical in if cond1_0 i then z else x

set_option maxHeartbeats 2000000 in
/-- The body on whole buffers: the blocks stay, the maxima's buffer holds the block's maxima, each running sum the
    block's part over what it held (over zeros at the first point). -/
theorem sound_kernel1 (c : Dev nD) (E : Set ℕ) (i : grid1.Coords) (arg1 : Memref sig .tc .vmem S16384x128 .f32) (harg1 : arg1.IsWhole) (arg2 : Memref sig .tc .vmem S512x128 .f32) (harg2 : arg2.IsWhole) (arg3 : Memref sig .tc .vmem S512x32 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (x0 : Vec F S16384x128 .f32) (x1 : Vec F S512x128 .f32) (x2 : Vec F S512x32 .f32) (x3 : Vec F S128x128 .f32) (x4 x6 x7 x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ owns (c : Thread nD τ) arg8 fullShare x7 ∗ owns (c : Thread nD τ) arg9 fullShare x8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k1_pay9 x0 x1 x2 x3 x4)
            ∗ owns (c : Thread nD τ) arg7 fullShare (k1_pay4 (k1_pay10 x0 x1 x2 x3 x4) (from1 i k1_pay1 x6))
            ∗ owns (c : Thread nD τ) arg8 fullShare (k1_pay5 (k1_pay7 x0 x1 x3 x4) (k1_pay10 x0 x1 x2 x3 x4) (from1 i k1_pay2 x7))
            ∗ owns (c : Thread nD τ) arg9 fullShare (k1_pay6 x2 (from1 i k1_pay3 x8))) -∗ K ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9) K := by
  simp only [cc1__mlp_body_eq_skeleton]; unfold cc1__mlp_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  subst hf0 hf1 hf2 hf3 hf4 hf6 hf7 hf8
  have e0 := readAt_whole arg1.view f0 ![0, 0] inb_S16384x128_S16384x128_0_0
  have e1 := readAt_whole arg2.view f1 ![0, 0] inb_S512x128_S512x128_0_0
  have e2 := readAt_whole arg3.view f2 ![0, 0] inb_S512x32_S512x32_0_0
  have e3 := readAt_whole arg4.view f3 ![0, 0] inb_S128x128_S128x128_0_0
  have e4 := readAt_whole arg5.view f4 ![0, 0] inb_S1x128_S1x128_0_0
  have e6 := readAt_whole arg7.view f6 ![0, 0] inb_S1x128_S1x128_0_0
  have e7 := readAt_whole arg8.view f7 ![0, 0] inb_S1x128_S1x128_0_0
  have e8 := readAt_whole arg9.view f8 ![0, 0] inb_S1x128_S1x128_0_0
  have c6 := View.readCov_cons_toLoadRect (Val := Elt F) arg7.view (Rect.unit (s := S1x128) ![0, 0] ![1, 128] inb_S1x128_S1x128_0_0) k1_pay1 []
  have c7 := View.readCov_cons_toLoadRect (Val := Elt F) arg8.view (Rect.unit (s := S1x128) ![0, 0] ![1, 128] inb_S1x128_S1x128_0_0) k1_pay2 []
  have c8 := View.readCov_cons_toLoadRect (Val := Elt F) arg9.view (Rect.unit (s := S1x128) ![0, 0] ![1, 128] inb_S1x128_S1x128_0_0) k1_pay3 []
  by_cases hc : cond1_0 i
  · have from_eq : ∀ z x : Vec F S1x128 .f32, from1 i z x = z := fun z x => if_pos hc
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      sl_open_run; exact read_writes_whole _ _ _ _ _ _
    isplitl [H6]
    · iexists _; isplitr
      swap; · iexact H6
      ipureintro
      rw [from_eq]; sl_open_run; exact read_writes_whole _ _ _ _ _ _
    isplitl [H7]
    · iexists _; isplitr
      swap; · iexact H7
      ipureintro
      rw [from_eq]; sl_open_run; exact read_writes_whole _ _ _ _ _ _
    iexists _; isplitr
    swap; · iexact H8
    ipureintro
    rw [from_eq]; sl_open_run; exact read_writes_whole _ _ _ _ _ _
  · have from_eq : ∀ z x : Vec F S1x128 .f32, from1 i z x = x := fun z x => if_neg hc
    sl_exec (disch := first | sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      sl_open_run; exact read_writes_whole _ _ _ _ _ _
    isplitl [H6]
    · iexists _; isplitr
      swap; · iexact H6
      ipureintro
      rw [from_eq]; sl_open_run; exact read_writes_whole _ _ _ _ _ _
    isplitl [H7]
    · iexists _; isplitr
      swap; · iexact H7
      ipureintro
      rw [from_eq]; sl_open_run; exact read_writes_whole _ _ _ _ _ _
    iexists _; isplitr
    swap; · iexact H8
    ipureintro
    rw [from_eq]; sl_open_run; exact read_writes_whole _ _ _ _ _ _

/-! ## The running sums -/

/-- What window 5 holds after point `t`: the maxima of the point's blocks. -/
def maxAt (c : Dev nD) (t : Fin cfg1.N) : Vec F S512x128 .f32 :=
  k1_pay9 (iblk1 V c 0 t) (iblk1 V c 1 t) (iblk1 V c 2 t) (iblk1 V c 3 t) (iblk1 V c 4 t)

/-- One point over the three sums before it. -/
def step1 (c : Dev nD) (t : Fin cfg1.N) (x : Vec F S1x128 .f32 × Vec F S1x128 .f32 × Vec F S1x128 .f32) :
    Vec F S1x128 .f32 × Vec F S1x128 .f32 × Vec F S1x128 .f32 :=
  (k1_pay4 (k1_pay10 (iblk1 V c 0 t) (iblk1 V c 1 t) (iblk1 V c 2 t) (iblk1 V c 3 t) (iblk1 V c 4 t)) x.1,
    k1_pay5 (k1_pay7 (iblk1 V c 0 t) (iblk1 V c 1 t) (iblk1 V c 3 t) (iblk1 V c 4 t)) (k1_pay10 (iblk1 V c 0 t) (iblk1 V c 1 t) (iblk1 V c 2 t) (iblk1 V c 3 t) (iblk1 V c 4 t)) x.2.1,
    k1_pay6 (iblk1 V c 2 t) x.2.2)

/-- The three sums after point `n`: each point over the point before, the first over zeros. -/
def sumsAt (c : Dev nD) : (n : ℕ) → n < cfg1.N → Vec F S1x128 .f32 × Vec F S1x128 .f32 × Vec F S1x128 .f32
  | 0, h => step1 V c ⟨0, h⟩ (k1_pay1, k1_pay2, k1_pay3)
  | n + 1, h => step1 V c ⟨n + 1, h⟩ (sumsAt c n (Nat.lt_of_succ_lt h))

theorem sumsAt_zero (c : Dev nD) (t : Fin cfg1.N) (h : t.val = 0) : sumsAt V c t.val t.isLt = step1 V c t (k1_pay1, k1_pay2, k1_pay3) := by
  obtain ⟨n, hn⟩ := t
  obtain rfl : n = 0 := h
  rfl

theorem sumsAt_next (c : Dev nD) (t : Fin cfg1.N) (h : t.val ≠ 0) :
    sumsAt V c t.val t.isLt = step1 V c t (sumsAt V c (t.val - 1) (Nat.lt_of_le_of_lt (Nat.sub_le _ _) t.isLt)) := by
  obtain ⟨n, hn⟩ := t
  cases n with
  | zero => exact absurd rfl h
  | succ n => rfl

/-! ## The pipeline's proof data -/

/-- The pipeline's data: each block left in place, the maxima of each point, the running sums; the waits recorded stay
    within level 8. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => maxAt V c t
    | ⟨6, _⟩ => (sumsAt V c t.val t.isLt).1
    | ⟨7, _⟩ => (sumsAt V c t.val t.isLt).2.1
    | ⟨8, _⟩ => (sumsAt V c t.val t.isLt).2.2
  Φ _ := ΦR spec1 c
  q _ := fullShare
  owed _ := 0
  recorded _ := rec8 (F := F) c

/-- The arrays are the region's entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = maxAt V c t := by dsimp only [dat1]
theorem after1_6 (c : Dev nD) (t : Fin cfg1.N) : (dat1 V c).after 6 t = (sumsAt V c t.val t.isLt).1 := by dsimp only [dat1]
theorem after1_7 (c : Dev nD) (t : Fin cfg1.N) : (dat1 V c).after 7 t = (sumsAt V c t.val t.isLt).2.1 := by dsimp only [dat1]
theorem after1_8 (c : Dev nD) (t : Fin cfg1.N) : (dat1 V c).after 8 t = (sumsAt V c t.val t.isLt).2.2 := by dsimp only [dat1]

/-- Each operand's buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- Past the first point each sum's buffer holds what the point before left. -/
theorem before1_6 (c : Dev nD) (t : Fin cfg1.N) (h0 : t.val ≠ 0) (d) :
    (dat1 V c).before 6 t d = (sumsAt V c (t.val - 1) (Nat.lt_of_le_of_lt (Nat.sub_le _ _) t.isLt)).1 := by
  have hN : t.val < 32 := lt_of_lt_of_eq t.isLt (show cfg1.N = 32 from N_1)
  rw [Dat.before_out_kept _ 6 rfl t (by omega) (Bool.eq_false_iff.mpr fun h => by have := (flush1_6 _).mp h; dsimp only at this; omega)
    (fun _ => rfl) (fun _ _ => rfl)]
  dsimp only [dat1]
theorem before1_7 (c : Dev nD) (t : Fin cfg1.N) (h0 : t.val ≠ 0) (d) :
    (dat1 V c).before 7 t d = (sumsAt V c (t.val - 1) (Nat.lt_of_le_of_lt (Nat.sub_le _ _) t.isLt)).2.1 := by
  have hN : t.val < 32 := lt_of_lt_of_eq t.isLt (show cfg1.N = 32 from N_1)
  rw [Dat.before_out_kept _ 7 rfl t (by omega) (Bool.eq_false_iff.mpr fun h => by have := (flush1_7 _).mp h; dsimp only at this; omega)
    (fun _ => rfl) (fun _ _ => rfl)]
  dsimp only [dat1]
theorem before1_8 (c : Dev nD) (t : Fin cfg1.N) (h0 : t.val ≠ 0) (d) :
    (dat1 V c).before 8 t d = (sumsAt V c (t.val - 1) (Nat.lt_of_le_of_lt (Nat.sub_le _ _) t.isLt)).2.2 := by
  have hN : t.val < 32 := lt_of_lt_of_eq t.isLt (show cfg1.N = 32 from N_1)
  rw [Dat.before_out_kept _ 8 rfl t (by omega) (Bool.eq_false_iff.mpr fun h => by have := (flush1_8 _).mp h; dsimp only at this; omega)
    (fun _ => rfl) (fun _ _ => rfl)]
  dsimp only [dat1]

/-! ## The body obligation, at a generic point -/

/-- What the body is called with at a point. -/
def bodyPre1 (c : Dev nD) (t : Fin cfg1.N) : sProp 𝕄 :=
  iprop((dat1 V c).Φ t.castSucc ∗ (dat1 V c).owesAt none t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- What the body returns. -/
def bodyPost1 (c : Dev nD) (t : Fin cfg1.N) : sProp 𝕄 :=
  iprop((dat1 V c).Φ t.succ ∗ (dat1 V c).owesAt none t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The first point's condition, by the point's number. -/
theorem from1_at (t : Fin cfg1.N) (z x : Vec F S1x128 .f32) : from1 (grid1.coords t) z x = if t.val = 0 then z else x := by
  have hN : t.val < 32 := lt_of_lt_of_eq t.isLt (show cfg1.N = 32 from N_1)
  unfold from1
  by_cases h : t.val = 0
  · rw [if_pos h, if_pos ((hcond1_0 t).mpr (by omega))]
  · rw [if_neg h, if_neg (fun hc => h (by have := (hcond1_0 t).mp hc; omega))]

/-- The sums after a point are one step over what their buffers held, zeros in place of it at the first. -/
theorem step_from (c : Dev nD) (t : Fin cfg1.N) (d6 d7 d8) :
    sumsAt V c t.val t.isLt = step1 V c t (from1 (grid1.coords t) k1_pay1 ((dat1 V c).before 6 t d6),
      from1 (grid1.coords t) k1_pay2 ((dat1 V c).before 7 t d7), from1 (grid1.coords t) k1_pay3 ((dat1 V c).before 8 t d8)) := by
  rw [from1_at, from1_at, from1_at]
  by_cases h : t.val = 0
  · rw [if_pos h, if_pos h, if_pos h, sumsAt_zero V c t h]
  · rw [if_neg h, if_neg h, if_neg h, before1_6 V c t h, before1_7 V c t h, before1_8 V c t h, sumsAt_next V c t h]

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt none t.succ = (dat1 V c).owesAt none t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hs := step_from V c t d6 d7 d8
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t)
    ((dat1 V c).before 6 t d6) ((dat1 V c).before 7 t d7) ((dat1 V c).before 8 t d8) _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  rw [hs]
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row is the body. -/
theorem defs₀_row1 (t : Fin cfg1.N) :
    defs₀ (F := F) .tc cfg1.body (cfg1.bodyArgs t (cfg1.slots t)) = bodyAt1 t := by
  unfold defs₀; rfl

/-- The body's obligation. -/
theorem body_obligation1 (c : Dev nD) : BodyObligation (dat1 (F := F) V c) (defs₀ (F := F)) Variants.none none Set.univ := fun t => by
  rw [bigSep_W1, bigSep_W1, defs₀_row1]
  exact triple_restated (sound_body1 V c t) rfl .rfl fun _ => .rfl

end Cert.Proof.Mlp

end
-- ==== Proof.Fin.lean ====
/-
  The normalisation's region: what a block of the result holds, and the body's obligation at every point.
-/
module

public import proofs.«01_k».proof.Proof.Base

@[expose] public section

set_option maxRecDepth 16384

noncomputable section

namespace Cert.Proof.Fin

open Cert.KernelIdeal Cert.KernelIdeal.Gen Cert.Proof.Moves Cert.Proof.Base
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) (HIx 1) ℕ UU ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) (HIx 1) ℕ UU ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x128 := Rect.unit (s := S1x128) ![0, 0] S1x1.size inb_S1x128_S1x1_0_0
abbrev r2_1 : Rect S1x128 := Rect.unit (s := S1x128) ![0, 0] S1x128.size inb_S1x128_S1x128_0_0
abbrev r2_2 : Rect S2048x128 := Rect.unit (s := S2048x128) ![0, 0] S2048x128.size inb_S2048x128_S2048x128_0_0

/-! ## What the body leaves in each output window's buffer -/

/-- What the body leaves in the result's buffer: its one store, from the blocks. -/
def out2_6 (x0 : Vec F S2048x128 .f32) (x1 : Vec F S1x128 .f32) (x2 : Vec F S1x128 .f32) (x3 : Vec F S1x128 .f32) (x4 : Vec F S1x128 .f32) (x5 : Vec F S1x128 .f32) : Vec F S2048x128 .f32 :=
  View.canon [⟨r2_2, k2_pay1 (View.ld x3 r2_0) (View.ld x1 r2_1) (View.ld x2 r2_1) (View.ld x4 r2_1) (View.ld x0 r2_2) (View.ld x5 r2_1)⟩]

/-- The store covers the buffer. -/
theorem cover2_6 (p0 : Vec F S2048x128 .f32) (y : S2048x128.Idx) :
    ∃ pc ∈ ([⟨r2_2, p0⟩] : List (View.Piece (Elt F) S2048x128 .f32)), y ∈ pc.1.set :=
  View.cover_of_tiled [⟨r2_2, p0⟩] S2048x128.size (by rfl) y

/-! ## The body's triple -/

set_option maxHeartbeats 1000000 in
/-- The body on whole buffers: the blocks stay, the result's buffer holds `out2_6` of them. -/
theorem sound_kernel2 (c : Dev nD) (E : Set ℕ) (i : grid2.Coords) (arg1 : Memref sig .tc .vmem S2048x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2048x128 .f32) (harg7 : arg7.IsWhole)
    (x0 : Vec F S2048x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__fin_body i arg1 harg1 arg2 harg2 arg3 harg3 arg4 harg4 arg5 harg5 arg6 harg6 arg7 harg7) K := by
  simp only [cc2__fin_body_eq_skeleton]; unfold cc2__fin_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The pipeline's data: each block left in place, the result's block at `out2_6`; the waits recorded stay within level 8. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := ΦR spec2 c
  q _ := fullShare
  owed _ := 0
  recorded _ := rec8 (F := F) c

/-- The arrays are the region's entry contents. -/
theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each operand's buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at a point. -/
def bodyPre2 (c : Dev nD) (t : Fin cfg2.N) : sProp 𝕄 :=
  iprop((dat2 V c).Φ t.castSucc ∗ (dat2 V c).owesAt none t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What the body returns. -/
def bodyPost2 (c : Dev nD) (t : Fin cfg2.N) : sProp 𝕄 :=
  iprop((dat2 V c).Φ t.succ ∗ (dat2 V c).owesAt none t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt none t.succ = (dat2 V c).owesAt none t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row is the body. -/
theorem defs₀_row2 (t : Fin cfg2.N) :
    defs₀ (F := F) .tc cfg2.body (cfg2.bodyArgs t (cfg2.slots t)) = bodyAt2 t := by
  unfold defs₀; rfl

/-- The body's obligation. -/
theorem body_obligation2 (c : Dev nD) : BodyObligation (dat2 (F := F) V c) (defs₀ (F := F)) Variants.none none Set.univ := fun t => by
  rw [bigSep_W2, bigSep_W2, defs₀_row2]
  exact triple_restated (sound_body2 V c t) rfl .rfl fun _ => .rfl

end Cert.Proof.Fin

end
-- ==== Proof.Run.lean ====
/-
  The run: the list of row numbers reshaped, the gather on the SparseCores, then the two regions of the TensorCore, each
  over every array outside the regions at contents folded through the program. Written for values of any kind.
-/
module

public import proofs.«01_k».proof.Proof.Launch
public import proofs.«01_k».proof.Proof.Mlp
public import proofs.«01_k».proof.Proof.Fin
public import Idealize.ShloMosaic.Lib.Pipeline.RegionArrays

@[expose] public section

noncomputable section

namespace Cert.Proof.Run

open Cert.KernelIdeal Cert.KernelIdeal.Gen Cert.Proof.Words Cert.Proof.Moves Cert.Proof.Base Cert.Proof.Launch

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.Pipeline (Dat)

variable {F : FTy → Type}

local notation "𝕄" => MT nD τ sig (HIx 1) (Elt F) ℕ UU ℕ

/-! ## A region over every array outside the regions -/

abbrev adm : (p : Fin 2) → (pcfgs (F := F) p).Adm := fun p => (cfgs p).toPCfg_adm
abbrev UC : Finset (DevRef τ sig) := Pipeline.ucRefs τ sig

/-- What rides beside the arrays through a region: the generator register, and nothing owed. -/
abbrev ride (c : Dev nD) : sProp 𝕄 :=
  iprop((∃ r, prngReg c r) ∗ ∃ W : Waits sig (HIx 1), ⌜(↑W : Set (SemLoc sig × HIx 1)) ⊆ rec8 (F := F) c⌝ ∗ owes (c : Thread nD τ) (0 : CellTallies nD τ sig (HIx 1)) W)

variable [FloatOps F]

set_option backward.isDefEq.respectTransparency.types false in
/-- A region entered with every such array at `W`, left with them at `W'`: the region's own arrays go from the data's
    entry contents to what its points leave, the others stay. -/
def regOf (pdats : (p : Fin 2) → (c : Dev nD) → Dat τ (Elt F) (HIx 1) ℕ UU ℕ (Pipeline.pin (pcfgs (F := F)) adm p) c) (p : Fin 2)
    (kit : Pipeline.LaunchFacts (nD := nD) (τ := τ) cfgs p)
    (hbody : ∀ c, Pipeline.BodyObligationLoose (pdats p c) defs₀ 𝒱₀ none Set.univ)
    (howed : ∀ c t, (pdats p c).owed t = 0) (hrec : ∀ c t, (pdats p c).recorded t = rec8 (F := F) c)
    (hΦ : ∀ c t, (pdats p c).Φ t = ΦR (cfgs p).spec c) (hq : ∀ c w, (pdats p c).share w = fullShare)
    (W W' : Dev nD → Valuation τ sig (Elt F))
    (hA : ∀ c w, (pdats p c).A w = W c (Proc.devRef .tc (Pipeline.arrRef (cfgs p).spec w)))
    (hF : ∀ c w, (pdats p c).arrAt w (cfgs p).N = W' c (Proc.devRef .tc (Pipeline.arrRef (cfgs p).spec w)))
    (hrest : ∀ c (b : Ref sig .tc), b ∉ Finset.univ.image (Pipeline.arrRef (cfgs p).spec) → W' c (Proc.devRef .tc b) = W c (Proc.devRef .tc b)) :
    Pipeline.RegionSeg (pcfgs (F := F)) adm pdats none defs₀ 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits := Pipeline.hwaits_of_owed_zero _ _ _ _ _ _ p howed
  pre c := iprop(held (c : Thread nD τ) UC (W c) ∗ ride c)
  post c := iprop(held (c : Thread nD τ) UC (W' c) ∗ ride c)
  X c := iprop(∃ r, prngReg c r)
  Y c := iprop(∃ r, prngReg c r)
  Z c := Pipeline.unscopedRest (Ix := HIx 1) (Name := ℕ) (U := UU) (Lvl := ℕ) (cfgs p).spec c fun b => W c (Proc.devRef .tc b)
  hentry c := by
    rw [Pipeline.ownSems0_none]
    have hsplit := Pipeline.arrays_of_unscopedBufs (p := p) (pcfgs (F := F)) adm pdats kit.win kit.arr_whole c
      (hq c) (fun b => W c (Proc.devRef .tc b)) (hA c)
    rw [Pipeline.unscopedBufs_held] at hsplit
    rw [Pipeline.prefHeld_of_none _ rfl]
    iintro ⟨⟨Hub, Hp, HO⟩, -, -⟩
    ihave H := hsplit $$ Hub
    icases H with ⟨Ha, Hrest⟩
    imodintro
    isplitl [Ha]; · iexact Ha
    isplitr; · iempintro
    isplitl [HO]
    · unfold Pipeline.Dat.owesAt Pipeline.owesWithin Pipeline.Dat.bound
      rw [howed c 0, hrec c 0]
      icases HO with ⟨%W, %hW, HO⟩; iexists W; isplitr; · ipureintro; exact fun _ h => Or.inl (hW h)
      iexact HO
    isplitl [Hp]; · iexact Hp
    iexact Hrest
  hin c := by
    rw [hΦ]; unfold ΦR
    iintro ⟨Hp, -, Hr⟩
    isplitl [Hr]; · iexact Hr
    iexact Hp
  hout c := by
    rw [Pipeline.ownSems0_none, hΦ]; unfold ΦR
    iintro ⟨Hr, Hp⟩
    isplitl [Hp]; · iexact Hp
    isplitr; · iempintro
    iexact Hr
  hexit c := by
    have hjoin := Pipeline.unscopedBufs_of_arrays (p := p) (pcfgs (F := F)) adm (Ix := HIx 1) (Name := ℕ) (U := UU) (Lvl := ℕ)
      kit.win kit.arr_whole c pdats (hq c)
      (fun b => W c (Proc.devRef .tc b)) (fun b => W' c (Proc.devRef .tc b)) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin Pipeline.Dat.bound
    rw [howed c (Fin.last _), hrec c (Fin.last _)]
    icases HO with ⟨%W, %hW, HO⟩; iexists W; isplitr
    · ipureintro
      intro q hqW
      rcases hW hqW with h | ⟨w, s, rfl⟩
      · exact h
      · exact Nat.zero_le 8
    iexact HO

/-- A region's step of @main. -/
theorem wp_region (pdats : (p : Fin 2) → (c : Dev nD) → Dat τ (Elt F) (HIx 1) ℕ UU ℕ (Pipeline.pin (pcfgs (F := F)) adm p) c) (p : Fin 2)
    [∀ e, Nonempty (Elt F e)]
    (R : Pipeline.RegionSeg (pcfgs (F := F)) adm pdats none defs₀ 𝒱₀ (K (F := F)).L (K (F := F)).lev p) (d : Dev nD) (Φ : PUnit → sProp 𝕄) :
    iprop(boundary (d : Thread nD τ) ∗ R.pre d ∗ levAts (K (F := F)).L (K (F := F)).lev
        ∗ Pipeline.cellsGhost cfgs (EP (F := F)) p d ∗ Pipeline.toksInit cfgs (EP (F := F)) p d
        ∗ ((boundary (d : Thread nD τ) ∗ R.post d) -∗ Φ ⟨⟩))
      ⊢ wp frame (wpE ((K (F := F)).defs (D (F := F))) 𝒱 (T d) none) Set.univ
          (Prog.lift (.customCall (SparseCore.inner (Pipeline.entry p)) ())) Φ := by
  refine BIBase.Entails.trans ?_ ((K (F := F)).wp_liftProg (D (F := F)) 𝒱 (T d) Set.univ none (.op (.customCall (Pipeline.entry p) ()) .ret) Φ)
  refine BIBase.Entails.trans ?_ (Pipeline.RegionSeg.wp (pcfgs (F := F)) adm pdats none cellOf_inj (EP (F := F)) defs₀ 𝒱₀ (K (F := F)).L (K (F := F)).lev
    R d none (fun _ h => nomatch h) .ret Φ)
  iintro ⟨Hb, Hpre, Hl, Hg, Ht, Hk⟩
  isplitl [Hk]
  · iintro H
    rw [wp_ret]; imodintro
    iapply Hk; iexact H
  isplitl [Hb]; · iexact Hb
  isplitl [Hpre]; · iexact Hpre
  isplitl [Hl]; · iexact Hl
  isplitl [Hg]; · iexact Hg
  iexact Ht

/-! ## The launch element of the ghost state -/

/-- What the pipelines of device `d`'s regions start from. -/
abbrev G (d : Dev nD) : sProp 𝕄 :=
  iprop((bigSep Finset.univ fun p : Fin 2 => Pipeline.cellsGhost cfgs (EP (F := F)) p d) ∗ bigSep Finset.univ fun p : Fin 2 => Pipeline.toksInit cfgs (EP (F := F)) p d)

omit [FloatOps F] in
theorem G_eq (d : Dev nD) : G (F := F) d = iprop((Pipeline.cellsGhost cfgs (EP (F := F)) 0 d ∗ Pipeline.cellsGhost cfgs (EP (F := F)) 1 d)
    ∗ Pipeline.toksInit cfgs (EP (F := F)) 0 d ∗ Pipeline.toksInit cfgs (EP (F := F)) 1 d) := by
  unfold G; rw [bigSep_fin_two, bigSep_fin_two]; rfl

def uP : UP := initOf (Pipeline.cells (nD := nD) (τ := τ) cfgs cellOf_inj) (Pipeline.launchToks (nD := nD) (τ := τ) cfgs cellOf_inj)
def u₀ : UU := (initOf (K (F := F)).hsCells (K (F := F)).hsToks, (uP, 1))

variable (m : (ℓ : Loc nD τ sig) → Buf (Elt F) ℓ) (ρ : Dev nD → PrngReg)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (F := F) m).x q thr) := by
  unfold u₀
  iintro Hu
  ihave H := (ownU_pair (initOf (K (F := F)).hsCells (K (F := F)).hsToks) ((uP, 1) : UP × Counters)) $$ Hu
  icases H with ⟨HH, HP⟩
  ihave HP := (show (BI.own (embR ((uP, 1) : UP × Counters)) : sProp 𝕄) ⊢ BI.own (EP (F := F) (initOf (Pipeline.cells (nD := nD) (τ := τ) cfgs cellOf_inj) (Pipeline.launchToks (nD := nD) (τ := τ) cfgs cellOf_inj))) from .rfl) $$ HP
  imod (Pipeline.fund_ghost cfgs (EP (F := F)) cellOf_inj) $$ HP with ⟨HC, HT⟩
  imodintro
  isplitl [HH]; · iexact HH
  isplitl [HC HT]
  · unfold G
    rw [bigSep_sep']
    isplitl [HC] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The contents, folded through the program -/

abbrev t' : DevRef τ sig := Proc.devRef .tc (main_arg0 : Ref sig .tc)
abbrev i' : DevRef τ sig := Proc.devRef .tc (main_v0 : Ref sig .tc)
abbrev o' : DevRef τ sig := Proc.devRef .tc (main_v1 : Ref sig .tc)
abbrev opI : HloOp τ sig (Elt F) := StableHlo.reshape main_arg1 main_v0 (rfl : (.i32 : EltTy) = .i32) shapeCasts_S16384x32_S1x524288
abbrev opB : HloOp τ sig (Elt F) := StableHlo.reshape main_arg5 main_v2 (rfl : (.f32 : EltTy) = .f32) shapeCasts_S128_S1x128
abbrev opG : HloOp τ sig (Elt F) := StableHlo.reshape main_arg6 main_v4 (rfl : (.f32 : EltTy) = .f32) shapeCasts_S128_S1x128
abbrev opE : HloOp τ sig (Elt F) := StableHlo.reshape main_arg7 main_v5 (rfl : (.f32 : EltTy) = .f32) shapeCasts_S128_S1x128

/-- At the launch; -/
def W0 (d : Dev nD) : Valuation τ sig (Elt F) := fun b => m (d, b)
/-- with the list reshaped; -/
def W1 (d : Dev nD) : Valuation τ sig (Elt F) := (opI (F := F)).result (W0 m d)
/-- with the rows gathered; -/
def W2 (d : Dev nD) : Valuation τ sig (Elt F) := Function.update (W1 m d) o' (rows m d)
/-- with the bias reshaped: the message network's entry; -/
def W3 (d : Dev nD) : Valuation τ sig (Elt F) := (opB (F := F)).result (W2 m d)
abbrev V3 : (c : Dev nD) → (b : Ref sig .tc) → Buf (Elt F) ((c : Thread nD τ).loc b) := fun c b => W3 m c (Proc.devRef .tc b)
/-- its exit; -/
def W4 (d : Dev nD) : Valuation τ sig (Elt F) := Pipeline.withArrays spec1 d (W3 m d) fun w => (Mlp.dat1 (V3 m) d).arrAt w cfg1.N
/-- with the scale and the shift reshaped: the normalisation's entry; -/
def W5 (d : Dev nD) : Valuation τ sig (Elt F) := (opE (F := F)).result ((opG (F := F)).result (W4 m d))
abbrev V5 : (c : Dev nD) → (b : Ref sig .tc) → Buf (Elt F) ((c : Thread nD τ).loc b) := fun c b => W5 m c (Proc.devRef .tc b)
/-- its exit. -/
def W6 (d : Dev nD) : Valuation τ sig (Elt F) := Pipeline.withArrays spec2 d (W5 m d) fun w => (Fin.dat2 (V5 m) d).arrAt w cfg2.N

theorem W4_arr (d : Dev nD) (w : Fin cfg1.W) : W4 m d (Proc.devRef .tc (Pipeline.arrRef spec1 w)) = (Mlp.dat1 (V3 m) d).arrAt w cfg1.N := by
  unfold W4; exact Pipeline.withArrays_arr spec1 launch1.win.arr_inj d _ _ w
theorem W4_of_ne (d : Dev nD) (b : Ref sig .tc) (hb : ∀ w, Pipeline.arrRef spec1 w ≠ b) : W4 m d (Proc.devRef .tc b) = W3 m d (Proc.devRef .tc b) := by
  unfold W4; exact Pipeline.withArrays_of_ne spec1 d _ _ b hb
theorem W4_of (d : Dev nD) (r : Ref sig .tc) (h : ∀ w : Fin cfg1.W, Pipeline.arrRef spec1 w = r → (cfg1.win w).isOut = false) :
    W4 m d (Proc.devRef .tc r) = W3 m d (Proc.devRef .tc r) := by
  by_cases hw : ∃ w : Fin cfg1.W, Pipeline.arrRef spec1 w = r
  · obtain ⟨w, rfl⟩ := hw
    exact (W4_arr m d w).trans (((Mlp.dat1 (V3 m) d).arrAt_in w (h w rfl) _).trans (Mlp.A_eq1 (V3 m) d w))
  · exact W4_of_ne m d r fun w e => hw ⟨w, e⟩
theorem W6_arr (d : Dev nD) (w : Fin cfg2.W) : W6 m d (Proc.devRef .tc (Pipeline.arrRef spec2 w)) = (Fin.dat2 (V5 m) d).arrAt w cfg2.N := by
  unfold W6; exact Pipeline.withArrays_arr spec2 launch2.win.arr_inj d _ _ w
theorem W6_of_ne (d : Dev nD) (b : Ref sig .tc) (hb : ∀ w, Pipeline.arrRef spec2 w ≠ b) : W6 m d (Proc.devRef .tc b) = W5 m d (Proc.devRef .tc b) := by
  unfold W6; exact Pipeline.withArrays_of_ne spec2 d _ _ b hb
theorem W6_of (d : Dev nD) (r : Ref sig .tc) (h : ∀ w : Fin cfg2.W, Pipeline.arrRef spec2 w = r → (cfg2.win w).isOut = false) :
    W6 m d (Proc.devRef .tc r) = W5 m d (Proc.devRef .tc r) := by
  by_cases hw : ∃ w : Fin cfg2.W, Pipeline.arrRef spec2 w = r
  · obtain ⟨w, rfl⟩ := hw
    exact (W6_arr m d w).trans (((Fin.dat2 (V5 m) d).arrAt_in w (h w rfl) _).trans (Fin.A_eq2 (V5 m) d w))
  · exact W6_of_ne m d r fun w e => hw ⟨w, e⟩

/-- A reference no reshape and no gather writes keeps its launch contents up to the message network; -/
theorem W3_of (d : Dev nD) (r : Ref sig .tc) (h : r ≠ main_v0 ∧ r ≠ main_v1 ∧ r ≠ main_v2) : W3 m d (Proc.devRef .tc r) = m ((d : Thread nD τ).loc r) := by
  have ne : ∀ s : Ref sig .tc, r ≠ s → (Proc.devRef .tc r : DevRef τ sig) ≠ Proc.devRef .tc s := fun s hs e => hs (Proc.devRef_injective _ e)
  have h3 : W3 m d (Proc.devRef .tc r) = W2 m d (Proc.devRef .tc r) :=
    (opB (F := F)).result_of_not_mem (W2 m d) (fun hm => ne _ h.2.2 (Finset.mem_singleton.mp hm))
  have h2 : W2 m d (Proc.devRef .tc r) = W1 m d (Proc.devRef .tc r) := Function.update_of_ne (ne _ h.2.1) _ _
  have h1 : W1 m d (Proc.devRef .tc r) = W0 m d (Proc.devRef .tc r) :=
    (opI (F := F)).result_of_not_mem (W0 m d) (fun hm => ne _ h.1 (Finset.mem_singleton.mp hm))
  exact h3.trans (h2.trans h1)
/-- and past it if the reshapes between the regions leave it. -/
theorem W5_of (d : Dev nD) (r : Ref sig .tc) (h : r ≠ main_v4 ∧ r ≠ main_v5) : W5 m d (Proc.devRef .tc r) = W4 m d (Proc.devRef .tc r) := by
  have ne : ∀ s : Ref sig .tc, r ≠ s → (Proc.devRef .tc r : DevRef τ sig) ≠ Proc.devRef .tc s := fun s hs e => hs (Proc.devRef_injective _ e)
  have h5 : W5 m d (Proc.devRef .tc r) = (opG (F := F)).result (W4 m d) (Proc.devRef .tc r) :=
    (opE (F := F)).result_of_not_mem _ (fun hm => ne _ h.2 (Finset.mem_singleton.mp hm))
  have h4 : (opG (F := F)).result (W4 m d) (Proc.devRef .tc r) = W4 m d (Proc.devRef .tc r) :=
    (opG (F := F)).result_of_not_mem _ (fun hm => ne _ h.1 (Finset.mem_singleton.mp hm))
  exact h5.trans h4

abbrev argRefs : List (Ref sig .tc) := [main_arg0, main_arg1, main_arg2, main_arg3, main_arg4, main_arg5, main_arg6, main_arg7]
theorem args3 : ∀ a ∈ argRefs, a ≠ main_v0 ∧ a ≠ main_v1 ∧ a ≠ main_v2 := ListAll.forall_mem_of_all_decide (by decide +kernel)
theorem args4 : ∀ a ∈ argRefs, ∀ w : Fin cfg1.W, Pipeline.arrRef spec1 w = a → (cfg1.win w).isOut = false := ListAll.forall_mem_of_all_decide (by decide +kernel)
theorem args5 : ∀ a ∈ argRefs, a ≠ main_v4 ∧ a ≠ main_v5 := ListAll.forall_mem_of_all_decide (by decide +kernel)
theorem args6 : ∀ a ∈ argRefs, ∀ w : Fin cfg2.W, Pipeline.arrRef spec2 w = a → (cfg2.win w).isOut = false := ListAll.forall_mem_of_all_decide (by decide +kernel)
/-- The arguments end as launched. -/
theorem W6_args (d : Dev nD) (a : Ref sig .tc) (ha : a ∈ argRefs) : W6 m d (Proc.devRef .tc a) = m ((d : Thread nD τ).loc a) :=
  (W6_of m d a (args6 a ha)).trans ((W5_of m d a (args5 a ha)).trans ((W4_of m d a (args4 a ha)).trans (W3_of m d a (args3 a ha))))

/-! ## The two regions -/

/-- Each pipeline's data, at its region's entry contents. -/
def pdats : (p : Fin 2) → (c : Dev nD) → Dat τ (Elt F) (HIx 1) ℕ UU ℕ (Pipeline.pin (pcfgs (F := F)) adm p) c
  | ⟨0, _⟩ => fun c => Mlp.dat1 (V3 m) c
  | ⟨1, _⟩ => fun c => Fin.dat2 (V5 m) c

def reg0 : Pipeline.RegionSeg (pcfgs (F := F)) adm (pdats m) none defs₀ 𝒱₀ (K (F := F)).L (K (F := F)).lev 0 :=
  regOf (pdats m) 0 launch1 (fun c => (Mlp.body_obligation1 (V3 m) c).loose) (fun _ _ => rfl) (fun _ _ => rfl) (fun _ _ => rfl)
    (fun c => (pdats m 0 c).share_full fun _ => rfl) (W3 m) (W4 m) (fun c w => Mlp.A_eq1 (V3 m) c w) (fun c w => (W4_arr m c w).symm)
    (fun c b hb => W4_of_ne m c b fun w e => hb (Finset.mem_image.mpr ⟨w, Finset.mem_univ _, e⟩))
def reg1 : Pipeline.RegionSeg (pcfgs (F := F)) adm (pdats m) none defs₀ 𝒱₀ (K (F := F)).L (K (F := F)).lev 1 :=
  regOf (pdats m) 1 launch2 (fun c => (Fin.body_obligation2 (V5 m) c).loose) (fun _ _ => rfl) (fun _ _ => rfl) (fun _ _ => rfl)
    (fun c => (pdats m 1 c).share_full fun _ => rfl) (W5 m) (W6 m) (fun c w => Fin.A_eq2 (V5 m) c w) (fun c w => (W6_arr m c w).symm)
    (fun c b hb => W6_of_ne m c b fun w e => hb (Finset.mem_image.mpr ⟨w, Finset.mem_univ _, e⟩))

theorem reg0_pre (d : Dev nD) : (reg0 m).pre d = iprop(held (d : Thread nD τ) UC (W3 m d) ∗ ride (F := F) d) := rfl
theorem reg0_post (d : Dev nD) : (reg0 m).post d = iprop(held (d : Thread nD τ) UC (W4 m d) ∗ ride (F := F) d) := rfl
theorem reg1_pre (d : Dev nD) : (reg1 m).pre d = iprop(held (d : Thread nD τ) UC (W5 m d) ∗ ride (F := F) d) := rfl
theorem reg1_post (d : Dev nD) : (reg1 m).post d = iprop(held (d : Thread nD τ) UC (W6 m d) ∗ ride (F := F) d) := rfl

/-! ## The gather's arrays, out of all and back -/

theorem mem_uc (b : Ref sig .tc) (h : ¬ (Proc.devRef .tc b : DevRef τ sig).isScoped) : Proc.devRef .tc b ∈ UC :=
  Finset.mem_filter.mpr ⟨StableHlo.devRef_mem_tcRefs b, h⟩
theorem args_uc : ∀ a ∈ argRefs, ¬ (Proc.devRef .tc a : DevRef τ sig).isScoped := ListAll.forall_mem_of_all_decide (by decide +kernel)
theorem tio_sub : ({t', i', o'} : Finset (DevRef τ sig)) ⊆ UC := by
  intro b hb
  simp only [Finset.mem_insert, Finset.mem_singleton] at hb
  rcases hb with rfl | rfl | rfl
  · exact mem_uc main_arg0 (by decide)
  · exact mem_uc main_v0 (by decide)
  · exact mem_uc main_v1 (by decide)

omit [FloatOps F] in
theorem held_tio (d : Dev nD) (W : Valuation τ sig (Elt F)) :
    (held (T d) UC W : sProp 𝕄) = iprop(((tLoc d ↦{fullShare} W t') ∗ (iLoc d ↦{fullShare} W i') ∗ oLoc d ↦{fullShare} W o') ∗ held (T d) (UC \ {t', i', o'}) W) := by
  rw [StableHlo.held_sub_split (T d) tio_sub W]
  refine congrArg (fun X => iprop(X ∗ held (T d) (UC \ {t', i', o'}) W)) ?_
  unfold held
  rw [SparseCore.bigSep_insert' (by decide), SparseCore.bigSep_insert' (by decide), bigSep_singleton]

theorem W1_t (d : Dev nD) : W1 m d t' = m (tLoc d) :=
  (opI (F := F)).result_of_not_mem (W0 m d) (b := t') (show t' ∉ ({i'} : Finset (DevRef τ sig)) by decide)
theorem W1_i (d : Dev nD) : W1 m d i' = list m d := StableHlo.reshape_result _ _ _ _ _ _ _
theorem W1_o (d : Dev nD) : W1 m d o' = m (oLoc d) :=
  (opI (F := F)).result_of_not_mem (W0 m d) (b := o') (show o' ∉ ({i'} : Finset (DevRef τ sig)) by decide)
theorem held_W1 (d : Dev nD) :
    (held (T d) UC (W1 m d) : sProp 𝕄) = iprop(((tLoc d ↦{fullShare} m (tLoc d)) ∗ (iLoc d ↦{fullShare} list m d) ∗ oLoc d ↦{fullShare} m (oLoc d))
      ∗ held (T d) (UC \ {t', i', o'}) (W1 m d)) := by
  rw [held_tio, W1_t, W1_i, W1_o]
theorem held_W2 (d : Dev nD) :
    (held (T d) UC (W2 m d) : sProp 𝕄) = iprop(((tLoc d ↦{fullShare} m (tLoc d)) ∗ (iLoc d ↦{fullShare} list m d) ∗ oLoc d ↦{fullShare} rows m d)
      ∗ held (T d) (UC \ {t', i', o'}) (W1 m d)) := by
  rw [held_tio, show W2 m d t' = m (tLoc d) from (Function.update_of_ne (by decide) _ _).trans (W1_t m d),
    show W2 m d i' = list m d from (Function.update_of_ne (by decide) _ _).trans (W1_i m d), show W2 m d o' = rows m d from Function.update_self _ _ _]
  refine congrArg (fun X => iprop(((tLoc d ↦{fullShare} m (tLoc d)) ∗ (iLoc d ↦{fullShare} list m d) ∗ oLoc d ↦{fullShare} rows m d) ∗ X)) ?_
  refine StableHlo.held_congr (T d) fun b hb => Function.update_of_ne ?_ _ _
  rintro rfl
  exact (Finset.mem_sdiff.mp hb).2 (by simp)

/-! ## @main on the TensorCore -/

theorem sub_uc (op : HloOp τ sig (Elt F)) (h : op.bufs ⊆ StableHlo.tcRefs τ sig) : op.bufs ⊆ UC := Pipeline.sub_ucRefs op h

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ held (T d) UC (W6 m d) ∗ (K (F := F)).tcEnd d) := by
  unfold SparseCore.Cfg.tcRes SparseCore.Cfg.tcEnd
  rw [show (unscopedBufs d fun b => m ((SparseCore.T d).loc b) : sProp 𝕄) = held (T d) UC (W0 m d) from Pipeline.unscopedBufs_held d (W0 m d), G_eq]
  simp only [main, wp_bind, wp_pure]
  iintro ⟨#Hctx, Hst, ⟨Hb, Hh, Hts, Hp⟩, ⟨Hg0, Hg1⟩, Ht0, Ht1⟩
  ihave #Hlev := ((K (F := F)).ctx_levAts (EH := EH) (P := P m) κ) $$ Hctx
  iapply (wp_hlo_within 𝒱 (SparseCore.T d) none Set.univ (op := opI) (S := UC) (V := W0 m d) (sub_uc _ (StableHlo.reshape_bufs_sub ..))) $$ [Hb Hh]
  · isplitl [Hb] <;> iassumption
  iintro ⟨Hb, Hh⟩
  ihave Hh := (Entails.of_eq (show (held (T d) UC ((opI (F := F)).result (W0 m d)) : sProp 𝕄) = _ from held_W1 m d)) $$ Hh
  icases Hh with ⟨⟨Ht, Hi, Ho⟩, Hr⟩
  rw [wp_ret]; imodintro
  iapply ((K (F := F)).wp_run (D (F := F)) 𝒱 (EH := EH) (P := P m) κ d 0)
  isplitr; · iexact Hctx
  isplitl [Hst]; · iexact Hst
  isplitl [Ht Hi Ho]
  · rw [st_eq]
    isplitl [Ht]; · iexact Ht
    isplitl [Hi] <;> iassumption
  iintro ⟨Hst, Hdn⟩
  ihave Hdn := (Entails.of_eq (dn_eq m d)) $$ Hdn
  ihave Hh := (Entails.of_eq (held_W2 m d).symm) $$ [Hdn Hr]
  · isplitl [Hdn] <;> iassumption
  iapply (wp_hlo_within 𝒱 (SparseCore.T d) none Set.univ (op := opB) (S := UC) (V := W2 m d) (sub_uc _ (StableHlo.reshape_bufs_sub ..))) $$ [Hb Hh]
  · isplitl [Hb] <;> iassumption
  iintro ⟨Hb, Hh⟩
  rw [wp_ret]; imodintro
  unfold SparseCore.Cfg.tcSt
  rw [(K (F := F)).Otc_end (N := 1) d (n := (0 : Fin 1).val + 1) (by decide)]
  icases Hst with ⟨⟨%W, %hW, HO⟩, Hst⟩
  have h8 : (↑W : Set (SemLoc sig × HIx 1)) ⊆ rec8 (F := F) d := fun p hp => hW p hp
  iapply (wp_region (pdats m) 0 (reg0 m) d)
  isplitl [Hb]; · iexact Hb
  rw [reg0_pre, reg0_post]
  isplitl [Hh Hp HO]
  · isplitl [Hh]; · iexact Hh
    isplitl [Hp]; · iexists _; iexact Hp
    iexists W; isplitr; · ipureintro; exact h8
    iexact HO
  isplitr; · iexact Hlev
  isplitl [Hg0]; · iexact Hg0
  isplitl [Ht0]; · iexact Ht0
  iintro ⟨Hb, Hh, Hride⟩
  iapply (wp_hlo_within 𝒱 (SparseCore.T d) none Set.univ (op := opG) (S := UC) (V := W4 m d) (sub_uc _ (StableHlo.reshape_bufs_sub ..))) $$ [Hb Hh]
  · isplitl [Hb] <;> iassumption
  iintro ⟨Hb, Hh⟩
  rw [wp_ret]; imodintro
  iapply (wp_hlo_within 𝒱 (SparseCore.T d) none Set.univ (op := opE) (S := UC) (V := (opG (F := F)).result (W4 m d)) (sub_uc _ (StableHlo.reshape_bufs_sub ..))) $$ [Hb Hh]
  · isplitl [Hb] <;> iassumption
  iintro ⟨Hb, Hh⟩
  rw [wp_ret]; imodintro
  iapply (wp_region (pdats m) 1 (reg1 m) d)
  isplitl [Hb]; · iexact Hb
  rw [reg1_pre, reg1_post]
  isplitl [Hh Hride]
  · isplitl [Hh]; · iexact Hh
    iexact Hride
  isplitr; · iexact Hlev
  isplitl [Hg1]; · iexact Hg1
  isplitl [Ht1]; · iexact Ht1
  iintro ⟨Hb, Hh, ⟨Hp, %W', %hW', HO⟩⟩
  imodintro
  isplitl [Hst HO]
  · isplitl [HO]
    · iexists W'; isplitr; · ipureintro; exact fun p hp => hW' hp
      rw [(K (F := F)).Otc_end (N := 1) d (n := 1) (by decide)]
      iexact HO
    iexact Hst
  isplitl [Hh]; · iexact Hh
  isplitl [Hb] <;> iassumption

/-! ## The run -/

def fq (d : Dev nD) (s' : Phys nD τ sig (Elt F)) : Prop := ∀ b ∈ UC, s'.mem.mem (d, b) = W6 m d b

theorem hfin (d : Dev nD) (s' : Phys nD τ sig (Elt F)) : iprop(held (T d) UC (W6 m d) ∗ SI s') ⊢ (⌜fq m d s'⌝ : sProp 𝕄) := by
  unfold held
  exact (pointsTo_read_all (Ix := HIx 1) (Name := ℕ) (U := UU) (Lvl := ℕ) UC (fun b => (d, b)) (W6 m d) s').trans sep_elim_left

/-- The run: every argument as it was, the result at the last region's exit contents, every counter at zero. -/
def QC : PUnit × MemSt nD τ sig (Elt F) → Prop := fun r =>
  (∀ d : Dev nD, (∀ a ∈ argRefs, r.2.mem ((d : Thread nD τ).loc a) = m ((d : Thread nD τ).loc a))
    ∧ r.2.mem ((d : Thread nD τ).loc main_v6) = W6 m d (Proc.devRef .tc main_v6)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => G (F := F) d) (fun d => held (T d) UC (W6 m d)) (u₀ (F := F)) (sep_elim_left.trans (hu₀ m)) (hmain m ρ) (fq m) (hfin m) (QC m)
    (fun s h hz => ⟨fun d => ⟨fun a ha => (h d _ (mem_uc a (args_uc a ha))).trans (W6_args m d a ha), h d _ (mem_uc main_v6 (by decide))⟩, hz⟩)

end Cert.Proof.Run

end
-- ==== Proof.Net.lean ====
/-
  The mathematics of the claim, over the extended reals. A node's feature is the greatest, over the node's edges, of the
  normalised messages. The kernel takes the greatest message first and normalises it afterwards, with the variance as
  the mean of the squares less the square of the mean; the reference normalises every message, with the variance as the
  mean of the squared distances from the mean. Where every message is a real number, every edge's weight 0 or 1, every
  node has an edge of weight 1, and the scale is not negative, the two are equal.
-/
module

public import Idealize.ShloMosaic.Lib.Pointwise

@[expose] public section

noncomputable section

namespace Cert.Proof.Net

open Idealize.ShloMosaic

/-! ## The functions -/

abbrev slope : EReal := Ideal.ofBits .f32 0x3C23D70A#32
abbrev eps : EReal := Ideal.ofBits .f32 0x3727C5AC#32

/-- The leaky rectifier. -/
def lk (x : EReal) : EReal := if 0 ≤ x then x else slope * x

/-- One feature of an edge's message, from the sending row `e`, the receiving row `b` and the second layer. -/
def msg (e b : Fin 128 → EReal) (W : Fin 128 → Fin 128 → EReal) (c : Fin 128 → EReal) (o : Fin 128) : EReal :=
  lk ((∑ j, lk (e j - b j) * W j o) + c o)

variable {ι κ : Type} [Fintype ι] [Fintype κ]

/-- The greatest message of the edges of positive weight. -/
def top (h v : κ → EReal) : EReal := Finset.fold max ⊥ (fun k => if 0 < v k then h k else ⊥) Finset.univ

def sum1 (h v : ι → κ → EReal) : EReal := ∑ r, ∑ k, h r k * v r k
def sum2 (h v : ι → κ → EReal) : EReal := ∑ r, ∑ k, h r k * v r k * h r k
def cnt (v : ι → κ → EReal) : EReal := max (∑ r, ∑ k, v r k) 1

/-- The kernel's normalisation of `M`, from the two sums and the count. -/
def scale (M S S2 c g b : EReal) : EReal :=
  (M - Ideal.div S c) * (Ideal.rsqrt (max (Ideal.div S2 c - Ideal.div S c * Ideal.div S c) 0 + eps) * g) + b

def mean (h v : ι → κ → EReal) : EReal := Ideal.div (sum1 h v) (cnt v)

/-- The reference's variance. -/
def var (h v : ι → κ → EReal) : EReal :=
  Ideal.div (∑ r, ∑ k, (h r k - mean h v) * (h r k - mean h v) * v r k) (cnt v)

/-- The reference's greatest normalised message of node `r`. -/
def best (h v : ι → κ → EReal) (g b : EReal) (r : ι) : EReal :=
  top (fun k => Ideal.div (h r k - mean h v) (Ideal.sqrt (var h v + eps)) * g + b) (v r)

/-! ## Real numbers among the extended -/

/-- An extended real that is a real number. -/
def Real' (x : EReal) : Prop := ∃ y : ℝ, x = (y : EReal)

theorem Real'.add {x y : EReal} (hx : Real' x) (hy : Real' y) : Real' (x + y) := by
  obtain ⟨a, rfl⟩ := hx; obtain ⟨b, rfl⟩ := hy; exact ⟨a + b, (EReal.coe_add a b).symm⟩

theorem Real'.sub {x y : EReal} (hx : Real' x) (hy : Real' y) : Real' (x - y) := by
  obtain ⟨a, rfl⟩ := hx; obtain ⟨b, rfl⟩ := hy; exact ⟨a - b, (EReal.coe_sub a b).symm⟩

theorem Real'.mul {x y : EReal} (hx : Real' x) (hy : Real' y) : Real' (x * y) := by
  obtain ⟨a, rfl⟩ := hx; obtain ⟨b, rfl⟩ := hy; exact ⟨a * b, (EReal.coe_mul a b).symm⟩

theorem coe_sum {α : Type} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Real'.sum {α : Type} [Fintype α] {f : α → EReal} (hf : ∀ i, Real' (f i)) : Real' (∑ i, f i) := by
  choose g hg using hf
  exact ⟨∑ i, g i, by rw [coe_sum]; exact Finset.sum_congr rfl fun i _ => hg i⟩

theorem slope_real : Real' slope := by
  refine ⟨10737418 / 1073741824, ?_⟩
  simp [slope, Ideal.ofBits, Ideal.ieee, -EReal.coe_mul]; norm_num

theorem eps_pos : ∃ e : ℝ, 0 < e ∧ eps = (e : EReal) := by
  refine ⟨10995116 / 1099511627776, by norm_num, ?_⟩
  simp [eps, Ideal.ofBits, Ideal.ieee, -EReal.coe_mul]; norm_num

theorem Real'.lk {x : EReal} (hx : Real' x) : Real' (lk x) := by
  unfold Net.lk; split
  · exact hx
  · exact slope_real.mul hx

theorem msg_real {e b : Fin 128 → EReal} {W : Fin 128 → Fin 128 → EReal} {c : Fin 128 → EReal} (he : ∀ j, Real' (e j)) (hb : ∀ j, Real' (b j))
    (hW : ∀ i j, Real' (W i j)) (hc : ∀ j, Real' (c j)) (o : Fin 128) : Real' (msg e b W c o) :=
  ((Real'.sum fun j => ((he j).sub (hb j)).lk.mul (hW j o)).add (hc o)).lk

/-- A value whose magnitude is less than infinity is a real number. -/
theorem real_of_abs {x : EReal} (h : max x (-x) < ⊤) : Real' x := by
  induction x with
  | bot => simp at h
  | top => simp at h
  | coe r => exact ⟨r, rfl⟩

theorem abs_of_real {x : EReal} (h : Real' x) : max x (-x) < ⊤ := by
  obtain ⟨a, rfl⟩ := h
  rw [← EReal.coe_neg]
  exact max_lt (EReal.coe_lt_top _) (EReal.coe_lt_top _)

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem sqrt_coe (a : ℝ) (ha : 0 < a) : Ideal.sqrt (a : EReal) = ((Real.sqrt a : ℝ) : EReal) :=
  if_neg (not_lt.mpr ha.le)

theorem rsqrt_coe (a : ℝ) (ha : 0 < a) : Ideal.rsqrt (a : EReal) = (((Real.sqrt a)⁻¹ : ℝ) : EReal) :=
  (if_neg (not_lt.mpr ha.le)).trans (if_neg ha.ne')

theorem max_coe (a b : ℝ) : max (a : EReal) (b : EReal) = ((max a b : ℝ) : EReal) :=
  (EReal.coe_strictMono.monotone.map_max).symm

/-! ## The greatest message -/

/-- The greatest, of values real on the edges of positive weight, is the one at an edge that bounds the others. -/
theorem top_eq (v : κ → EReal) (f : κ → ℝ) (k₀ : κ) (h0 : 0 < v k₀) (hle : ∀ k, 0 < v k → f k ≤ f k₀) :
    top (fun k => (f k : EReal)) v = (f k₀ : EReal) := by
  unfold top
  refine le_antisymm ?_ ?_
  · rw [Finset.fold_max_le]
    refine ⟨bot_le, fun k _ => ?_⟩
    split
    · exact EReal.coe_le_coe_iff.mpr (hle k ‹_›)
    · exact bot_le
  · rw [Finset.le_fold_max]
    exact Or.inr ⟨k₀, Finset.mem_univ _, by rw [if_pos h0]⟩

/-! ## The variance -/

/-- The mean squared distance from the mean is the mean square less the squared mean, when the weights sum to the count. -/
theorem var_eq (H v : ι → κ → ℝ) (c : ℝ) (hc : c ≠ 0) (hv : ∑ r, ∑ k, v r k = c) :
    (∑ r, ∑ k, (H r k - (∑ r, ∑ k, H r k * v r k) / c) * (H r k - (∑ r, ∑ k, H r k * v r k) / c) * v r k) / c
      = (∑ r, ∑ k, H r k * v r k * H r k) / c - (∑ r, ∑ k, H r k * v r k) / c * ((∑ r, ∑ k, H r k * v r k) / c) := by
  set S := ∑ r, ∑ k, H r k * v r k with hS
  have e : ∀ r k, (H r k - S / c) * (H r k - S / c) * v r k
      = H r k * v r k * H r k - 2 * (S / c) * (H r k * v r k) + (S / c) * (S / c) * v r k := fun r k => by ring
  simp only [e, Finset.sum_add_distrib, Finset.sum_sub_distrib, ← Finset.mul_sum]
  rw [hv, ← hS]
  field_simp
  ring

/-! ## The two normalisations -/

theorem scale_eq_best (h v : ι → κ → EReal) (g b : EReal) (r : ι) (hh : ∀ r k, Real' (h r k)) (hv : ∀ r k, v r k = 0 ∨ v r k = 1)
    (hone : ∀ r, ∃ k, v r k = 1) (hg : Real' g) (hg0 : 0 ≤ g) (hb : Real' b) :
    scale (top (h r) (v r)) (sum1 h v) (sum2 h v) (cnt v) g b
      = if max (best h v g b r) (-best h v g b r) < ⊤ then best h v g b r else 0 := by
  classical
  choose H hH using hh
  have hvr : ∀ r k, ∃ y : ℝ, v r k = (y : EReal) ∧ 0 ≤ y := fun r k => by
    rcases hv r k with e | e
    · exact ⟨0, by rw [e]; rfl, le_rfl⟩
    · exact ⟨1, by rw [e]; rfl, zero_le_one⟩
  choose w hw hw0 using hvr
  obtain ⟨γ, rfl⟩ := hg
  obtain ⟨β, rfl⟩ := hb
  have hγ : 0 ≤ γ := by exact_mod_cast hg0
  obtain ⟨e, he0, he⟩ := eps_pos
  obtain rfl : h = fun r k => (H r k : EReal) := funext fun r => funext fun k => hH r k
  -- the count
  have hcount : (1 : ℝ) ≤ ∑ r, ∑ k, w r k := by
    obtain ⟨k, hk⟩ := hone r
    have h1 : w r k = 1 := by have := hw r k; rw [hk] at this; exact_mod_cast this.symm
    calc (1 : ℝ) = w r k := h1.symm
      _ ≤ ∑ k, w r k := Finset.single_le_sum (fun k _ => hw0 r k) (Finset.mem_univ k)
      _ ≤ ∑ r, ∑ k, w r k := Finset.single_le_sum (f := fun r => ∑ k, w r k) (fun r _ => Finset.sum_nonneg fun k _ => hw0 r k) (Finset.mem_univ r)
  set c : ℝ := ∑ r, ∑ k, w r k with hc
  have hc0 : c ≠ 0 := by linarith
  have ecnt : cnt v = (c : EReal) := by
    unfold cnt
    simp only [hw, ← coe_sum]
    rw [← EReal.coe_one, max_coe, max_eq_left hcount]
  set S : ℝ := ∑ r, ∑ k, H r k * w r k with hS
  have e1 : sum1 (fun r k => (H r k : EReal)) v = (S : EReal) := by
    unfold sum1
    simp only [hw, ← EReal.coe_mul, ← coe_sum]
    rfl
  have e2 : sum2 (fun r k => (H r k : EReal)) v = ((∑ r, ∑ k, H r k * w r k * H r k : ℝ) : EReal) := by
    unfold sum2
    simp only [hw, ← EReal.coe_mul, ← coe_sum]
  have emean : mean (fun r k => (H r k : EReal)) v = ((S / c : ℝ) : EReal) := by
    unfold mean; rw [e1, ecnt, div_coe _ _ hc0]
  set V : ℝ := (∑ r, ∑ k, (H r k - S / c) * (H r k - S / c) * w r k) / c with hV
  have evar : var (fun r k => (H r k : EReal)) v = (V : EReal) := by
    unfold var
    simp only [emean, hw, ← EReal.coe_sub, ← EReal.coe_mul, ← coe_sum, ecnt]
    rw [div_coe _ _ hc0]
  have hV0 : 0 ≤ V := by
    refine div_nonneg (Finset.sum_nonneg fun r _ => Finset.sum_nonneg fun k _ => mul_nonneg (mul_self_nonneg _) (hw0 r k)) (by linarith)
  have hVe : 0 < V + e := by linarith
  have hs : 0 < Real.sqrt (V + e) := Real.sqrt_pos.mpr hVe
  -- the edge with the greatest message
  have hne : (Finset.univ.filter fun k => 0 < v r k).Nonempty := by
    obtain ⟨k, hk⟩ := hone r
    exact ⟨k, by simp [hk]⟩
  obtain ⟨k₀, hk₀, hmax⟩ := Finset.exists_max_image _ (H r) hne
  have h0 : 0 < v r k₀ := (Finset.mem_filter.mp hk₀).2
  have hle : ∀ k, 0 < v r k → H r k ≤ H r k₀ := fun k hk => hmax k (Finset.mem_filter.mpr ⟨Finset.mem_univ k, hk⟩)
  have etop : top (fun k => (H r k : EReal)) (v r) = (H r k₀ : EReal) := top_eq (v r) (H r) k₀ h0 hle
  have ebest : best (fun r k => (H r k : EReal)) v (γ : EReal) (β : EReal) r
      = (((H r k₀ - S / c) / Real.sqrt (V + e) * γ + β : ℝ) : EReal) := by
    unfold best
    simp only [emean, evar, he, ← EReal.coe_add, sqrt_coe _ hVe, ← EReal.coe_sub, div_coe _ _ hs.ne', ← EReal.coe_mul]
    refine top_eq (v r) (fun k => (H r k - S / c) / Real.sqrt (V + e) * γ + β) k₀ h0 fun k hk => ?_
    have := hle k hk
    gcongr
  rw [ebest, if_pos (abs_of_real ⟨_, rfl⟩)]
  unfold scale
  have eV : (∑ r, ∑ k, H r k * w r k * H r k) / c - S / c * (S / c) = V := (var_eq H w c hc0 rfl).symm
  rw [etop, e1, e2, ecnt, div_coe _ _ hc0, div_coe _ _ hc0, ← EReal.coe_mul (S / c), ← EReal.coe_sub _ (S / c * (S / c)), eV,
    ← EReal.coe_zero, max_coe, max_eq_left hV0, he, ← EReal.coe_add, rsqrt_coe _ hVe, ← EReal.coe_mul, ← EReal.coe_sub,
    ← EReal.coe_mul, ← EReal.coe_add]
  refine congrArg _ ?_
  rw [div_eq_mul_inv]
  ring

end Cert.Proof.Net

end
-- ==== Proof.Pay.lean ====
/-
  What the TensorCore regions' bodies compute, element by element, as sums and maxima over extended reals.
-/
module

public import proofs.«01_k».proof.Proof.Gen.KernelIdeal.Skeleton
public import proofs.«01_k».proof.Proof.Net

@[expose] public section

noncomputable section

namespace Cert.Proof.Pay

open Cert.KernelIdeal Cert.KernelIdeal.Gen Cert.Proof.Net
open Idealize.ShloMosaic

/-! ## A sum over the first two of three axes -/

/-- The indices that differ from `o` on the first two axes only. -/
theorem fiber_first_two {n0 n1 n2 : ℕ} {drop : (⟨3, ![n0, n1, n2]⟩ : Shape).Idx → (⟨1, ![n2]⟩ : Shape).Idx} (hd : ∀ i, (drop i 0).val = (i 2).val)
    (o : Fin n2) (i : (⟨3, ![n0, n1, n2]⟩ : Shape).Idx) : drop i = ix1 o ↔ ∃ k : Fin n0 × Fin n1, ix3 k.1 k.2 o = i := by
  constructor
  · intro e
    refine ⟨(i 0, i 1), ?_⟩
    rw [eq_ix3 i]
    have h2 : o = i 2 := Fin.ext (by rw [← hd i, e]; rfl)
    rw [h2]; rfl
  · rintro ⟨k, rfl⟩
    rw [eq_ix1 (drop _)]
    exact congrArg ix1 (Fin.ext (hd _))

theorem sum_first_two {n0 n1 n2 : ℕ} {drop : (⟨3, ![n0, n1, n2]⟩ : Shape).Idx → (⟨1, ![n2]⟩ : Shape).Idx} (hd : ∀ i, (drop i 0).val = (i 2).val)
    (o : Fin n2) (x : (⟨3, ![n0, n1, n2]⟩ : Shape).Idx → EReal) :
    ∑ i ∈ Finset.univ.filter (fun i => drop i = ix1 o), x i = ∑ p : Fin n0, ∑ k : Fin n1, x (ix3 p k o) := by
  refine (Finset.sum_filter_eq_sum_of_fiber _ (fun k : Fin n0 × Fin n1 => ix3 k.1 k.2 o)
    (fun _ _ e => Prod.ext (congrFun e 0) (congrFun e 1)) (fiber_first_two hd o) x).trans ?_
  simp only [Fintype.sum_prod_type]

/-! ## The message network's body -/

/-- The edge's position in a block of 512 nodes' edges. -/
abbrev at_ (p : Fin 512) (k : Fin 32) : Fin 16384 := ⟨p.val * 32 + k.val, by omega⟩

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

theorem pay7 (x0 : Vec Ideal S16384x128 .f32) (x1 : Vec Ideal S512x128 .f32) (x3 : Vec Ideal S128x128 .f32) (x4 : Vec Ideal S1x128 .f32)
    (p : Fin 512) (k : Fin 32) (o : Fin 128) : k1_pay7 x0 x1 x3 x4 (ix3 p k o)
      = msg (fun j => x0 (ix2 (at_ p k) j)) (fun j => x1 (ix2 p j)) (fun i j => x3 (ix2 i j)) (fun j => x4 (ix2 0 j)) o := by
  pointwise [k1_pay7]
  rfl

theorem pay9 (x0 : Vec Ideal S16384x128 .f32) (x1 : Vec Ideal S512x128 .f32) (x2 : Vec Ideal S512x32 .f32) (x3 : Vec Ideal S128x128 .f32) (x4 : Vec Ideal S1x128 .f32)
    (p : Fin 512) (o : Fin 128) : k1_pay9 x0 x1 x2 x3 x4 (ix2 p o)
      = top (fun k => k1_pay7 x0 x1 x3 x4 (ix3 p k o)) (fun k => x2 (ix2 p k)) := by
  pointwise [k1_pay9, k1_pay8]
  rw [neg_inf]; rfl

theorem pay10 (x0 : Vec Ideal S16384x128 .f32) (x1 : Vec Ideal S512x128 .f32) (x2 : Vec Ideal S512x32 .f32) (x3 : Vec Ideal S128x128 .f32) (x4 : Vec Ideal S1x128 .f32)
    (p : Fin 512) (k : Fin 32) (o : Fin 128) : k1_pay10 x0 x1 x2 x3 x4 (ix3 p k o) = k1_pay7 x0 x1 x3 x4 (ix3 p k o) * x2 (ix2 p k) := by
  pointwise [k1_pay10, k1_pay8]

theorem red (x : FVec Ideal S512x32x128 .f32) (o : Fin 128) :
    Ideal.reduceAdd reduces_S512x32x128_S128 x (ix1 o) = ∑ p : Fin 512, ∑ k : Fin 32, x (ix3 p k o) :=
  sum_first_two (drop := reduces_S512x32x128_S128.drop) (fun _ => rfl) o x

theorem pay1 (o : Fin 128) : k1_pay1 (F := Ideal) (ix2 0 o) = 0 := by pointwise [k1_pay1]
theorem pay2 (o : Fin 128) : k1_pay2 (F := Ideal) (ix2 0 o) = 0 := by pointwise [k1_pay2]
theorem pay3 (o : Fin 128) : k1_pay3 (F := Ideal) (ix2 0 o) = 0 := by pointwise [k1_pay3]

theorem pay4 (x : FVec Ideal S512x32x128 .f32) (y : Vec Ideal S1x128 .f32) (o : Fin 128) :
    k1_pay4 x y (ix2 0 o) = y (ix2 0 o) + ∑ p : Fin 512, ∑ k : Fin 32, x (ix3 p k o) := by
  pointwise [k1_pay4]
  rw [red]

theorem pay5 (x x' : FVec Ideal S512x32x128 .f32) (y : Vec Ideal S1x128 .f32) (o : Fin 128) :
    k1_pay5 x x' y (ix2 0 o) = y (ix2 0 o) + ∑ p : Fin 512, ∑ k : Fin 32, x' (ix3 p k o) * x (ix3 p k o) := by
  pointwise [k1_pay5]
  rw [red]
  rfl

theorem pay6 (x : Vec Ideal S512x32 .f32) (y : Vec Ideal S1x128 .f32) (o : Fin 128) :
    k1_pay6 x y (ix2 0 o) = y (ix2 0 o) + ∑ p : Fin 512, ∑ k : Fin 32, x (ix2 p k) := by
  pointwise [k1_pay6]

/-! ## The normalisation's body -/

theorem fin (v0 : Vec Ideal S1x1 .f32) (v3 v7 v18 : Vec Ideal S1x128 .f32) (v21 : Vec Ideal S2048x128 .f32) (v27 : Vec Ideal S1x128 .f32) (p : Fin 2048)
    (o : Fin 128) : k2_pay1 v0 v3 v7 v18 v21 v27 (ix2 p o)
      = scale (v21 (ix2 p o)) (v3 (ix2 0 o)) (v7 (ix2 0 o)) (max (v0 (ix2 0 0)) 1) (v18 (ix2 0 o)) (v27 (ix2 0 o)) := by
  pointwise [k2_pay1]
  rfl

end Cert.Proof.Pay

end
-- ==== Proof.Vals.lean ====
/-
  What the two regions of the TensorCore leave in their arrays, read at extended reals: every node's greatest message, the
  sum of the messages and of their squares, the number of edges, and last the scaled maxima.
-/
module

public import proofs.«01_k».proof.Proof.Mlp
public import proofs.«01_k».proof.Proof.Fin
public import proofs.«01_k».proof.Proof.Pay
public import Idealize.ShloMosaic.Lib.Pipeline.ValueKit

@[expose] public section

noncomputable section

namespace Cert.Proof.Vals

open Cert.KernelIdeal Cert.KernelIdeal.Gen Cert.Proof.Net Cert.Proof.Base
open Idealize.ShloMosaic Idealize.ShloMosaic.TcCoe
open Idealize.ShloMosaic.Pipeline (Dat)
open Cert.Proof.Mlp (iblk1 maxAt step1 sumsAt dat1)
open Cert.Proof.Fin (iblk2 dat2 out2_6)

variable (V : (c : Dev nD) → (b : Ref sig .tc) → Buf (Elt Ideal) ((c : Thread nD τ).loc b))

/-! ## Where the blocks sit -/

theorem index1_0 : ∀ t : Fin cfg1.N, win1_0.index t = ![t.val, 0] := (by decide +kernel : ∀ t : Fin grid1.N, win1_0.index t = ![t.val, 0])
theorem index1_1 : ∀ t : Fin cfg1.N, win1_1.index t = ![t.val, 0] := (by decide +kernel : ∀ t : Fin grid1.N, win1_1.index t = ![t.val, 0])
theorem index1_2 : ∀ t : Fin cfg1.N, win1_2.index t = ![t.val, 0] := (by decide +kernel : ∀ t : Fin grid1.N, win1_2.index t = ![t.val, 0])
theorem index1_3 : ∀ t : Fin cfg1.N, win1_3.index t = ![0, 0] := (by decide +kernel : ∀ t : Fin grid1.N, win1_3.index t = ![0, 0])
theorem index1_4 : ∀ t : Fin cfg1.N, win1_4.index t = ![0, 0] := (by decide +kernel : ∀ t : Fin grid1.N, win1_4.index t = ![0, 0])
theorem index1_5 : ∀ t : Fin cfg1.N, win1_5.index t = ![t.val, 0] := (by decide +kernel : ∀ t : Fin grid1.N, win1_5.index t = ![t.val, 0])

theorem lt32 (t : Fin cfg1.N) : t.val < 32 := lt_of_lt_of_eq t.isLt N_1

/-- The edge's row in the whole list. -/
abbrev edge (r : Fin 16384) (k : Fin 32) : Fin 524288 := ⟨r.val * 32 + k.val, by omega⟩
/-- The node that row `p` of block `t` is. -/
abbrev node (t : Fin cfg1.N) (p : Fin 512) : Fin 16384 := ⟨t.val * 512 + p.val, by have := lt32 t; omega⟩

theorem blk0 (c : Dev nD) (t : Fin cfg1.N) (p : Fin 512) (k : Fin 32) (j : Fin 128) :
    iblk1 V c 0 t (ix2 (Pay.at_ p k) j) = V c main_v1 (ix2 (edge (node t p) k) j) := by
  blk_simp [iblk1]
  refine congrArg (V c main_v1) ?_
  blk_ext [index1_0 t]
theorem blk1 (c : Dev nD) (t : Fin cfg1.N) (p : Fin 512) (j : Fin 128) :
    iblk1 V c 1 t (ix2 p j) = V c main_arg2 (ix2 (node t p) j) := by
  blk_simp [iblk1]
  refine congrArg (V c main_arg2) ?_
  blk_ext [index1_1 t]
theorem blk2 (c : Dev nD) (t : Fin cfg1.N) (p : Fin 512) (k : Fin 32) :
    iblk1 V c 2 t (ix2 p k) = V c main_arg3 (ix2 (node t p) k) := by
  blk_simp [iblk1]
  refine congrArg (V c main_arg3) ?_
  blk_ext [index1_2 t]
theorem blk3 (c : Dev nD) (t : Fin cfg1.N) (i j : Fin 128) :
    iblk1 V c 3 t (ix2 i j) = V c main_arg4 (ix2 i j) := by
  blk_simp [iblk1]
  refine congrArg (V c main_arg4) ?_
  blk_ext [index1_3 t]
theorem blk4 (c : Dev nD) (t : Fin cfg1.N) (j : Fin 128) :
    iblk1 V c 4 t (ix2 0 j) = V c main_v2 (ix2 0 j) := by
  blk_simp [iblk1]
  refine congrArg (V c main_v2) ?_
  blk_ext [index1_4 t]

/-! ## The messages and the mask, off the arrays the network finds -/

/-- Channel `o` of the message along edge `k` of node `r`. -/
def hid (c : Dev nD) (o : Fin 128) (r : Fin 16384) (k : Fin 32) : EReal :=
  msg (fun j => V c main_v1 (ix2 (edge r k) j)) (fun j => V c main_arg2 (ix2 r j)) (fun i j => V c main_arg4 (ix2 i j)) (fun j => V c main_v2 (ix2 0 j)) o
/-- Whether node `r` has edge `k`. -/
def mask (c : Dev nD) (r : Fin 16384) (k : Fin 32) : EReal := V c main_arg3 (ix2 r k)

theorem hid_blk (c : Dev nD) (t : Fin cfg1.N) (p : Fin 512) (k : Fin 32) (o : Fin 128) :
    k1_pay7 (iblk1 V c 0 t) (iblk1 V c 1 t) (iblk1 V c 3 t) (iblk1 V c 4 t) (ix3 p k o) = hid V c o (node t p) k := by
  refine (Pay.pay7 (iblk1 V c 0 t) (iblk1 V c 1 t) (iblk1 V c 3 t) (iblk1 V c 4 t) p k o).trans ?_
  simp only [blk0, blk1, blk3, blk4]
  rfl

theorem max_blk (c : Dev nD) (t : Fin cfg1.N) (p : Fin 512) (o : Fin 128) :
    maxAt V c t (ix2 p o) = top (hid V c o (node t p)) (mask V c (node t p)) := by
  refine (Pay.pay9 (iblk1 V c 0 t) (iblk1 V c 1 t) (iblk1 V c 2 t) (iblk1 V c 3 t) (iblk1 V c 4 t) p o).trans ?_
  simp only [hid_blk, blk2]
  rfl

/-! ## The running sums -/

/-- A quantity summed over the edges of the first `n` blocks. -/
def upTo (f : Fin 16384 → Fin 32 → EReal) (n : ℕ) (h : n ≤ cfg1.N) : EReal :=
  ∑ t : Fin n, ∑ p : Fin 512, ∑ k : Fin 32, f (node (Fin.castLE h t) p) k

theorem upTo_succ (f : Fin 16384 → Fin 32 → EReal) (n : ℕ) (h : n + 1 ≤ cfg1.N) :
    upTo f (n + 1) h = upTo f n (Nat.le_of_succ_le h) + ∑ p : Fin 512, ∑ k : Fin 32, f (node ⟨n, h⟩ p) k :=
  Fin.sum_univ_castSucc _

theorem upTo_all (f : Fin 16384 → Fin 32 → EReal) : upTo f cfg1.N le_rfl = ∑ r, ∑ k, f r k :=
  (Fin.sum_univ_tiles 32 512 (by norm_num) fun r => ∑ k, f r k).symm

theorem step_apply (c : Dev nD) (t : Fin cfg1.N) (x : Vec Ideal S1x128 .f32 × Vec Ideal S1x128 .f32 × Vec Ideal S1x128 .f32) (o : Fin 128) :
    (step1 V c t x).1 (ix2 0 o) = x.1 (ix2 0 o) + ∑ p : Fin 512, ∑ k : Fin 32, hid V c o (node t p) k * mask V c (node t p) k
    ∧ (step1 V c t x).2.1 (ix2 0 o)
      = x.2.1 (ix2 0 o) + ∑ p : Fin 512, ∑ k : Fin 32, hid V c o (node t p) k * mask V c (node t p) k * hid V c o (node t p) k
    ∧ (step1 V c t x).2.2 (ix2 0 o) = x.2.2 (ix2 0 o) + ∑ p : Fin 512, ∑ k : Fin 32, mask V c (node t p) k := by
  refine ⟨?_, ?_, ?_⟩
  · refine (Pay.pay4 _ _ o).trans ?_
    simp only [Pay.pay10, hid_blk, blk2]
    rfl
  · refine (Pay.pay5 _ _ _ o).trans ?_
    simp only [Pay.pay10, hid_blk, blk2]
    rfl
  · refine (Pay.pay6 _ _ o).trans ?_
    simp only [blk2]
    rfl

theorem sums_apply (c : Dev nD) (o : Fin 128) : ∀ (n : ℕ) (h : n < cfg1.N),
    (sumsAt V c n h).1 (ix2 0 o) = upTo (fun r k => hid V c o r k * mask V c r k) (n + 1) h
    ∧ (sumsAt V c n h).2.1 (ix2 0 o) = upTo (fun r k => hid V c o r k * mask V c r k * hid V c o r k) (n + 1) h
    ∧ (sumsAt V c n h).2.2 (ix2 0 o) = upTo (mask V c) (n + 1) h
  | 0, h => by
    obtain ⟨h1, h2, h3⟩ := step_apply V c ⟨0, h⟩ (k1_pay1 (F := Ideal), k1_pay2 (F := Ideal), k1_pay3 (F := Ideal)) o
    refine ⟨h1.trans ?_, h2.trans ?_, h3.trans ?_⟩
    · rw [upTo_succ]; exact congrArg (· + _) (Pay.pay1 o)
    · rw [upTo_succ]; exact congrArg (· + _) (Pay.pay2 o)
    · rw [upTo_succ]; exact congrArg (· + _) (Pay.pay3 o)
  | n + 1, h => by
    obtain ⟨i1, i2, i3⟩ := sums_apply c o n (Nat.lt_of_succ_lt h)
    obtain ⟨h1, h2, h3⟩ := step_apply V c ⟨n + 1, h⟩ (sumsAt V c n (Nat.lt_of_succ_lt h)) o
    refine ⟨h1.trans ?_, h2.trans ?_, h3.trans ?_⟩
    · rw [upTo_succ, i1]
    · rw [upTo_succ, i2]
    · rw [upTo_succ, i3]

/-! ## The network's arrays -/

/-- The last point. -/
abbrev t31 : Fin cfg1.N := ⟨31, lt_of_lt_of_eq (by norm_num : 31 < 32) N_1.symm⟩

theorem last_sums (c : Dev nD) (o : Fin 128) : (sumsAt V c 31 t31.isLt).1 (ix2 0 o) = sum1 (hid V c o) (mask V c)
    ∧ (sumsAt V c 31 t31.isLt).2.1 (ix2 0 o) = sum2 (hid V c o) (mask V c)
    ∧ (sumsAt V c 31 t31.isLt).2.2 (ix2 0 o) = ∑ r, ∑ k, mask V c r k := by
  obtain ⟨h1, h2, h3⟩ := sums_apply V c o 31 t31.isLt
  exact ⟨h1.trans (upTo_all _), h2.trans (upTo_all _), h3.trans (upTo_all _)⟩

end Cert.Proof.Vals

end
-- ==== Proof.Arr.lean ====
/-
  What the two regions of the TensorCore leave in their arrays, read at extended reals: every node's greatest message, the
  sum of the messages and of their squares, the number of edges, and last the scaled maxima.
-/
module

public import proofs.«01_k».proof.Proof.Vals
public import Idealize.ShloMosaic.Lib.Pipeline.ValueKit

@[expose] public section

noncomputable section

namespace Cert.Proof.Arr

open Cert.KernelIdeal Cert.KernelIdeal.Gen Cert.Proof.Net Cert.Proof.Base
open Idealize.ShloMosaic Idealize.ShloMosaic.TcCoe
open Idealize.ShloMosaic.Pipeline (Dat)
open Cert.Proof.Mlp (iblk1 maxAt step1 sumsAt dat1)
open Cert.Proof.Vals
open Cert.Proof.Fin (iblk2 dat2 out2_6)

variable (V : (c : Dev nD) → (b : Ref sig .tc) → Buf (Elt Ideal) ((c : Thread nD τ).loc b))

/-! ## The network's arrays -/

/-- Row `p` of block `t` in the array of the maxima. -/
theorem emb5 (t : Fin cfg1.N) (p : Fin 512) (o : Fin 128) :
    (((cfg1.win 5).blk t).view.emb (ix2 p o) : S16384x128.Idx) = ix2 (node t p) o := by
  blk_ext [index1_5 t]
theorem cov5 (i : S16384x128.Idx) : ∃ t : Fin cfg1.N, (cfg1.win 5).flush t = true ∧ i ∈ ((cfg1.win 5).blk t).view.set := by
  idx_vars i
  have ht : i0.val / 512 < 32 := by have := i0.isLt; omega
  let t : Fin cfg1.N := ⟨i0.val / 512, lt_of_lt_of_eq ht N_1.symm⟩
  let p : Fin 512 := ⟨i0.val % 512, Nat.mod_lt _ (by norm_num)⟩
  have e : node t p = i0 := Fin.ext (Nat.div_add_mod' i0.val 512)
  refine ⟨t, flush1_5 t, ?_⟩
  rw [← e, ← emb5 t p i1]
  exact View.emb_mem_set _ _

/-- The array of the maxima. -/
def G5 (c : Dev nD) : S16384x128.Idx → EReal := fun i => top (hid V c (i 1) (i 0)) (mask V c (i 0))

theorem max_at (c : Dev nD) (t : Fin cfg1.N) (z : S512x128.Idx) :
    maxAt V c t z = top (hid V c (z 1) (node t (z 0))) (mask V c (node t (z 0))) := by
  idx_vars z
  exact max_blk V c t z0 z1

theorem max_emb (c : Dev nD) (t : Fin cfg1.N) (y : ((cfg1.win 5).xblock (cfg1.grid.coords t)).Idx) :
    maxAt V c t ((cfg1.win 5).xinj (cfg1.grid.coords t) y) = G5 V c (((cfg1.win 5).blk t).view.emb y) := by
  refine (max_at V c t _).trans ?_
  unfold G5
  have e0 : node t ((cfg1.win 5).xinj (cfg1.grid.coords t) y 0) = (((cfg1.win 5).blk t).view.emb y 0) := by
    apply Fin.ext
    blk_simp [index1_5 t]
  have e1 : ((cfg1.win 5).xinj (cfg1.grid.coords t) y 1) = (((cfg1.win 5).blk t).view.emb y 1) := by
    apply Fin.ext
    blk_simp [index1_5 t]
  rw [← e0, ← e1]

theorem arr5 (c : Dev nD) : (dat1 V c).arrAt 5 cfg1.N = G5 V c := by
  refine (dat1 V c).arrAt_eq_of_emb 5 _ (fun t hf y => ?_) cov5
  refine (cast_eq _ _).trans ?_
  exact (congrFun (Mlp.after1_5 V c t) _).trans (max_emb V c t y)

theorem row_one (j : S1x128.Idx) : j = ix2 0 (j 1) := by
  idx_vars j
  exact congrArg (fun a : Fin 1 => ix2 a j1) (Subsingleton.elim _ _)

theorem whole6 : (cfg1.win 6).WholeAt t31 := by decide +kernel
theorem whole7 : (cfg1.win 7).WholeAt t31 := by decide +kernel
theorem whole8 : (cfg1.win 8).WholeAt t31 := by decide +kernel
theorem arr6 (c : Dev nD) : (dat1 V c).arrAt 6 cfg1.N
    = fun i : S1x128.Idx => sum1 (hid V c (i 1)) (mask V c) := by
  refine (dat1 V c).arrAt_eq_of_after_last 6 t31 whole6 _ fun j => ?_
  blk_simp
  rw [Mlp.after1_6]
  exact (congrArg _ (row_one j)).trans (last_sums V c (j 1)).1
theorem arr7 (c : Dev nD) : (dat1 V c).arrAt 7 cfg1.N
    = fun i : S1x128.Idx => sum2 (hid V c (i 1)) (mask V c) := by
  refine (dat1 V c).arrAt_eq_of_after_last 7 t31 whole7 _ fun j => ?_
  blk_simp
  rw [Mlp.after1_7]
  exact (congrArg _ (row_one j)).trans (last_sums V c (j 1)).2.1
theorem arr8 (c : Dev nD) : (dat1 V c).arrAt 8 cfg1.N
    = fun i : S1x128.Idx => ∑ r, ∑ k, mask V c r k := by
  refine (dat1 V c).arrAt_eq_of_after_last 8 t31 whole8 _ fun j => ?_
  blk_simp
  rw [Mlp.after1_8]
  exact (congrArg _ (row_one j)).trans (last_sums V c (j 1)).2.2

/-! ## The normalisation's blocks and its array -/

theorem index2_0 : ∀ t : Fin cfg2.N, win2_0.index t = ![t.val, 0] := (by decide +kernel : ∀ t : Fin grid2.N, win2_0.index t = ![t.val, 0])
theorem index2_1 : ∀ t : Fin cfg2.N, win2_1.index t = ![0, 0] := (by decide +kernel : ∀ t : Fin grid2.N, win2_1.index t = ![0, 0])
theorem index2_2 : ∀ t : Fin cfg2.N, win2_2.index t = ![0, 0] := (by decide +kernel : ∀ t : Fin grid2.N, win2_2.index t = ![0, 0])
theorem index2_3 : ∀ t : Fin cfg2.N, win2_3.index t = ![0, 0] := (by decide +kernel : ∀ t : Fin grid2.N, win2_3.index t = ![0, 0])
theorem index2_4 : ∀ t : Fin cfg2.N, win2_4.index t = ![0, 0] := (by decide +kernel : ∀ t : Fin grid2.N, win2_4.index t = ![0, 0])
theorem index2_5 : ∀ t : Fin cfg2.N, win2_5.index t = ![0, 0] := (by decide +kernel : ∀ t : Fin grid2.N, win2_5.index t = ![0, 0])
theorem index2_6 : ∀ t : Fin cfg2.N, win2_6.index t = ![t.val, 0] := (by decide +kernel : ∀ t : Fin grid2.N, win2_6.index t = ![t.val, 0])

theorem lt8 (t : Fin cfg2.N) : t.val < 8 := lt_of_lt_of_eq t.isLt N_2
/-- The node that row `p` of the larger block `t` is. -/
abbrev node2 (t : Fin cfg2.N) (p : Fin 2048) : Fin 16384 := ⟨t.val * 2048 + p.val, by have := lt8 t; omega⟩

theorem two0 (c : Dev nD) (t : Fin cfg2.N) (p : Fin 2048) (j : Fin 128) :
    iblk2 V c 0 t (ix2 p j) = V c main_v3_0 (ix2 (node2 t p) j) := by
  blk_simp [iblk2]
  refine congrArg (V c main_v3_0) ?_
  blk_ext [index2_0 t]
theorem two1 (c : Dev nD) (t : Fin cfg2.N) (j : Fin 128) : iblk2 V c 1 t (ix2 0 j) = V c main_v3_1 (ix2 0 j) := by
  blk_simp [iblk2]
  refine congrArg (V c main_v3_1) ?_
  blk_ext [index2_1 t]
theorem two2 (c : Dev nD) (t : Fin cfg2.N) (j : Fin 128) : iblk2 V c 2 t (ix2 0 j) = V c main_v3_2 (ix2 0 j) := by
  blk_simp [iblk2]
  refine congrArg (V c main_v3_2) ?_
  blk_ext [index2_2 t]
theorem two3 (c : Dev nD) (t : Fin cfg2.N) (j : Fin 128) : iblk2 V c 3 t (ix2 0 j) = V c main_v3_3 (ix2 0 j) := by
  blk_simp [iblk2]
  refine congrArg (V c main_v3_3) ?_
  blk_ext [index2_3 t]
theorem two4 (c : Dev nD) (t : Fin cfg2.N) (j : Fin 128) : iblk2 V c 4 t (ix2 0 j) = V c main_v4 (ix2 0 j) := by
  blk_simp [iblk2]
  refine congrArg (V c main_v4) ?_
  blk_ext [index2_4 t]
theorem two5 (c : Dev nD) (t : Fin cfg2.N) (j : Fin 128) : iblk2 V c 5 t (ix2 0 j) = V c main_v5 (ix2 0 j) := by
  blk_simp [iblk2]
  refine congrArg (V c main_v5) ?_
  blk_ext [index2_5 t]

/-- The result, off the arrays the normalisation finds. -/
def G6 (c : Dev nD) : S16384x128.Idx → EReal := fun i =>
  scale (V c main_v3_0 i) (V c main_v3_1 (ix2 0 (i 1))) (V c main_v3_2 (ix2 0 (i 1))) (max (V c main_v3_3 (ix2 0 0)) 1)
    (V c main_v4 (ix2 0 (i 1))) (V c main_v5 (ix2 0 (i 1)))

theorem ld_corner (x : Vec Ideal S1x128 .f32) : View.ld x Fin.r2_0 (ix2 0 0) = x (ix2 0 0) := by
  refine congrArg x ?_
  funext a
  apply Fin.ext
  fin_cases a <;> rfl

theorem out_at (x0 : Vec Ideal S2048x128 .f32) (x1 x2 x3 x4 x5 : Vec Ideal S1x128 .f32) (p : Fin 2048) (o : Fin 128) :
    out2_6 x0 x1 x2 x3 x4 x5 (ix2 p o)
      = scale (x0 (ix2 p o)) (x1 (ix2 0 o)) (x2 (ix2 0 o)) (max (x3 (ix2 0 0)) 1) (x4 (ix2 0 o)) (x5 (ix2 0 o)) := by
  unfold out2_6
  rw [View.canon_unit_zero (by funext a; fin_cases a <;> rfl)]
  refine (Pay.fin _ _ _ _ _ _ p o).trans ?_
  rw [ld_whole, ld_whole, ld_whole, ld_whole, ld_whole, ld_corner]

theorem out_blk (c : Dev nD) (t : Fin cfg2.N) (z : S2048x128.Idx) :
    out2_6 (iblk2 V c 0 t) (iblk2 V c 1 t) (iblk2 V c 2 t) (iblk2 V c 3 t) (iblk2 V c 4 t) (iblk2 V c 5 t) z
      = G6 V c (ix2 (node2 t (z 0)) (z 1)) := by
  idx_vars z
  refine (out_at (iblk2 V c 0 t) (iblk2 V c 1 t) (iblk2 V c 2 t) (iblk2 V c 3 t) (iblk2 V c 4 t) (iblk2 V c 5 t) z0 z1).trans ?_
  simp only [two0, two1, two2, two3, two4, two5]
  rfl

theorem emb6 (t : Fin cfg2.N) (p : Fin 2048) (o : Fin 128) :
    (((cfg2.win 6).blk t).view.emb (ix2 p o) : S16384x128.Idx) = ix2 (node2 t p) o := by
  blk_ext [index2_6 t]
theorem cov6 (i : S16384x128.Idx) : ∃ t : Fin cfg2.N, (cfg2.win 6).flush t = true ∧ i ∈ ((cfg2.win 6).blk t).view.set := by
  idx_vars i
  have ht : i0.val / 2048 < 8 := by have := i0.isLt; omega
  let t : Fin cfg2.N := ⟨i0.val / 2048, lt_of_lt_of_eq ht N_2.symm⟩
  let p : Fin 2048 := ⟨i0.val % 2048, Nat.mod_lt _ (by norm_num)⟩
  have e : node2 t p = i0 := Fin.ext (Nat.div_add_mod' i0.val 2048)
  refine ⟨t, flush2_6 t, ?_⟩
  rw [← e, ← emb6 t p i1]
  exact View.emb_mem_set _ _

theorem out_emb (c : Dev nD) (t : Fin cfg2.N) (y : ((cfg2.win 6).xblock (cfg2.grid.coords t)).Idx) :
    out2_6 (iblk2 V c 0 t) (iblk2 V c 1 t) (iblk2 V c 2 t) (iblk2 V c 3 t) (iblk2 V c 4 t) (iblk2 V c 5 t) ((cfg2.win 6).xinj (cfg2.grid.coords t) y)
      = G6 V c (((cfg2.win 6).blk t).view.emb y) := by
  refine (out_blk V c t _).trans (congrArg (G6 V c) ?_)
  blk_ext [index2_6 t]

theorem arrOut (c : Dev nD) : (dat2 V c).arrAt 6 cfg2.N = G6 V c := by
  refine (dat2 V c).arrAt_eq_of_emb 6 _ (fun t hf y => ?_) cov6
  refine (cast_eq _ _).trans ?_
  exact (congrFun (Fin.after2_6 V c t) _).trans (out_emb V c t y)

end Cert.Proof.Arr

end
-- ==== Proof.Res.lean ====
/-
  The kernel's result off its arguments: the scaled maxima of every node's messages, each message of a gathered row.
-/
module

public import proofs.«01_k».proof.Proof.Run
public import proofs.«01_k».proof.Proof.Arr

@[expose] public section

noncomputable section

namespace Cert.Proof.Res

open Cert.KernelIdeal Cert.KernelIdeal.Gen Cert.Proof.Net Cert.Proof.Words Cert.Proof.Slots Cert.Proof.Moves Cert.Proof.Launch
open Idealize.ShloMosaic Idealize.ShloMosaic.TcCoe
open Cert.Proof.Run Cert.Proof.Vals Cert.Proof.Arr

variable (m : (b : Loc nD τ sig) → Buf (Elt Ideal) b)

/-! ## The reshaped arguments -/

/-- The list of row numbers, entry by entry. -/
theorem list_at (d : Dev nD) (r : Fin 16384) (k : Fin 32) :
    list m d (ix2 0 (edge r k)) = m (aLoc d) (ix2 r k) := by
  refine shapeCast_apply (s := S16384x32) (m (aLoc d)) shapeCasts_S16384x32_S1x524288 (ix2 0 (edge r k)) (ix2 r k) ?_
  rw [Shape.rowMajor_val_two, Shape.rowMajor_val_two]
  show r.val * 32 + k.val = 0 * 524288 + (r.val * 32 + k.val)
  omega

theorem word_at (d : Dev nD) (r : Fin 16384) (k : Fin 32) :
    word (list m d) (edge r k).val = m (aLoc d) (ix2 r k) := by
  unfold word
  rw [dif_pos (edge r k).isLt]
  exact list_at m d r k

theorem lane (A : S128.Idx → EReal) (o : Fin 128) : (shapeCast S1x128 A shapeCasts_S128_S1x128 : S1x128.Idx → EReal) (ix2 0 o) = A (ix1 o) := by
  pointwise

/-! ## What the network finds -/

theorem ne_of {r s : Ref sig .tc} (h : r ≠ s) : (Proc.devRef .tc r : DevRef τ sig) ≠ Proc.devRef .tc s :=
  fun e => h (Proc.devRef_injective _ e)

theorem V3_rows (d : Dev nD) : V3 m d main_v1 = rows m d := by
  have h3 : W3 m d (Proc.devRef .tc main_v1) = W2 m d (Proc.devRef .tc main_v1) :=
    (opB (F := Ideal)).result_of_not_mem (W2 m d) (fun hm => ne_of (by decide) (Finset.mem_singleton.mp hm))
  exact h3.trans (Function.update_self _ _ _)

theorem V3_bias (d : Dev nD) : V3 m d main_v2 = (shapeCast S1x128 (m ((d : Thread nD τ).loc main_arg5)) shapeCasts_S128_S1x128 : S1x128.Idx → EReal) := by
  have h2 : W2 m d (Proc.devRef .tc main_arg5) = W1 m d (Proc.devRef .tc main_arg5) := Function.update_of_ne (ne_of (by decide)) _ _
  have h1 : W1 m d (Proc.devRef .tc main_arg5) = W0 m d (Proc.devRef .tc main_arg5) :=
    (opI (F := Ideal)).result_of_not_mem (W0 m d) (fun hm => ne_of (by decide) (Finset.mem_singleton.mp hm))
  refine (StableHlo.reshape_result _ _ _ _ _ _ _ : W3 m d (Proc.devRef .tc main_v2) = (shapeCast S1x128 (W2 m d (Proc.devRef .tc main_arg5)) shapeCasts_S128_S1x128 : S1x128.Idx → EReal)).trans ?_
  rw [h2, h1]
  rfl

theorem V3_of (d : Dev nD) (r : Ref sig .tc) (h : r ≠ main_v0 ∧ r ≠ main_v1 ∧ r ≠ main_v2) : V3 m d r = m ((d : Thread nD τ).loc r) :=
  W3_of m d r h

/-! ## What the normalisation finds -/

theorem W4_arg (d : Dev nD) (r : Ref sig .tc) (h : r ∈ argRefs) : W4 m d (Proc.devRef .tc r) = m ((d : Thread nD τ).loc r) :=
  (W4_of m d r (args4 r h)).trans (W3_of m d r (args3 r h))

theorem V5_gain (d : Dev nD) : V5 m d main_v4 = (shapeCast S1x128 (m ((d : Thread nD τ).loc main_arg6)) shapeCasts_S128_S1x128 : S1x128.Idx → EReal) := by
  have h5 : W5 m d (Proc.devRef .tc main_v4) = (opG (F := Ideal)).result (W4 m d) (Proc.devRef .tc main_v4) :=
    (opE (F := Ideal)).result_of_not_mem _ (fun hm => ne_of (by decide) (Finset.mem_singleton.mp hm))
  refine h5.trans ((StableHlo.reshape_result _ _ _ _ _ _ _ : _ = (shapeCast S1x128 (W4 m d (Proc.devRef .tc main_arg6)) shapeCasts_S128_S1x128 : S1x128.Idx → EReal)).trans ?_)
  rw [W4_arg m d main_arg6 (by decide)]

theorem V5_shift (d : Dev nD) : V5 m d main_v5 = (shapeCast S1x128 (m ((d : Thread nD τ).loc main_arg7)) shapeCasts_S128_S1x128 : S1x128.Idx → EReal) := by
  have h4 : (opG (F := Ideal)).result (W4 m d) (Proc.devRef .tc main_arg7) = W4 m d (Proc.devRef .tc main_arg7) :=
    (opG (F := Ideal)).result_of_not_mem _ (fun hm => ne_of (by decide) (Finset.mem_singleton.mp hm))
  refine (StableHlo.reshape_result _ _ _ _ _ _ _ : W5 m d (Proc.devRef .tc main_v5)
    = (shapeCast S1x128 ((opG (F := Ideal)).result (W4 m d) (Proc.devRef .tc main_arg7)) shapeCasts_S128_S1x128 : S1x128.Idx → EReal)).trans ?_
  rw [h4, W4_arg m d main_arg7 (by decide)]
  rfl

theorem V5_max (d : Dev nD) : V5 m d main_v3_0 = G5 (V3 m) d :=
  (W5_of m d main_v3_0 (by decide)).trans ((W4_arr m d 5).trans (arr5 (V3 m) d))
theorem V5_sum (d : Dev nD) : V5 m d main_v3_1 = fun i : S1x128.Idx => sum1 (hid (V3 m) d (i 1)) (mask (V3 m) d) :=
  (W5_of m d main_v3_1 (by decide)).trans ((W4_arr m d 6).trans (arr6 (V3 m) d))
theorem V5_sq (d : Dev nD) : V5 m d main_v3_2 = fun i : S1x128.Idx => sum2 (hid (V3 m) d (i 1)) (mask (V3 m) d) :=
  (W5_of m d main_v3_2 (by decide)).trans ((W4_arr m d 7).trans (arr7 (V3 m) d))
theorem V5_cnt (d : Dev nD) : V5 m d main_v3_3 = fun i : S1x128.Idx => ∑ r, ∑ k, mask (V3 m) d r k :=
  (W5_of m d main_v3_3 (by decide)).trans ((W4_arr m d 8).trans (arr8 (V3 m) d))

/-! ## The messages and the result, off the arguments -/

/-- Channel `o` of the message along edge `k` of node `r`. -/
def hidM (d : Dev nD) (o : Fin 128) (r : Fin 16384) (k : Fin 32) : EReal :=
  msg (fun j => m (tLoc d) (ix2 (rowNo (m (aLoc d) (ix2 r k))) j)) (fun j => m ((d : Thread nD τ).loc main_arg2) (ix2 r j))
    (fun i j => m ((d : Thread nD τ).loc main_arg4) (ix2 i j)) (fun j => m ((d : Thread nD τ).loc main_arg5) (ix1 j)) o
/-- The mask. -/
def maskM (d : Dev nD) (r : Fin 16384) (k : Fin 32) : EReal := m ((d : Thread nD τ).loc main_arg3) (ix2 r k)

theorem hid_eq (d : Dev nD) (o : Fin 128) : hid (V3 m) d o = hidM m d o := by
  funext r k
  unfold hid hidM
  have h0 : ∀ j, V3 m d main_v1 (ix2 (edge r k) j) = m (tLoc d) (ix2 (rowNo (m (aLoc d) (ix2 r k))) j) := fun j => by
    rw [V3_rows]
    show m (tLoc d) (ix2 (rowNo (word (list m d) (edge r k).val)) j) = _
    rw [word_at]
  have h4 : ∀ j, V3 m d main_v2 (ix2 0 j) = m ((d : Thread nD τ).loc main_arg5) (ix1 j) := fun j => by
    rw [V3_bias]
    exact lane _ j
  rw [V3_of m d main_arg2 (by decide), V3_of m d main_arg4 (by decide)]
  simp only [h0, h4]

theorem mask_eq (d : Dev nD) : mask (V3 m) d = maskM m d := by
  funext r k
  unfold mask maskM
  rw [V3_of m d main_arg3 (by decide)]

theorem result (d : Dev nD) (r : Fin 16384) (o : Fin 128) : W6 m d (Proc.devRef .tc main_v6) (ix2 r o)
    = scale (top (hidM m d o r) (maskM m d r)) (sum1 (hidM m d o) (maskM m d)) (sum2 (hidM m d o) (maskM m d)) (cnt (maskM m d))
        (m ((d : Thread nD τ).loc main_arg6) (ix1 o)) (m ((d : Thread nD τ).loc main_arg7) (ix1 o)) := by
  have e := (W6_arr m d 6).trans (arrOut (V5 m) d)
  refine (congrFun e (ix2 r o)).trans ?_
  unfold G6
  rw [V5_max, V5_sum, V5_sq, V5_cnt, V5_gain, V5_shift]
  show scale (G5 (V3 m) d (ix2 r o)) (sum1 (hid (V3 m) d o) (mask (V3 m) d)) (sum2 (hid (V3 m) d o) (mask (V3 m) d)) (cnt (mask (V3 m) d))
    ((shapeCast S1x128 (m ((d : Thread nD τ).loc main_arg6)) shapeCasts_S128_S1x128 : S1x128.Idx → EReal) (ix2 0 o))
    ((shapeCast S1x128 (m ((d : Thread nD τ).loc main_arg7)) shapeCasts_S128_S1x128 : S1x128.Idx → EReal) (ix2 0 o)) = _
  rw [lane, lane, ← hid_eq, ← mask_eq]
  rfl

end Cert.Proof.Res

end
-- ==== Proof.Ref.lean ====
/-
  What the reference computes, element by element: the same messages of the same rows, their mean and variance over every
  edge, and each node's greatest normalised message.
-/
module

public import proofs.«01_k».proof.Proof.Gen.ReferenceIdeal.Run
public import proofs.«01_k».proof.Proof.Net
public import proofs.«01_k».proof.Proof.Pay
public import proofs.«01_k».proof.Proof.Slots
public import Idealize.ShloMosaic.Lib.Pointwise
public import Idealize.ShloMosaic.Lib.StableHlo.Predicate

@[expose] public section

noncomputable section

namespace Cert.Proof.Ref

open Cert.ReferenceIdeal Cert.ReferenceIdeal.Value Cert.Proof.Net
open Idealize.ShloMosaic Idealize.ShloMosaic.TcCoe
open Facts₀

/-! ## The gather of rows by a table of row numbers -/

/-- A row number as the gather takes it: signed, held within the table. -/
def held (w : BitVec 32) : Fin 16384 := ⟨min w.toInt.toNat 16383, by omega⟩

/-- The reference's gather: the list's entries name rows, the last axis runs along the row. -/
abbrev Gd : GatherDims S16384x128 S16384x32x1 S16384x32x128 := gather_S16384x128_S16384x32x1_S16384x32x128_2_0_n_n_0_2_1128

theorem gather_at {α : Type} (x : S16384x128.Idx → α) (idx : IVec S16384x32x1 32) (r : Fin 16384) (k : Fin 32) (o : Fin 128) :
    Host.gather Gd x idx (ix3 r k o) = x (ix2 (held (idx (ix3 r k 0))) o) := by
  unfold Host.gather
  refine congrArg x (funext fun a => Fin.ext ?_)
  match a with
  | ⟨0, _⟩ =>
    have hm : (0 : Fin 2) ∈ Gd.startIndexMap := List.mem_singleton.2 rfl
    have hk : (0 : Fin 2) ∉ Gd.sKept := fun h => ((Gd.mem_sKept 0).1 h).1 (List.mem_singleton.2 rfl)
    show Gd.start (ix3 r k o) idx 0 + Gd.batchCoord (ix3 r k o) 0 + Gd.offCoord (ix3 r k o) 0 = min (idx (ix3 r k 0)).toInt.toNat 16383
    rw [Gd.batchCoord_eq_zero _ _ List.not_mem_nil, Gd.offCoord_eq_zero _ _ hk]
    simp only [Nat.add_zero]
    unfold GatherDims.start
    rw [dif_pos hm]
    have hsi : Gd.siIdx (ix3 r k o) ⟨Gd.startIndexMap.idxOf 0, List.idxOf_lt_length_iff.2 hm⟩ = ix3 r k (0 : Fin 1) := by
      funext b
      apply Fin.ext
      fin_cases b <;> rfl
    rw [hsi]
    rfl
  | ⟨1, _⟩ =>
    have hk : (1 : Fin 2) ∈ Gd.sKept := (Gd.mem_sKept 1).2 ⟨by decide, List.not_mem_nil⟩
    have hm : (1 : Fin 2) ∉ Gd.startIndexMap := by decide
    show Gd.start (ix3 r k o) idx 1 + Gd.batchCoord (ix3 r k o) 1 + Gd.offCoord (ix3 r k o) 1 = o.val
    rw [Gd.batchCoord_eq_zero _ _ List.not_mem_nil, Nat.add_zero]
    unfold GatherDims.start GatherDims.offCoord
    rw [dif_neg hm, dif_pos hk, Nat.zero_add]
    rfl

/-- A word below 16384 is not negative. -/
theorem not_neg (v : BitVec 32) (h : v.toNat < 16384) : IntOp.cmpi .slt v 0#32 = 0#1 := by
  have e : IntOp.cmpi .slt v 0#32 = BitVec.ofBool (v.slt 0#32) := rfl
  rw [e, BitVec.slt_eq_decide, BitVec.toInt_eq_toNat_of_lt (by omega), decide_eq_false (by have : (0#32).toInt = 0 := rfl; omega)]
  rfl

theorem held_eq (v : BitVec 32) (h : v.toNat < 16384) : held v = Slots.rowNo v := by
  apply Fin.ext
  show min v.toInt.toNat 16383 = min v.toNat 16383
  rw [BitVec.toInt_eq_toNat_of_lt (by omega)]
  rfl

theorem select_zero {α : Type} (a b : α) : Scalar.select 0#1 a b = b := rfl

/-! ## The messages -/

variable (V0 : Valuation τ sig (Elt Ideal))

abbrev a0 : S16384x128.Idx → EReal := V0 (Proc.devRef .tc main_arg0)
abbrev a1 : S16384x32.Idx → BitVec 32 := V0 (Proc.devRef .tc main_arg1)
abbrev a2 : S16384x128.Idx → EReal := V0 (Proc.devRef .tc main_arg2)
abbrev a3 : S16384x32.Idx → EReal := V0 (Proc.devRef .tc main_arg3)
abbrev a4 : S128x128.Idx → EReal := V0 (Proc.devRef .tc main_arg4)
abbrev a5 : S128.Idx → EReal := V0 (Proc.devRef .tc main_arg5)
abbrev a6 : S128.Idx → EReal := V0 (Proc.devRef .tc main_arg6)
abbrev a7 : S128.Idx → EReal := V0 (Proc.devRef .tc main_arg7)

theorem v9_at (hI : ∀ r k, (a1 V0 (ix2 r k)).toNat < 16384) (r : Fin 16384) (k : Fin 32) (j : Fin 128) :
    res_main_v9 V0 (ix3 r k j) = a0 V0 (ix2 (Slots.rowNo (a1 V0 (ix2 r k))) j) - a2 V0 (ix2 r j) := by
  pointwise [res_main_v9, gather_at]
  rw [not_neg _ (hI r k), select_zero, held_eq _ (hI r k)]

/-- Channel `o` of the message along edge `k` of node `r`. -/
def hidR (o : Fin 128) (r : Fin 16384) (k : Fin 32) : EReal :=
  msg (fun j => a0 V0 (ix2 (Slots.rowNo (a1 V0 (ix2 r k))) j)) (fun j => a2 V0 (ix2 r j)) (fun i j => a4 V0 (ix2 i j)) (fun j => a5 V0 (ix1 j)) o
def maskR (r : Fin 16384) (k : Fin 32) : EReal := a3 V0 (ix2 r k)

theorem v23_at (hI : ∀ r k, (a1 V0 (ix2 r k)).toNat < 16384) (r : Fin 16384) (k : Fin 32) (o : Fin 128) :
    res_main_v23 V0 (ix3 r k o) = hidR V0 o r k := by
  have h9 := v9_at V0 hI
  pointwise [res_main_v23, res_main_v18]
  simp only [h9]
  rfl

theorem v24_at (r : Fin 16384) (k : Fin 32) : res_main_v24 V0 (ix3 r k 0) = maskR V0 r k := by
  pointwise [res_main_v24]
  rfl

theorem v26_at (i : S_.Idx) : res_main_v26 V0 i = cnt (maskR V0) := by
  have h := v24_at V0
  pointwise [res_main_v26]
  simp only [Fin.sum_univ_one, h]
  rfl

/-- A sum over nodes and edges at one channel. -/
theorem red (o : Fin 128) (x : S16384x32x128.Idx → EReal) :
    Ideal.hostReduceAdd Gen.reducesTo_S16384x32x128_S128_d0_1 x 0 (ix1 o) = ∑ r : Fin 16384, ∑ k : Fin 32, x (ix3 r k o) := by
  unfold Ideal.hostReduceAdd
  rw [zero_add]
  exact Pay.sum_first_two (drop := Gen.reducesTo_S16384x32x128_S128_d0_1.drop) (fun _ => rfl) o x

theorem v31_at (hI : ∀ r k, (a1 V0 (ix2 r k)).toNat < 16384) (o : Fin 128) : res_main_v31 V0 (ix1 o) = mean (hidR V0 o) (maskR V0) := by
  have h := v24_at V0
  have h23 := v23_at V0 hI
  pointwise [res_main_v31]
  rw [red]
  pointwise
  simp only [h, h23, v26_at]
  rfl

theorem v34_at (hI : ∀ r k, (a1 V0 (ix2 r k)).toNat < 16384) (r : Fin 16384) (k : Fin 32) (o : Fin 128) :
    res_main_v34 V0 (ix3 r k o) = hidR V0 o r k - mean (hidR V0 o) (maskR V0) := by
  have h23 := v23_at V0 hI
  have h31 := v31_at V0 hI
  pointwise [res_main_v34]
  simp only [h23, h31]

theorem v59_at (hI : ∀ r k, (a1 V0 (ix2 r k)).toNat < 16384) (r : Fin 16384) (o : Fin 128) :
    res_main_v59 V0 (ix2 r o) = best (hidR V0 o) (maskR V0) (a6 V0 (ix1 o)) (a7 V0 (ix1 o)) r := by
  have h := v24_at V0
  have h23 := v23_at V0 hI
  have h31 := v31_at V0 hI
  have h34 := v34_at V0 hI
  pointwise [res_main_v59]
  simp only [red]
  pointwise
  simp only [h, h23, h31, h34, v26_at]
  rfl

/-- The clean-up of what is not finite. -/
theorem clean_at (Z : FVec Ideal S16384x128 .f32) (r : Fin 16384) (o : Fin 128) :
    (select (cmpf .olt (Host.absf Z) (broadcastInDim S16384x128 ![] Gen.bcast_S_S16384x128 (constant S_ .f32 0x7F800000#32))) Z
        (broadcastInDim S16384x128 ![] Gen.bcast_S_S16384x128 (id (constant (F := Ideal) S_ .f32 0x00000000#32))) : FVec Ideal S16384x128 .f32) (ix2 r o)
      = if max (Z (ix2 r o)) (-Z (ix2 r o)) < ⊤ then Z (ix2 r o) else 0 := by
  unfold id
  pointwise
  rw [Pay.pos_inf]
  rfl

end Cert.Proof.Ref

end
-- ==== Proof.Pre.lean ====
/-
  What the preconditions say, entry by entry.
-/
module

public import proofs.«01_k».proof.Proof.Gen.Pre_idx_in_rows
public import proofs.«01_k».proof.Proof.Gen.Pre_idx_and_finite
public import proofs.«01_k».proof.Proof.Net
public import proofs.«01_k».proof.Proof.Slots
public import proofs.«01_k».proof.Proof.Pay
public import Idealize.ShloMosaic.Lib.Pointwise
public import Idealize.ShloMosaic.Lib.ReduceAll
public import Idealize.ShloMosaic.Lib.Affine
public import Idealize.ShloMosaic.Lib.Routing.OpsOrder

@[expose] public section

noncomputable section

namespace Cert.Proof.Pre

open Idealize.ShloMosaic Cert.Proof.Net

/-- A word that is at least 0 and below 16384 as a signed number is below 16384. -/
theorem lt_of_signed (v : BitVec 32) (h : IntOp.andi (IntOp.cmpi .sge v 0#32) (IntOp.cmpi .slt v 16384#32) = 1#1) : v.toNat < 16384 := by
  have hb : ∀ p q : Bool, IntOp.andi (BitVec.ofBool p) (BitVec.ofBool q) = 1#1 → p = true ∧ q = true := by decide
  obtain ⟨h0, h1⟩ : (0#32).sle v = true ∧ v.slt 16384#32 = true := hb _ _ h
  rw [BitVec.sle_eq_decide, decide_eq_true_eq] at h0
  rw [BitVec.slt_eq_decide, decide_eq_true_eq] at h1
  simp only [BitVec.toInt_eq_toNat_cond, BitVec.toNat_ofNat, Nat.reducePow, Nat.reduceMod] at h0 h1
  omega

/-- Every word of the flattened lists is below 16384 where every word of the lists is; the word past their end is 0. -/
theorem word_lt (A : Cert.KernelIdeal.S16384x32.Idx → BitVec 32) (h : ∀ j, (A j).toNat < 16384) (k : ℕ) :
    (Slots.word (shapeCast Cert.KernelIdeal.S1x524288 A Cert.KernelIdeal.Gen.shapeCasts_S16384x32_S1x524288) k).toNat < 16384 := by
  unfold Slots.word
  split
  · exact h _
  · decide

theorem true_of_bit {p : Prop} [Decidable p] (h : BitVec.ofBool (decide p) = 1#1) : p := by
  by_contra hn
  rw [decide_eq_false hn] at h
  exact absurd h (by decide)

theorem lt_of_bit (x y : EReal) (h : Ideal.cmp .olt x y = 1#1) : x < y := true_of_bit h
theorem le_of_bit (x y : EReal) (h : Ideal.cmp .oge x y = 1#1) : y ≤ x := true_of_bit h
theorem eq_of_bit (x y : EReal) (h : Ideal.cmp .oeq x y = 1#1) : x = y := true_of_bit h

theorem or_bits (a b : BitVec 1) (h : IntOp.ori a b = 1#1) : a = 1#1 ∨ b = 1#1 := by
  revert a b; decide

section Rows
open Cert.Pre_idx_in_rows
variable {F : FTy → Type} [FloatOps F]

/-- The first precondition: every word is below 16384. -/
theorem lt_of_rows (x0 : FVec F S16384x128 .f32) (x1 : IVec S16384x32 32) (x2 : FVec F S16384x128 .f32) (x3 : FVec F S16384x32 .f32)
    (x4 : FVec F S128x128 .f32) (x5 x6 x7 : FVec F S128 .f32) (h : fn (F := F) x0 x1 x2 x3 x4 x5 x6 x7 = fun _ => 1#1)
    (j : S16384x32.Idx) : (x1 j).toNat < 16384 := lt_of_signed _ (congrFun h j)
end Rows

section All
open Cert.Pre_idx_and_finite Cert.Pre_idx_and_finite.Gen

local instance : Subsingleton S_.Idx := ⟨fun i j => funext fun a => a.elim0⟩

theorem one : Ideal.ofBits .f32 0x3F800000#32 = 1 := by
  simp [Ideal.ofBits, Ideal.ieee]
  rw [← EReal.coe_mul]
  norm_num
theorem zero : Ideal.ofBits .f32 0x00000000#32 = 0 := by simp [Ideal.ofBits, Ideal.ieee]

/-- An absolute value below the infinity's word is a real number's. -/
theorem real_of_bit (x : EReal) (h : Ideal.cmp .olt (max x (-x)) (Ideal.ofBits .f32 0x7F800000#32) = 1#1) : Real' x := by
  rw [Pay.pos_inf] at h
  exact real_of_abs (lt_of_bit _ _ h)

/-- The second precondition, entry by entry. -/
theorem decode (x0 : FVec Ideal S16384x128 .f32) (x1 : IVec S16384x32 32) (x2 : FVec Ideal S16384x128 .f32) (x3 : FVec Ideal S16384x32 .f32)
    (x4 : FVec Ideal S128x128 .f32) (x5 x6 x7 : FVec Ideal S128 .f32) (h : fn (F := Ideal) x0 x1 x2 x3 x4 x5 x6 x7 = fun _ => 1#1) :
    (∀ j, (x1 j).toNat < 16384) ∧ ((∀ i, Real' (x0 i)) ∧ (∀ i, Real' (x2 i)) ∧ (∀ i, Real' (x4 i)) ∧ (∀ i, Real' (x5 i))
      ∧ (∀ i, Real' (x6 i)) ∧ (∀ i, Real' (x7 i))) ∧ (∀ j, x3 j = 0 ∨ x3 j = 1) ∧ (∀ r : Fin 16384, ∃ k : Fin 32, x3 (ix2 r k) = 1) ∧ ∀ o, 0 ≤ x6 o := by
  have at_ := fun j => congrFun h j
  dsimp only [fn, fn_part1, fn_part2, fn_part3] at at_
  obtain ⟨h3, hm⟩ := IntOp.andi_eq_one.mp (at_ (ix2 0 0))
  obtain ⟨h2, hg⟩ := IntOp.andi_eq_one.mp h3
  obtain ⟨h1, hr⟩ := IntOp.andi_eq_one.mp h2
  obtain ⟨hr, r7⟩ := IntOp.andi_eq_one.mp hr
  obtain ⟨hr, r6⟩ := IntOp.andi_eq_one.mp hr
  obtain ⟨hr, r5⟩ := IntOp.andi_eq_one.mp hr
  obtain ⟨hr, r4⟩ := IntOp.andi_eq_one.mp hr
  obtain ⟨r0, r2⟩ := IntOp.andi_eq_one.mp hr
  obtain ⟨hv, ho⟩ := IntOp.andi_eq_one.mp hm
  refine ⟨fun j => ?_, ⟨fun i => ?_, fun i => ?_, fun i => ?_, fun i => ?_, fun i => ?_, fun i => ?_⟩, fun j => ?_, fun r => ?_, fun o => ?_⟩
  · exact lt_of_signed _ (IntOp.andi_eq_one.mp (IntOp.andi_eq_one.mp (IntOp.andi_eq_one.mp (at_ j)).1).1).1
  · exact real_of_bit _ (Host.reduce_andi_all _ _ _ _ _ r0 i)
  · exact real_of_bit _ (Host.reduce_andi_all _ _ _ _ _ r2 i)
  · exact real_of_bit _ (Host.reduce_andi_all _ _ _ _ _ r4 i)
  · exact real_of_bit _ (Host.reduce_andi_all _ _ _ _ _ r5 i)
  · exact real_of_bit _ (Host.reduce_andi_all _ _ _ _ _ r6 i)
  · exact real_of_bit _ (Host.reduce_andi_all _ _ _ _ _ r7 i)
  · rcases or_bits _ _ (Host.reduce_andi_all _ _ _ _ _ hv j) with e | e
    · exact Or.inl ((eq_of_bit _ _ e).trans zero)
    · exact Or.inr ((eq_of_bit _ _ e).trans one)
  · have e := Host.reduce_andi_all _ _ _ _ _ ho (ix1 r)
    pointwise at e
    obtain ⟨k, _, hk⟩ := (Routing.fold_ori _ _).mp e
    exact ⟨k, true_of_bit hk⟩
  · have e := le_of_bit _ _ (Host.reduce_andi_all _ _ _ _ _ hg o)
    exact zero ▸ e
end All

end Cert.Proof.Pre

end
-- ==== Proof.Alg.lean ====
/-
  The kernel's result and the reference's, compared: with the same arguments, every element of the one is that of the other.
-/
module

public import proofs.«01_k».proof.Proof.Res
public import proofs.«01_k».proof.Proof.Ref
public import proofs.«01_k».proof.Proof.Pre

@[expose] public section

noncomputable section

namespace Cert.Proof.Alg

open Idealize.ShloMosaic Idealize.ShloMosaic.TcCoe
open Cert.Proof.Net Cert.Proof.Res Cert.Proof.Ref Cert.Proof.Run Cert.Proof.Launch

section Lists
variable {F : FTy → Type} [FloatOps F]

/-- Every word the subcores read is below 16384 where every word of the lists is. -/
theorem preOK (m : (ℓ : Loc Cert.KernelIdeal.nD Cert.KernelIdeal.τ Cert.KernelIdeal.sig) → Buf (Elt F) ℓ)
    (h : ∀ (d : Dev Cert.KernelIdeal.nD) (j : Cert.KernelIdeal.S16384x32.Idx), ((m (Launch.aLoc d) : Cert.KernelIdeal.S16384x32.Idx → BitVec 32) j).toNat < 16384) :
    PreOK m := fun d k => Pre.word_lt (m (Launch.aLoc d)) (h d) k
end Lists

section Value
open Cert.KernelIdeal

variable (m : (ℓ : Loc nD τ sig) → Buf (Elt Ideal) ℓ) (d : Dev nD)
  (V0 : Valuation Cert.ReferenceIdeal.τ Cert.ReferenceIdeal.sig (Elt Ideal))

theorem equal
    (hI : ∀ j : S16384x32.Idx, ((m (Launch.aLoc d) : S16384x32.Idx → BitVec 32) j).toNat < 16384)
    (h : Cert.Pre_idx_and_finite.fn (F := Ideal) (m ((d.tc : Thread nD τ).loc main_arg0)) (m ((d.tc : Thread nD τ).loc main_arg1))
      (m ((d.tc : Thread nD τ).loc main_arg2)) (m ((d.tc : Thread nD τ).loc main_arg3)) (m ((d.tc : Thread nD τ).loc main_arg4))
      (m ((d.tc : Thread nD τ).loc main_arg5)) (m ((d.tc : Thread nD τ).loc main_arg6)) (m ((d.tc : Thread nD τ).loc main_arg7)) = fun _ => 1#1)
    (e0 : a0 V0 = m ((d.tc : Thread nD τ).loc main_arg0)) (e1 : a1 V0 = m ((d.tc : Thread nD τ).loc main_arg1))
    (e2 : a2 V0 = m ((d.tc : Thread nD τ).loc main_arg2)) (e3 : a3 V0 = m ((d.tc : Thread nD τ).loc main_arg3))
    (e4 : a4 V0 = m ((d.tc : Thread nD τ).loc main_arg4)) (e5 : a5 V0 = m ((d.tc : Thread nD τ).loc main_arg5))
    (e6 : a6 V0 = m ((d.tc : Thread nD τ).loc main_arg6)) (e7 : a7 V0 = m ((d.tc : Thread nD τ).loc main_arg7))
    (Z : S16384x128.Idx → EReal) (hZ : Z = Cert.ReferenceIdeal.Value.res_main_v59 V0) (r : Fin 16384) (o : Fin 128) :
    (if max (Z (ix2 r o)) (-Z (ix2 r o)) < ⊤ then Z (ix2 r o) else 0) = W6 m d (Proc.devRef .tc main_v6) (ix2 r o) := by
  obtain ⟨-, ⟨h0, h2, h4, h5, h6, h7⟩, hv, hone, hg⟩ := Pre.decode _ _ _ _ _ _ _ _ h
  have hh : ∀ o r k, hidR V0 o r k = hidM m d o r k := fun o r k => by
    unfold hidR hidM
    rw [e0, e1, e2, e4, e5]
  have hm : ∀ r k, maskR V0 r k = maskM m d r k := fun r k => by
    unfold maskR maskM
    rw [e3]
  have hreal : ∀ r k, Real' (hidM m d o r k) := fun r k => msg_real (fun j => h0 _) (fun j => h2 _) (fun i j => h4 _) (fun j => h5 _) o
  rw [hZ, v59_at V0 (fun r k => by rw [e1]; exact hI _) r o, funext fun r => funext fun k => hh o r k, funext fun r => funext fun k => hm r k, e6, e7, result m d r o]
  exact (scale_eq_best (hidM m d o) (maskM m d) _ _ r hreal (fun r k => hv _) (fun r => hone r) (h6 _) (hg _) (h7 _)).symm

/-- The reference's result is the kernel's. -/
theorem close
    (h : Cert.Pre_idx_and_finite.fn (F := Ideal) (m ((d.tc : Thread nD τ).loc main_arg0)) (m ((d.tc : Thread nD τ).loc main_arg1))
      (m ((d.tc : Thread nD τ).loc main_arg2)) (m ((d.tc : Thread nD τ).loc main_arg3)) (m ((d.tc : Thread nD τ).loc main_arg4))
      (m ((d.tc : Thread nD τ).loc main_arg5)) (m ((d.tc : Thread nD τ).loc main_arg6)) (m ((d.tc : Thread nD τ).loc main_arg7)) = fun _ => 1#1)
    (e0 : a0 V0 = m ((d.tc : Thread nD τ).loc main_arg0)) (e1 : a1 V0 = m ((d.tc : Thread nD τ).loc main_arg1))
    (e2 : a2 V0 = m ((d.tc : Thread nD τ).loc main_arg2)) (e3 : a3 V0 = m ((d.tc : Thread nD τ).loc main_arg3))
    (e4 : a4 V0 = m ((d.tc : Thread nD τ).loc main_arg4)) (e5 : a5 V0 = m ((d.tc : Thread nD τ).loc main_arg5))
    (e6 : a6 V0 = m ((d.tc : Thread nD τ).loc main_arg6)) (e7 : a7 V0 = m ((d.tc : Thread nD τ).loc main_arg7))
    (Z : S16384x128.Idx → EReal) (hZ : Z = Cert.ReferenceIdeal.Value.res_main_v59 V0) :
    (select (cmpf .olt (Host.absf (F := Ideal) (φ := .f32) Z) (broadcastInDim Cert.ReferenceIdeal.S16384x128 ![] Cert.ReferenceIdeal.Gen.bcast_S_S16384x128 (constant Cert.ReferenceIdeal.S_ .f32 0x7F800000#32))) Z
        (broadcastInDim Cert.ReferenceIdeal.S16384x128 ![] Cert.ReferenceIdeal.Gen.bcast_S_S16384x128 (id (constant (F := Ideal) Cert.ReferenceIdeal.S_ .f32 0x00000000#32))) : FVec Ideal S16384x128 .f32)
      = W6 m d (Proc.devRef .tc main_v6) := by
  funext i
  idx_vars i
  exact (clean_at Z _ _).trans (equal m d V0 (Pre.decode _ _ _ _ _ _ _ _ h).1 h e0 e1 e2 e3 e4 e5 e6 e7 Z hZ _ _)

end Value

end Cert.Proof.Alg

end
-- ==== Proof.Same.lean ====
/-
  The two printings of the kernel are one program: the body tables are equal, label by label.
-/
module

public import proofs.«01_k».proof.Proof.Gen.Kernel
public import proofs.«01_k».proof.Proof.Gen.KernelIdeal

@[expose] public section

noncomputable section

namespace Cert.Proof.Same

open Idealize.ShloMosaic Idealize.SL.Sem

variable {F : FTy → Type} [FloatOps F]

/-- The gather's body is the same text. -/
theorem gather : Cert.Kernel.cc0_gather_kernel (F := F) = Cert.KernelIdeal.cc0_gather_kernel := rfl

set_option maxHeartbeats 4000000 in
/-- The kernels' body tables agree at every label, on every processor. -/
theorem bodies : Cert.Kernel.defs₀ (F := F) = Cert.KernelIdeal.defs₀ := by
  funext p ℓ a
  match p, ℓ, a with
  | .tc, 0, _ => rfl
  | .tc, 1, _ => rfl
  | .tc, 2, _ => rfl
  | .scVector _ _, 0, _ =>
    unfold Cert.Kernel.defs₀ Cert.KernelIdeal.defs₀
    dsimp only
    rw [gather]
    rfl
  | .scVector _ _, 1, _ => rfl
  | .scVector _ _, 2, _ => rfl
  | .scScalar _, 0, _ => rfl
  | .scScalar _, 1, _ => rfl
  | .scScalar _, 2, _ => rfl

/-- So do the tables with the pipelines and the launch added. -/
theorem tables : Cert.Kernel.defs (F := F) = Cert.KernelIdeal.defs :=
  congrArg (fun D => (Cert.KernelIdeal.sc (F := F)).defs (Pipeline.defs Cert.KernelIdeal.pcfgs D)) bodies

/-- And the threads' programs. -/
theorem threads : Cert.Kernel.threads (F := F) = Cert.KernelIdeal.threads := rfl

end Cert.Proof.Same

end
-- ==== Proof.FPay.lean ====
/-
  What one block of the first layer computes, element by element, and the arrays the host hands it.
-/
module

public import proofs.«01_k».proof.Proof.Gen.FirstIdeal.Value
public import Idealize.ShloMosaic.Lib.Pointwise
public import Idealize.ShloMosaic.Lib.Pipeline.ValueKit

@[expose] public section

noncomputable section

namespace Cert.Proof.FPay

open Cert.FirstIdeal Cert.FirstIdeal.Gen
open Idealize.ShloMosaic Idealize.ShloMosaic.TcCoe

/-- The scale a row's batch number selects, off the padded list of scales. -/
def sel (b : EReal) (s : Fin 8 → EReal) : EReal :=
  ∑ x : Fin 8, FloatOps.sitofp (F := Ideal) FTy.f32 (BitVec.setWidth 32 (BitVec.ofBool (decide (b = FloatOps.sitofp (F := Ideal) FTy.f32 (BitVec.ofNat 32 x.val))))) * s x

/-- A padded row's product with a channel's padded weights. -/
def prod8 (p : Fin 8 → EReal) (s : EReal) (w : Fin 8 → EReal) : EReal :=
  ∑ x : Fin 8, Scalar.select (IntOp.cmpi CmpIPredicate.slt (BitVec.ofNat 32 x.val) 3#32) (p x * Ideal.div 1 s) (p x) * w x

theorem pay1 (v0 : Vec Ideal S2048x8 .f32) (v2 : Vec Ideal S2048x1 .f32) (v4 : Vec Ideal S1x8 .f32) (v26 : Vec Ideal S8x128 .f32)
    (p : Fin 2048) (o : Fin 128) : k0_pay1 v0 v2 v4 v26 (ix2 p o)
      = prod8 (fun l => v0 (ix2 p l)) (sel (v2 (ix2 p 0)) fun l => v4 (ix2 0 l)) (fun l => v26 (ix2 l o)) := by
  pointwise [k0_pay1]
  rfl

theorem pay2 (v0 : Vec Ideal S2048x8 .f32) (v2 : Vec Ideal S2048x1 .f32) (v4 : Vec Ideal S1x8 .f32) (v26 : Vec Ideal S8x128 .f32)
    (x : Vec Ideal S2048x64 .f32) (w : Vec Ideal S64x128 .f32) (b : Vec Ideal S1x128 .f32)
    (p : Fin 2048) (o : Fin 128) : k0_pay2 v0 v2 v4 v26 x w b (ix2 p o)
      = (∑ j : Fin 64, x (ix2 p j) * w (ix2 j o)) + k0_pay1 v0 v2 v4 v26 (ix2 p o) + b (ix2 0 o) := by
  pointwise [k0_pay2]

variable (m : (ℓ : Loc nD τ sig) → Buf (Elt Ideal) ℓ) (c : Dev nD)

abbrev a0 : S16384x64.Idx → EReal := m ((c : Thread nD τ).loc main_arg0)
abbrev a1 : S16384x3.Idx → EReal := m ((c : Thread nD τ).loc main_arg1)
abbrev a2 : S16384.Idx → BitVec 32 := m ((c : Thread nD τ).loc main_arg2)
abbrev a3 : S16384.Idx → EReal := m ((c : Thread nD τ).loc main_arg3)
abbrev a4 : S4.Idx → EReal := m ((c : Thread nD τ).loc main_arg4)
abbrev a5 : S68x128.Idx → EReal := m ((c : Thread nD τ).loc main_arg5)
abbrev a6 : S128.Idx → EReal := m ((c : Thread nD τ).loc main_arg6)

theorem v3 (r : Fin 16384) (l : Fin 8) : (V m c main_v3 : S16384x8.Idx → EReal) (ix2 r l)
    = if h : l.val < 3 then a1 m c (ix2 r ⟨l.val, h⟩) else if l.val < 4 then a3 m c (ix1 r) else 0 := by
  have e : (V m c main_v3 : FVec Ideal S16384x8 .f32) = concatenate S16384x8 1 [⟨S16384x3, a1 m c⟩,
      ⟨S16384x1, broadcastInDim S16384x1 ![0] bcast_S16384_S16384x1_0 (a3 m c)⟩,
      ⟨S16384x4, broadcastInDim S16384x4 ![] bcast_S_S16384x4 (constant (F := Ideal) S_ .f32 0x00000000#32)⟩] concatenates_S16384x3_S16384x1_S16384x4_S16384x8_d1 := by
    unfold_abbrev_sides
    after_results <;> rfl
  rw [e]
  pointwise
  split_ifs <;> first | rfl | omega
theorem v6 (l : Fin 8) : (V m c main_v6 : S1x8.Idx → EReal) (ix2 0 l) = if h : l.val < 4 then a4 m c (ix1 ⟨l.val, h⟩) else 1 := by
  have e : (V m c main_v6 : FVec Ideal S1x8 .f32) = shapeCast S1x8 (concatenate S8 0 [⟨S4, a4 m c⟩,
      ⟨S4, broadcastInDim S4 ![] bcast_S_S4 (constant (F := Ideal) S_ .f32 0x3F800000#32)⟩] concatenates_S4_S4_S8_d0) shapeCasts_S8_S1x8 := by
    unfold_abbrev_sides
    after_results <;> rfl
  rw [e]
  pointwise
theorem v7 (j : Fin 64) (o : Fin 128) : (V m c main_v7 : S64x128.Idx → EReal) (ix2 j o) = a5 m c (ix2 ⟨j.val, by omega⟩ o) := by
  have e : (V m c main_v7 : FVec Ideal S64x128 .f32) = extractStridedSlice S64x128 ![0, 0] (a5 m c) slices_S68x128_S64x128_0_0 := by
    unfold_abbrev_sides
    after_results <;> rfl
  rw [e]
  pointwise
theorem v10 (l : Fin 8) (o : Fin 128) : (V m c main_v10 : S8x128.Idx → EReal) (ix2 l o)
    = if h : l.val < 4 then a5 m c (ix2 ⟨64 + l.val, by omega⟩ o) else 0 := by
  have e : (V m c main_v10 : FVec Ideal S8x128 .f32) = concatenate S8x128 0 [⟨S4x128, extractStridedSlice S4x128 ![64, 0] (a5 m c) slices_S68x128_S4x128_64_0⟩,
      ⟨S4x128, broadcastInDim S4x128 ![] bcast_S_S4x128 (constant (F := Ideal) S_ .f32 0x00000000#32)⟩] concatenates_S4x128_S4x128_S8x128_d0 := by
    unfold_abbrev_sides
    after_results <;> rfl
  rw [e]
  pointwise
theorem v11 (r : Fin 16384) : (V m c main_v11 : S16384x1.Idx → EReal) (ix2 r 0) = FloatOps.sitofp (F := Ideal) FTy.f32 (a2 m c (ix1 r)) := by
  have e : (V m c main_v11 : FVec Ideal S16384x1 .f32) = broadcastInDim S16384x1 ![0] bcast_S16384_S16384x1_0 (sitofp (F := Ideal) .f32 (a2 m c)) := by
    unfold_abbrev_sides
    after_results <;> rfl
  rw [e]
  pointwise
theorem v12 (o : Fin 128) : (V m c main_v12 : S1x128.Idx → EReal) (ix2 0 o) = a6 m c (ix1 o) := by
  have e : (V m c main_v12 : FVec Ideal S1x128 .f32) = shapeCast S1x128 (a6 m c) shapeCasts_S128_S1x128 := by
    unfold_abbrev_sides
    after_results <;> rfl
  rw [e]
  pointwise

/-! ## The scale and the row, as the mathematics has them -/

/-- A row's positions over its scale, then its reflectance. -/
def row (q : Fin 3 → EReal) (f s : EReal) : Fin 4 → EReal := fun l => if h : l.val < 3 then Ideal.div (q ⟨l.val, h⟩) s else f

theorem as_real (v : BitVec 32) : FloatOps.sitofp (F := Ideal) FTy.f32 v = ((v.toInt : ℝ) : EReal) := rfl

/-- Two words are the same number exactly when they are the same word. -/
theorem same_word (v w : BitVec 32) : FloatOps.sitofp (F := Ideal) FTy.f32 v = FloatOps.sitofp (F := Ideal) FTy.f32 w ↔ v = w := by
  rw [as_real, as_real, EReal.coe_eq_coe_iff, Int.cast_inj, BitVec.toInt_inj]

theorem hot (a : Prop) [Decidable a] : FloatOps.sitofp (F := Ideal) FTy.f32 (BitVec.setWidth 32 (BitVec.ofBool (decide a))) = if a then 1 else 0 := by
  rw [as_real]
  by_cases h : a
  · rw [if_pos h, decide_eq_true h]
    have : (BitVec.setWidth 32 (BitVec.ofBool true)).toInt = 1 := by decide
    rw [this]; norm_num
  · rw [if_neg h, decide_eq_false h]
    have : (BitVec.setWidth 32 (BitVec.ofBool false)).toInt = 0 := by decide
    rw [this]; norm_num

/-- The list of scales with the ones after it. -/
def pad (s : Fin 4 → EReal) : Fin 8 → EReal := fun l => if h : l.val < 4 then s ⟨l.val, h⟩ else 1

theorem sel_eq (b : BitVec 32) (h : b.toNat < 4) (s : Fin 4 → EReal) :
    sel (FloatOps.sitofp (F := Ideal) FTy.f32 b) (pad s) = s ⟨b.toNat, h⟩ := by
  unfold sel
  rw [Finset.sum_eq_single (⟨b.toNat, by omega⟩ : Fin 8)]
  · rw [hot, if_pos ((same_word _ _).2 (by simp)), one_mul]
    exact dif_pos h
  · intro x _ hx
    rw [hot, if_neg, zero_mul]
    intro e
    apply hx
    have e1 := (same_word _ _).1 e
    apply Fin.ext
    refine Eq.trans ?_ (congrArg BitVec.toNat e1).symm
    rw [BitVec.toNat_ofNat, Nat.mod_eq_of_lt (by omega)]
  · intro hx; exact absurd (Finset.mem_univ _) hx

/-- By a scale that is not zero, the product with one over it is the quotient. -/
theorem over (p s : EReal) (h : s ≠ 0) : p * Ideal.div 1 s = Ideal.div p s := by
  unfold Ideal.div
  rw [if_neg h, if_neg h, one_mul]

/-- The row with zeros after it. -/
def long (q : Fin 3 → EReal) (f : EReal) : Fin 8 → EReal := fun l => if h : l.val < 3 then q ⟨l.val, h⟩ else if l.val < 4 then f else 0
/-- A channel's weights with zeros after them. -/
def tall (w : Fin 4 → EReal) : Fin 8 → EReal := fun l => if h : l.val < 4 then w ⟨l.val, h⟩ else 0

theorem prod8_eq (q : Fin 3 → EReal) (f s : EReal) (w : Fin 4 → EReal) (h : s ≠ 0) :
    prod8 (long q f) s (tall w) = ∑ l, row q f s l * w l := by
  unfold prod8
  rw [Fin.sum_univ_eight, Fin.sum_univ_four]
  have c0 : IntOp.cmpi CmpIPredicate.slt (BitVec.ofNat 32 (0 : Fin 8).val) 3#32 = 1#1 := by decide
  have c1 : IntOp.cmpi CmpIPredicate.slt (BitVec.ofNat 32 (1 : Fin 8).val) 3#32 = 1#1 := by decide
  have c2 : IntOp.cmpi CmpIPredicate.slt (BitVec.ofNat 32 (2 : Fin 8).val) 3#32 = 1#1 := by decide
  have c3 : IntOp.cmpi CmpIPredicate.slt (BitVec.ofNat 32 (3 : Fin 8).val) 3#32 = 0#1 := by decide
  have one {x y : EReal} : Scalar.select 1#1 x y = x := rfl
  have none {x y : EReal} : Scalar.select 0#1 x y = y := rfl
  have t4 : tall w 4 = 0 := rfl
  have t5 : tall w 5 = 0 := rfl
  have t6 : tall w 6 = 0 := rfl
  have t7 : tall w 7 = 0 := rfl
  rw [c0, c1, c2, c3, one, one, one, none, t4, t5, t6, t7]
  simp only [mul_zero, add_zero, over _ _ h]
  rfl

end Cert.Proof.FPay

end
-- ==== Proof.FArr.lean ====
/-
  The two arrays the first layer leaves, element by element, off its arguments.
-/
module

public import proofs.«01_k».proof.Proof.FPay
public import proofs.«01_k».proof.Proof.Base

@[expose] public section

noncomputable section

namespace Cert.Proof.FArr

open Cert.FirstIdeal Cert.FirstIdeal.Gen Cert.Proof.FPay
open Idealize.ShloMosaic Idealize.ShloMosaic.TcCoe
open Idealize.ShloMosaic.Pipeline (Dat)

variable (m : (ℓ : Loc nD τ sig) → Buf (Elt Ideal) ℓ) (c : Dev nD)

/-! ## The windows' blocks -/

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![t.val, 0] := (by decide +kernel : ∀ t : Fin grid0.N, win0_7.index t = ![t.val, 0])
theorem index8 : ∀ t : Fin cfg0.N, win0_8.index t = ![t.val, 0] := (by decide +kernel : ∀ t : Fin grid0.N, win0_8.index t = ![t.val, 0])

theorem lt8 (t : Fin cfg0.N) : t.val < 8 := lt_of_lt_of_eq t.isLt N_0
/-- The node that row `p` of block `t` is. -/
abbrev node (t : Fin cfg0.N) (p : Fin 2048) : Fin 16384 := ⟨t.val * 2048 + p.val, by have := lt8 t; omega⟩

theorem blk0 (t : Fin cfg0.N) (p : Fin 2048) (j : Fin 64) : iblk m c 0 t (ix2 p j) = V m c main_arg0 (ix2 (node t p) j) := by
  blk_simp [iblk]
  refine congrArg (V m c main_arg0) ?_
  blk_ext [index0 t]
theorem blk1 (t : Fin cfg0.N) (p : Fin 2048) (j : Fin 8) : iblk m c 1 t (ix2 p j) = V m c main_v3 (ix2 (node t p) j) := by
  blk_simp [iblk]
  refine congrArg (V m c main_v3) ?_
  blk_ext [index1 t]
theorem blk2 (t : Fin cfg0.N) (p : Fin 2048) : iblk m c 2 t (ix2 p 0) = V m c main_v11 (ix2 (node t p) 0) := by
  blk_simp [iblk]
  refine congrArg (V m c main_v11) ?_
  blk_ext [index2 t]
theorem blk3 (t : Fin cfg0.N) (j : Fin 8) : iblk m c 3 t (ix2 0 j) = V m c main_v6 (ix2 0 j) := by
  blk_simp [iblk]
  refine congrArg (V m c main_v6) ?_
  blk_ext [index3 t]
theorem blk4 (t : Fin cfg0.N) (j : Fin 64) (o : Fin 128) : iblk m c 4 t (ix2 j o) = V m c main_v7 (ix2 j o) := by
  blk_simp [iblk]
  refine congrArg (V m c main_v7) ?_
  blk_ext [index4 t]
theorem blk5 (t : Fin cfg0.N) (j : Fin 8) (o : Fin 128) : iblk m c 5 t (ix2 j o) = V m c main_v10 (ix2 j o) := by
  blk_simp [iblk]
  refine congrArg (V m c main_v10) ?_
  blk_ext [index5 t]
theorem blk6 (t : Fin cfg0.N) (o : Fin 128) : iblk m c 6 t (ix2 0 o) = V m c main_v12 (ix2 0 o) := by
  blk_simp [iblk]
  refine congrArg (V m c main_v12) ?_
  blk_ext [index6 t]

/-! ## What a block is -/

/-- A node's neighbour part of the first layer, as the block computes it. -/
def nb (r : Fin 16384) (o : Fin 128) : EReal :=
  prod8 (long (fun l => a1 m c (ix2 r l)) (a3 m c (ix1 r)))
    (sel (FloatOps.sitofp (F := Ideal) FTy.f32 (a2 m c (ix1 r))) (pad fun l => a4 m c (ix1 l)))
    (tall fun l => a5 m c (ix2 ⟨64 + l.val, by omega⟩ o))
/-- A node's own part of it. -/
def own (r : Fin 16384) (o : Fin 128) : EReal :=
  (∑ j : Fin 64, a0 m c (ix2 r j) * a5 m c (ix2 ⟨j.val, by omega⟩ o)) + nb m c r o + a6 m c (ix1 o)

theorem nb_at (t : Fin cfg0.N) (p : Fin 2048) (o : Fin 128) :
    k0_pay1 (iblk m c 1 t) (iblk m c 2 t) (iblk m c 3 t) (iblk m c 5 t) (ix2 p o) = nb m c (node t p) o := by
  refine (pay1 (iblk m c 1 t) (iblk m c 2 t) (iblk m c 3 t) (iblk m c 5 t) p o).trans ?_
  have h1 := funext fun l => (blk1 m c t p l).trans (v3 m c (node t p) l)
  have h2 := (blk2 m c t p).trans (v11 m c (node t p))
  have h3 := funext fun l => (blk3 m c t l).trans (v6 m c l)
  have h5 := funext fun l => (blk5 m c t l o).trans (v10 m c l o)
  exact congr (congr (congrArg prod8 h1) (congr (congrArg sel h2) h3)) h5

theorem own_at (t : Fin cfg0.N) (p : Fin 2048) (o : Fin 128) :
    k0_pay2 (iblk m c 1 t) (iblk m c 2 t) (iblk m c 3 t) (iblk m c 5 t) (iblk m c 0 t) (iblk m c 4 t) (iblk m c 6 t) (ix2 p o) = own m c (node t p) o := by
  refine (pay2 (iblk m c 1 t) (iblk m c 2 t) (iblk m c 3 t) (iblk m c 5 t) (iblk m c 0 t) (iblk m c 4 t) (iblk m c 6 t) p o).trans ?_
  rw [nb_at]
  have h0 (j : Fin 64) := (blk0 m c t p j).trans (congrFun (V_main_arg0 m c) _)
  have h4 (j : Fin 64) := (blk4 m c t j o).trans (v7 m c j o)
  have h6 := (blk6 m c t o).trans (v12 m c o)
  exact congrArg₂ (· + ·) (congrArg (· + nb m c (node t p) o)
    (Finset.sum_congr rfl fun j _ => congrArg₂ (· * ·) (h0 j) (h4 j))) h6

theorem out7 (x0 : Vec Ideal S2048x64 .f32) (x1 : Vec Ideal S2048x8 .f32) (x2 : Vec Ideal S2048x1 .f32) (x3 : Vec Ideal S1x8 .f32)
    (x4 : Vec Ideal S64x128 .f32) (x5 : Vec Ideal S8x128 .f32) (x6 : Vec Ideal S1x128 .f32) :
    out0_7 x0 x1 x2 x3 x4 x5 x6 = k0_pay2 x1 x2 x3 x5 x0 x4 x6 := by
  unfold out0_7
  rw [View.canon_unit_zero (by funext a; fin_cases a <;> rfl)]
  rw [Base.ld_whole, Base.ld_whole, Base.ld_whole, Base.ld_whole, Base.ld_whole, Base.ld_whole, Base.ld_whole]
theorem out8 (x0 : Vec Ideal S2048x64 .f32) (x1 : Vec Ideal S2048x8 .f32) (x2 : Vec Ideal S2048x1 .f32) (x3 : Vec Ideal S1x8 .f32)
    (x4 : Vec Ideal S64x128 .f32) (x5 : Vec Ideal S8x128 .f32) (x6 : Vec Ideal S1x128 .f32) :
    out0_8 x0 x1 x2 x3 x4 x5 x6 = k0_pay1 x1 x2 x3 x5 := by
  unfold out0_8
  rw [View.canon_unit_zero (by funext a; fin_cases a <;> rfl)]
  rw [Base.ld_whole, Base.ld_whole, Base.ld_whole, Base.ld_whole]

/-! ## The arrays -/

def G7 : S16384x128.Idx → EReal := fun i => own m c (i 0) (i 1)
def G8 : S16384x128.Idx → EReal := fun i => nb m c (i 0) (i 1)

theorem blk7 (t : Fin cfg0.N) (z : S2048x128.Idx) :
    out0_7 (iblk m c 0 t) (iblk m c 1 t) (iblk m c 2 t) (iblk m c 3 t) (iblk m c 4 t) (iblk m c 5 t) (iblk m c 6 t) z = G7 m c (ix2 (node t (z 0)) (z 1)) := by
  idx_vars z
  rw [out7]
  exact own_at m c t z0 z1
theorem blk8 (t : Fin cfg0.N) (z : S2048x128.Idx) :
    out0_8 (iblk m c 0 t) (iblk m c 1 t) (iblk m c 2 t) (iblk m c 3 t) (iblk m c 4 t) (iblk m c 5 t) (iblk m c 6 t) z = G8 m c (ix2 (node t (z 0)) (z 1)) := by
  idx_vars z
  rw [out8]
  exact nb_at m c t z0 z1

theorem emb7 (t : Fin cfg0.N) (p : Fin 2048) (o : Fin 128) :
    (((cfg0.win 7).blk t).view.emb (ix2 p o) : S16384x128.Idx) = ix2 (node t p) o := by
  blk_ext [index7 t]
theorem emb8 (t : Fin cfg0.N) (p : Fin 2048) (o : Fin 128) :
    (((cfg0.win 8).blk t).view.emb (ix2 p o) : S16384x128.Idx) = ix2 (node t p) o := by
  blk_ext [index8 t]

/-- The block and the row within it where a node is. -/
theorem place (r : Fin 16384) : ∃ (t : Fin cfg0.N) (p : Fin 2048), node t p = r :=
  ⟨⟨r.val / 2048, lt_of_lt_of_eq (by have := r.isLt; omega) N_0.symm⟩, ⟨r.val % 2048, Nat.mod_lt _ (by norm_num)⟩,
    Fin.ext (Nat.div_add_mod' r.val 2048)⟩
theorem cov7 (i : S16384x128.Idx) : ∃ t : Fin cfg0.N, (cfg0.win 7).flush t = true ∧ i ∈ ((cfg0.win 7).blk t).view.set := by
  idx_vars i
  obtain ⟨t, p, e⟩ := place i0
  refine ⟨t, flush0_7 t, ?_⟩
  rw [← e, ← emb7 t p i1]
  exact View.emb_mem_set _ _
theorem cov8 (i : S16384x128.Idx) : ∃ t : Fin cfg0.N, (cfg0.win 8).flush t = true ∧ i ∈ ((cfg0.win 8).blk t).view.set := by
  idx_vars i
  obtain ⟨t, p, e⟩ := place i0
  refine ⟨t, flush0_8 t, ?_⟩
  rw [← e, ← emb8 t p i1]
  exact View.emb_mem_set _ _

theorem at7 (t : Fin cfg0.N) (y : ((cfg0.win 7).xblock (cfg0.grid.coords t)).Idx) :
    out0_7 (iblk m c 0 t) (iblk m c 1 t) (iblk m c 2 t) (iblk m c 3 t) (iblk m c 4 t) (iblk m c 5 t) (iblk m c 6 t) ((cfg0.win 7).xinj (cfg0.grid.coords t) y)
      = G7 m c (((cfg0.win 7).blk t).view.emb y) := by
  refine (blk7 m c t _).trans (congrArg (G7 m c) ?_)
  blk_ext [index7 t]
theorem at8 (t : Fin cfg0.N) (y : ((cfg0.win 8).xblock (cfg0.grid.coords t)).Idx) :
    out0_8 (iblk m c 0 t) (iblk m c 1 t) (iblk m c 2 t) (iblk m c 3 t) (iblk m c 4 t) (iblk m c 5 t) (iblk m c 6 t) ((cfg0.win 8).xinj (cfg0.grid.coords t) y)
      = G8 m c (((cfg0.win 8).blk t).view.emb y) := by
  refine (blk8 m c t _).trans (congrArg (G8 m c) ?_)
  blk_ext [index8 t]

theorem arr7 : (dats m 0 c).arrAt 7 cfg0.N = G7 m c := by
  refine (dats m 0 c).arrAt_eq_of_emb 7 _ (fun t hf y => ?_) cov7
  refine (cast_eq _ _).trans ?_
  exact (congrFun (after0_7 m c t) _).trans (at7 m c t y)
theorem arr8 : (dats m 0 c).arrAt 8 cfg0.N = G8 m c := by
  refine (dats m 0 c).arrAt_eq_of_emb 8 _ (fun t hf y => ?_) cov8
  refine (cast_eq _ _).trans ?_
  exact (congrFun (after0_8 m c t) _).trans (at8 m c t y)

end Cert.Proof.FArr

end
-- ==== Proof.FRef.lean ====
/-
  What the first layer's reference computes, element by element, and that the kernel's two arrays are its two results.
-/
module

public import proofs.«01_k».proof.Proof.FArr
public import proofs.«01_k».proof.Proof.Pre
public import proofs.«01_k».proof.Proof.Gen.FirstReferenceIdeal.Run
public import proofs.«01_k».proof.Proof.Gen.Pre_batch_in_range

@[expose] public section

noncomputable section

namespace Cert.Proof.FRef

open Idealize.ShloMosaic Idealize.ShloMosaic.TcCoe
open Cert.Proof.FPay

/-! ## The precondition, entry by entry -/

section Decode
open Cert.Pre_batch_in_range

/-- A word that is at least 0 and below 4 as a signed number is below 4. -/
theorem lt_four (v : BitVec 32) (h : IntOp.andi (IntOp.cmpi .sge v 0#32) (IntOp.cmpi .slt v 4#32) = 1#1) : v.toNat < 4 := by
  have hb : ∀ p q : Bool, IntOp.andi (BitVec.ofBool p) (BitVec.ofBool q) = 1#1 → p = true ∧ q = true := by decide
  obtain ⟨h0, h1⟩ : (0#32).sle v = true ∧ v.slt 4#32 = true := hb _ _ h
  rw [BitVec.sle_eq_decide, decide_eq_true_eq] at h0
  rw [BitVec.slt_eq_decide, decide_eq_true_eq] at h1
  simp only [BitVec.toInt_eq_toNat_cond, BitVec.toNat_ofNat, Nat.reducePow, Nat.reduceMod] at h0 h1
  omega

theorem decode (x0 : FVec Ideal S16384x64 .f32) (x1 : FVec Ideal S16384x3 .f32) (x2 : IVec S16384 32) (x3 : FVec Ideal S16384 .f32)
    (x4 : FVec Ideal S4 .f32) (x5 : FVec Ideal S68x128 .f32) (x6 : FVec Ideal S128 .f32) (h : fn (F := Ideal) x0 x1 x2 x3 x4 x5 x6 = fun _ => 1#1) :
    (∀ j, (x2 j).toNat < 4) ∧ (∀ j, x4 j ≠ 0) ∧ ∀ j, Net.Real' (x4 j) := by
  have at_ := fun j => congrFun h j
  dsimp only [fn] at at_
  have hs := fun j => IntOp.andi_eq_one.mp (Host.reduce_andi_all _ _ _ _ _ (IntOp.andi_eq_one.mp (at_ (ix1 0))).2 j)
  refine ⟨fun j => lt_four _ (IntOp.andi_eq_one.mp (at_ j)).1, fun j e => ?_, fun j => Pre.real_of_bit _ (hs j).2⟩
  exact (Pre.true_of_bit (hs j).1 : x4 j ≠ _) (e.trans Pre.zero.symm)
end Decode

/-! ## The reference's results -/

section Reference
open Cert.FirstReferenceIdeal Cert.FirstReferenceIdeal.Gen

/-- The gather of the scales by the rows' batch numbers. -/
abbrev Gd : GatherDims S4 S16384x1 S16384 := gather_S4_S16384x1_S16384_n_0_n_n_0_1_1

/-- A batch number as the gather takes it: signed, held within the list. -/
def held (w : BitVec 32) : Fin 4 := ⟨min w.toInt.toNat 3, by omega⟩

theorem gather_at {α : Type} (x : S4.Idx → α) (idx : IVec S16384x1 32) (r : Fin 16384) :
    Host.gather Gd x idx (ix1 r) = x (ix1 (held (idx (ix2 r 0)))) := by
  unfold Host.gather
  refine congrArg x (funext fun a => Fin.ext ?_)
  match a with
  | ⟨0, _⟩ =>
    have hm : (0 : Fin 1) ∈ Gd.startIndexMap := List.mem_singleton.2 rfl
    have hk : (0 : Fin 1) ∉ Gd.sKept := fun h => ((Gd.mem_sKept 0).1 h).1 (List.mem_singleton.2 rfl)
    show Gd.start (ix1 r) idx 0 + Gd.batchCoord (ix1 r) 0 + Gd.offCoord (ix1 r) 0 = min (idx (ix2 r 0)).toInt.toNat 3
    rw [Gd.batchCoord_eq_zero _ _ List.not_mem_nil, Gd.offCoord_eq_zero _ _ hk]
    simp only [Nat.add_zero]
    unfold GatherDims.start
    rw [dif_pos hm]
    have hsi : Gd.siIdx (ix1 r) ⟨Gd.startIndexMap.idxOf 0, List.idxOf_lt_length_iff.2 hm⟩ = ix2 r (0 : Fin 1) := by
      funext b
      apply Fin.ext
      fin_cases b <;> rfl
    rw [hsi]
    rfl

theorem held_eq (v : BitVec 32) (h : v.toNat < 4) : held v = ⟨v.toNat, h⟩ := by
  apply Fin.ext
  show min v.toInt.toNat 3 = v.toNat
  rw [BitVec.toInt_eq_toNat_of_lt (by omega)]
  omega

theorem not_neg (v : BitVec 32) (h : v.toNat < 4) : IntOp.cmpi .slt v 0#32 = 0#1 := by
  have e : IntOp.cmpi .slt v 0#32 = BitVec.ofBool (v.slt 0#32) := rfl
  rw [e, BitVec.slt_eq_decide, BitVec.toInt_eq_toNat_of_lt (by omega), decide_eq_false (by have : (0#32).toInt = 0 := rfl; omega)]
  rfl

theorem select_zero {α : Type} (a b : α) : Scalar.select 0#1 a b = b := rfl

variable (x0 : FVec Ideal S16384x64 .f32) (x1 : FVec Ideal S16384x3 .f32) (x2 : IVec S16384 32) (x3 : FVec Ideal S16384 .f32)
    (x4 : FVec Ideal S4 .f32) (x5 : FVec Ideal S68x128 .f32) (x6 : FVec Ideal S128 .f32)

/-- The scaled positions with the reflectance beside them, as the reference composes them. -/
abbrev quad : FVec Ideal S16384x4 .f32 :=
  concatenate S16384x4 1 [⟨S16384x3, (Host.divf x1 (broadcastInDim S16384x3 ![0, 1] bcast_S16384x1_S16384x3_0_1 (broadcastInDim S16384x1 ![0] bcast_S16384_S16384x1_0 (Host.gather gather_S4_S16384x1_S16384_n_0_n_n_0_1_1 x4 (broadcastInDim S16384x1 ![0] bcast_S16384_S16384x1_0 (select (cmpi .slt x2 (broadcastInDim S16384 ![] bcast_S_S16384 (constantI S_ 32 0#32))) (addi x2 (broadcastInDim S16384 ![] bcast_S_S16384 (constantI S_ 32 4#32))) x2))))))⟩, ⟨S16384x1, (broadcastInDim S16384x1 ![0] bcast_S16384_S16384x1_0 x3)⟩] concatenates_S16384x3_S16384x1_S16384x4_d1

/-- A node's scaled row. -/
def rowR (h : ∀ j, (x2 j).toNat < 4) (r : Fin 16384) : Fin 4 → EReal :=
  row (fun l => x1 (ix2 r l)) (x3 (ix1 r)) (x4 (ix1 ⟨(x2 (ix1 r)).toNat, h _⟩))

theorem quad_at (h : ∀ j, (x2 j).toNat < 4) (r : Fin 16384) (l : Fin 4) :
    quad x1 x2 x3 x4 (ix2 r l) = rowR x1 x2 x3 x4 h r l := by
  unfold quad
  pointwise [gather_at]
  rw [not_neg _ (h _), select_zero, held_eq _ (h _)]
  rfl

theorem nb_at (h : ∀ j, (x2 j).toNat < 4) (r : Fin 16384) (o : Fin 128) (q : FVec Ideal S16384x4 .f32)
    (hq : ∀ r l, q (ix2 r l) = rowR x1 x2 x3 x4 h r l) :
    Host.dotGeneral (F := Ideal) dot_S16384x4_S4x128_S16384x128_1_0_0_1_n_n none q (extractStridedSlice S4x128 ![64, 0] x5 slices_S68x128_S4x128_64_0) (ix2 r o)
      = ∑ l : Fin 4, rowR x1 x2 x3 x4 h r l * x5 (ix2 ⟨64 + l.val, by omega⟩ o) := by
  pointwise
  simp only [hq]

theorem own_at (h : ∀ j, (x2 j).toNat < 4) (r : Fin 16384) (o : Fin 128) (q : FVec Ideal S16384x4 .f32)
    (hq : ∀ r l, q (ix2 r l) = rowR x1 x2 x3 x4 h r l) :
    addf (Host.dotGeneral (F := Ideal) dot_S16384x68_S68x128_S16384x128_1_0_0_1_n_n none (concatenate S16384x68 1 [⟨S16384x64, x0⟩, ⟨S16384x4, q⟩] concatenates_S16384x64_S16384x4_S16384x68_d1) x5) (broadcastInDim S16384x128 ![0, 1] bcast_S1x128_S16384x128_0_1 (broadcastInDim S1x128 ![1] bcast_S128_S1x128_1 x6)) (ix2 r o)
      = (∑ j : Fin 64, x0 (ix2 r j) * x5 (ix2 ⟨j.val, by omega⟩ o)) + (∑ l : Fin 4, rowR x1 x2 x3 x4 h r l * x5 (ix2 ⟨64 + l.val, by omega⟩ o)) + x6 (ix1 o) := by
  pointwise
  simp only [hq]

/-- A quotient by a real number that is not zero, times that number. -/
theorem back (p s : EReal) (h0 : s ≠ 0) (h : Net.Real' s) : Ideal.div p s * s = p := by
  obtain ⟨x, rfl⟩ := h
  have hx : x ≠ 0 := fun e => h0 (by rw [e]; rfl)
  unfold Ideal.div
  rw [if_neg h0, mul_assoc, ← EReal.coe_inv, ← EReal.coe_mul, inv_mul_cancel₀ hx, EReal.coe_one, mul_one]

/-- The positions, scaled and scaled back. -/
theorem back_at (h : ∀ j, (x2 j).toNat < 4) (h0 : ∀ j, x4 j ≠ 0) (hr : ∀ j, Net.Real' (x4 j)) (q : FVec Ideal S16384x4 .f32)
    (hq : ∀ r l, q (ix2 r l) = rowR x1 x2 x3 x4 h r l) :
    mulf (extractStridedSlice S16384x3 ![0, 0] q slices_S16384x4_S16384x3_0_0) (broadcastInDim S16384x3 ![0, 1] bcast_S16384x1_S16384x3_0_1 (broadcastInDim S16384x1 ![0] bcast_S16384_S16384x1_0 (Host.gather gather_S4_S16384x1_S16384_n_0_n_n_0_1_1 x4 (broadcastInDim S16384x1 ![0] bcast_S16384_S16384x1_0 (select (cmpi .slt x2 (broadcastInDim S16384 ![] bcast_S_S16384 (constantI S_ 32 0#32))) (addi x2 (broadcastInDim S16384 ![] bcast_S_S16384 (constantI S_ 32 4#32))) x2)))))
      = x1 := by
  funext i
  idx_vars i
  pointwise [gather_at]
  rw [hq, not_neg _ (h _), select_zero, held_eq _ (h _)]
  unfold rowR row
  rw [dif_pos i1.isLt]
  exact back _ _ (h0 _) (hr _)

end Reference

/-! ## The comparison -/

section Compare
open Cert.FirstIdeal

variable (m : (ℓ : Loc nD τ sig) → Buf (Elt Ideal) ℓ) (c : Dev nD)

theorem nb_eq (h : ∀ j, (a2 m c j).toNat < 4) (hs : ∀ j, a4 m c j ≠ 0) (r : Fin 16384) (o : Fin 128) :
    FArr.nb m c r o = ∑ l : Fin 4, rowR (a1 m c) (a2 m c) (a3 m c) (a4 m c) h r l * a5 m c (ix2 ⟨64 + l.val, by omega⟩ o) := by
  unfold FArr.nb rowR
  rw [sel_eq _ (h _), prod8_eq _ _ _ _ (hs _)]

/-- The second result: every node's neighbour part. -/
theorem close1 (h : ∀ j, (a2 m c j).toNat < 4) (hs : ∀ j, a4 m c j ≠ 0)
    (Z : Cert.FirstReferenceIdeal.S16384x128.Idx → EReal)
    (hZ : ∀ r o, Z (ix2 r o) = ∑ l : Fin 4, rowR (a1 m c) (a2 m c) (a3 m c) (a4 m c) h r l * a5 m c (ix2 ⟨64 + l.val, by omega⟩ o)) :
    Z = (FArr.G8 m c : S16384x128.Idx → EReal) := by
  funext i
  idx_vars i
  exact (hZ i0 i1).trans (nb_eq m c h hs i0 i1).symm

/-- The first result: every node's own part. -/
theorem close0 (h : ∀ j, (a2 m c j).toNat < 4) (hs : ∀ j, a4 m c j ≠ 0)
    (Z : Cert.FirstReferenceIdeal.S16384x128.Idx → EReal)
    (hZ : ∀ r o, Z (ix2 r o) = (∑ j : Fin 64, a0 m c (ix2 r j) * a5 m c (ix2 ⟨j.val, by omega⟩ o)) + (∑ l : Fin 4, rowR (a1 m c) (a2 m c) (a3 m c) (a4 m c) h r l * a5 m c (ix2 ⟨64 + l.val, by omega⟩ o)) + a6 m c (ix1 o)) :
    Z = (FArr.G7 m c : S16384x128.Idx → EReal) := by
  funext i
  idx_vars i
  refine (hZ i0 i1).trans ?_
  show _ = FArr.own m c i0 i1
  unfold FArr.own
  rw [nb_eq m c h hs i0 i1]

end Compare

end Cert.Proof.FRef

end
-- ==== Proof.CPay.lean ====
/-
  What one block of the points' cells computes, element by element, and the array the host hands it.
-/
module

public import proofs.«01_k».proof.Proof.Gen.CellsIdeal.Value
public import Idealize.ShloMosaic.Lib.Pointwise
public import Idealize.ShloMosaic.Lib.Pipeline.ValueKit

@[expose] public section

noncomputable section

namespace Cert.Proof.CPay

open Cert.CellsIdeal Cert.CellsIdeal.Gen
open Idealize.ShloMosaic Idealize.ShloMosaic.TcCoe

/-- The cell a coordinate is in: its floor over the cells' size, held within 0 and 5. -/
def step (x : EReal) : EReal :=
  min (FloatOps.sitofp (F := Ideal) FTy.f32 5#32) (max (FloatOps.sitofp (F := Ideal) FTy.f32 0#32)
    (Ideal.liftRound Int.floor (Ideal.div x (Ideal.ofBits FTy.f32 1026295857#32))))
/-- The number of a point's cell. -/
def cell (b x y z : EReal) : EReal :=
  ((b * Ideal.ofBits FTy.f32 1086324736#32 + step x) * Ideal.ofBits FTy.f32 1086324736#32 + step y) * Ideal.ofBits FTy.f32 1086324736#32 + step z
/-- One where a number is a given list place, else zero. -/
def here (v : EReal) (k : Fin 1024) : EReal := if v = FloatOps.sitofp (F := Ideal) FTy.f32 (BitVec.ofNat 32 k.val) then 1 else 0

theorem hot (a : Prop) [Decidable a] : FloatOps.sitofp (F := Ideal) FTy.f32 (BitVec.setWidth 32 (BitVec.ofBool (decide a))) = if a then 1 else 0 := by
  have as_real (v : BitVec 32) : FloatOps.sitofp (F := Ideal) FTy.f32 v = ((v.toInt : ℝ) : EReal) := rfl
  rw [as_real]
  by_cases h : a
  · rw [if_pos h, decide_eq_true h]
    have : (BitVec.setWidth 32 (BitVec.ofBool true)).toInt = 1 := by decide
    rw [this]; norm_num
  · rw [if_neg h, decide_eq_false h]
    have : (BitVec.setWidth 32 (BitVec.ofBool false)).toInt = 0 := by decide
    rw [this]; norm_num
theorem hot' (a : Prop) [Decidable a] : FloatOps.uitofp (F := Ideal) FTy.f32 (BitVec.ofBool (decide a)) = if a then 1 else 0 := by
  have as_real (v : BitVec 1) : FloatOps.uitofp (F := Ideal) FTy.f32 v = ((v.toNat : ℝ) : EReal) := rfl
  rw [as_real]
  by_cases h : a
  · rw [if_pos h, decide_eq_true h]
    have : (BitVec.ofBool true).toNat = 1 := by decide
    rw [this]; norm_num
  · rw [if_neg h, decide_eq_false h]
    have : (BitVec.ofBool false).toNat = 0 := by decide
    rw [this]; norm_num

theorem pay3 (v0 : Vec Ideal S512x8 .f32) (p : Fin 512) :
    k0_pay3 v0 (ix2 p 0) = cell (v0 (ix2 p 3)) (v0 (ix2 p 0)) (v0 (ix2 p 1)) (v0 (ix2 p 2)) := by
  pointwise [k0_pay3]
  rfl
theorem pay2 (v : FVec Ideal S512x1 .f32) (h : Vec Ideal S1x1024 .f32) (k : Fin 1024) :
    k0_pay2 v h (ix2 0 k) = h (ix2 0 k) + ∑ p : Fin 512, here (v (ix2 p 0)) k := by
  pointwise [k0_pay2]
  exact congrArg (h (ix2 0 k) + ·) (Finset.sum_congr rfl fun p _ => hot _)
theorem pay1 (k : Fin 1024) : k0_pay1 (F := Ideal) (ix2 0 k) = 0 := by
  pointwise [k0_pay1]

variable (m : (ℓ : Loc nD τ sig) → Buf (Elt Ideal) ℓ) (c : Dev nD)

abbrev a0 : S16384x3.Idx → EReal := m ((c : Thread nD τ).loc main_arg0)
abbrev a1 : S16384.Idx → BitVec 32 := m ((c : Thread nD τ).loc main_arg1)

theorem v3 (r : Fin 16384) (l : Fin 8) : (V m c main_v3 : S16384x8.Idx → EReal) (ix2 r l)
    = if h : l.val < 3 then a0 m c (ix2 r ⟨l.val, h⟩) else if l.val < 4 then FloatOps.sitofp (F := Ideal) FTy.f32 (a1 m c (ix1 r)) else 0 := by
  have e : (V m c main_v3 : FVec Ideal S16384x8 .f32) = concatenate S16384x8 1 [⟨S16384x3, a0 m c⟩,
      ⟨S16384x1, broadcastInDim S16384x1 ![0] bcast_S16384_S16384x1_0 (sitofp (F := Ideal) .f32 (a1 m c))⟩,
      ⟨S16384x4, broadcastInDim S16384x4 ![] bcast_S_S16384x4 (constant (F := Ideal) S_ .f32 0x00000000#32)⟩] concatenates_S16384x3_S16384x1_S16384x4_S16384x8_d1 := by
    unfold_abbrev_sides
    after_results <;> rfl
  rw [e]
  pointwise
  split_ifs <;> first | rfl | omega

end Cert.Proof.CPay

end
-- ==== Proof.CArr.lean ====
/-
  The two arrays the points' cells leave, element by element, off the arguments.
-/
module

public import proofs.«01_k».proof.Proof.CPay

@[expose] public section

noncomputable section

namespace Cert.Proof.CArr

open Cert.CellsIdeal Cert.CellsIdeal.Gen Cert.Proof.CPay
open Idealize.ShloMosaic Idealize.ShloMosaic.TcCoe Idealize.ShloMosaic.Tactic
open Idealize.ShloMosaic.Pipeline (Dat)

/-! ## What one block leaves -/

section Block
variable {F : FTy → Type} [FloatOps F]

theorem hz : (![0, 0] : Fin 2 → Nat) = fun _ => 0 := funext fun a => by fin_cases a <;> rfl

theorem outA1 (c : Dev nD) (i : grid0.Coords) (d1 : Memref sig .tc .vmem S512x8 .f32) (h1 : d1.IsWhole) (d2 : Memref sig .tc .vmem S512x1 .f32) (h2 : d2.IsWhole)
    (d3 : Memref sig .tc .vmem S1x1024 .f32) (h3 : d3.IsWhole) (hc : cond0_0 i) (x : Vec F S512x8 .f32) :
    out0_A_1 c i d1 h1 d2 h2 d3 h3 hc x = k0_pay3 x := by
  unfold out0_A_1
  rw [View.read_writes_eq_canon _ _ _ (cover0_A_1 c i d1 h1 d2 h2 d3 h3 hc x)]
  unfold kernelRun0_A
  dsimp only
  sl_unfold_words
  rw [View.canon_unit_zero hz]
  simp only [View.readAt_eq_ld, h1.read_unread, View.ld_unit_zero (S := S512x8) hz]
theorem outB1 (c : Dev nD) (i : grid0.Coords) (d1 : Memref sig .tc .vmem S512x8 .f32) (h1 : d1.IsWhole) (d2 : Memref sig .tc .vmem S512x1 .f32) (h2 : d2.IsWhole)
    (d3 : Memref sig .tc .vmem S1x1024 .f32) (h3 : d3.IsWhole) (hc : ¬cond0_0 i) (x : Vec F S512x8 .f32) (o : Vec F S1x1024 .f32) :
    out0_B_1 c i d1 h1 d2 h2 d3 h3 hc x o = k0_pay3 x := by
  unfold out0_B_1
  rw [View.read_writes_eq_canon _ _ _ (cover0_B_1 c i d1 h1 d2 h2 d3 h3 hc x o)]
  unfold kernelRun0_B
  dsimp only
  sl_unfold_words
  rw [View.canon_unit_zero hz]
  simp only [View.readAt_eq_ld, h1.read_unread, View.ld_unit_zero (S := S512x8) hz]
theorem outA2 (c : Dev nD) (i : grid0.Coords) (d1 : Memref sig .tc .vmem S512x8 .f32) (h1 : d1.IsWhole) (d2 : Memref sig .tc .vmem S512x1 .f32) (h2 : d2.IsWhole)
    (d3 : Memref sig .tc .vmem S1x1024 .f32) (h3 : d3.IsWhole) (hc : cond0_0 i) (x : Vec F S512x8 .f32) :
    out0_A_2 c i d1 h1 d2 h2 d3 h3 hc x = k0_pay2 (k0_pay3 x) k0_pay1 := by
  unfold out0_A_2
  rw [View.read_writes_eq_canon _ _ _ (cover0_A_2 c i d1 h1 d2 h2 d3 h3 hc x)]
  unfold kernelRun0_A
  dsimp only
  sl_unfold_words
  rw [View.canon_cons_unit_zero (S := S1x1024) hz, View.readCov_unit_zero (S := S1x1024) _ hz]
  simp only [View.readAt_eq_ld, h1.read_unread, View.ld_unit_zero (S := S512x8) hz]
theorem outB2 (c : Dev nD) (i : grid0.Coords) (d1 : Memref sig .tc .vmem S512x8 .f32) (h1 : d1.IsWhole) (d2 : Memref sig .tc .vmem S512x1 .f32) (h2 : d2.IsWhole)
    (d3 : Memref sig .tc .vmem S1x1024 .f32) (h3 : d3.IsWhole) (hc : ¬cond0_0 i) (x : Vec F S512x8 .f32) (o : Vec F S1x1024 .f32) :
    out0_B_2 c i d1 h1 d2 h2 d3 h3 hc x o = k0_pay2 (k0_pay3 x) o := by
  unfold out0_B_2
  rw [View.read_writes_eq_canon _ _ _ (cover0_B_2 c i d1 h1 d2 h2 d3 h3 hc x o)]
  unfold kernelRun0_B
  dsimp only
  sl_unfold_words
  rw [View.canon_unit_zero hz]
  simp only [View.readAt_eq_ld, h1.read_unread, h3.read_unread, View.ld_unit_zero (S := S512x8) hz, View.ld_unit_zero (S := S1x1024) hz]
end Block

variable (m : (ℓ : Loc nD τ sig) → Buf (Elt Ideal) ℓ) (c : Dev nD)

/-! ## The windows' blocks -/

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![0, 0] := (by decide +kernel : ∀ t : Fin grid0.N, win0_2.index t = ![0, 0])

theorem lt32 (t : Fin cfg0.N) : t.val < 32 := lt_of_lt_of_eq t.isLt N_0
/-- The point that row `p` of block `t` is. -/
abbrev node (t : Fin cfg0.N) (p : Fin 512) : Fin 16384 := ⟨t.val * 512 + p.val, by have := lt32 t; omega⟩

theorem blk0 (t : Fin cfg0.N) (p : Fin 512) (j : Fin 8) : iblk m c 0 t (ix2 p j) = V m c main_v3 (ix2 (node t p) j) := by
  blk_simp [iblk]
  refine congrArg (V m c main_v3) ?_
  blk_ext [index0 t]

/-- The number of point `r`'s cell. -/
def cellOf (r : Fin 16384) : EReal :=
  cell (FloatOps.sitofp (F := Ideal) FTy.f32 (a1 m c (ix1 r))) (a0 m c (ix2 r 0)) (a0 m c (ix2 r 1)) (a0 m c (ix2 r 2))

theorem cell_at (t : Fin cfg0.N) (p : Fin 512) : k0_pay3 (iblk m c 0 t) (ix2 p 0) = cellOf m c (node t p) := by
  refine (pay3 (iblk m c 0 t) p).trans ?_
  have h (l : Fin 8) := (blk0 m c t p l).trans (v3 m c (node t p) l)
  have h0 := (h 0).trans (dif_pos (by decide))
  have h1 := (h 1).trans (dif_pos (by decide))
  have h2 := (h 2).trans (dif_pos (by decide))
  have h3 := (h 3).trans ((dif_neg (by decide)).trans (if_pos (by decide)))
  exact congr (congr (congr (congrArg cell h3) h0) h1) h2

/-! ## The running counts -/

/-- What point `i` adds to cell `k`'s count. -/
def add (k : Fin 1024) (i : ℕ) : EReal := if h : i < 16384 then here (cellOf m c ⟨i, h⟩) k else 0

theorem sum_at (t : Fin cfg0.N) (k : Fin 1024) :
    ∑ p : Fin 512, here (k0_pay3 (iblk m c 0 t) (ix2 p 0)) k = ∑ x ∈ Finset.range 512, add m c k (t.val * 512 + x) := by
  rw [Finset.sum_range]
  refine Finset.sum_congr rfl fun p _ => ?_
  rw [cell_at]
  unfold add
  rw [dif_pos (node t p).isLt]

theorem cell_block (t : Fin cfg0.N) : (outsAt0 m c t.val t.isLt).1 = k0_pay3 (iblk m c 0 t) := by
  by_cases h : t.val % 32 = 0
  · rw [outsAt0_A m c t h]
    dsimp only
    rw [outA1]
  · rw [outsAt0_B m c t h]
    dsimp only
    rw [outB1]
theorem count_first (t : Fin cfg0.N) (h : t.val % 32 = 0) : (outsAt0 m c t.val t.isLt).2 = k0_pay2 (k0_pay3 (iblk m c 0 t)) (k0_pay1 (F := Ideal)) := by
  rw [outsAt0_A m c t h]
  dsimp only
  rw [outA2]
theorem count_next (t : Fin cfg0.N) (h : ¬t.val % 32 = 0) : (outsAt0 m c t.val t.isLt).2
    = k0_pay2 (k0_pay3 (iblk m c 0 t)) (outsAt0 m c (t.val - 1) (Nat.lt_of_le_of_lt (Nat.sub_le _ _) t.isLt)).2 := by
  rw [outsAt0_B m c t h]
  dsimp only
  rw [outB2]

theorem count_at (k : Fin 1024) (n : ℕ) : ∀ (t : Fin cfg0.N), t.val = n →
    (outsAt0 m c t.val t.isLt).2 (ix2 0 k) = ∑ i ∈ Finset.range ((n + 1) * 512), add m c k i := by
  induction n with
  | zero =>
    intro t ht
    rw [count_first m c t (by omega), pay2, pay1, zero_add, sum_at]
    refine Finset.sum_congr rfl fun x _ => ?_
    rw [ht, Nat.zero_mul, Nat.zero_add]
  | succ n ih =>
    intro t ht
    have hn := lt32 t
    rw [count_next m c t (by omega), pay2, sum_at, show (n + 1 + 1) * 512 = (n + 1) * 512 + 512 by omega, Finset.sum_range_add,
      show ∑ x ∈ Finset.range 512, add m c k (t.val * 512 + x) = ∑ x ∈ Finset.range 512, add m c k ((n + 1) * 512 + x) by rw [ht]]
    have e := ih ⟨t.val - 1, Nat.lt_of_le_of_lt (Nat.sub_le _ _) t.isLt⟩ (by dsimp only; omega)
    exact congrArg (· + _) e

/-! ## The arrays -/

def G1 : S16384x1.Idx → EReal := fun i => cellOf m c (i 0)
def G2 : S1x1024.Idx → EReal := fun i => ∑ r : Fin 16384, here (cellOf m c r) (i 1)

theorem first_at (t : Fin cfg0.N) (z : S512x1.Idx) : (outsAt0 m c t.val t.isLt).1 z = G1 m c (ix2 (node t (z 0)) 0) := by
  rw [cell_block]
  idx_vars z
  obtain rfl : z1 = 0 := Subsingleton.elim _ _
  exact cell_at m c t z0
theorem last_at (t : Fin cfg0.N) (h : t.val = 31) (z : S1x1024.Idx) : (outsAt0 m c t.val t.isLt).2 z = G2 m c (ix2 0 (z 1)) := by
  idx_vars z
  obtain rfl : z0 = 0 := Subsingleton.elim _ _
  refine (count_at m c z1 31 t h).trans ?_
  rw [show (31 + 1) * 512 = 16384 from rfl, Finset.sum_range]
  refine Finset.sum_congr rfl fun r _ => ?_
  unfold add
  rw [dif_pos r.isLt]
  rfl

theorem emb1 (t : Fin cfg0.N) (p : Fin 512) :
    (((cfg0.win 1).blk t).view.emb (ix2 p 0) : S16384x1.Idx) = ix2 (node t p) 0 := by
  blk_ext [index1 t]
theorem emb2 (t : Fin cfg0.N) (k : Fin 1024) :
    (((cfg0.win 2).blk t).view.emb (ix2 0 k) : S1x1024.Idx) = ix2 0 k := by
  blk_ext [index2 t]

/-- The block and the row within it where a point is. -/
theorem place (r : Fin 16384) : ∃ (t : Fin cfg0.N) (p : Fin 512), node t p = r :=
  ⟨⟨r.val / 512, lt_of_lt_of_eq (by have := r.isLt; omega) N_0.symm⟩, ⟨r.val % 512, Nat.mod_lt _ (by norm_num)⟩,
    Fin.ext (Nat.div_add_mod' r.val 512)⟩
theorem cov1 (i : S16384x1.Idx) : ∃ t : Fin cfg0.N, (cfg0.win 1).flush t = true ∧ i ∈ ((cfg0.win 1).blk t).view.set := by
  idx_vars i
  obtain rfl : i1 = 0 := Subsingleton.elim _ _
  obtain ⟨t, p, e⟩ := place i0
  refine ⟨t, flush0_1 t, ?_⟩
  rw [← e, ← emb1 t p]
  exact View.emb_mem_set _ _
theorem cov2 (i : S1x1024.Idx) : ∃ t : Fin cfg0.N, (cfg0.win 2).flush t = true ∧ i ∈ ((cfg0.win 2).blk t).view.set := by
  idx_vars i
  obtain rfl : i0 = 0 := Subsingleton.elim _ _
  have ⟨t, ht⟩ : ∃ t : Fin cfg0.N, t.val = 31 := ⟨⟨31, by rw [show cfg0.N = 32 from N_0]; decide⟩, rfl⟩
  refine ⟨t, (flush0_2 t).mpr (by omega), ?_⟩
  rw [← emb2 t i1]
  exact View.emb_mem_set _ _

theorem at1 (t : Fin cfg0.N) (y : ((cfg0.win 1).xblock (cfg0.grid.coords t)).Idx) :
    (outsAt0 m c t.val t.isLt).1 ((cfg0.win 1).xinj (cfg0.grid.coords t) y) = G1 m c (((cfg0.win 1).blk t).view.emb y) := by
  refine (first_at m c t _).trans (congrArg (G1 m c) ?_)
  blk_ext [index1 t]
theorem at2 (t : Fin cfg0.N) (h : t.val = 31) (y : ((cfg0.win 2).xblock (cfg0.grid.coords t)).Idx) :
    (outsAt0 m c t.val t.isLt).2 ((cfg0.win 2).xinj (cfg0.grid.coords t) y) = G2 m c (((cfg0.win 2).blk t).view.emb y) := by
  refine (last_at m c t h _).trans (congrArg (G2 m c) ?_)
  blk_ext [index2 t]

theorem arr1 : (dats m 0 c).arrAt 1 cfg0.N = G1 m c := by
  refine (dats m 0 c).arrAt_eq_of_emb 1 _ (fun t hf y => ?_) cov1
  refine (cast_eq _ _).trans ?_
  exact (congrFun (after0_1 m c t) _).trans (at1 m c t y)
theorem arr2 : (dats m 0 c).arrAt 2 cfg0.N = G2 m c := by
  refine (dats m 0 c).arrAt_eq_of_emb 2 _ (fun t hf y => ?_) cov2
  refine (cast_eq _ _).trans ?_
  have hl : t.val = 31 := by
    have := (flush0_2 t).mp hf
    have := lt32 t
    omega
  exact (congrFun (after0_2 m c t) _).trans (at2 m c t hl y)

end Cert.Proof.CArr

end
-- ==== Proof.CRef.lean ====
/-
  What the reference of the points' cells computes, element by element.
-/
module

public import proofs.«01_k».proof.Proof.CArr
public import proofs.«01_k».proof.Proof.Gen.CellsReferenceIdeal.Run

@[expose] public section

noncomputable section

namespace Cert.Proof.CRef

open Cert.CellsReferenceIdeal Cert.CellsReferenceIdeal.Gen
open Idealize.ShloMosaic Idealize.ShloMosaic.TcCoe
open Cert.Proof.CPay (step here hot hot')

/-- The number of every point's cell, as the reference computes it. -/
abbrev cell (x0 : FVec Ideal S16384x3 .f32) (x1 : IVec S16384 32) : FVec Ideal S16384 .f32 :=
  addf (mulf (addf (mulf (addf (mulf (sitofp .f32 x1) (broadcastInDim S16384 ![] bcast_S_S16384 (constant S_ .f32 0x40C00000#32))) (shapeCast S16384 (extractStridedSlice S16384x1 ![0, 0] (minimumf (broadcastInDim S16384x3 ![] bcast_S_S16384x3 (sitofp .f32 (constantI S_ 32 5#32))) (maximumf (broadcastInDim S16384x3 ![] bcast_S_S16384x3 (sitofp .f32 (constantI S_ 32 0#32))) (Host.floor (Host.divf x0 (broadcastInDim S16384x3 ![] bcast_S_S16384x3 (constant S_ .f32 0x3D2C0831#32)))))) slices_S16384x3_S16384x1_0_0) shapeCasts_S16384x1_S16384)) (broadcastInDim S16384 ![] bcast_S_S16384 (constant S_ .f32 0x40C00000#32))) (shapeCast S16384 (extractStridedSlice S16384x1 ![0, 1] (minimumf (broadcastInDim S16384x3 ![] bcast_S_S16384x3 (sitofp .f32 (constantI S_ 32 5#32))) (maximumf (broadcastInDim S16384x3 ![] bcast_S_S16384x3 (sitofp .f32 (constantI S_ 32 0#32))) (Host.floor (Host.divf x0 (broadcastInDim S16384x3 ![] bcast_S_S16384x3 (constant S_ .f32 0x3D2C0831#32)))))) slices_S16384x3_S16384x1_0_1) shapeCasts_S16384x1_S16384)) (broadcastInDim S16384 ![] bcast_S_S16384 (constant S_ .f32 0x40C00000#32))) (shapeCast S16384 (extractStridedSlice S16384x1 ![0, 2] (minimumf (broadcastInDim S16384x3 ![] bcast_S_S16384x3 (sitofp .f32 (constantI S_ 32 5#32))) (maximumf (broadcastInDim S16384x3 ![] bcast_S_S16384x3 (sitofp .f32 (constantI S_ 32 0#32))) (Host.floor (Host.divf x0 (broadcastInDim S16384x3 ![] bcast_S_S16384x3 (constant S_ .f32 0x3D2C0831#32)))))) slices_S16384x3_S16384x1_0_2) shapeCasts_S16384x1_S16384)

theorem cell_at (x0 : FVec Ideal S16384x3 .f32) (x1 : IVec S16384 32) (r : Fin 16384) : cell x0 x1 (ix1 r)
    = CPay.cell (FloatOps.sitofp (F := Ideal) FTy.f32 (x1 (ix1 r))) (x0 (ix2 r 0)) (x0 (ix2 r 1)) (x0 (ix2 r 2)) := by
  pointwise [cell]
  rfl

theorem hist_at (v : FVec Ideal S16384x1 .f32) (k : Fin 1024) :
    (broadcastInDim S1x1024 ![1] bcast_S1024_S1x1024_1 (Host.reduceAdd (uitofp .f32 (cmpf .oeq (broadcastInDim S16384x1024 ![0, 1] bcast_S16384x1_S16384x1024_0_1 v)
      (broadcastInDim S16384x1024 ![0, 1] bcast_S1x1024_S16384x1024_0_1 (broadcastInDim S1x1024 ![1] bcast_S1024_S1x1024_1 (sitofp (F := Ideal) .f32 (iotaInDim S1024 32 0)))))) (constant (F := Ideal) S_ .f32 0x00000000#32) reducesTo_S16384x1024_S1024_d0 h_S_) : FVec Ideal S1x1024 .f32) (ix2 0 k) = ∑ r : Fin 16384, here (v (ix2 r 0)) k := by
  pointwise
  exact Finset.sum_congr rfl fun r _ => hot' _

theorem first_at (x0 : FVec Ideal S16384x3 .f32) (x1 : IVec S16384 32) (r : Fin 16384) :
    (broadcastInDim S16384x1 ![0] bcast_S16384_S16384x1_0 (cell x0 x1) : FVec Ideal S16384x1 .f32) (ix2 r 0) = cell x0 x1 (ix1 r) := by
  pointwise

variable (m : (ℓ : Loc Cert.CellsIdeal.nD Cert.CellsIdeal.τ Cert.CellsIdeal.sig) → Buf (Elt Ideal) ℓ) (c : Dev Cert.CellsIdeal.nD)

theorem close1 : (broadcastInDim S16384x1 ![0] bcast_S16384_S16384x1_0 (cell (CPay.a0 m c) (CPay.a1 m c)) : FVec Ideal S16384x1 .f32) = CArr.G1 m c := by
  funext i
  idx_vars i
  obtain rfl : i1 = 0 := Subsingleton.elim _ _
  exact (first_at _ _ i0).trans (cell_at _ _ i0)
theorem close2 (h : FVec Ideal S1x1024 .f32)
    (e : ∀ k : Fin 1024, h (ix2 0 k) = ∑ r : Fin 16384, here ((broadcastInDim S16384x1 ![0] bcast_S16384_S16384x1_0 (cell (CPay.a0 m c) (CPay.a1 m c)) : FVec Ideal S16384x1 .f32) (ix2 r 0)) k) :
    h = CArr.G2 m c := by
  funext i
  idx_vars i
  obtain rfl : i0 = 0 := Subsingleton.elim _ _
  refine (e i1).trans (Finset.sum_congr rfl fun r _ => ?_)
  rw [close1]
  rfl

end Cert.Proof.CRef

end
-- ==== Proof.RBody.lean ====
/-
  The ranking's region: what each block of places, the cells' starts and the running counts hold after each point, the
  body's obligation at every point, and the run.
-/
module

public import proofs.«01_k».proof.Proof.Gen.RankIdeal.Skeleton
public import proofs.«01_k».proof.Proof.Gen.RankIdeal.Frame
public import proofs.«01_k».proof.Proof.Base
public import Idealize.ShloMosaic.Lib.Claim
public import Idealize.ShloMosaic.Lib.Tactic.Stretches
public import Idealize.ShloMosaic.Lib.Pipeline.TableIdle

@[expose] public section

set_option maxRecDepth 16384

noncomputable section

namespace Cert.Proof.RBody

open Cert.RankIdeal Cert.RankIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Base (unit_emb ld_whole)

variable {F : FTy → Type} [FloatOps F]

local notation "𝕄" => MT nD τ sig Unit (Elt F) ℕ (UR sig nD τ) ℕ

/-! ## The body's triple -/

/-- A store of the whole buffer leaves its payload, whatever was stored before. -/
theorem store_whole {κ : Kind} {sp : Space} {S : Shape} {e : EltTy} (v : View sig κ sp S e) (f : v.ty.Contents (Elt F)) (off : Fin S.rank → ℕ)
    (inb : ∀ a, off a + S.size a ≤ S.size a) (w : S.Idx → Elt F e) (L : List (View.Piece (Elt F) S e)) :
    v.read (Elt F) (v.writes (Elt F) f (⟨Rect.unit (s := S) off S.size inb, w⟩ :: L)) = w := by
  funext y
  have h := View.read_writes_cons_emb v f (Rect.unit (s := S) off S.size inb) w L y
  rwa [unit_emb off inb y] at h
/-- A load of the whole buffer reads its contents. -/
theorem load_whole {κ : Kind} {sp : Space} {S : Shape} {e : EltTy} (v : View sig κ sp S e) (f : v.ty.Contents (Elt F)) (off : Fin S.rank → ℕ)
    (inb : ∀ a, off a + S.size a ≤ S.size a) : v.readAt (Elt F) (Rect.unit (s := S) off S.size inb).toLoadRect f = v.read (Elt F) f :=
  (View.readAt_eq_ld v f _).trans (ld_whole _ off inb)

/-- The condition of the body's branch, from the grid coordinates. -/
abbrev cond (i : grid0.Coords) : Prop := k0_cond1 i = 1#1
/-- It holds at the first point only. -/
theorem hcond : ∀ t : Fin cfg0.N, cond (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond, k0_cond1, e0]
    word_cmp
   : ∀ t : Fin grid0.N, cond (grid0.coords t) ↔ t.val % 32 = 0)

/-- What a buffer the first point resets holds when it is read: what it is reset to there, else what it held. -/
def fresh (i : grid0.Coords) (z x : Vec F S1x1024 .f32) : Vec F S1x1024 .f32 := open Classical in if cond i then z else x

theorem fresh_at (t : Fin cfg0.N) (z x : Vec F S1x1024 .f32) : fresh (grid0.coords t) z x = if t.val = 0 then z else x := by
  have hN : t.val < 32 := lt_of_lt_of_eq t.isLt (show cfg0.N = 32 from N_0)
  unfold fresh
  by_cases h : t.val = 0
  · rw [if_pos h, if_pos ((hcond t).mpr (by omega))]
  · rw [if_neg h, if_neg (fun hc => h (by have := (hcond t).mp hc; omega))]

set_option maxHeartbeats 2000000 in
/-- The body on whole buffers: the blocks stay, the places' buffer holds the block's places, the starts are written at the
    first point and stay after it, and the running counts grow by the block's (from zeros at the first point). -/
theorem sound_kernel (c : Dev nD) (E : Set ℕ) (i : grid0.Coords) (arg1 : Memref sig .tc .vmem S512x1 .f32) (harg1 : arg1.IsWhole) (arg2 : Memref sig .tc .vmem S1x1024 .f32) (harg2 : arg2.IsWhole) (arg3 : Memref sig .tc .vmem S512x1 .i32) (harg3 : arg3.IsWhole) (arg4 : Memref sig .tc .vmem S1x1024 .f32) (harg4 : arg4.IsWhole) (arg5 : Memref sig .tc .vmem S1x1024 .f32) (harg5 : arg5.IsWhole)
    (x0 : Vec F S512x1 .f32) (x1 x3 x4 : Vec F S1x1024 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare x3 ∗ owns (c : Thread nD τ) arg5 fullShare x4
        ∗ (iprop(owns (c : Thread nD τ) arg1 fullShare x0 ∗ owns (c : Thread nD τ) arg2 fullShare x1
            ∗ owns (c : Thread nD τ) arg3 fullShare (k0_pay4 x0 (fresh i k0_pay1 x4) (fresh i (k0_pay2 x1) x3))
            ∗ owns (c : Thread nD τ) arg4 fullShare (fresh i (k0_pay2 x1) x3)
            ∗ owns (c : Thread nD τ) arg5 fullShare (k0_pay5 x0 (fresh i k0_pay1 x4))) -∗ K ⟨⟩))
      ⊢ wp frame (wpE (defs₀ (F := F)) Variants.none c none) E (cc0__rank_body i arg1 harg1 arg2 harg2 arg3 harg3 arg4 harg4 arg5 harg5) K := by
  simp only [cc0__rank_body_eq_skeleton]; unfold cc0__rank_body_skel
  unfold owns
  iintro ⟨⟨%f0, %hf0, H0⟩, ⟨%f1, %hf1, H1⟩, ⟨%d2, %f2, -, H2⟩, ⟨%f3, %hf3, H3⟩, ⟨%f4, %hf4, H4⟩, Hk⟩
  subst hf0 hf1 hf3 hf4
  have e0 := load_whole arg1.view f0 ![0, 0] inb_S512x1_S512x1_0_0
  have e1 := load_whole arg2.view f1 ![0, 0] inb_S1x1024_S1x1024_0_0
  have e3 := load_whole arg4.view f3 ![0, 0] inb_S1x1024_S1x1024_0_0
  have e4 := load_whole arg5.view f4 ![0, 0] inb_S1x1024_S1x1024_0_0
  by_cases hc : k0_cond1 i = 1#1
  · have fresh_eq : ∀ z x : Vec F S1x1024 .f32, fresh i z x = z := fun z x => if_pos hc
    have c3 := View.readCov_cons_toLoadRect (Val := Elt F) arg4.view (Rect.unit (s := S1x1024) ![0, 0] ![1, 1024] inb_S1x1024_S1x1024_0_0) (k0_pay2 (arg2.view.read (Elt F) f1)) []
    have c4 := View.readCov_cons_toLoadRect (Val := Elt F) arg5.view (Rect.unit (s := S1x1024) ![0, 0] ![1, 1024] inb_S1x1024_S1x1024_0_0) k0_pay1 []
    simp only [dif_pos hc]
    sl_exec
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      rw [fresh_eq, fresh_eq]; sl_open_run; exact store_whole _ _ _ _ _ _
    isplitl [H3]
    · iexists _; isplitr
      swap; · iexact H3
      ipureintro
      rw [fresh_eq]; sl_open_run; exact store_whole _ _ _ _ _ _
    iexists _; isplitr
    swap; · iexact H4
    ipureintro
    rw [fresh_eq]; sl_open_run; exact store_whole _ _ _ _ _ _
  · have fresh_eq : ∀ z x : Vec F S1x1024 .f32, fresh i z x = x := fun z x => if_neg hc
    simp only [dif_neg hc]
    sl_exec
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      rw [fresh_eq, fresh_eq]; sl_open_run; exact store_whole _ _ _ _ _ _
    isplitl [H3]
    · iexists f3; isplitr; · ipureintro; rw [fresh_eq]
      iexact H3
    iexists _; isplitr
    swap; · iexact H4
    ipureintro
    rw [fresh_eq]; sl_open_run; exact store_whole _ _ _ _ _ _

variable (m : (ℓ : Loc nD τ sig) → Buf (Elt F) ℓ) (ρ : Dev nD → PrngReg)

/-! ## What the buffers hold -/

/-- The first point. -/
abbrev first : Fin cfg0.N := ⟨0, by rw [show cfg0.N = 32 from N_0]; decide⟩
/-- The cells' starts, written at the first point. -/
def starts (c : Dev nD) : Vec F S1x1024 .f32 := k0_pay2 (iblk m c 1 first)
/-- The running counts before point `n`. -/
def runAt (c : Dev nD) : (n : ℕ) → Vec F S1x1024 .f32
  | 0 => k0_pay1
  | n + 1 => if h : n < cfg0.N then k0_pay5 (iblk m c 0 ⟨n, h⟩) (runAt c n) else k0_pay1
/-- The places of a block's points. -/
def places (c : Dev nD) (t : Fin cfg0.N) : Vec F S512x1 .i32 := k0_pay4 (iblk m c 0 t) (runAt m c t.val) (starts m c)

theorem runAt_zero (c : Dev nD) : runAt m c 0 = k0_pay1 := rfl
theorem runAt_next (c : Dev nD) (t : Fin cfg0.N) : runAt m c (t.val + 1) = k0_pay5 (iblk m c 0 t) (runAt m c t.val) := dif_pos t.isLt

/-- Between the points: the scratch holds the running counts (anything before the first point), and the generator register. -/
def inv (c : Dev nD) (n : ℕ) : sProp 𝕄 :=
  iprop((∃ f : Buf (Elt F) ((c : Thread nD τ).loc cc0_scratch0), ⌜n ≠ 0 → f = runAt m c n⌝ ∗ ((c : Thread nD τ).loc cc0_scratch0) ↦{fullShare} f)
    ∗ ∃ r, prngReg c r)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => places m c t
    | ⟨3, _⟩ => starts m c
  Φ t := inv m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = places m c t := by dsimp only [dats]
theorem after_3 (c : Dev nD) (t : Fin cfg0.N) : (dats m 0 c).after 3 t = starts m c := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- The first point is the one that writes the starts. -/
theorem idle_first (t : Fin cfg0.N) (h : t.val = 0) : cfg0.idle 3 (cfg0.grid.coords t) = false := by
  have hc : k0_cond1 (grid0.coords t) = 1#1 := (hcond t).mpr (by omega)
  show (!(k0_cond1 (grid0.coords t) == 1#1)) = false
  rw [hc]; rfl
theorem idle_next (t : Fin cfg0.N) (h : t.val ≠ 0) : cfg0.idle 3 (cfg0.grid.coords t) = true := by
  have hN : t.val < 32 := lt_of_lt_of_eq t.isLt (show cfg0.N = 32 from N_0)
  have hc : ¬ k0_cond1 (grid0.coords t) = 1#1 := fun e => h (by have := (hcond t).mp e; omega)
  show (!(k0_cond1 (grid0.coords t) == 1#1)) = true
  rw [beq_eq_false_iff_ne.mpr hc]; rfl
theorem kept_3 : ∀ (n : ℕ), n + 1 < cfg0.N → cfg0.fresh 3 (n + 1) = false := by
  intro n
  induction n with
  | zero =>
    intro h
    rw [Pipeline.Cfg.fresh_succ cfg0 3 0 (by omega), idle_first _ rfl, Bool.false_and, Bool.or_false]
    exact Bool.eq_false_iff.mpr fun e => by have := (flush0_3 _).mp e; dsimp only at this; omega
  | succ n ih =>
    intro h
    rw [Pipeline.Cfg.fresh_succ cfg0 3 (n + 1) (by omega), ih (by omega), Bool.and_false, Bool.or_false]
    have hN : cfg0.N = 32 := N_0
    exact Bool.eq_false_iff.mpr fun e => by have := (flush0_3 _).mp e; dsimp only at this; omega
/-- Past the first point the starts are still in their buffer. -/
theorem before_3 (c : Dev nD) (t : Fin cfg0.N) (h0 : t.val ≠ 0) (d) : (dats m 0 c).before 3 t d = starts m c := by
  have hN : t.val < 32 := lt_of_lt_of_eq t.isLt (show cfg0.N = 32 from N_0)
  rw [(dats m 0 c).before_out_traj 3 rfl (fun _ _ => rfl) (fun t _ _ _ => by rw [after_3, after_3]) t.val t rfl d]
  have hf : cfg0.fresh 3 t.val = false := by
    obtain ⟨n, hn⟩ := Nat.exists_eq_succ_of_ne_zero h0
    rw [hn]
    exact kept_3 n (by have := t.isLt; omega)
  rw [hf, if_neg Bool.false_ne_true, after_3]

/-- The starts' buffer after a point. -/
theorem starts_of (c : Dev nD) (t : Fin cfg0.N) (d) :
    fresh (grid0.coords t) (k0_pay2 (iblk m c 1 t)) ((dats m 0 c).before 3 t d) = starts m c := by
  rw [fresh_at]
  by_cases h : t.val = 0
  · rw [if_pos h]
    obtain rfl : t = first := Fin.ext h
    rfl
  · rw [if_neg h, before_3 m c t h]
/-- The running counts a point reads. -/
theorem run_of (c : Dev nD) (t : Fin cfg0.N) (f : Vec F S1x1024 .f32) (h : t.val ≠ 0 → f = runAt m c t.val) :
    fresh (grid0.coords t) k0_pay1 f = runAt m c t.val := by
  rw [fresh_at]
  by_cases h0 : t.val = 0
  · rw [if_pos h0, h0]; rfl
  · rw [if_neg h0, h h0]

/-! ## The body obligation, at a generic point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = inv m c (t.val + 1) from rfl, show (dats m 0 c).Φ t.castSucc = inv m c t.val from rfl,
    show (dats m 0 c).owesAt () t.succ = (dats m 0 c).owesAt () t.castSucc from rfl,
    after_0, after_1, after_2, after_3]
  unfold inv
  iintro ⟨⟨⟨%f, %hf, Hs⟩, Hg⟩, Ho, ⟨%d0, H0⟩, ⟨%d1, H1⟩, ⟨%d2, H2⟩, ⟨%d3, H3⟩⟩
  have hs := starts_of m c t d3
  have hr := run_of m c t f hf
  iapply (sound_kernel c Set.univ (grid0.coords t) _ _ _ _ _ _ _ _ _ _ (iblk m c 0 t) (iblk m c 1 t) ((dats m 0 c).before 3 t d3) f _)
  rw [owns_whole (c : Thread nD τ) cc0_scratch0 fullShare]
  isplitl [H0]; · iexact H0
  isplitl [H1]; · iexact H1
  isplitl [H2]; · iexists _; iexact H2
  isplitl [H3]; · iexact H3
  isplitl [Hs]; · iexact Hs
  rw [hs, hr, owns_whole (c : Thread nD τ) cc0_scratch0 fullShare]
  iintro ⟨H0, H1, H2, H3, Hs⟩
  isplitl [Hs Hg]
  · isplitl [Hs]
    · iexists _; isplitr
      swap; · iexact Hs
      ipureintro
      exact fun _ => (runAt_next m c t).symm
    iexact Hg
  isplitl [Ho]; · iexact Ho
  isplitl [H0]; · iexact H0
  isplitl [H1]; · iexact H1
  isplitl [H2]; · iexact H2
  iexact H3

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body's obligation. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  refine sep_mono .rfl (sep_mono .rfl (sep_mono .rfl (sep_mono .rfl (sep_mono .rfl ?_))))
  show owns (c : Thread nD τ) (st0_3 t) fullShare ((dats m 0 c).after 3 t) ⊢ match cfg0.idle 3 (cfg0.grid.coords t) with
    | true =>
      match (cfg0.win 3).flush t with
      | false => iprop(∃ d, owns (c : Thread nD τ) (st0_3 t) fullShare ((dats m 0 c).before 3 t d))
      | true => owns (c : Thread nD τ) (st0_3 t) fullShare ((dats m 0 c).after 3 t)
    | false => owns (c : Thread nD τ) (st0_3 t) fullShare ((dats m 0 c).after 3 t)
  by_cases h : t.val = 0
  · rw [idle_first t h]
  · rw [idle_next t h]
    dsimp only
    cases hf : (cfg0.win 3).flush t
    · dsimp only
      rw [after_3]
      iintro H
      iexists starts m c
      rw [before_3 m c t h]
      iexact H
    · exact .rfl

/-! ## The run -/

theorem enter (c : Dev nD) : Pipeline.ΦA spec0 c ⊢ (dats (F := F) m 0 c).Φ 0 := by
  rw [show (dats m 0 c).Φ 0 = inv m c 0 from rfl]
  unfold inv Pipeline.ΦA
  rw [scopedRest0_eq]
  iintro ⟨⟨%f, Hs⟩, Hg⟩
  isplitl [Hs]
  · iexists f; isplitr; · ipureintro; exact fun h => absurd rfl h
    iexact Hs
  iexact Hg
theorem leave (c : Dev nD) : (dats (F := F) m 0 c).Φ (Fin.last cfg0.N) ⊢ Pipeline.ΦA spec0 c := by
  rw [show (dats m 0 c).Φ (Fin.last cfg0.N) = inv m c cfg0.N from rfl]
  unfold inv Pipeline.ΦA
  rw [scopedRest0_eq]
  iintro ⟨⟨%f, -, Hs⟩, Hg⟩
  isplitl [Hs]
  · iexists f; iexact Hs
  iexact Hg

set_option backward.isDefEq.respectTransparency.types false in
/-- Every run of the program terminates with every array at what its blocks leave and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The arguments end unchanged, and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.RBody

end
-- ==== Proof.RVal.lean ====
/-
  What one block of the ranking computes, element by element, and the two arrays it leaves, off the arguments.
-/
module

public import proofs.«01_k».proof.Proof.RBody
public import proofs.«01_k».proof.Proof.CPay
public import Idealize.ShloMosaic.Lib.Pointwise
public import Idealize.ShloMosaic.Lib.Pipeline.ValueKit

@[expose] public section

noncomputable section

namespace Cert.Proof.RVal

open Cert.RankIdeal Cert.RankIdeal.Gen
open Idealize.ShloMosaic Idealize.ShloMosaic.TcCoe
open Idealize.ShloMosaic.Pipeline (Dat)
open Cert.Proof.CPay (here hot)
open Cert.Proof.RBody (dats starts runAt places)

/-! ## The payloads -/

/-- One where a place comes before another, else zero. -/
def below {n : ℕ} (j k : Fin n) : EReal := if j.val < k.val then 1 else 0

/-- Small numbers compare as words as they do as numbers. -/
theorem slt_iff (a b : ℕ) (ha : a < 16384) (hb : b < 16384) : (BitVec.ofNat 32 a).toInt < (BitVec.ofNat 32 b).toInt ↔ a < b := by
  rw [BitVec.toInt_eq_toNat_cond, BitVec.toInt_eq_toNat_cond, BitVec.toNat_ofNat, BitVec.toNat_ofNat, Nat.mod_eq_of_lt (by omega), Nat.mod_eq_of_lt (by omega)]
  rw [if_pos (by omega), if_pos (by omega)]
  omega

theorem pay1 (k : Fin 1024) : k0_pay1 (F := Ideal) (ix2 0 k) = 0 := by
  pointwise [k0_pay1]
theorem pay3 (v : Vec Ideal S512x1 .f32) (p : Fin 512) (k : Fin 1024) : k0_pay3 v (ix2 p k) = here (v (ix2 p 0)) k := by
  pointwise [k0_pay3]
  exact hot _
theorem pay5 (v : Vec Ideal S512x1 .f32) (r : Vec Ideal S1x1024 .f32) (k : Fin 1024) :
    k0_pay5 v r (ix2 0 k) = r (ix2 0 k) + ∑ p : Fin 512, here (v (ix2 p 0)) k := by
  refine Eq.trans ?_ (congrArg (r (ix2 0 k) + ·) (Finset.sum_congr rfl fun p _ => pay3 v p k))
  pointwise [k0_pay5]
/-- The bit of a place before another, as a number. -/
theorem slt_hot {n : ℕ} (hn : n ≤ 16384) (j k : Fin n) : FloatOps.sitofp (F := Ideal) FTy.f32 (BitVec.setWidth 32 (IntOp.cmpi CmpIPredicate.slt (BitVec.ofNat 32 j.val) (BitVec.ofNat 32 k.val)))
    = below j k := by
  have e : IntOp.cmpi CmpIPredicate.slt (BitVec.ofNat 32 j.val) (BitVec.ofNat 32 k.val) = BitVec.ofBool (decide (j.val < k.val)) := by
    show BitVec.ofBool (BitVec.slt _ _) = _
    unfold BitVec.slt
    exact congrArg BitVec.ofBool (decide_eq_decide.mpr (slt_iff _ _ (by omega) (by omega)))
  rw [e]
  exact hot _
theorem pay2 (h : Vec Ideal S1x1024 .f32) (k : Fin 1024) :
    k0_pay2 h (ix2 0 k) = ∑ j : Fin 1024, h (ix2 0 j) * below j k := by
  refine Eq.trans ?_ (Finset.sum_congr rfl fun j _ => congrArg (h (ix2 0 j) * ·) (slt_hot (by norm_num) j k))
  pointwise [k0_pay2]
theorem pay4 (v : Vec Ideal S512x1 .f32) (r b : Vec Ideal S1x1024 .f32) (p : Fin 512) :
    k0_pay4 v r b (ix2 p 0) = FloatOps.fptosi (F := Ideal) (φ := FTy.f32) 32 (∑ k : Fin 1024, here (v (ix2 p 0)) k
      * (((∑ q : Fin 512, below q p * here (v (ix2 q 0)) k) + r (ix2 0 k)) + b (ix2 0 k))) := by
  simp only [← pay3, ← slt_hot (n := 512) (by norm_num)]
  pointwise [k0_pay4]

/-! ## A point whose cell is a lane -/

/-- The number of lane `k`. -/
abbrev lane (k : Fin 1024) : EReal := FloatOps.sitofp (F := Ideal) FTy.f32 (BitVec.ofNat 32 k.val)

theorem lane_real (k : Fin 1024) : lane k = (((k.val : ℤ) : ℝ) : EReal) := by
  have as_real (v : BitVec 32) : FloatOps.sitofp (F := Ideal) FTy.f32 v = ((v.toInt : ℝ) : EReal) := rfl
  unfold lane
  rw [as_real, BitVec.toInt_eq_toNat_cond, BitVec.toNat_ofNat, Nat.mod_eq_of_lt (by omega), if_pos (by omega)]
theorem lane_lt (j k : Fin 1024) : lane j < lane k ↔ j.val < k.val := by
  rw [lane_real, lane_real, EReal.coe_lt_coe_iff]
  exact Int.cast_lt.trans Int.ofNat_lt
theorem lane_inj (j k : Fin 1024) : lane j = lane k ↔ j = k := by
  rw [lane_real, lane_real, EReal.coe_eq_coe_iff, Int.cast_inj, Int.ofNat_inj, Fin.ext_iff]
/-- A point in lane `k` is counted there only. -/
theorem pick (k : Fin 1024) (f : Fin 1024 → EReal) : ∑ j : Fin 1024, here (lane k) j * f j = f k := by
  rw [Finset.sum_eq_single k]
  · unfold here
    rw [if_pos rfl, one_mul]
  · intro j _ hj
    unfold here
    rw [if_neg (fun e => hj ((lane_inj k j).mp e).symm), zero_mul]
  · exact fun h => absurd (Finset.mem_univ k) h

variable (m : (ℓ : Loc nD τ sig) → Buf (Elt Ideal) ℓ) (c : Dev nD)

abbrev a0 : S16384x1.Idx → EReal := m ((c : Thread nD τ).loc main_arg0)
abbrev a1 : S1x1024.Idx → EReal := m ((c : Thread nD τ).loc main_arg1)

/-! ## The windows' blocks -/

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])

theorem lt32 (t : Fin cfg0.N) : t.val < 32 := lt_of_lt_of_eq t.isLt N_0
/-- The point that row `p` of block `t` is. -/
abbrev node (t : Fin cfg0.N) (p : Fin 512) : Fin 16384 := ⟨t.val * 512 + p.val, by have := lt32 t; omega⟩

theorem blk0 (t : Fin cfg0.N) (p : Fin 512) : iblk m c 0 t (ix2 p 0) = a0 m c (ix2 (node t p) 0) := by
  blk_simp [iblk]
  refine congrArg (V m c main_arg0) ?_
  blk_ext [index0 t]
theorem blk1 (t : Fin cfg0.N) (k : Fin 1024) : iblk m c 1 t (ix2 0 k) = a1 m c (ix2 0 k) := by
  blk_simp [iblk]
  refine congrArg (V m c main_arg1) ?_
  blk_ext [index1 t]

/-! ## The starts and the running counts -/

theorem starts_at (k : Fin 1024) : starts m c (ix2 0 k) = ∑ j : Fin 1024, a1 m c (ix2 0 j) * below j k := by
  refine (pay2 (iblk m c 1 RBody.first) k).trans (Finset.sum_congr rfl fun j _ => ?_)
  rw [blk1]

/-- What point `i` adds to lane `k`'s count. -/
def add (k : Fin 1024) (i : ℕ) : EReal := if h : i < 16384 then here (a0 m c (ix2 ⟨i, h⟩ 0)) k else 0

theorem add_at (t : Fin cfg0.N) (p : Fin 512) (k : Fin 1024) : here (iblk m c 0 t (ix2 p 0)) k = add m c k (t.val * 512 + p.val) := by
  rw [blk0]
  unfold add
  rw [dif_pos (node t p).isLt]

theorem run_at (k : Fin 1024) (n : ℕ) : n ≤ 32 → runAt m c n (ix2 0 k) = ∑ i ∈ Finset.range (n * 512), add m c k i := by
  induction n with
  | zero =>
    intro _
    rw [Nat.zero_mul, Finset.sum_range_zero]
    exact pay1 k
  | succ n ih =>
    intro hn
    have hl : n < cfg0.N := by rw [show cfg0.N = 32 from N_0]; omega
    rw [show runAt m c (n + 1) = _ from RBody.runAt_next m c ⟨n, hl⟩, pay5, show (n + 1) * 512 = n * 512 + 512 by omega, Finset.sum_range_add]
    refine congr (congrArg (· + ·) (ih (by omega))) ?_
    rw [Finset.sum_range]
    exact Finset.sum_congr rfl fun p _ => add_at m c ⟨n, hl⟩ p k

/-- The points of the block before row `p`. -/
theorem within (t : Fin cfg0.N) (p : Fin 512) (k : Fin 1024) :
    ∑ q : Fin 512, below q p * here (iblk m c 0 t (ix2 q 0)) k = ∑ x ∈ Finset.range p.val, add m c k (t.val * 512 + x) := by
  have e : ∀ q : Fin 512, below q p * here (iblk m c 0 t (ix2 q 0)) k = (fun x => if x < p.val then add m c k (t.val * 512 + x) else 0) q.val := by
    intro q
    rw [add_at]
    unfold below
    dsimp only
    split_ifs
    · rw [one_mul]
    · rw [zero_mul]
  rw [Finset.sum_congr rfl fun q _ => e q, ← Finset.sum_range (fun x => if x < p.val then add m c k (t.val * 512 + x) else 0), ← Finset.sum_filter]
  refine Finset.sum_congr (Finset.ext fun x => ?_) fun _ _ => rfl
  rw [Finset.mem_filter, Finset.mem_range, Finset.mem_range]
  have := p.isLt
  omega

/-- The place of point `r`, in lane `k`. -/
def place (k : Fin 1024) (r : Fin 16384) : BitVec 32 :=
  FloatOps.fptosi (F := Ideal) (φ := FTy.f32) 32 ((∑ i ∈ Finset.range r.val, add m c k i) + ∑ j : Fin 1024, a1 m c (ix2 0 j) * below j k)

theorem places_at (t : Fin cfg0.N) (p : Fin 512) (k : Fin 1024) (h : a0 m c (ix2 (node t p) 0) = lane k) :
    places m c t (ix2 p 0) = place m c k (node t p) := by
  unfold places
  rw [pay4, show iblk m c 0 t (ix2 p 0) = lane k from (blk0 m c t p).trans h, pick k, within, run_at m c k t.val (le_of_lt (lt32 t)), starts_at]
  unfold place
  rw [add_comm (∑ x ∈ Finset.range p.val, _), ← Finset.sum_range_add]

/-! ## The arrays -/

def G2 (κ : Fin 16384 → Fin 1024) : S16384x1.Idx → BitVec 32 := fun i => place m c (κ (i 0)) (i 0)
def G3 : S1x1024.Idx → EReal := fun i => ∑ j : Fin 1024, a1 m c (ix2 0 j) * below j (i 1)

theorem emb2 (t : Fin cfg0.N) (p : Fin 512) :
    (((cfg0.win 2).blk t).view.emb (ix2 p 0) : S16384x1.Idx) = ix2 (node t p) 0 := by
  blk_ext [index2 t]
theorem emb3 (t : Fin cfg0.N) (k : Fin 1024) :
    (((cfg0.win 3).blk t).view.emb (ix2 0 k) : S1x1024.Idx) = ix2 0 k := by
  blk_ext [index3 t]

/-- The block and the row within it where a point is. -/
theorem spot (r : Fin 16384) : ∃ (t : Fin cfg0.N) (p : Fin 512), node t p = r :=
  ⟨⟨r.val / 512, lt_of_lt_of_eq (by have := r.isLt; omega) N_0.symm⟩, ⟨r.val % 512, Nat.mod_lt _ (by norm_num)⟩,
    Fin.ext (Nat.div_add_mod' r.val 512)⟩
theorem cov2 (i : S16384x1.Idx) : ∃ t : Fin cfg0.N, (cfg0.win 2).flush t = true ∧ i ∈ ((cfg0.win 2).blk t).view.set := by
  idx_vars i
  obtain rfl : i1 = 0 := Subsingleton.elim _ _
  obtain ⟨t, p, e⟩ := spot i0
  refine ⟨t, flush0_2 t, ?_⟩
  rw [← e, ← emb2 t p]
  exact View.emb_mem_set _ _
theorem cov3 (i : S1x1024.Idx) : ∃ t : Fin cfg0.N, (cfg0.win 3).flush t = true ∧ i ∈ ((cfg0.win 3).blk t).view.set := by
  idx_vars i
  obtain rfl : i0 = 0 := Subsingleton.elim _ _
  have ⟨t, ht⟩ : ∃ t : Fin cfg0.N, t.val = 31 := ⟨⟨31, by rw [show cfg0.N = 32 from N_0]; decide⟩, rfl⟩
  refine ⟨t, (flush0_3 t).mpr (by omega), ?_⟩
  rw [← emb3 t i1]
  exact View.emb_mem_set _ _

theorem first_at (κ : Fin 16384 → Fin 1024) (hκ : ∀ r, a0 m c (ix2 r 0) = lane (κ r)) (t : Fin cfg0.N) (z : S512x1.Idx) :
    places m c t z = G2 m c κ (ix2 (node t (z 0)) 0) := by
  idx_vars z
  obtain rfl : z1 = 0 := Subsingleton.elim _ _
  exact places_at m c t z0 _ (hκ _)
theorem last_at (z : S1x1024.Idx) : starts m c z = G3 m c (ix2 0 (z 1)) := by
  idx_vars z
  obtain rfl : z0 = 0 := Subsingleton.elim _ _
  exact starts_at m c z1

theorem at2 (κ : Fin 16384 → Fin 1024) (hκ : ∀ r, a0 m c (ix2 r 0) = lane (κ r)) (t : Fin cfg0.N) (y : ((cfg0.win 2).xblock (cfg0.grid.coords t)).Idx) :
    places m c t ((cfg0.win 2).xinj (cfg0.grid.coords t) y) = G2 m c κ (((cfg0.win 2).blk t).view.emb y) := by
  refine (first_at m c κ hκ t _).trans (congrArg (G2 m c κ) ?_)
  blk_ext [index2 t]
theorem at3 (t : Fin cfg0.N) (y : ((cfg0.win 3).xblock (cfg0.grid.coords t)).Idx) :
    starts m c ((cfg0.win 3).xinj (cfg0.grid.coords t) y) = G3 m c (((cfg0.win 3).blk t).view.emb y) := by
  refine (last_at m c _).trans (congrArg (G3 m c) ?_)
  blk_ext [index3 t]

theorem arr2 (κ : Fin 16384 → Fin 1024) (hκ : ∀ r, a0 m c (ix2 r 0) = lane (κ r)) : (dats m 0 c).arrAt 2 cfg0.N = G2 m c κ := by
  refine (dats m 0 c).arrAt_eq_of_emb 2 _ (fun t hf y => ?_) cov2
  refine (cast_eq _ _).trans ?_
  exact (congrFun (RBody.after_2 m c t) _).trans (at2 m c κ hκ t y)
theorem arr3 : (dats m 0 c).arrAt 3 cfg0.N = G3 m c := by
  refine (dats m 0 c).arrAt_eq_of_emb 3 _ (fun t hf y => ?_) cov3
  refine (cast_eq _ _).trans ?_
  exact (congrFun (RBody.after_3 m c t) _).trans (at3 m c t y)

end Cert.Proof.RVal

end
-- ==== Proof.RRef.lean ====
/-
  What the reference of the ranking computes, element by element, and what its precondition says of the cells.
-/
module

public import proofs.«01_k».proof.Proof.RVal
public import proofs.«01_k».proof.Proof.Pre
public import proofs.«01_k».proof.Proof.Gen.RankReferenceIdeal.Run
public import proofs.«01_k».proof.Proof.Gen.Pre_cid_is_cell

@[expose] public section

noncomputable section

namespace Cert.Proof.RRef

open Idealize.ShloMosaic Idealize.ShloMosaic.TcCoe
open Cert.Proof.CPay (here hot')
open Cert.Proof.RVal (lane below)

/-! ## The precondition -/

section Decode
open Cert.Pre_cid_is_cell Cert.Pre_cid_is_cell.Gen

theorem top : Ideal.ofBits .f32 0x44800000#32 = ((1024 : ℝ) : EReal) := by
  simp [Ideal.ofBits, Ideal.ieee]
  rw [← EReal.coe_mul]
  norm_num

/-- A number that is at least 0, below 1024 and its own floor is a lane's. -/
theorem lane_of (x : EReal) (h0 : 0 ≤ x) (h1 : x < ((1024 : ℝ) : EReal)) (h2 : x = Ideal.liftRound Int.floor x) : ∃ k, x = lane k := by
  induction x with
  | bot => exact absurd h0 (by simp)
  | top => exact absurd h1 (by simp)
  | coe r =>
    have e : r = ((⌊r⌋ : ℤ) : ℝ) := EReal.coe_eq_coe_iff.mp h2
    have r0 : (0 : ℝ) ≤ r := EReal.coe_nonneg.mp h0
    have r1 : r < 1024 := EReal.coe_lt_coe_iff.mp h1
    have f0 : 0 ≤ ⌊r⌋ := Int.floor_nonneg.mpr r0
    have f1 : ⌊r⌋ < 1024 := Int.floor_lt.mpr (by exact_mod_cast r1)
    refine ⟨⟨⌊r⌋.toNat, by omega⟩, ?_⟩
    rw [RVal.lane_real]
    dsimp only
    rw [Int.toNat_of_nonneg f0, ← e]

theorem decode (x0 : FVec Ideal S16384x1 .f32) (x1 : FVec Ideal S1x1024 .f32) (h : fn (F := Ideal) x0 x1 = fun _ => 1#1) (r : Fin 16384) :
    ∃ k, x0 (ix2 r 0) = lane k := by
  have at_ := congrFun h (ix2 r 0)
  dsimp only [fn] at at_
  obtain ⟨h01, h2⟩ := IntOp.andi_eq_one.mp at_
  obtain ⟨h0, h1⟩ := IntOp.andi_eq_one.mp h01
  refine lane_of _ ?_ ?_ (Pre.eq_of_bit _ _ h2)
  · exact Pre.zero ▸ Pre.le_of_bit _ _ h0
  · exact top ▸ Pre.lt_of_bit _ _ h1
end Decode

/-! ## The reference's results -/

section Reference
open Cert.RankReferenceIdeal Cert.RankReferenceIdeal.Gen

/-- How many points before each one are in its cell. -/
abbrev earlier (v : FVec Ideal S16384 .f32) : FVec Ideal S16384 .f32 :=
  Host.reduceAdd (uitofp .f32 (andi (cmpf .oeq (broadcastInDim S16384x16384 ![0, 1] bcast_S1x16384_S16384x16384_0_1 (broadcastInDim S1x16384 ![1] bcast_S16384_S1x16384_1 v)) (broadcastInDim S16384x16384 ![0, 1] bcast_S16384x1_S16384x16384_0_1 (broadcastInDim S16384x1 ![0] bcast_S16384_S16384x1_0 v))) (cmpi .slt (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0)))))) (constant (F := Ideal) S_ .f32 0x00000000#32) reducesTo_S16384x16384_S16384_d1 h_S_
/-- How many points are in the cells below each one's. -/
abbrev lower (v : FVec Ideal S16384 .f32) (h : FVec Ideal S1x1024 .f32) : FVec Ideal S16384 .f32 :=
  Host.reduceAdd (select (cmpf .olt (broadcastInDim S16384x1024 ![0, 1] bcast_S1x1024_S16384x1024_0_1 (broadcastInDim S1x1024 ![1] bcast_S1024_S1x1024_1 (sitofp (F := Ideal) .f32 (iotaInDim S1024 32 0)))) (broadcastInDim S16384x1024 ![0, 1] bcast_S16384x1_S16384x1024_0_1 (broadcastInDim S16384x1 ![0] bcast_S16384_S16384x1_0 v))) (broadcastInDim S16384x1024 ![0, 1] bcast_S1x1024_S16384x1024_0_1 h) (broadcastInDim S16384x1024 ![] bcast_S_S16384x1024 (id (constant (F := Ideal) S_ .f32 0x00000000#32)))) (constant (F := Ideal) S_ .f32 0x00000000#32) reducesTo_S16384x1024_S16384_d1 h_S_

/-- The bit of a point before another in its cell, as a number. -/
theorem both (a : Prop) [Decidable a] (j r : Fin 16384) : FloatOps.uitofp (F := Ideal) FTy.f32 (IntOp.andi (BitVec.ofBool (decide a))
      (IntOp.cmpi CmpIPredicate.slt (BitVec.ofNat 32 j.val) (BitVec.ofNat 32 r.val))) = if a ∧ j.val < r.val then 1 else 0 := by
  have e : IntOp.cmpi CmpIPredicate.slt (BitVec.ofNat 32 j.val) (BitVec.ofNat 32 r.val) = BitVec.ofBool (decide (j.val < r.val)) := by
    show BitVec.ofBool (BitVec.slt _ _) = _
    unfold BitVec.slt
    exact congrArg BitVec.ofBool (decide_eq_decide.mpr (RVal.slt_iff _ _ j.isLt r.isLt))
  have b : ∀ p q : Bool, IntOp.andi (BitVec.ofBool p) (BitVec.ofBool q) = BitVec.ofBool (p && q) := by decide
  rw [e, b, ← Bool.decide_and]
  exact hot' _
theorem nil : id (constant (F := Ideal) S_ .f32 0x00000000#32) ix0 = 0 := Pre.zero

theorem earlier_at (v : FVec Ideal S16384x1 .f32) (r : Fin 16384) : earlier (shapeCast S16384 v shapeCasts_S16384x1_S16384) (ix1 r)
    = ∑ j : Fin 16384, if v (ix2 j 0) = v (ix2 r 0) ∧ j.val < r.val then 1 else 0 := by
  pointwise [earlier]
  exact Finset.sum_congr rfl fun j _ => both _ j r
theorem lower_at (v : FVec Ideal S16384x1 .f32) (h : FVec Ideal S1x1024 .f32) (r : Fin 16384) : lower (shapeCast S16384 v shapeCasts_S16384x1_S16384) h (ix1 r)
    = ∑ k : Fin 1024, if lane k < v (ix2 r 0) then h (ix2 0 k) else 0 := by
  pointwise [lower]
  rw [nil]
theorem place_at (v : FVec Ideal S16384 .f32) (h : FVec Ideal S1x1024 .f32) (r : Fin 16384) :
    (broadcastInDim S16384x1 ![0] bcast_S16384_S16384x1_0 (fptosi 32 (addf (earlier v) (lower v h))) : IVec S16384x1 32) (ix2 r 0)
    = FloatOps.fptosi (F := Ideal) (φ := FTy.f32) 32 (earlier v (ix1 r) + lower v h (ix1 r)) := by
  pointwise
theorem start_at (h : FVec Ideal S1x1024 .f32) (k : Fin 1024) :
    (broadcastInDim S1x1024 ![1] bcast_S1024_S1x1024_1 (Host.reduceAdd (select (cmpf .olt (broadcastInDim S1024x1024 ![0, 1] bcast_S1024x1_S1024x1024_0_1 (broadcastInDim S1024x1 ![0] bcast_S1024_S1024x1_0 (sitofp (F := Ideal) .f32 (iotaInDim S1024 32 0)))) (broadcastInDim S1024x1024 ![0, 1] bcast_S1x1024_S1024x1024_0_1 (broadcastInDim S1x1024 ![1] bcast_S1024_S1x1024_1 (sitofp (F := Ideal) .f32 (iotaInDim S1024 32 0))))) (broadcastInDim S1024x1024 ![0, 1] bcast_S1024x1_S1024x1024_0_1 (broadcastInDim S1024x1 ![0] bcast_S1024_S1024x1_0 (shapeCast S1024 h shapeCasts_S1x1024_S1024))) (broadcastInDim S1024x1024 ![] bcast_S_S1024x1024 (id (constant (F := Ideal) S_ .f32 0x00000000#32)))) (constant (F := Ideal) S_ .f32 0x00000000#32) reducesTo_S1024x1024_S1024_d0 h_S_) : FVec Ideal S1x1024 .f32) (ix2 0 k)
    = ∑ j : Fin 1024, if lane j < lane k then h (ix2 0 j) else 0 := by
  pointwise
  rw [nil]

variable (m : (ℓ : Loc Cert.RankIdeal.nD Cert.RankIdeal.τ Cert.RankIdeal.sig) → Buf (Elt Ideal) ℓ) (c : Dev Cert.RankIdeal.nD)

/-- The points before `r` in its cell are those the running counts and the block's counts hold. -/
theorem earlier_sum (κ : Fin 16384 → Fin 1024) (hκ : ∀ r, RVal.a0 m c (ix2 r 0) = lane (κ r)) (r : Fin 16384) :
    (∑ j : Fin 16384, if RVal.a0 m c (ix2 j 0) = RVal.a0 m c (ix2 r 0) ∧ j.val < r.val then (1 : EReal) else 0)
      = ∑ i ∈ Finset.range r.val, RVal.add m c (κ r) i := by
  have e : ∀ j : Fin 16384, (if RVal.a0 m c (ix2 j 0) = RVal.a0 m c (ix2 r 0) ∧ j.val < r.val then (1 : EReal) else 0)
      = (fun x => if x < r.val then RVal.add m c (κ r) x else 0) j.val := by
    intro j
    unfold RVal.add here
    dsimp only
    rw [dif_pos j.isLt, hκ r]
    by_cases h : j.val < r.val
    · rw [if_pos h]
      exact if_congr (and_iff_left h) rfl rfl
    · rw [if_neg h, if_neg fun q => h q.2]
  rw [Finset.sum_congr rfl fun j _ => e j, ← Finset.sum_range (fun x => if x < r.val then RVal.add m c (κ r) x else 0), ← Finset.sum_filter]
  refine Finset.sum_congr (Finset.ext fun x => ?_) fun _ _ => rfl
  rw [Finset.mem_filter, Finset.mem_range, Finset.mem_range]
  have := r.isLt
  omega
theorem lower_sum (h : Fin 1024 → EReal) (k : Fin 1024) :
    (∑ j : Fin 1024, if lane j < lane k then h j else 0) = ∑ j : Fin 1024, h j * below j k := by
  refine Finset.sum_congr rfl fun j _ => ?_
  unfold below
  by_cases hj : j.val < k.val
  · rw [if_pos ((RVal.lane_lt j k).mpr hj), if_pos hj, mul_one]
  · rw [if_neg (fun q => hj ((RVal.lane_lt j k).mp q)), if_neg hj, mul_zero]

theorem close2 (κ : Fin 16384 → Fin 1024) (hκ : ∀ r, RVal.a0 m c (ix2 r 0) = lane (κ r)) (w : IVec S16384x1 32)
    (e : ∀ r : Fin 16384, w (ix2 r 0) = FloatOps.fptosi (F := Ideal) (φ := FTy.f32) 32
      (earlier (shapeCast S16384 (RVal.a0 m c) shapeCasts_S16384x1_S16384) (ix1 r) + lower (shapeCast S16384 (RVal.a0 m c) shapeCasts_S16384x1_S16384) (RVal.a1 m c) (ix1 r))) :
    w = RVal.G2 m c κ := by
  funext i
  idx_vars i
  obtain rfl : i1 = 0 := Subsingleton.elim _ _
  refine (e i0).trans ?_
  rw [earlier_at, lower_at, earlier_sum m c κ hκ i0, hκ i0, lower_sum]
  rfl
theorem close3 (w : FVec Ideal S1x1024 .f32)
    (e : ∀ k : Fin 1024, w (ix2 0 k) = ∑ j : Fin 1024, if lane j < lane k then RVal.a1 m c (ix2 0 j) else 0) : w = RVal.G3 m c := by
  funext i
  idx_vars i
  obtain rfl : i0 = 0 := Subsingleton.elim _ _
  exact (e i1).trans (lower_sum _ i1)
end Reference

end Cert.Proof.RRef

end
-- ==== Proof.BWords.lean ====
/-
  The words a task of the last gather computes, in closed form. Its task has two blocks, so it makes two trips: the
  carried words before trip `t`, the conditions of the branches, the offsets and the checks.
-/
module

public import proofs.«01_k».proof.Proof.Launch
public import proofs.«01_k».proof.Proof.Gen.BackIdeal

@[expose] public section

namespace Cert.Proof.BWords

open Cert.BackIdeal Cert.BackIdeal.Gen
open Idealize.ShloMosaic

/-- The fetches started before trip `t`. -/
abbrev fetched (t : ℕ) : BitVec 32 := BitVec.ofNat 32 (min (t + 1) 2)
/-- The blocks gathered before trip `t`. -/
abbrev gathered (t : ℕ) : BitVec 32 := BitVec.ofNat 32 t
/-- The copies out waited for before trip `t`. -/
abbrev landed (t : ℕ) : BitVec 32 := BitVec.ofNat 32 (t - 1)
/-- The block of trip `t`, within the task's two. -/
abbrev turn (t : ℕ) : BitVec 32 := BitVec.ofNat 32 (t % 2)

/-- The carried words before trip `t`. -/
abbrev carry (t : ℕ) : BitVec 32 × BitVec 32 × BitVec 32 × BitVec 32 × BitVec 32 := (fetched t, gathered t, gathered t, landed t, turn t)

/-- The first block of the task at coordinates `i`, as the kernel computes it. -/
abbrev w4 (i : grid0.Coords) : BitVec 32 :=
  Scalar.muli (Scalar.addi (Scalar.addi 0#32 (Scalar.muli (BitVec.ofNat 32 (i 1).val) 1#32)) (Scalar.muli (BitVec.ofNat 32 (i 0).val) 16#32)) 2#32

/-- The first row of the task at coordinates `i`. -/
abbrev base (i : grid0.Coords) : ℕ := 512 * (i 1).val + 8192 * (i 0).val

/-- A next block is fetched in the first trip only; this trip's block is always awaited and always copied out; the copy of
    the trip before is awaited in the second trip only. -/
theorem fetches : ∀ (i : grid0.Coords) (t : Fin k0_t1_loop.trips), k0_cond1 i t (turn t) = if t.val < 1 then 1#1 else 0#1 := by decide +kernel
theorem awaits : ∀ (i : grid0.Coords) (t : Fin k0_t1_loop.trips), k0_cond2 i t (turn t) = 1#1 := by decide +kernel
theorem copies : ∀ (i : grid0.Coords) (t : Fin k0_t1_loop.trips), k0_cond5 i t (turn t) = 1#1 := by decide +kernel
theorem collects : ∀ (i : grid0.Coords) (t : Fin k0_t1_loop.trips), k0_cond7 i t (turn t) = if 0 < t.val then 1#1 else 0#1 := by decide +kernel

/-! The offsets: before the loop, -/
theorem off1_eq : k0_off1 = ![0, 0, 0] := by decide +kernel
theorem off2_eq : ∀ i : grid0.Coords, k0_off2 i = ![0, base i + 256 * 0] := by decide +kernel
theorem off3_eq : k0_off3 = ![0] := by decide +kernel
/-! of the next fetch, -/
theorem off4_eq : ∀ t : Fin k0_t1_loop.trips, t.val < 1 → k0_off4 (fetched t) = ![(t.val + 1) % 2, 0, 0] := by decide +kernel
theorem off5_eq : ∀ (i : grid0.Coords) (t : Fin k0_t1_loop.trips), t.val < 1 → k0_off5 i (turn t) = ![0, base i + 256 * (t.val + 1)] := by decide +kernel
theorem off6_eq : ∀ t : Fin k0_t1_loop.trips, t.val < 1 → k0_off6 (fetched t) = ![(t.val + 1) % 2] := by decide +kernel
/-! of this trip's block, -/
theorem off9_eq : ∀ t : Fin k0_t1_loop.trips, k0_off9 (gathered t) = ![t.val % 2] := by decide +kernel
theorem off10_eq : ∀ t : Fin k0_t1_loop.trips, k0_off10 (gathered t) = ![t.val % 2, 0, 0] := by decide +kernel
theorem off11_eq : ∀ t : Fin k0_t1_loop.trips, k0_off11 (gathered t) = ![t.val % 2, 0, 0] := by decide +kernel
theorem off12_eq : ∀ t : Fin k0_t1_loop.trips, k0_off12 (gathered t) = ![t.val % 2, 0, 0] := by decide +kernel
theorem off13_eq : ∀ (i : grid0.Coords) (t : Fin k0_t1_loop.trips), k0_off13 i (turn t) = ![base i + 256 * t.val, 0] := by decide +kernel
theorem off14_eq : ∀ t : Fin k0_t1_loop.trips, k0_off14 (gathered t) = ![t.val % 2] := by decide +kernel
/-! and of the semaphores awaited last. -/
theorem off17_eq : ∀ t : Fin k0_t1_loop.trips, k0_off17 (landed t) = ![(t.val - 1) % 2] := by decide +kernel
theorem off20_eq : k0_off20 (landed 2) = ![1] := by decide +kernel

theorem chk1 : ∀ (i : grid0.Coords) (t : Fin k0_t1_loop.trips), k0_chk1 i t (fetched t) (gathered t) (gathered t) (landed t) (turn t) := by decide +kernel
theorem chk2 : ∀ t : Fin k0_t1_loop.trips, k0_chk2 (gathered t) := by decide +kernel
theorem chk3 : ∀ t : Fin k0_t1_loop.trips, k0_chk3 (gathered t) := by decide +kernel
theorem chk4 : k0_chk4 (landed 2) := by decide +kernel
theorem chk5 : ∀ i : grid0.Coords, k0_chk5 i (turn 2) := by decide +kernel

end Cert.Proof.BWords
-- ==== Proof.BSlots.lean ====
/-
  The pieces of memory a task of the last gather moves: the slots of its index and row buffers, the blocks of the list and
  of the result, the whole table; which elements each is, and what a copy or a gather puts there.
-/
module

public import proofs.«01_k».proof.Proof.BWords
public import proofs.«01_k».proof.Proof.Gen.BackIdeal.Skeleton

@[expose] public section

noncomputable section

namespace Cert.Proof.BSlots

open Cert.BackIdeal Cert.BackIdeal.Gen Cert.Proof.BWords
open Cert.Proof.Slots (rowNo)
open Idealize.ShloMosaic
open Idealize.ShloMosaic.ValueIdx (ix1 ix2 eq_ix2)

variable {F : FTy → Type}

/-! ## The value -/

/-- Word `k` of the list. -/
def word (I : S1x16384.Idx → BitVec 32) (k : ℕ) : BitVec 32 := if h : k < 16384 then I (ix2 (0 : Fin 1) ⟨k, h⟩) else 0#32

/-- The rows of the table `T` in the order of the list `I`. -/
def rowsOf {α : Type} (T : S16384x128.Idx → α) (I : S1x16384.Idx → BitVec 32) : S16384x128.Idx → α :=
  fun j => T (ix2 (rowNo (word I (j 0).val)) (j 1))

/-- Its block of 256 rows from row `b` on. -/
def payOf (T : S16384x128.Idx → Elt F .f32) (I : S1x16384.Idx → BitVec 32) (b : ℕ) : S256x128.Idx → Elt F .f32 :=
  fun y => T (ix2 (rowNo (word I (b + (y 0).val))) (y 1))

/-! ## The pieces, at an offset -/

abbrev inS (off : Fin S2x1x256.rank → ℕ) (h : ∀ a, off a + S1x1x256.size a ≤ S2x1x256.size a) : Memref sig .scVector .vmem S1x256 .i32 :=
  ((Memref.whole cc0_scoped0).slice (Rect.unit (s := S2x1x256) off S1x1x256.size h) (fun _ => rfl)).squeeze S1x256 squeezes_S1x1x256_S1x256
abbrev offS (off : Fin S2x1x256.rank → ℕ) (h : ∀ a, off a + S1x1x256.size a ≤ S2x1x256.size a) : Memref sig .scVector .vmem S256 .i32 :=
  ((inS off h).slice (Rect.unit (s := S1x256) ![0, 0] S1x256.size inb_S1x256_S1x256_0_0) (fun _ => rfl)).squeeze S256 squeezes_S1x256_S256
abbrev rowS (off : Fin S2x256x128.rank → ℕ) (h : ∀ a, off a + S1x256x128.size a ≤ S2x256x128.size a) : Memref sig .scVector .vmem S256x128 .f32 :=
  ((Memref.whole cc0_scoped2).slice (Rect.unit (s := S2x256x128) off S1x256x128.size h) (fun _ => rfl)).squeeze S256x128 squeezes_S1x256x128_S256x128
abbrev idxB (off : Fin S1x16384.rank → ℕ) (h : ∀ a, off a + S1x256.size a ≤ S1x16384.size a) : Memref sig .scVector .hbm S1x256 .i32 :=
  (Memref.whole main_v0_scv).slice (Rect.unit (s := S1x16384) off S1x256.size h) (fun _ => rfl)
abbrev outB (off : Fin S16384x128.rank → ℕ) (h : ∀ a, off a + S256x128.size a ≤ S16384x128.size a) : Memref sig .scVector .hbm S256x128 .f32 :=
  (Memref.whole main_v1_scv).slice (Rect.unit (s := S16384x128) off S256x128.size h) (fun _ => rfl)
abbrev tabW : Memref sig .scVector .hbm S16384x128 .f32 :=
  (Memref.whole main_arg0_scv).slice (Rect.unit (s := S16384x128) ![0, 0] S16384x128.size inb_S16384x128_S16384x128_0_0) (fun _ => rfl)
abbrev semI (off : Fin S2.rank → ℕ) (h : ∀ a, off a + S1.size a ≤ S2.size a) : DmaSem sig :=
  ((cc0_scoped1.slice (Rect.unit (s := S2) off S1.size h)).squeeze S_ squeezes_S1_S_).sem
abbrev semO (off : Fin S2.rank → ℕ) (h : ∀ a, off a + S1.size a ≤ S2.size a) : DmaSem sig :=
  ((cc0_scoped3.slice (Rect.unit (s := S2) off S1.size h)).squeeze S_ squeezes_S1_S_).sem

/-- The semaphores of index slot `s` and of row slot `s`. -/
def iSem (s : Fin 2) : DmaSem sig := ⟨s.val, Nat.lt_trans s.isLt (by decide)⟩
def oSem (s : Fin 2) : DmaSem sig := ⟨2 + s.val, Nat.lt_of_lt_of_le (Nat.add_lt_add_left s.isLt 2) (by decide)⟩

theorem semI_eq : ∀ (s : Fin 2) (h : ∀ a, (![s.val] : Fin 1 → ℕ) a + S1.size a ≤ S2.size a), semI ![s.val] h = iSem s := by decide +kernel
theorem semO_eq : ∀ (s : Fin 2) (h : ∀ a, (![s.val] : Fin 1 → ℕ) a + S1.size a ≤ S2.size a), semO ![s.val] h = oSem s := by decide +kernel

/-! ## Which elements each piece is -/

def inSet (s : ℕ) : Finset S2x1x256.Idx := Finset.univ.filter fun y => (y 0).val = s
def rowSet (s : ℕ) : Finset S2x256x128.Idx := Finset.univ.filter fun y => (y 0).val = s
def idxSet (b : ℕ) : Finset S1x16384.Idx := Finset.univ.filter fun y => b ≤ (y 1).val ∧ (y 1).val < b + 256
def outSet (b n : ℕ) : Finset S16384x128.Idx := Finset.univ.filter fun y => b ≤ (y 0).val ∧ (y 0).val < b + n

theorem set_inS (s : ℕ) (h : ∀ a, (![s, 0, 0] : Fin 3 → ℕ) a + S1x1x256.size a ≤ S2x1x256.size a) : (inS ![s, 0, 0] h).view.set = inSet s := by
  show (((View.whole cc0_scoped0).slice _).reshape _ _).set = _
  rw [View.set_reshape, View.set_slice_whole]
  ext y; unfold inSet
  refine Rect.mem_set_unit.trans ?_
  show (∀ a : Fin 3, (![s, 0, 0] : Fin 3 → ℕ) a ≤ (y a).val ∧ (y a).val < (![s, 0, 0] : Fin 3 → ℕ) a + S1x1x256.size a) ↔ _
  rw [Finset.mem_filter, Fin.forall_fin_succ, Fin.forall_fin_succ, Fin.forall_fin_one]
  have h1 : (y 1).val < 1 := (y 1).isLt
  have h2 : (y 2).val < 256 := (y 2).isLt
  show ((s ≤ (y 0).val ∧ (y 0).val < s + 1) ∧ (0 ≤ (y 1).val ∧ (y 1).val < 0 + 1) ∧ (0 ≤ (y 2).val ∧ (y 2).val < 0 + 256)) ↔ _
  simp only [Finset.mem_univ, true_and]; omega

theorem set_offS (s : ℕ) (h : ∀ a, (![s, 0, 0] : Fin 3 → ℕ) a + S1x1x256.size a ≤ S2x1x256.size a) : (offS ![s, 0, 0] h).view.set = inSet s := by
  rw [← set_inS s h]
  show (((inS ![s, 0, 0] h).view.slice _).reshape _ _).set = _
  rw [View.set_reshape, View.set_slice]
  have : (Rect.unit (s := S1x256) ![0, 0] S1x256.size inb_S1x256_S1x256_0_0).set = Finset.univ := by
    ext y; rw [Rect.mem_set_unit, Fin.forall_fin_two]
    have h0 : (y 0).val < 1 := (y 0).isLt
    have h1 : (y 1).val < 256 := (y 1).isLt
    show ((0 ≤ (y 0).val ∧ (y 0).val < 0 + 1) ∧ (0 ≤ (y 1).val ∧ (y 1).val < 0 + 256)) ↔ _
    simp only [Finset.mem_univ, iff_true]; omega
  rw [this]; rfl

theorem set_rowS (s : ℕ) (h : ∀ a, (![s, 0, 0] : Fin 3 → ℕ) a + S1x256x128.size a ≤ S2x256x128.size a) : (rowS ![s, 0, 0] h).view.set = rowSet s := by
  show (((View.whole cc0_scoped2).slice _).reshape _ _).set = _
  rw [View.set_reshape, View.set_slice_whole]
  ext y; unfold rowSet
  refine Rect.mem_set_unit.trans ?_
  show (∀ a : Fin 3, (![s, 0, 0] : Fin 3 → ℕ) a ≤ (y a).val ∧ (y a).val < (![s, 0, 0] : Fin 3 → ℕ) a + S1x256x128.size a) ↔ _
  rw [Finset.mem_filter, Fin.forall_fin_succ, Fin.forall_fin_succ, Fin.forall_fin_one]
  have h1 : (y 1).val < 256 := (y 1).isLt
  have h2 : (y 2).val < 128 := (y 2).isLt
  show ((s ≤ (y 0).val ∧ (y 0).val < s + 1) ∧ (0 ≤ (y 1).val ∧ (y 1).val < 0 + 256) ∧ (0 ≤ (y 2).val ∧ (y 2).val < 0 + 128)) ↔ _
  simp only [Finset.mem_univ, true_and]; omega

theorem set_idxB (b : ℕ) (h : ∀ a, (![0, b] : Fin 2 → ℕ) a + S1x256.size a ≤ S1x16384.size a) : (idxB ![0, b] h).view.set = idxSet b := by
  show ((View.whole main_v0_scv).slice _).set = _
  rw [View.set_slice_whole]
  ext y; unfold idxSet
  refine Rect.mem_set_unit.trans ?_
  show (∀ a : Fin 2, (![0, b] : Fin 2 → ℕ) a ≤ (y a).val ∧ (y a).val < (![0, b] : Fin 2 → ℕ) a + S1x256.size a) ↔ _
  rw [Finset.mem_filter, Fin.forall_fin_two]
  have h0 : (y 0).val < 1 := (y 0).isLt
  show ((0 ≤ (y 0).val ∧ (y 0).val < 0 + 1) ∧ (b ≤ (y 1).val ∧ (y 1).val < b + 256)) ↔ _
  simp only [Finset.mem_univ, true_and]; omega

theorem set_outB (b : ℕ) (h : ∀ a, (![b, 0] : Fin 2 → ℕ) a + S256x128.size a ≤ S16384x128.size a) : (outB ![b, 0] h).view.set = outSet b 256 := by
  show ((View.whole main_v1_scv).slice _).set = _
  rw [View.set_slice_whole]
  ext y; unfold outSet
  refine Rect.mem_set_unit.trans ?_
  show (∀ a : Fin 2, (![b, 0] : Fin 2 → ℕ) a ≤ (y a).val ∧ (y a).val < (![b, 0] : Fin 2 → ℕ) a + S256x128.size a) ↔ _
  rw [Finset.mem_filter, Fin.forall_fin_two]
  have h1 : (y 1).val < 128 := (y 1).isLt
  show ((b ≤ (y 0).val ∧ (y 0).val < b + 256) ∧ (0 ≤ (y 1).val ∧ (y 1).val < 0 + 128)) ↔ _
  simp only [Finset.mem_univ, true_and]; omega

/-- An element of the whole table's piece is the element itself. -/
theorem emb_tabW (y : S16384x128.Idx) : (Rect.unit (s := S16384x128) ![0, 0] S16384x128.size inb_S16384x128_S16384x128_0_0).emb y = y := by
  funext a
  match a with
  | 0 => exact Fin.ext (show 0 + 1 * (y 0).val = (y 0).val by omega)
  | 1 => exact Fin.ext (show 0 + 1 * (y 1).val = (y 1).val by omega)

theorem set_tabW : (tabW).view.set = Finset.univ := by
  show ((View.whole main_arg0_scv).slice _).set = _
  rw [View.set_slice_whole]
  ext y
  refine Rect.mem_set_unit.trans ?_
  show (∀ a : Fin 2, (![0, 0] : Fin 2 → ℕ) a ≤ (y a).val ∧ (y a).val < (![0, 0] : Fin 2 → ℕ) a + S16384x128.size a) ↔ _
  rw [Fin.forall_fin_two]
  have h0 : (y 0).val < 16384 := (y 0).isLt
  have h1 : (y 1).val < 128 := (y 1).isLt
  show ((0 ≤ (y 0).val ∧ (y 0).val < 0 + 16384) ∧ (0 ≤ (y 1).val ∧ (y 1).val < 0 + 128)) ↔ _
  simp only [Finset.mem_univ, iff_true]; omega

theorem read_tabW (T : S16384x128.Idx → Elt F .f32) : (tabW).view.read (Elt F) T = T :=
  funext fun y => congrArg T (emb_tabW y)

/-! ## What is read and written there -/

/-- A block of the list, read: its words in order. -/
theorem read_idxB (I : S1x16384.Idx → BitVec 32) (b : ℕ) (h : ∀ a, (![0, b] : Fin 2 → ℕ) a + S1x256.size a ≤ S1x16384.size a) (y : S1x256.Idx) :
    (idxB ![0, b] h).view.read (Elt F) I y = word I (b + (y 1).val) := by
  have hb : b + 256 ≤ 16384 := h 1
  have h1 : (y 1).val < 256 := (y 1).isLt
  have h0 : (y 0).val < 1 := (y 0).isLt
  unfold word; rw [dif_pos (by omega)]
  show I ((idxB ![0, b] h).view.emb y) = _
  congr 1
  funext a
  match a with
  | 0 => exact Fin.ext (show 0 + 1 * (y 0).val = 0 by omega)
  | 1 => exact Fin.ext (show b + 1 * (y 1).val = b + (y 1).val by omega)

/-- An index slot read as the gather's list: the slot's words. -/
theorem read_offS (f : S2x1x256.Idx → BitVec 32) (off : Fin 3 → ℕ) (h : ∀ a, off a + S1x1x256.size a ≤ S2x1x256.size a) (x : S256.Idx) :
    (offS off h).view.read (Elt F) f x = (inS off h).view.read (Elt F) f (ix2 (0 : Fin 1) (x 0)) := by
  show (inS off h).view.read (Elt F) f ((Rect.unit (s := S1x256) ![0, 0] S1x256.size inb_S1x256_S1x256_0_0).emb (Shape.reshapeEquiv _ x)) = _
  congr 1
  rw [show Shape.reshapeEquiv squeezes_S1x256_S256.numel_eq x = ix2 (0 : Fin 1) (x 0) from
    Shape.reshapeEquiv_eq_of_rowMajor (s := S1x256) _ (by
      have e2 := Shape.rowMajor_val_two (d := ![1, 256]) (ix2 (0 : Fin 1) (x 0))
      have e1 := Shape.rowMajor_val_one (d := ![256]) x
      refine e2.trans (Eq.trans ?_ e1.symm)
      show 0 * 256 + (x 0).val = (x 0).val
      omega)]
  funext a
  match a with
  | 0 => exact Fin.ext (show 0 + 1 * 0 = 0 by omega)
  | 1 => exact Fin.ext (show 0 + 1 * (x 0).val = (x 0).val by omega)

/-- What a gather of a list that holds block `b`'s words brings. -/
theorem payload_eq (T : S16384x128.Idx → Elt F .f32) (I : S1x16384.Idx → BitVec 32) (b : ℕ) (g : S256.Idx → Elt F .i32)
    (hg : ∀ x : S256.Idx, g x = word I (b + (x 0).val)) (hn : S256.numel = S256x128.size gathers_S16384x128_S256x128.axis')
    (hin : ∀ x, (g x).toNat < S16384x128.size gathers_S16384x128_S256x128.axis) :
    SparseCore.gatherPayload (F := F) gathers_S16384x128_S256x128 T (SparseCore.rows g hn hin) = payOf T I b := by
  funext y
  unfold SparseCore.gatherPayload payOf
  congr 1
  have key : g (S256.rowMajor.symm ((y 0).cast hn.symm)) = word I (b + (y 0).val) := by
    rw [hg]; congr 2
    have e := Shape.rowMajor_val_one (d := ![256]) (S256.rowMajor.symm ((y 0).cast hn.symm))
    rw [show (⟨1, ![256]⟩ : Shape).rowMajor (S256.rowMajor.symm ((y 0).cast hn.symm)) = (y 0).cast hn.symm from Equiv.apply_symm_apply _ _] at e
    exact e.symm
  funext a
  match a with
  | 0 =>
    refine (Shape.Gathers.idx_axis gathers_S16384x128_S256x128 (SparseCore.rows g hn hin) y).trans (Fin.ext ?_)
    show (g (S256.rowMajor.symm ((y 0).cast hn.symm))).toNat = min (word I (b + (y 0).val)).toNat 16383
    have := hin (S256.rowMajor.symm ((y 0).cast hn.symm))
    rw [key] at this ⊢
    have h2 : (word I (b + (y 0).val)).toNat < 16384 := this
    omega
  | 1 => exact Fin.ext (Shape.Gathers.idx_of_ne gathers_S16384x128_S256x128 (SparseCore.rows g hn hin) y 1 (by decide))

/-- A block of the result, written with its rows: the result there. -/
theorem write_outB (T : S16384x128.Idx → Elt F .f32) (I : S1x16384.Idx → BitVec 32) (b : ℕ)
    (h : ∀ a, (![b, 0] : Fin 2 → ℕ) a + S256x128.size a ≤ S16384x128.size a) (f : S16384x128.Idx → Elt F .f32) :
    ∀ j ∈ outSet b 256, (outB ![b, 0] h).view.write (Elt F) f (payOf T I b) Finset.univ j = rowsOf T I j := by
  intro j hj
  rw [← set_outB b h] at hj
  obtain ⟨y, -, rfl⟩ := Finset.mem_map.mp hj
  refine (View.write_emb_of_mem (v := (outB ![b, 0] h).view) f (payOf T I b) (Finset.mem_univ y)).trans ?_
  show payOf T I b y = rowsOf T I ((outB ![b, 0] h).view.emb y)
  unfold payOf rowsOf
  congr 1
  have e0 : ((outB ![b, 0] h).view.emb y 0).val = b + (y 0).val := by
    show b + 1 * (y 0).val = _; omega
  have e1 : (outB ![b, 0] h).view.emb y 1 = y 1 := Fin.ext (show 0 + 1 * (y 1).val = (y 1).val by omega)
  rw [e0, e1]

end Cert.Proof.BSlots
-- ==== Proof.BMoves.lean ====
/-
  The moves of a task of the last gather, one rule each: a fetch of a block of the list and its wait, a gather of rows and
  its wait, a copy of a block out and its wait.
-/
module

public import proofs.«01_k».proof.Proof.BSlots

@[expose] public section

noncomputable section

namespace Cert.Proof.BMoves

open Cert.BackIdeal Cert.BackIdeal.Gen Cert.Proof.BWords Cert.Proof.BSlots

open Idealize.ShloMosaic
open Idealize.ShloMosaic.ValueIdx (ix1 ix2 eq_ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and its resources: one call of the SparseCores, no region of the TensorCore -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The table, the list as one row, the result. -/
abbrev tLoc (d : Dev nD) : Loc nD τ sig := (SparseCore.T d).loc main_arg0
abbrev iLoc (d : Dev nD) : Loc nD τ sig := (SparseCore.T d).loc main_v0
abbrev oLoc (d : Dev nD) : Loc nD τ sig := (SparseCore.T d).loc main_v1

abbrev cV (L : grid0.Coords) : Fin τ.nSC := (L 0).castLE hcore0
abbrev jV (L : grid0.Coords) : Fin τ.nSub := (L 1).castLE hsub0
/-- The vector subcore that runs the task at coordinates `L`, its index buffer and its row buffer. -/
abbrev thr (d : Dev nD) (L : grid0.Coords) : Thread nD τ := V d (cV L) (jV L)
abbrev sLoc (d : Dev nD) (L : grid0.Coords) : Loc nD τ sig := (thr d L).loc cc0_scoped0
abbrev rLoc (d : Dev nD) (L : grid0.Coords) : Loc nD τ sig := (thr d L).loc cc0_scoped2

theorem ok_in : ∀ (s : Fin 2) a, (![s.val, 0, 0] : Fin 3 → ℕ) a + S1x1x256.size a ≤ S2x1x256.size a := by decide
theorem ok_row : ∀ (s : Fin 2) a, (![s.val, 0, 0] : Fin 3 → ℕ) a + S1x256x128.size a ≤ S2x256x128.size a := by decide
abbrev inM (s : Fin 2) : Memref sig .scVector .vmem S1x256 .i32 := inS ![s.val, 0, 0] (ok_in s)
abbrev rowM (s : Fin 2) : Memref sig .scVector .vmem S256x128 .f32 := rowS ![s.val, 0, 0] (ok_row s)

/-- What a fetch, a gather and a copy out credit. -/
def NI : ℕ := (inM 0).view.dmaCredit
def NG : ℕ := (rowM 0).view.dmaCredit
def NO : ℕ := (outB ![0, 0] (by decide)).view.dmaCredit
theorem NI_pos : 0 < NI := View.dmaCredit_pos _ (by decide)
theorem NO_pos : 0 < NO := View.dmaCredit_pos _ (by decide)
theorem NG_eq : ∀ s : Fin 2, ∑ j, ((rowM s).slice (S256x128.rowRect gathers_S16384x128_S256x128.axis' j)
    (S256x128.stride_rowRect gathers_S16384x128_S256x128.axis' j)).view.dmaCredit = NG := by decide +kernel

section Moves

variable [FloatOps F] (d : Dev nD) (L : grid0.Coords)
variable (Tb : Buf (Elt F) (tLoc d)) (Ix : Buf (Elt F) (iLoc d)) (O₀ : Buf (Elt F) (oLoc d)) (qT qI : PosShare TreeShare)

/-- The share of the list that the fetches into index slot `s` read it with. -/
def iq (s : Fin 2) : PosShare TreeShare := if s = 0 then qI.left else qI.right

/-- Index slot `s` holds the 256 words from `b` on; row slot `s` the rows they name. -/
def InFact (s : Fin 2) (b : ℕ) (f : Buf (Elt F) (sLoc d L)) : Prop :=
  (inM s).view.read (Elt F) f = fun y => word Ix (b + (y 1).val)
def RowFact (s : Fin 2) (b : ℕ) (f : Buf (Elt F) (rLoc d L)) : Prop :=
  (rowM s).view.read (Elt F) f = payOf Tb Ix b

/-! An index slot: free, being filled, full. -/
def inFree (s : Fin 2) : sProp 𝕄 :=
  iprop((∃ f : Buf (Elt F) (sLoc d L), sLoc d L ↦[inSet s.val]{fullShare} f) ∗ semVal (thr d L, .dma (iSem s)) 0 ∗ iLoc d ↦{iq qI s} Ix)
def inD (s : Fin 2) (b : ℕ) : sProp 𝕄 :=
  iprop((∃ f : Buf (Elt F) (sLoc d L), (sLoc d L ↦[inSet s.val]{fullShare} f) ∗ ⌜InFact d L Ix s b f⌝) ∗ iLoc d ↦[idxSet b]{iq qI s} Ix)
def inBusy (s : Fin 2) (b : ℕ) : sProp 𝕄 :=
  iprop(Transfers.Flight countersEmb (thr d L) (.dma (iSem s)) (default : HIx 1) NI (inD d L Ix qI s b) ∗ iLoc d ↦[Finset.univ \ idxSet b]{iq qI s} Ix)
def inFull (s : Fin 2) (b : ℕ) : sProp 𝕄 :=
  iprop((∃ f : Buf (Elt F) (sLoc d L), (sLoc d L ↦[inSet s.val]{fullShare} f) ∗ ⌜InFact d L Ix s b f⌝) ∗ semVal (thr d L, .dma (iSem s)) 0 ∗ iLoc d ↦{iq qI s} Ix)

/-! A row slot: free, full, being copied out. -/
def rowFree (s : Fin 2) : sProp 𝕄 := iprop(∃ f : Buf (Elt F) (rLoc d L), rLoc d L ↦[rowSet s.val]{fullShare} f)
def rowFull (s : Fin 2) (b : ℕ) : sProp 𝕄 :=
  iprop(∃ f : Buf (Elt F) (rLoc d L), (rLoc d L ↦[rowSet s.val]{fullShare} f) ∗ ⌜RowFact d L Tb Ix s b f⌝)
def outFree (s : Fin 2) : sProp 𝕄 := iprop(rowFree (F := F) d L s ∗ semVal (thr d L, .dma (oSem s)) 0)
def outD (s : Fin 2) (b : ℕ) : sProp 𝕄 :=
  iprop((oLoc d ↦[outSet b 256]{fullShare} (rowsOf Tb Ix : Buf (Elt F) (oLoc d))) ∗ rowFree (F := F) d L s)
def outBusy (s : Fin 2) (b : ℕ) : sProp 𝕄 :=
  Transfers.Flight countersEmb (thr d L) (.dma (oSem s)) (default : HIx 1) NO (outD d L Tb Ix s b)

theorem inFull_free (s : Fin 2) (b : ℕ) : inFull d L Ix qI s b ⊢ inFree d L Ix qI s := by
  unfold inFull inFree
  iintro ⟨⟨%f, H, -⟩, Hs, Hi⟩
  isplitl [H]; · iexists f; iexact H
  isplitl [Hs] <;> iassumption

theorem issueIn (s : Fin 2) (b : ℕ) {off4 : Fin 3 → ℕ} {h4} (e4 : off4 = ![s.val, 0, 0]) {off5 : Fin 2 → ℕ} {h5} (e5 : off5 = ![0, b])
    {off6 : Fin 1 → ℕ} {h6} (e6 : off6 = ![s.val]) {hsrc hdst hsem}
    {α : Type} {k : PUnit → Prog (TpuEff nD τ sig (Elt F) Λ₀ (thr d L).2) α} {Q : α → sProp 𝕄} :
    inFree d L Ix qI s ⊢ iprop((inBusy d L Ix qI s b -∗ wp frame (wpE (defs₀ (F := F)) 𝒱₀ (thr d L) none) Set.univ (k ⟨⟩) Q)
      -∗ wp frame (wpE (defs₀ (F := F)) 𝒱₀ (thr d L) none) Set.univ
          (.op (.enqueueDma (idxB off5 h5) (.here (inS off4 h4)) (.dma (semI off6 h6)) hsrc hdst hsem) k) Q) := by
  subst e4 e5 e6
  have es := semI_eq s h6
  generalize semI ![s.val] h6 = x at *
  subst es
  unfold inFree
  iintro ⟨⟨%f, Hs⟩, Hv, Hi⟩ Hk
  ihave Hi := (pointsTo_split_subset (q := iq qI s) (f := Ix) (S := Finset.univ) (Finset.subset_univ (idxSet b))).1 $$ Hi
  icases Hi with ⟨Hi, Hir⟩
  iapply (Transfers.wp_dmaLocal countersEmb 𝒱₀ (thr d L) none (src := idxB ![0, b] h5) (via := .same) (dst := inS ![s.val, 0, 0] h4) (Sd := inSet s.val)
    (sm := .dma (iSem s)) (fs := Ix) (fd := f) (q := iq qI s) (default : HIx 1) NI rfl NI_pos (by rw [set_inS])) $$ [Hs Hv Hi]
  · isplitl [Hi]
    · rw [set_idxB]; iexact Hi
    isplitl [Hs] <;> iassumption
  iintro Hfl
  iapply Hk
  unfold inBusy
  isplitl [Hfl]
  · iapply (Transfers.Flight_mono countersEmb (thr d L) ?_) $$ Hfl
    unfold inD
    iintro ⟨Hs, Hi⟩
    isplitl [Hs]
    · iexists _
      isplitl [Hs]; · iexact Hs
      ipureintro
      unfold InFact
      refine (View.read_write_univ (v := (inS ![s.val, 0, 0] h4).view) _ _).trans ?_
      funext y
      exact read_idxB Ix b h5 y
    · rw [set_idxB]; iexact Hi
  · iexact Hir

theorem waitIn (s : Fin 2) (b : ℕ) (O : CellTallies nD τ sig (HIx 1)) (W : Waits sig (HIx 1)) {off4 : Fin 3 → ℕ} {h4} {off5 : Fin 2 → ℕ} {h5}
    {off6 : Fin 1 → ℕ} {h6} (e6 : off6 = ![s.val]) {hsrc hdst}
    {α : Type} {k : PUnit → Prog (TpuEff nD τ sig (Elt F) Λ₀ (thr d L).2) α} {Q : α → sProp 𝕄} :
    iprop(inBusy d L Ix qI s b ∗ owes (thr d L) O W ∗ Transfers.MayWaits (thr d L) (default : HIx 1) O)
      ⊢ iprop((iprop(inFull d L Ix qI s b ∗ owes (thr d L) O (insert (SemLoc.dma (iSem s), (default : HIx 1)) W))
          -∗ wp frame (wpE (defs₀ (F := F)) 𝒱₀ (thr d L) none) Set.univ (k ⟨⟩) Q)
      -∗ wp frame (wpE (defs₀ (F := F)) 𝒱₀ (thr d L) none) Set.univ
          (.op (.waitDma2 (semI off6 h6) (idxB off5 h5) (inS off4 h4) hsrc hdst) k) Q) := by
  subst e6
  have es := semI_eq s h6
  generalize semI ![s.val] h6 = x at *
  subst es
  unfold inBusy
  iintro ⟨⟨Hfl, Hir⟩, HO, #Hmw⟩ Hk
  iapply (Transfers.wp_waitLocalO countersEmb 𝒱₀ (thr d L) none (default : HIx 1) (N := NI) (rfl : (inS off4 h4).view.dmaCredit = NI)) $$ [Hfl HO]
  · isplitl [Hfl]; · iexact Hfl
    isplitl [HO]; · iexact HO
    iapply (Transfers.MayWaits.elim (SemLoc.dma (iSem s))) $$ Hmw
  iintro ⟨HD, Hv, HO⟩
  iapply Hk
  isplitr [HO]
  · unfold inFull inD
    icases HD with ⟨Hf, Hi⟩
    isplitl [Hf]; · iexact Hf
    isplitl [Hv]; · iexact Hv
    iapply (pointsTo_split_subset (q := iq qI s) (f := Ix) (S := Finset.univ) (Finset.subset_univ (idxSet b))).2
    isplitl [Hi] <;> iassumption
  · iexact HO

/-- The gather of the rows that index slot `s`'s words name into row slot `s`, and its wait. -/
theorem gather (s : Fin 2) (b : ℕ) (O : CellTallies nD τ sig (HIx 1)) (W : Waits sig (HIx 1)) (hI : ∀ k, (word Ix k).toNat < 16384)
    {off10 off10' : Fin 3 → ℕ} {h10 h10'} (e10 : off10 = ![s.val, 0, 0]) {off11 : Fin 3 → ℕ} {h11} (e11 : off11 = ![s.val, 0, 0])
    {hp hn hsrc he hsp hr hw1 hw2}
    {α : Type} {k : PUnit → Prog (TpuEff nD τ sig (Elt F) Λ₀ (thr d L).2) α} {Q : α → sProp 𝕄} :
    iprop(inFull d L Ix qI s b ∗ rowFree (F := F) d L s ∗ (tLoc d ↦{qT} Tb) ∗ semVal (thr d L, .dma cc0_scoped4.sem) 0
        ∗ owes (thr d L) O W ∗ Transfers.MayWaits (thr d L) (default : HIx 1) O)
      ⊢ iprop((iprop(inFull d L Ix qI s b ∗ rowFull d L Tb Ix s b ∗ (tLoc d ↦{qT} Tb) ∗ semVal (thr d L, .dma cc0_scoped4.sem) 0
            ∗ owes (thr d L) O (insert (SemLoc.dma cc0_scoped4.sem, (default : HIx 1)) W))
          -∗ wp frame (wpE (defs₀ (F := F)) 𝒱₀ (thr d L) none) Set.univ (k ⟨⟩) Q)
      -∗ wp frame (wpE (defs₀ (F := F)) 𝒱₀ (thr d L) none) Set.univ
          (SparseCore.enqueueIndirectGather hp tabW (rowS off10 h10) gathers_S16384x128_S256x128 (offS off11 h11) hn cc0_scoped4.sem hsrc he hsp hr
            >>= fun _ => SparseCore.waitIndirectGather cc0_scoped4.sem tabW (rowS off10' h10') hw1 hw2 >>= k) Q) := by
  subst e10 e11
  unfold inFull rowFree
  iintro ⟨⟨⟨%fi, Hin, %hfi⟩, Hv, Hi⟩, ⟨%fr, Hr⟩, HT, Hg, HO, #Hmw⟩ Hk
  have hoff : ∀ x : S256.Idx, (offS ![s.val, 0, 0] h11).view.read (Elt F) fi x = word Ix (b + (x 0).val) := fun x => by
    rw [read_offS]
    exact congrFun hfi (ix2 (0 : Fin 1) (x 0))
  have hin : ∀ x, ((offS ![s.val, 0, 0] h11).view.read (Elt F) fi x).toNat < S16384x128.size gathers_S16384x128_S256x128.axis := fun x => by
    rw [hoff]; exact hI _
  iapply (SparseCore.wp_indirectGatherLocal countersEmb 𝒱₀ (thr d L) none (hg := gathers_S16384x128_S256x128) (src := tabW) (dst := rowS ![s.val, 0, 0] h10)
    (offs := offS ![s.val, 0, 0] h11) (q := qT) (qo := fullShare) (fs := Tb) (fd := fr) (fo := fi) (default : HIx 1) NG (NG_eq s) (by decide) hin) $$ [Hin Hr HT Hg]
  · isplitl [HT]; · rw [set_tabW]; iexact HT
    isplitl [Hr]; · rw [set_rowS]; iexact Hr
    isplitl [Hin]; · rw [set_offS]; iexact Hin
    iexact Hg
  iintro Hfl
  iapply (Transfers.wp_waitLocalO countersEmb 𝒱₀ (thr d L) none (default : HIx 1) (N := NG) (rfl : (rowS off10' h10').view.dmaCredit = NG)) $$ [Hfl HO]
  · isplitl [Hfl]; · iexact Hfl
    isplitl [HO]; · iexact HO
    iapply (Transfers.MayWaits.elim (SemLoc.dma cc0_scoped4.sem)) $$ Hmw
  iintro ⟨⟨Hr, HT, Hin⟩, Hg, HO⟩
  iapply Hk
  isplitl [Hin Hv Hi]
  · isplitl [Hin]
    · iexists fi
      isplitl [Hin]; · rw [set_offS]; iexact Hin
      ipureintro; exact hfi
    isplitl [Hv] <;> iassumption
  isplitl [Hr]
  · unfold rowFull
    iexists _
    isplitl [Hr]; · rw [set_rowS]; iexact Hr
    ipureintro
    unfold RowFact
    refine (View.read_write_univ (v := (rowS ![s.val, 0, 0] h10).view) _ _).trans ?_
    rw [read_tabW]
    exact payload_eq Tb Ix b _ hoff _ hin
  isplitl [HT]; · rw [set_tabW]; iexact HT
  isplitl [Hg] <;> iassumption

theorem issueOut (s : Fin 2) (b : ℕ) {off12 : Fin 3 → ℕ} {h12} (e12 : off12 = ![s.val, 0, 0]) {off13 : Fin 2 → ℕ} {h13} (e13 : off13 = ![b, 0])
    {off14 : Fin 1 → ℕ} {h14} (e14 : off14 = ![s.val]) {hsrc hdst hsem}
    {α : Type} {k : PUnit → Prog (TpuEff nD τ sig (Elt F) Λ₀ (thr d L).2) α} {Q : α → sProp 𝕄} :
    iprop(rowFull d L Tb Ix s b ∗ semVal (thr d L, .dma (oSem s)) 0 ∗ (oLoc d ↦[outSet b 256]{fullShare} O₀))
      ⊢ iprop((outBusy d L Tb Ix s b -∗ wp frame (wpE (defs₀ (F := F)) 𝒱₀ (thr d L) none) Set.univ (k ⟨⟩) Q)
      -∗ wp frame (wpE (defs₀ (F := F)) 𝒱₀ (thr d L) none) Set.univ
          (.op (.enqueueDma (rowS off12 h12) (.here (outB off13 h13)) (.dma (semO off14 h14)) hsrc hdst hsem) k) Q) := by
  subst e12 e13 e14
  have es := semO_eq s h14
  generalize semO ![s.val] h14 = x at *
  subst es
  unfold rowFull
  iintro ⟨⟨%f, Hr, %hf⟩, Hv, Ho⟩ Hk
  iapply (Transfers.wp_dmaLocal countersEmb 𝒱₀ (thr d L) none (src := rowS ![s.val, 0, 0] h12) (via := .same) (dst := outB ![b, 0] h13) (Sd := outSet b 256)
    (sm := .dma (oSem s)) (fs := f) (fd := O₀) (q := fullShare) (default : HIx 1) NO rfl NO_pos (by rw [set_outB])) $$ [Hr Hv Ho]
  · isplitl [Hr]
    · rw [set_rowS]; iexact Hr
    isplitl [Ho] <;> iassumption
  iintro Hfl
  iapply Hk
  unfold outBusy
  iapply (Transfers.Flight_mono countersEmb (thr d L) ?_) $$ Hfl
  unfold outD rowFree
  have hw : (ReadAs.same : ReadAs (Elt F) S256x128 .f32 S256x128 .f32).apply ((rowS ![s.val, 0, 0] h12).view.read (Elt F) f) = payOf Tb Ix b := hf
  rw [hw]
  iintro ⟨Ho, Hr⟩
  isplitl [Ho]
  · rw [show (oLoc d ↦[outSet b 256]{fullShare} (rowsOf Tb Ix : Buf (Elt F) (oLoc d)) : sProp 𝕄) = _ from
      pointsTo_congr fun j hj => (write_outB (F := F) Tb Ix b h13 O₀ j hj).symm]
    iexact Ho
  · iexists f; rw [set_rowS]; iexact Hr

theorem waitOut (s : Fin 2) (b : ℕ) (O : CellTallies nD τ sig (HIx 1)) (W : Waits sig (HIx 1)) {off12 : Fin 3 → ℕ} {h12} {off13 : Fin 2 → ℕ} {h13}
    {off14 : Fin 1 → ℕ} {h14} (e14 : off14 = ![s.val]) {hsrc hdst}
    {α : Type} {k : PUnit → Prog (TpuEff nD τ sig (Elt F) Λ₀ (thr d L).2) α} {Q : α → sProp 𝕄} :
    iprop(outBusy d L Tb Ix s b ∗ owes (thr d L) O W ∗ Transfers.MayWaits (thr d L) (default : HIx 1) O)
      ⊢ iprop((iprop((oLoc d ↦[outSet b 256]{fullShare} (rowsOf Tb Ix : Buf (Elt F) (oLoc d))) ∗ outFree (F := F) d L s
            ∗ owes (thr d L) O (insert (SemLoc.dma (oSem s), (default : HIx 1)) W))
          -∗ wp frame (wpE (defs₀ (F := F)) 𝒱₀ (thr d L) none) Set.univ (k ⟨⟩) Q)
      -∗ wp frame (wpE (defs₀ (F := F)) 𝒱₀ (thr d L) none) Set.univ
          (.op (.waitDma2 (semO off14 h14) (rowS off12 h12) (outB off13 h13) hsrc hdst) k) Q) := by
  subst e14
  have es := semO_eq s h14
  generalize semO ![s.val] h14 = x at *
  subst es
  unfold outBusy
  iintro ⟨Hfl, HO, #Hmw⟩ Hk
  iapply (Transfers.wp_waitLocalO countersEmb 𝒱₀ (thr d L) none (default : HIx 1) (N := NO) (rfl : (outB off13 h13).view.dmaCredit = NO)) $$ [Hfl HO]
  · isplitl [Hfl]; · iexact Hfl
    isplitl [HO]; · iexact HO
    iapply (Transfers.MayWaits.elim (SemLoc.dma (oSem s))) $$ Hmw
  iintro ⟨HD, Hv, HO⟩
  iapply Hk
  unfold outD outFree
  icases HD with ⟨Ho, Hr⟩
  isplitl [Ho]; · iexact Ho
  isplitl [Hr Hv]
  · isplitl [Hr] <;> iassumption
  · iexact HO

end Moves

end Cert.Proof.BMoves
-- ==== Proof.BTask.lean ====
/-
  One trip of a task of the last gather: the fetch of the second block starts in the first trip; the trip's own block is
  awaited, its rows are gathered and copied out; the second trip awaits the first one's copy.
-/
module

public import proofs.«01_k».proof.Proof.BMoves

@[expose] public section

noncomputable section

namespace Cert.Proof.BTask

open Cert.BackIdeal Cert.BackIdeal.Gen Cert.Proof.BWords Cert.Proof.BSlots Cert.Proof.BMoves
open Cert.Proof.Task (pr pr_add_two pr_pred)

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)
variable (Tb : Buf (Elt F) (tLoc d)) (Ix : Buf (Elt F) (iLoc d)) (O₀ : Buf (Elt F) (oLoc d)) (qT qI : PosShare TreeShare)

/-- The first row of trip `t`'s block. -/
abbrev blk (L : grid0.Coords) (t : ℕ) : ℕ := base L + 256 * t

/-- The index slots before trip `t`, the next one within it, and the other row slot before it. -/
def inPart (t : ℕ) : sProp 𝕄 :=
  if t < 2 then iprop(inBusy d L Ix qI (pr t) (blk L t) ∗ inFree d L Ix qI (pr (t + 1)))
  else iprop(inFree d L Ix qI (pr t) ∗ inFree d L Ix qI (pr (t + 1)))
def inNext (t : ℕ) : sProp 𝕄 :=
  if t < 1 then inBusy d L Ix qI (pr (t + 1)) (blk L (t + 1)) else inFree d L Ix qI (pr (t + 1))
def outPrev (t : ℕ) : sProp 𝕄 :=
  if 0 < t then outBusy d L Tb Ix (pr (t - 1)) (blk L (t - 1)) else outFree (F := F) d L (pr (t + 1))
/-- The blocks of the result not yet begun, and those whose copies have been awaited. -/
def todo (t : ℕ) : sProp 𝕄 :=
  bigSep (Finset.univ.filter fun n : Fin 2 => t ≤ n.val) fun n => oLoc d ↦[outSet (blk L n.val) 256]{fullShare} O₀
def done (t : ℕ) : sProp 𝕄 :=
  bigSep (Finset.univ.filter fun n : Fin 2 => n.val + 1 < t) fun n => oLoc d ↦[outSet (blk L n.val) 256]{fullShare} (rowsOf Tb Ix : Buf (Elt F) (oLoc d))

/-- The task's own transfers owe nothing: it waits with nothing but plain waits beyond those it began with. -/
def owing (O : CellTallies nD τ sig (HIx 1)) (W : Waits sig (HIx 1)) : sProp 𝕄 :=
  iprop(∃ W', ⌜∀ p ∈ W', p ∈ W ∨ p.2 = none⌝ ∗ owes (thr d L) O W')

theorem todo_pop (t : ℕ) (h : t < 2) :
    todo d L O₀ t = iprop((oLoc d ↦[outSet (blk L t) 256]{fullShare} O₀) ∗ todo d L O₀ (t + 1)) := by
  unfold todo
  rw [SparseCore.bigSep_erase' (i := (⟨t, h⟩ : Fin 2)) (Finset.mem_filter.mpr ⟨Finset.mem_univ _, le_refl t⟩)]
  congr 2
  ext n; simp only [Finset.mem_erase, Finset.mem_filter, Finset.mem_univ, true_and, ne_eq, Fin.ext_iff]; omega

theorem done_push (t : ℕ) (h0 : 0 < t) (h : t ≤ 2) :
    done d L Tb Ix (t + 1) = iprop((oLoc d ↦[outSet (blk L (t - 1)) 256]{fullShare} (rowsOf Tb Ix : Buf (Elt F) (oLoc d))) ∗ done d L Tb Ix t) := by
  unfold done
  rw [SparseCore.bigSep_erase' (i := (⟨t - 1, by omega⟩ : Fin 2)) (Finset.mem_filter.mpr ⟨Finset.mem_univ _, by show t - 1 + 1 < t + 1; omega⟩)]
  congr 2
  ext n; simp only [Finset.mem_erase, Finset.mem_filter, Finset.mem_univ, true_and, ne_eq, Fin.ext_iff]; omega

theorem done_one : done d L Tb Ix 1 = done d L Tb Ix 0 := by
  unfold done; congr 1

def Inv (O : CellTallies nD τ sig (HIx 1)) (W : Waits sig (HIx 1)) (t : ℕ) (acc : BitVec 32 × BitVec 32 × BitVec 32 × BitVec 32 × BitVec 32) : sProp 𝕄 :=
  iprop(⌜acc = carry t⌝ ∗ inPart d L Ix qI t ∗ outPrev d L Tb Ix t ∗ outFree (F := F) d L (pr t) ∗ todo d L O₀ t ∗ done d L Tb Ix t
    ∗ (tLoc d ↦{qT} Tb) ∗ semVal (thr d L, .dma cc0_scoped4.sem) 0 ∗ owing (F := F) d L O W)

/-- What the first part of a trip hands on: the checks, and the words the later parts compute with. -/
abbrev res1 (L : grid0.Coords) (k : Fin k0_t1_loop.trips) :
    Σ' (_ : k0_chk3 (gathered k)) (_ : k0_chk2 (gathered k)) (_ : k0_chk1 L k (fetched k) (gathered k) (gathered k) (landed k) (turn k))
    (_ : BitVec 32) (_ : BitVec 1) (_ : BitVec 1) (_ : BitVec 32) (_ : BitVec 32) (_ : BitVec 32) (_ : BitVec 32), BitVec 1 :=
  let trip : BitVec 32 := Scf.iv 0#32 1#32 k
  let here : BitVec 32 := Scalar.addi (turn k) (w4 L)
  let less : BitVec 32 := Scalar.select 1#1 (Scalar.subi (turn k) 1#32) (turn k)
  let before : BitVec 32 := Scalar.addi (Scalar.select (Scalar.cmpi .eq less 4294967295#32) 1#32 less) (w4 L)
  let more : BitVec 32 := Scalar.select 1#1 (Scalar.addi (turn k) 1#32) (turn k)
  let after : BitVec 32 := Scalar.addi (Scalar.select (Scalar.cmpi .eq more 2#32) 0#32 more) (w4 L)
  let moves : BitVec 1 := Scalar.andi (Scalar.cmpi .ne here after) (Scalar.xori (Scalar.cmpi .sge trip 1#32) 1#1)
  ⟨chk3 k, chk2 k, chk1 L k, trip, Scalar.cmpi .eq trip 0#32, Scalar.cmpi .eq trip 1#32, here, before, after,
    Scalar.select (Scalar.andi moves 1#1) (Scalar.addi (fetched k) 1#32) (fetched k), Scalar.cmpi .ne here before⟩

set_option maxHeartbeats 4000000 in
/-- The first part of a trip: the fetch of the next block starts, if there is one. -/
theorem part1 (k : Fin k0_t1_loop.trips) {Q : _ → sProp 𝕄} :
    inFree d L Ix qI (pr (k.val + 1))
      ⊢ iprop((inNext d L Ix qI k.val -∗ Q (res1 L k)) -∗ wp frame (wpE (defs₀ (F := F)) 𝒱₀ (thr d L) none) Set.univ
        (k0_part1 L (Memref.whole main_arg0_scv) (Memref.isWhole_whole _) (Memref.whole main_v0_scv) (Memref.isWhole_whole _) (Memref.whole main_v1_scv)
          (Memref.isWhole_whole _) (Memref.whole cc0_scoped0) (Memref.isWhole_whole _) cc0_scoped1 (Memref.whole cc0_scoped2) (Memref.isWhole_whole _)
          cc0_scoped3 cc0_scoped4 (w4 L) 0#32 1#32 k (fetched k) (gathered k) (gathered k) (landed k) (turn k)) Q) := by
  rw [k0_part1_eq_skeleton]; unfold k0_part1_skel
  simp only [Prog.bind_lift]
  rw [wp_assume_of _ _ _ _ (chk3 k), wp_assume_of _ _ _ _ (chk2 k), wp_assume_of _ _ _ _ (chk1 L k)]
  have hc := fetches L k
  by_cases h : k.val < 1
  · rw [if_pos h] at hc
    unfold inNext; rw [if_pos h, dif_pos hc]
    iintro Hin HQ
    iapply (issueIn d L Ix qI (pr (k.val + 1)) (blk L (k.val + 1)) (off4_eq k h) (off5_eq L k h) (off6_eq k h)) $$ Hin
    iintro Hb
    sl_step
    iapply HQ $$ Hb
  · rw [if_neg h] at hc
    unfold inNext; rw [if_neg h, dif_neg (by rw [hc]; decide)]
    iintro Hin HQ
    sl_step
    iapply HQ $$ Hin

set_option maxHeartbeats 4000000 in
/-- The second part: this trip's block is awaited, and the rows its words name are gathered. -/
theorem part2 (O : CellTallies nD τ sig (HIx 1)) (W : Waits sig (HIx 1)) (hI : ∀ k, (word Ix k).toNat < 16384) (k : Fin k0_t1_loop.trips)
    (v5 : BitVec 32) (v64 v65 : BitVec 1) (v66 v71 v76 : BitVec 32) (v96 : BitVec 1) {Q : PUnit → sProp 𝕄} :
    iprop(inBusy d L Ix qI (pr k.val) (blk L k.val) ∗ rowFree (F := F) d L (pr k.val) ∗ (tLoc d ↦{qT} Tb) ∗ semVal (thr d L, .dma cc0_scoped4.sem) 0
        ∗ owing (F := F) d L O W ∗ Transfers.MayWaits (thr d L) (default : HIx 1) O)
      ⊢ iprop((iprop(inFree d L Ix qI (pr k.val) ∗ rowFull d L Tb Ix (pr k.val) (blk L k.val) ∗ (tLoc d ↦{qT} Tb)
            ∗ semVal (thr d L, .dma cc0_scoped4.sem) 0 ∗ owing (F := F) d L O W) -∗ Q ⟨⟩)
        -∗ wp frame (wpE (defs₀ (F := F)) 𝒱₀ (thr d L) none) Set.univ
        (k0_part2 L (Memref.whole main_arg0_scv) (Memref.isWhole_whole _) (Memref.whole main_v0_scv) (Memref.isWhole_whole _) (Memref.whole main_v1_scv)
          (Memref.isWhole_whole _) (Memref.whole cc0_scoped0) (Memref.isWhole_whole _) cc0_scoped1 (Memref.whole cc0_scoped2) (Memref.isWhole_whole _)
          cc0_scoped3 cc0_scoped4 k (fetched k) (gathered k) (gathered k) (landed k) (turn k) (chk3 k) (chk2 k) (chk1 L k) v5 v64 v65 v66 v71 v76 v96) Q) := by
  rw [k0_part2_eq_skeleton]; unfold k0_part2_skel
  rw [dif_pos (awaits L k)]
  simp only [Prog.bind_lift, ite_self]
  unfold owing
  iintro ⟨Hin, Hr, HT, Hg, ⟨%W', %hW', HO⟩, #Hmw⟩ HQ
  iapply (waitIn d L Ix qI (pr k.val) (blk L k.val) O W' (off9_eq k)) $$ [Hin HO]
  · isplitl [Hin]; · iexact Hin
    isplitl [HO]; · iexact HO
    iexact Hmw
  iintro ⟨Hin, HO⟩
  iapply (gather d L Tb Ix qT qI (pr k.val) (blk L k.val) O _ hI (off10_eq k) (off11_eq k)) $$ [Hin Hr HT Hg HO]
  · isplitl [Hin]; · iexact Hin
    isplitl [Hr]; · iexact Hr
    isplitl [HT]; · iexact HT
    isplitl [Hg]; · iexact Hg
    isplitl [HO]; · iexact HO
    iexact Hmw
  iintro ⟨Hin, Hr, HT, Hg, HO⟩
  sl_step
  iapply HQ
  isplitl [Hin]; · iapply (inFull_free d L Ix qI (pr k.val) (blk L k.val)) $$ Hin
  isplitl [Hr]; · iexact Hr
  isplitl [HT]; · iexact HT
  isplitl [Hg]; · iexact Hg
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-- The carried words after a trip are those before the next. -/
theorem carry_next (k : Fin k0_t1_loop.trips) :
    ((res1 L k).2.2.2.2.2.2.2.2.2.1,
      Scalar.select (Scalar.ori (Scalar.cmpi .ne (res1 L k).2.2.2.2.2.2.1 (res1 L k).2.2.2.2.2.2.2.2.1) (res1 L k).2.2.2.2.2.1) (Scalar.addi (gathered k) 1#32) (gathered k),
      Scalar.select (Scalar.andi (Scalar.ori (Scalar.cmpi .ne (res1 L k).2.2.2.2.2.2.1 (res1 L k).2.2.2.2.2.2.2.2.1) (res1 L k).2.2.2.2.2.1) 1#1) (Scalar.addi (gathered k) 1#32) (gathered k),
      Scalar.select (Scalar.andi (Scalar.andi (Scalar.cmpi .ne (res1 L k).2.2.2.2.2.2.1 (res1 L k).2.2.2.2.2.2.2.1) (Scalar.xori (res1 L k).2.2.2.2.1 1#1)) 1#1)
        (Scalar.addi (landed k) 1#32) (landed k),
      Scalar.select (Scalar.cmpi .eq (Scalar.select 1#1 (Scalar.addi (turn k) 1#32) (turn k)) 2#32) 0#32 (Scalar.select 1#1 (Scalar.addi (turn k) 1#32) (turn k)))
      = carry (k.val + 1) := by
  revert k; revert L; decide +kernel

theorem inPart_next (t : ℕ) (h : t < 2) :
    iprop(inNext d L Ix qI t ∗ inFree d L Ix qI (pr t)) ⊢ inPart d L Ix qI (t + 1) := by
  unfold inNext inPart
  rw [pr_add_two]
  by_cases h' : t < 1
  · rw [if_pos h', if_pos (by omega)]
  · rw [if_neg h', if_neg (by omega)]

set_option maxHeartbeats 4000000 in
/-- A trip, from the carried words before it. -/
theorem trip_carry (O : CellTallies nD τ sig (HIx 1)) (W : Waits sig (HIx 1)) (hI : ∀ k, (word Ix k).toNat < 16384) (k : Fin k0_t1_loop.trips) :
    iprop(Transfers.MayWaits (thr d L) (default : HIx 1) O ∗ inPart d L Ix qI k.val ∗ outPrev d L Tb Ix k.val ∗ outFree (F := F) d L (pr k.val)
        ∗ todo d L O₀ k.val ∗ done d L Tb Ix k.val ∗ (tLoc d ↦{qT} Tb) ∗ semVal (thr d L, .dma cc0_scoped4.sem) 0 ∗ owing (F := F) d L O W)
      ⊢ wp frame (wpE (defs₀ (F := F)) 𝒱₀ (thr d L) none) Set.univ
        (k0_t1_body L (Memref.whole main_arg0_scv) (Memref.isWhole_whole _) (Memref.whole main_v0_scv) (Memref.isWhole_whole _) (Memref.whole main_v1_scv)
          (Memref.isWhole_whole _) (Memref.whole cc0_scoped0) (Memref.isWhole_whole _) cc0_scoped1 (Memref.whole cc0_scoped2) (Memref.isWhole_whole _)
          cc0_scoped3 cc0_scoped4 (w4 L) k (carry k.val))
        fun acc => iprop(Transfers.MayWaits (thr d L) (default : HIx 1) O ∗ Inv d L Tb Ix O₀ qT qI O W (k.val + 1) acc) := by
  have hk : k.val < 2 := lt_of_lt_of_le k.isLt (by decide)
  unfold k0_t1_body Inv
  dsimp only
  simp only [dif_pos (copies L k), Prog.bind_lift, ite_self]
  rw [wp_bind]
  iintro ⟨#Hmw, Hin, Hprev, Hfree, Htodo, Hdone, HT, Hg, HO⟩
  ihave Hin := (Entails.of_eq (show inPart d L Ix qI k.val = iprop(inBusy d L Ix qI (pr k.val) (blk L k.val) ∗ inFree d L Ix qI (pr (k.val + 1))) from if_pos hk)) $$ Hin
  icases Hin with ⟨Hin, Hnext⟩
  iapply (part1 d L Ix qI k) $$ Hnext
  iintro Hnext
  rw [wp_bind]
  ihave Hfree := (Entails.of_eq (show outFree (F := F) d L (pr k.val) = iprop(rowFree (F := F) d L (pr k.val) ∗ semVal (thr d L, .dma (oSem (pr k.val))) 0) from rfl)) $$ Hfree
  icases Hfree with ⟨Hr, Hos⟩
  iapply (part2 d L Tb Ix qT qI O W hI k) $$ [Hin Hr HT Hg HO]
  · isplitl [Hin]; · iexact Hin
    isplitl [Hr]; · iexact Hr
    isplitl [HT]; · iexact HT
    isplitl [Hg]; · iexact Hg
    isplitl [HO]; · iexact HO
    iexact Hmw
  iintro ⟨Hin, Hr, HT, Hg, HO⟩
  ihave Htodo := (Entails.of_eq (todo_pop d L O₀ k.val hk)) $$ Htodo
  icases Htodo with ⟨Hb, Htodo⟩
  iapply (issueOut d L Tb Ix O₀ (pr k.val) (blk L k.val) (off12_eq k) (off13_eq L k) (off14_eq k)) $$ [Hr Hos Hb]
  · isplitl [Hr]; · iexact Hr
    isplitl [Hos] <;> iassumption
  iintro Hbusy
  ihave Hin := (inPart_next d L Ix qI k.val hk) $$ [Hnext Hin]
  · isplitl [Hnext] <;> iassumption
  have hc := collects L k
  by_cases h0 : 0 < k.val
  · rw [if_pos h0] at hc
    ihave Hprev := (Entails.of_eq (show outPrev d L Tb Ix k.val = outBusy d L Tb Ix (pr (k.val - 1)) (blk L (k.val - 1)) from if_pos h0)) $$ Hprev
    rw [dif_pos hc]
    ihave HO := (Entails.of_eq (show owing (F := F) d L O W = iprop(∃ W', ⌜∀ p ∈ W', p ∈ W ∨ p.2 = none⌝ ∗ owes (thr d L) O W') from rfl)) $$ HO
    icases HO with ⟨%W', %hW', HO⟩
    iapply (waitOut d L Tb Ix (pr (k.val - 1)) (blk L (k.val - 1)) O W' (off17_eq k)) $$ [Hprev HO]
    · isplitl [Hprev]; · iexact Hprev
      isplitl [HO]; · iexact HO
      iexact Hmw
    iintro ⟨Hb, Hprev, HO⟩
    sl_step
    isplitr; · iexact Hmw
    isplitr; · ipureintro; exact carry_next L k
    isplitl [Hin]; · iexact Hin
    isplitl [Hbusy]; · unfold outPrev; rw [if_pos (Nat.succ_pos _)]; iexact Hbusy
    isplitl [Hprev]; · rw [← pr_pred k.val h0]; iexact Hprev
    isplitl [Htodo]; · iexact Htodo
    isplitl [Hb Hdone]
    · rw [done_push d L Tb Ix k.val h0 (by omega)]
      isplitl [Hb] <;> iassumption
    isplitl [HT]; · iexact HT
    isplitl [Hg]; · iexact Hg
    unfold owing
    iexists _; isplitr
    swap; · iexact HO
    ipureintro; intro p hp
    rcases Finset.mem_insert.mp hp with hp | hp; · exact .inr (hp ▸ rfl)
    exact hW' p hp
  · rw [if_neg h0] at hc
    ihave Hprev := (Entails.of_eq (show outPrev d L Tb Ix k.val = outFree (F := F) d L (pr (k.val + 1)) from if_neg h0)) $$ Hprev
    rw [dif_neg (by rw [hc]; decide)]
    sl_step
    isplitr; · iexact Hmw
    isplitr; · ipureintro; exact carry_next L k
    isplitl [Hin]; · iexact Hin
    isplitl [Hbusy]; · unfold outPrev; rw [if_pos (Nat.succ_pos _)]; iexact Hbusy
    isplitl [Hprev]; · iexact Hprev
    isplitl [Htodo]; · iexact Htodo
    isplitl [Hdone]
    · have : k.val = 0 := by omega
      rw [this, done_one]; iexact Hdone
    isplitl [HT]; · iexact HT
    isplitl [Hg]; · iexact Hg
    iexact HO

/-- A trip, from the invariant. -/
theorem trip (O : CellTallies nD τ sig (HIx 1)) (W : Waits sig (HIx 1)) (hI : ∀ k, (word Ix k).toNat < 16384)
    (k : Fin k0_t1_loop.trips) (acc : BitVec 32 × BitVec 32 × BitVec 32 × BitVec 32 × BitVec 32) :
    iprop(Transfers.MayWaits (thr d L) (default : HIx 1) O ∗ Inv d L Tb Ix O₀ qT qI O W k.val acc)
      ⊢ wp frame (wpE (defs₀ (F := F)) 𝒱₀ (thr d L) none) Set.univ
        (k0_t1_body L (Memref.whole main_arg0_scv) (Memref.isWhole_whole _) (Memref.whole main_v0_scv) (Memref.isWhole_whole _) (Memref.whole main_v1_scv)
          (Memref.isWhole_whole _) (Memref.whole cc0_scoped0) (Memref.isWhole_whole _) cc0_scoped1 (Memref.whole cc0_scoped2) (Memref.isWhole_whole _)
          cc0_scoped3 cc0_scoped4 (w4 L) k acc)
        fun acc => iprop(Transfers.MayWaits (thr d L) (default : HIx 1) O ∗ Inv d L Tb Ix O₀ qT qI O W (k.val + 1) acc) := by
  refine BIBase.Entails.trans (show _ ⊢ iprop(⌜acc = carry k.val⌝ ∗ Transfers.MayWaits (thr d L) (default : HIx 1) O ∗ inPart d L Ix qI k.val
      ∗ outPrev d L Tb Ix k.val ∗ outFree (F := F) d L (pr k.val) ∗ todo d L O₀ k.val ∗ done d L Tb Ix k.val ∗ (tLoc d ↦{qT} Tb)
      ∗ semVal (thr d L, .dma cc0_scoped4.sem) 0 ∗ owing (F := F) d L O W) from ?_) ?_
  · unfold Inv
    iintro ⟨#Hmw, %ha, H⟩
    isplitr; · ipureintro; exact ha
    isplitr; · iexact Hmw
    iexact H
  · iintro ⟨%ha, H⟩
    subst ha
    iapply (trip_carry d L Tb Ix O₀ qT qI O W hI k) $$ H

end Cert.Proof.BTask
-- ==== Proof.BTile.lean ====
/-
  A whole task of the last gather: its buffers are split into slots, the first block is fetched, the two trips run, the
  last copy out is awaited and the slots are joined again.
-/
module

public import proofs.«01_k».proof.Proof.BTask

@[expose] public section

noncomputable section

namespace Cert.Proof.BTile

open Cert.BackIdeal Cert.BackIdeal.Gen Cert.Proof.BWords Cert.Proof.BSlots Cert.Proof.BMoves Cert.Proof.BTask
open Cert.Proof.Task (pr)

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)
variable (Tb : Buf (Elt F) (tLoc d)) (Ix : Buf (Elt F) (iLoc d)) (O₀ : Buf (Elt F) (oLoc d)) (qT qI : PosShare TreeShare)

/-! ## The rows of the result, cut -/

theorem cut_disjoint (b w n : ℕ) : ∀ i ∈ (Finset.univ : Finset (Fin n)), ∀ i' ∈ (Finset.univ : Finset (Fin n)), i ≠ i' →
    Disjoint (outSet (b + w * i.val) w) (outSet (b + w * i'.val) w) := by
  intro i _ i' _ h
  rw [Finset.disjoint_left]
  intro y h1 h2
  simp only [outSet, Finset.mem_filter, Finset.mem_univ, true_and] at h1 h2
  refine h (Fin.ext ?_)
  rcases lt_trichotomy i.val i'.val with h' | h' | h'
  · have := Nat.mul_le_mul_left w (Nat.succ_le_of_lt h'); rw [Nat.mul_succ] at this; omega
  · exact h'
  · have := Nat.mul_le_mul_left w (Nat.succ_le_of_lt h'); rw [Nat.mul_succ] at this; omega
theorem cut_cover (b w n : ℕ) (hw : 0 < w) : (Finset.univ : Finset (Fin n)).biUnion (fun i => outSet (b + w * i.val) w) = outSet b (w * n) := by
  ext y
  simp only [outSet, Finset.mem_biUnion, Finset.mem_filter, Finset.mem_univ, true_and]
  constructor
  · rintro ⟨i, h⟩
    have := Nat.mul_le_mul_left w (Nat.succ_le_of_lt i.isLt); rw [Nat.mul_succ] at this; omega
  · intro h
    refine ⟨⟨((y 0).val - b) / w, Nat.div_lt_of_lt_mul (by omega)⟩, ?_⟩
    have h1 := Nat.div_add_mod ((y 0).val - b) w
    have h2 := Nat.mod_lt ((y 0).val - b) hw
    simp only
    omega
/-- `n` pieces of `w` rows each. -/
theorem pts_cut (b w n : ℕ) (hw : 0 < w) (f : Buf (Elt F) (oLoc d)) :
    (oLoc d ↦[outSet b (w * n)]{fullShare} f : sProp 𝕄) = bigSep Finset.univ fun i : Fin n => oLoc d ↦[outSet (b + w * i.val) w]{fullShare} f := by
  rw [← pointsTo_biUnion Finset.univ (ℓ := oLoc d) (fun i : Fin n => outSet (b + w * i.val) w) (cut_disjoint b w n), cut_cover b w n hw]

theorem todo_all : (oLoc d ↦[outSet (base L) 512]{fullShare} O₀ : sProp 𝕄) = todo d L O₀ 0 := by
  rw [show 512 = 256 * 2 from rfl, pts_cut d (base L) 256 2 (by decide)]; unfold todo; congr 1
theorem done_all : done d L Tb Ix 3 = (oLoc d ↦[outSet (base L) 512]{fullShare} (rowsOf Tb Ix : Buf (Elt F) (oLoc d)) : sProp 𝕄) := by
  rw [show 512 = 256 * 2 from rfl, pts_cut d (base L) 256 2 (by decide)]; unfold done; congr 1
theorem done_none : done d L Tb Ix 0 = (iprop(emp) : sProp 𝕄) := by
  unfold done
  rw [show (Finset.univ.filter fun n : Fin 2 => n.val + 1 < 0) = ∅ by ext n; simp, bigSep_empty]; rfl

/-! ## The slots of the scratch -/

theorem inSlots : (∀ s ∈ (Finset.univ : Finset (Fin 2)), ∀ s' ∈ (Finset.univ : Finset (Fin 2)), s ≠ s' → Disjoint (inSet s.val) (inSet s'.val))
    ∧ (Finset.univ : Finset (Fin 2)).biUnion (fun s => inSet s.val) = Finset.univ := by
  constructor
  · intro s _ s' _ h
    rw [Finset.disjoint_left]
    intro y h1 h2
    simp only [inSet, Finset.mem_filter, Finset.mem_univ, true_and] at h1 h2
    exact h (Fin.ext (by omega))
  · ext y
    simp only [inSet, Finset.mem_biUnion, Finset.mem_filter, Finset.mem_univ, true_and, iff_true]
    exact ⟨⟨(y 0).val, (y 0).isLt⟩, rfl⟩
theorem rowSlots : (∀ s ∈ (Finset.univ : Finset (Fin 2)), ∀ s' ∈ (Finset.univ : Finset (Fin 2)), s ≠ s' → Disjoint (rowSet s.val) (rowSet s'.val))
    ∧ (Finset.univ : Finset (Fin 2)).biUnion (fun s => rowSet s.val) = Finset.univ := by
  constructor
  · intro s _ s' _ h
    rw [Finset.disjoint_left]
    intro y h1 h2
    simp only [rowSet, Finset.mem_filter, Finset.mem_univ, true_and] at h1 h2
    exact h (Fin.ext (by omega))
  · ext y
    simp only [rowSet, Finset.mem_biUnion, Finset.mem_filter, Finset.mem_univ, true_and, iff_true]
    exact ⟨⟨(y 0).val, (y 0).isLt⟩, rfl⟩

/-- A buffer is the two slots it is split into, each at some contents. -/
theorem slots_split {ℓ : Loc nD τ sig} (S : Fin 2 → Finset (Idx ℓ))
    (h : (∀ s ∈ (Finset.univ : Finset (Fin 2)), ∀ s' ∈ (Finset.univ : Finset (Fin 2)), s ≠ s' → Disjoint (S s) (S s')) ∧ (Finset.univ : Finset (Fin 2)).biUnion S = Finset.univ)
    (f : Buf (Elt F) ℓ) :
    (ℓ ↦{fullShare} f : sProp 𝕄) ⊢ iprop((∃ f : Buf (Elt F) ℓ, ℓ ↦[S 0]{fullShare} f) ∗ ∃ f : Buf (Elt F) ℓ, ℓ ↦[S 1]{fullShare} f) := by
  rw [show (ℓ ↦{fullShare} f : sProp 𝕄) = bigSep Finset.univ fun s : Fin 2 => ℓ ↦[S s]{fullShare} f by
    rw [← pointsTo_biUnion Finset.univ (ℓ := ℓ) S h.1, h.2]]
  refine (Entails.of_eq (show (bigSep Finset.univ fun s : Fin 2 => ℓ ↦[S s]{fullShare} f : sProp 𝕄) = iprop((ℓ ↦[S 0]{fullShare} f) ∗ ℓ ↦[S 1]{fullShare} f) from
    bigSep_fin_two _)).trans ?_
  iintro ⟨H0, H1⟩
  isplitl [H0] <;> iexists f <;> iassumption
theorem slots_join {ℓ : Loc nD τ sig} (S : Fin 2 → Finset (Idx ℓ))
    (h : (∀ s ∈ (Finset.univ : Finset (Fin 2)), ∀ s' ∈ (Finset.univ : Finset (Fin 2)), s ≠ s' → Disjoint (S s) (S s')) ∧ (Finset.univ : Finset (Fin 2)).biUnion S = Finset.univ) :
    (iprop((∃ f : Buf (Elt F) ℓ, ℓ ↦[S 0]{fullShare} f) ∗ ∃ f : Buf (Elt F) ℓ, ℓ ↦[S 1]{fullShare} f) : sProp 𝕄) ⊢ iprop(∃ f : Buf (Elt F) ℓ, ℓ ↦{fullShare} f) := by
  iintro ⟨⟨%f, H0⟩, ⟨%g, H1⟩⟩
  ihave H := (pointsTo_biUnion_join (ℓ := ℓ) (q := fullShare) (Val := Elt F) Finset.univ S (fun s => if s = 0 then f else g) f h.1) $$ [H0 H1]
  · iapply (Entails.of_eq (show iprop((ℓ ↦[S 0]{fullShare} f) ∗ ℓ ↦[S 1]{fullShare} g)
      = (bigSep Finset.univ fun s : Fin 2 => ℓ ↦[S s]{fullShare} (if s = 0 then f else g) : sProp 𝕄) by
        rw [bigSep_fin_two, if_pos rfl, if_neg (by decide)]; rfl))
    isplitl [H0] <;> iassumption
  icases H with ⟨%h', -, H⟩
  rw [h.2]
  iexists h'; iexact H

/-! ## The program around the loop -/

/-- The first part: the fetch of the first block. -/
theorem part3 {Q : _ → sProp 𝕄} :
    inFree d L Ix qI (pr 0)
      ⊢ iprop((inBusy d L Ix qI (pr 0) (blk L 0) -∗ Q (w4 L)) -∗ wp frame (wpE (defs₀ (F := F)) 𝒱₀ (thr d L) none) Set.univ
        (k0_part3 L (Memref.whole main_arg0_scv) (Memref.isWhole_whole _) (Memref.whole main_v0_scv) (Memref.isWhole_whole _) (Memref.whole main_v1_scv)
          (Memref.isWhole_whole _) (Memref.whole cc0_scoped0) (Memref.isWhole_whole _) cc0_scoped1 (Memref.whole cc0_scoped2) (Memref.isWhole_whole _)
          cc0_scoped3 cc0_scoped4) Q) := by
  rw [k0_part3_eq_skeleton]; unfold k0_part3_skel
  simp only [Prog.bind_lift]
  iintro Hin HQ
  iapply (issueIn d L Ix qI (pr 0) (blk L 0) off1_eq (off2_eq L) off3_eq) $$ Hin
  iintro Hb
  sl_step
  iapply HQ $$ Hb

/-- What the loop hands on. -/
abbrev res4 (L : grid0.Coords) : Σ' (v3 : BitVec 32) (v4 : BitVec 32) (_ : k0_chk5 L v4), k0_chk4 v3 := ⟨landed 2, turn 2, chk5 L, chk4⟩

set_option maxHeartbeats 4000000 in
/-- The loop. -/
theorem part4 (O : CellTallies nD τ sig (HIx 1)) (W : Waits sig (HIx 1)) (hI : ∀ k, (word Ix k).toNat < 16384) {Q : _ → sProp 𝕄} :
    iprop(Transfers.MayWaits (thr d L) (default : HIx 1) O ∗ Inv d L Tb Ix O₀ qT qI O W 0 (carry 0))
      ⊢ iprop((Inv d L Tb Ix O₀ qT qI O W 2 (carry 2) -∗ Q (res4 L)) -∗ wp frame (wpE (defs₀ (F := F)) 𝒱₀ (thr d L) none) Set.univ
        (k0_part4 L (Memref.whole main_arg0_scv) (Memref.isWhole_whole _) (Memref.whole main_v0_scv) (Memref.isWhole_whole _) (Memref.whole main_v1_scv)
          (Memref.isWhole_whole _) (Memref.whole cc0_scoped0) (Memref.isWhole_whole _) cc0_scoped1 (Memref.whole cc0_scoped2) (Memref.isWhole_whole _)
          cc0_scoped3 cc0_scoped4 (w4 L)) Q) := by
  rw [k0_part4_eq_skeleton]; unfold k0_part4_skel
  simp only [Prog.bind_lift]
  iintro HI HQ
  iapply (Scf.wp_for_bind frame (wpE (defs₀ (F := F)) 𝒱₀ (thr d L) none) Set.univ 0#32 2#32 1#32 k0_t1_ok (carry 0)
    (k0_t1_body L (Memref.whole main_arg0_scv) (Memref.isWhole_whole _) (Memref.whole main_v0_scv) (Memref.isWhole_whole _) (Memref.whole main_v1_scv)
          (Memref.isWhole_whole _) (Memref.whole cc0_scoped0) (Memref.isWhole_whole _) cc0_scoped1 (Memref.whole cc0_scoped2) (Memref.isWhole_whole _)
          cc0_scoped3 cc0_scoped4 (w4 L))
    (fun t acc => iprop(Transfers.MayWaits (thr d L) (default : HIx 1) O ∗ Inv d L Tb Ix O₀ qT qI O W t acc))
    (fun k acc => trip d L Tb Ix O₀ qT qI O W hI k acc)) $$ HI
  iintro %acc ⟨-, HI⟩
  ihave HI := (show Inv d L Tb Ix O₀ qT qI O W (Scf.trips 0#32 2#32 1#32) acc ⊢ iprop(⌜acc = carry 2⌝ ∗ Inv d L Tb Ix O₀ qT qI O W 2 (carry 2)) by
    rw [show Scf.trips 0#32 2#32 1#32 = 2 by decide +kernel]
    unfold BTask.Inv
    iintro ⟨%ha, H⟩
    isplitr; · ipureintro; exact ha
    isplitr; · ipureintro; rfl
    iexact H) $$ HI
  icases HI with ⟨%ha, HI⟩
  subst ha
  rw [wp_assume_of _ _ _ _ (chk5 L), wp_assume_of _ _ _ _ chk4]
  sl_step
  iapply HQ $$ HI

set_option maxHeartbeats 4000000 in
/-- A task, from its share of the table and of the list, its rows of the result, its buffers and its semaphores. -/
theorem task (O : CellTallies nD τ sig (HIx 1)) (W : Waits sig (HIx 1)) (hI : ∀ k, (word Ix k).toNat < 16384) :
    iprop(Transfers.MayWaits (thr d L) (default : HIx 1) O
        ∗ ((tLoc d ↦{qT} Tb) ∗ (iLoc d ↦{qI} Ix) ∗ oLoc d ↦[outSet (base L) 512]{fullShare} O₀)
        ∗ ((∃ f, sLoc d L ↦{fullShare} f) ∗ ∃ f, rLoc d L ↦{fullShare} f)
        ∗ (semVal (thr d L, .dma (iSem 0)) 0 ∗ semVal (thr d L, .dma (iSem 1)) 0 ∗ semVal (thr d L, .dma (oSem 0)) 0 ∗ semVal (thr d L, .dma (oSem 1)) 0
          ∗ semVal (thr d L, .dma cc0_scoped4.sem) 0)
        ∗ owes (thr d L) O W)
      ⊢ wp frame (wpE (defs₀ (F := F)) 𝒱₀ (thr d L) none) Set.univ
        (cc0_gather_kernel L (Memref.whole main_arg0_scv) (Memref.isWhole_whole _) (Memref.whole main_v0_scv) (Memref.isWhole_whole _) (Memref.whole main_v1_scv)
          (Memref.isWhole_whole _) (Memref.whole cc0_scoped0) (Memref.isWhole_whole _) cc0_scoped1 (Memref.whole cc0_scoped2) (Memref.isWhole_whole _)
          cc0_scoped3 cc0_scoped4)
        fun _ => iprop(((tLoc d ↦{qT} Tb) ∗ (iLoc d ↦{qI} Ix) ∗ oLoc d ↦[outSet (base L) 512]{fullShare} (rowsOf Tb Ix : Buf (Elt F) (oLoc d)))
        ∗ ((∃ f, sLoc d L ↦{fullShare} f) ∗ ∃ f, rLoc d L ↦{fullShare} f)
        ∗ (semVal (thr d L, .dma (iSem 0)) 0 ∗ semVal (thr d L, .dma (iSem 1)) 0 ∗ semVal (thr d L, .dma (oSem 0)) 0 ∗ semVal (thr d L, .dma (oSem 1)) 0
          ∗ semVal (thr d L, .dma cc0_scoped4.sem) 0)
        ∗ owing (F := F) d L O W) := by
  rw [cc0_gather_kernel_eq_skeleton]; unfold cc0_gather_kernel_skel
  simp only [Prog.bind_lift]
  rw [wp_bind]
  iintro ⟨#Hmw, ⟨HT, Hi, Ho⟩, ⟨⟨%fs, Hs⟩, ⟨%fr, Hr⟩⟩, ⟨Hi0, Hi1, Ho0, Ho1, Hg⟩, HO⟩
  ihave Hs := (slots_split (ℓ := sLoc d L) (fun s : Fin 2 => inSet s.val) inSlots fs) $$ Hs
  icases Hs with ⟨Hs0, Hs1⟩
  ihave Hr := (slots_split (ℓ := rLoc d L) (fun s : Fin 2 => rowSet s.val) rowSlots fr) $$ Hr
  icases Hr with ⟨Hr0, Hr1⟩
  ihave Hi := (pointsTo_share (PosShare.mem_left_op_right qI)).1 $$ Hi
  icases Hi with ⟨Hil, Hir⟩
  iapply (part3 d L Ix qI) $$ [Hs0 Hi0 Hil]
  · iapply (show iprop((∃ f : Buf (Elt F) (sLoc d L), sLoc d L ↦[inSet (0 : Fin 2).val]{fullShare} f) ∗ semVal (thr d L, .dma (iSem 0)) 0 ∗ iLoc d ↦{qI.left} Ix)
      ⊢ inFree d L Ix qI (pr 0) from .rfl)
    isplitl [Hs0]; · iexact Hs0
    isplitl [Hi0] <;> iassumption
  iintro Hb
  rw [wp_bind]
  iapply (part4 d L Tb Ix O₀ qT qI O W hI) $$ [Hb Hs1 Hi1 Hir Hr0 Hr1 Ho0 Ho1 Ho HT Hg HO]
  · isplitr; · iexact Hmw
    unfold BTask.Inv
    isplitr; · ipureintro; rfl
    isplitl [Hb Hs1 Hi1 Hir]
    · unfold inPart
      rw [if_pos (by decide)]
      isplitl [Hb]; · iexact Hb
      iapply (show iprop((∃ f : Buf (Elt F) (sLoc d L), sLoc d L ↦[inSet (1 : Fin 2).val]{fullShare} f) ∗ semVal (thr d L, .dma (iSem 1)) 0 ∗ iLoc d ↦{qI.right} Ix)
        ⊢ inFree d L Ix qI (pr (0 + 1)) from .rfl)
      isplitl [Hs1]; · iexact Hs1
      isplitl [Hi1] <;> iassumption
    isplitl [Hr1 Ho1]
    · unfold outPrev outFree rowFree
      rw [if_neg (by decide)]
      isplitl [Hr1]; · iexact Hr1
      iexact Ho1
    isplitl [Hr0 Ho0]
    · unfold outFree rowFree
      isplitl [Hr0]; · iexact Hr0
      iexact Ho0
    isplitl [Ho]; · rw [← todo_all]; iexact Ho
    isplitr; · rw [done_none]; iempintro
    isplitl [HT]; · iexact HT
    isplitl [Hg]; · iexact Hg
    unfold owing
    iexists W; isplitr
    · ipureintro; exact fun p hp => .inl hp
    · iexact HO
  iintro HI
  ihave HI := (Entails.of_eq (show Inv d L Tb Ix O₀ qT qI O W 2 (carry 2) = iprop(⌜carry 2 = carry 2⌝
      ∗ (inFree d L Ix qI 0 ∗ inFree d L Ix qI 1) ∗ outBusy d L Tb Ix (pr 1) (blk L 1) ∗ outFree (F := F) d L 0 ∗ todo d L O₀ 2 ∗ done d L Tb Ix 2
    ∗ (tLoc d ↦{qT} Tb) ∗ semVal (thr d L, .dma cc0_scoped4.sem) 0 ∗ owing (F := F) d L O W) from by
      unfold BTask.Inv inPart outPrev; rw [if_neg (by decide), if_pos (by decide)]; rfl)) $$ HI
  icases HI with ⟨-, ⟨Hin0, Hin1⟩, Hbusy, Hfree, -, Hdone, HT, Hg, HO⟩
  ihave HO := (Entails.of_eq (show owing (F := F) d L O W = iprop(∃ W', ⌜∀ p ∈ W', p ∈ W ∨ p.2 = none⌝ ∗ owes (thr d L) O W') from rfl)) $$ HO
  icases HO with ⟨%W', %hW', HO⟩
  iapply (waitOut d L Tb Ix (pr 1) (blk L 1) O W' off20_eq) $$ [Hbusy HO]
  · isplitl [Hbusy]; · iexact Hbusy
    isplitl [HO]; · iexact HO
    iexact Hmw
  iintro ⟨Hb, Hfree', HO⟩
  sl_step
  ihave Hin0 := (show inFree d L Ix qI 0 ⊢ iprop((∃ f : Buf (Elt F) (sLoc d L), sLoc d L ↦[inSet (0 : Fin 2).val]{fullShare} f) ∗ semVal (thr d L, .dma (iSem 0)) 0 ∗ iLoc d ↦{qI.left} Ix) from .rfl) $$ Hin0
  ihave Hin1 := (show inFree d L Ix qI 1 ⊢ iprop((∃ f : Buf (Elt F) (sLoc d L), sLoc d L ↦[inSet (1 : Fin 2).val]{fullShare} f) ∗ semVal (thr d L, .dma (iSem 1)) 0 ∗ iLoc d ↦{qI.right} Ix) from .rfl) $$ Hin1
  ihave Hfree := (show outFree (F := F) d L 0 ⊢ iprop((∃ f : Buf (Elt F) (rLoc d L), rLoc d L ↦[rowSet (0 : Fin 2).val]{fullShare} f) ∗ semVal (thr d L, .dma (oSem 0)) 0) from .rfl) $$ Hfree
  ihave Hfree' := (show outFree (F := F) d L (pr 1) ⊢ iprop((∃ f : Buf (Elt F) (rLoc d L), rLoc d L ↦[rowSet (1 : Fin 2).val]{fullShare} f) ∗ semVal (thr d L, .dma (oSem 1)) 0) from .rfl) $$ Hfree'
  icases Hin0 with ⟨Hs0, Hi0, Hil⟩
  icases Hin1 with ⟨Hs1, Hi1, Hir⟩
  icases Hfree with ⟨Hr0, Ho0⟩
  icases Hfree' with ⟨Hr1, Ho1⟩
  isplitl [HT Hil Hir Hb Hdone]
  · isplitl [HT]; · iexact HT
    isplitl [Hil Hir]
    · iapply (pointsTo_share (PosShare.mem_left_op_right qI)).2
      isplitl [Hil] <;> iassumption
    rw [← done_all, done_push d L Tb Ix 2 (by decide) (by decide)]
    isplitl [Hb] <;> iassumption
  isplitl [Hs0 Hs1 Hr0 Hr1]
  · isplitl [Hs0 Hs1]
    · iapply (slots_join (ℓ := sLoc d L) (fun s : Fin 2 => inSet s.val) inSlots)
      isplitl [Hs0] <;> iassumption
    · iapply (slots_join (ℓ := rLoc d L) (fun s : Fin 2 => rowSet s.val) rowSlots)
      isplitl [Hr0] <;> iassumption
  isplitl [Hi0 Hi1 Ho0 Ho1 Hg]
  · isplitl [Hi0]; · iexact Hi0
    isplitl [Hi1]; · iexact Hi1
    isplitl [Ho0]; · iexact Ho0
    isplitl [Ho1] <;> iassumption
  unfold owing
  iexists _; isplitr
  swap; · iexact HO
  ipureintro; intro p hp
  rcases Finset.mem_insert.mp hp with hp | hp; · exact .inr (hp ▸ rfl)
  exact hW' p hp

end Cert.Proof.BTile
-- ==== Proof.BLaunch.lean ====
/-
  The run of the last gather's program: the host turns the list into a row, each SparseCore takes half of the shares of
  the table and of the list and half of the result's rows, each of its tasks a sixteenth; the result comes back whole.
  Written for values of any kind.
-/
module

public import proofs.«01_k».proof.Proof.BTile
public import Idealize.ShloMosaic.Lib.Pipeline.RegionArrays

@[expose] public section

noncomputable section

namespace Cert.Proof.BLaunch

open Cert.BackIdeal Cert.BackIdeal.Gen Cert.Proof.BWords Cert.Proof.BSlots Cert.Proof.BMoves Cert.Proof.BTask Cert.Proof.BTile
open Cert.Proof.Launch (rest off hq)

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem eq_of {A B : sProp 𝕄} (h : A ⊢ B) (h' : B ⊢ A) : A = B := BI.Entails.antisymm h h'

/-! ## Shares of what every task reads -/

/-- `n` parts off a share one after another, and what is left. -/
theorem pts_off {ℓ : Loc nD τ sig} (f : Buf (Elt F) ℓ) (q : PosShare TreeShare) (n : ℕ) :
    (ℓ ↦{q} f : sProp 𝕄) = iprop((bigSep Finset.univ fun i : Fin n => ℓ ↦{off q i.val} f) ∗ ℓ ↦{rest q n} f) := by
  have key : ∀ t ≤ n, (ℓ ↦{q} f : sProp 𝕄)
      = iprop((bigSep (Finset.univ.filter fun i : Fin n => i.val < t) fun i => ℓ ↦{off q i.val} f) ∗ ℓ ↦{rest q t} f) := by
    intro t
    induction t with
    | zero =>
      intro _
      rw [show (Finset.univ.filter fun i : Fin n => i.val < 0) = ∅ by ext i; simp, bigSep_empty]
      exact (BI.Entails.antisymm emp_sep.1 emp_sep.2).symm
    | succ t ih =>
      intro ht
      rw [ih (by omega), SparseCore.bigSep_erase' (s := Finset.univ.filter fun i : Fin n => i.val < t + 1) (i := (⟨t, by omega⟩ : Fin n))
        (Finset.mem_filter.mpr ⟨Finset.mem_univ _, Nat.lt_succ_self t⟩),
        show (Finset.univ.filter fun i : Fin n => i.val < t + 1).erase ⟨t, by omega⟩ = Finset.univ.filter fun i : Fin n => i.val < t by
          ext i; simp only [Finset.mem_erase, Finset.mem_filter, Finset.mem_univ, true_and, ne_eq, Fin.ext_iff]; omega,
        show (ℓ ↦{rest q t} f : sProp 𝕄) = iprop((ℓ ↦{off q t} f) ∗ ℓ ↦{rest q (t + 1)} f) from
          BI.Entails.antisymm (pointsTo_share (PosShare.mem_left_op_right (rest q t))).1 (pointsTo_share (PosShare.mem_left_op_right (rest q t))).2]
      refine eq_of ?_ ?_
      · iintro ⟨H, H0, H1⟩
        isplitl [H H0]
        · isplitl [H0] <;> iassumption
        · iexact H1
      · iintro ⟨⟨H0, H⟩, H1⟩
        isplitl [H]; · iexact H
        isplitl [H0] <;> iassumption
  rw [show (Finset.univ : Finset (Fin n)) = Finset.univ.filter fun i : Fin n => i.val < n by ext i; simp]
  exact key n le_rfl

theorem pts_halves {ℓ : Loc nD τ sig} (f : Buf (Elt F) ℓ) :
    (ℓ ↦{fullShare} f : sProp 𝕄) = bigSep Finset.univ fun c : Fin 2 => ℓ ↦{hq c} f := by
  rw [bigSep_fin_two]
  exact BI.Entails.antisymm (pointsTo_share (PosShare.mem_left_op_right fullShare)).1 (pointsTo_share (PosShare.mem_left_op_right fullShare)).2

theorem outSet_univ : outSet 0 (8192 * 2) = Finset.univ := by
  ext y
  have h : (y 0).val < 16384 := (y 0).isLt
  simp only [outSet, Finset.mem_filter, Finset.mem_univ, true_and, iff_true]
  omega

/-! ## What the handshakes carry -/

variable (m : (ℓ : Loc nD τ sig) → Buf (Elt F) ℓ) (ρ : Dev nD → PrngReg)

/-- The list as it was passed. -/
abbrev aLoc (d : Dev nD) : Loc nD τ sig := (SparseCore.T d).loc main_arg1

/-- The list as a row, and the rows it names: the result. -/
def list (d : Dev nD) : Buf (Elt F) (iLoc d) := shapeCast S1x16384 (m (aLoc d)) shapeCasts_S16384x1_S1x16384
def rows (d : Dev nD) : Buf (Elt F) (oLoc d) := rowsOf (m (tLoc d)) (list m d)

/-- Every word of the list names a row of the table. -/
def PreOK : Prop := ∀ d k, (word (list m d) k).toNat < 16384

/-- Shares of the table and of the list, and `n` of the result's rows from row `b` on, at contents `f`. -/
abbrev part (d : Dev nD) (q : PosShare TreeShare) (b n : ℕ) (f : Buf (Elt F) (oLoc d)) : sProp 𝕄 :=
  iprop((tLoc d ↦{q} m (tLoc d)) ∗ (iLoc d ↦{q} list m d) ∗ oLoc d ↦[outSet b n]{fullShare} f)
abbrev corePart (d : Dev nD) (c : Fin 2) (f : Buf (Elt F) (oLoc d)) : sProp 𝕄 := part m d (hq c) (0 + 8192 * c.val) 8192 f
abbrev taskPart (d : Dev nD) (c : Fin 2) (i : Fin 16) (f : Buf (Elt F) (oLoc d)) : sProp 𝕄 :=
  part m d (off (hq c) i.val) (0 + 8192 * c.val + 512 * i.val) 512 f

variable [FloatOps F]

def P : (K (F := F)).Pay (nD := nD) (Val := Elt F) (Name := ℕ) (U := UU) where
  st := fun q d c => match q with | 0 => corePart m d (Fin.cast nCore_zero c) (m (oLoc d))
  dn := fun q d c => match q with | 0 => corePart m d (Fin.cast nCore_zero c) (rows m d)
  go := fun q d c i => match q with | 0 => taskPart m d (Fin.cast nCore_zero c) (Fin.cast nSub_zero i) (m (oLoc d))
  td := fun q d c i => match q with | 0 => taskPart m d (Fin.cast nCore_zero c) (Fin.cast nSub_zero i) (rows m d)
  x := fun _ _ => iprop(emp)

instance P_storable : (P (F := F) m).IsStorable where
  st q d c := match q with
    | 0 => (inferInstance : BI.Storable (upEmb : UEmb _ 𝕄) (corePart m d (Fin.cast nCore_zero c) (m (oLoc d))))
  dn q d c := match q with
    | 0 => (inferInstance : BI.Storable (upEmb : UEmb _ 𝕄) (corePart m d (Fin.cast nCore_zero c) (rows m d)))
  go q d c i := match q with
    | 0 => (inferInstance : BI.Storable (upEmb : UEmb _ 𝕄) (taskPart m d (Fin.cast nCore_zero c) (Fin.cast nSub_zero i) (m (oLoc d))))
  td q d c i := match q with
    | 0 => (inferInstance : BI.Storable (upEmb : UEmb _ 𝕄) (taskPart m d (Fin.cast nCore_zero c) (Fin.cast nSub_zero i) (rows m d)))

/-! ## A task's obligation -/

section Tile

variable (d : Dev nD) (L : grid0.Coords)

abbrev cell (d : Dev nD) (L : grid0.Coords) (s : DmaSem sig) : GSem nD τ sig := (thr d L, .dma s)

omit [FloatOps F] in
/-- A subcore's own semaphores: the five of the task, and the others. -/
theorem ownSems0_V :
    (ownSems0 (thr d L) : sProp 𝕄)
      = iprop((semVal (cell d L (iSem 0)) 0 ∗ semVal (cell d L (iSem 1)) 0 ∗ semVal (cell d L (oSem 0)) 0 ∗ semVal (cell d L (oSem 1)) 0
            ∗ semVal (cell d L cc0_scoped4.sem) 0)
          ∗ bigSep ((((((ownCells (thr d L)).erase (cell d L (iSem 0))).erase (cell d L (iSem 1))).erase (cell d L (oSem 0))).erase (cell d L (oSem 1))).erase
              (cell d L cc0_scoped4.sem)) fun g => semVal g 0) := by
  have mem : ∀ s : DmaSem sig, (SemLoc.dma s : SemLoc sig).isScoped .scVector = true → cell d L s ∈ ownCells (thr d L) :=
    fun s h => (mem_ownCells (g := cell d L s)).mpr ⟨rfl, h⟩
  have ne : ∀ s s' : DmaSem sig, s ≠ s' → cell d L s ≠ cell d L s' := fun s s' h e => h (SemLoc.dma.inj (Prod.mk.inj e).2)
  unfold SparseCore.Cfg.ownSems0
  rw [SparseCore.bigSep_erase' (mem (iSem 0) (by decide)),
    SparseCore.bigSep_erase' (Finset.mem_erase.mpr ⟨ne _ _ (by decide), mem (iSem 1) (by decide)⟩),
    SparseCore.bigSep_erase' (Finset.mem_erase.mpr ⟨ne _ _ (by decide), Finset.mem_erase.mpr ⟨ne _ _ (by decide), mem (oSem 0) (by decide)⟩⟩),
    SparseCore.bigSep_erase' (Finset.mem_erase.mpr ⟨ne _ _ (by decide), Finset.mem_erase.mpr ⟨ne _ _ (by decide), Finset.mem_erase.mpr ⟨ne _ _ (by decide),
      mem (oSem 1) (by decide)⟩⟩⟩),
    SparseCore.bigSep_erase' (Finset.mem_erase.mpr ⟨ne _ _ (by decide), Finset.mem_erase.mpr ⟨ne _ _ (by decide), Finset.mem_erase.mpr ⟨ne _ _ (by decide),
      Finset.mem_erase.mpr ⟨ne _ _ (by decide), mem cc0_scoped4.sem (by decide)⟩⟩⟩⟩)]
  refine eq_of ?_ ?_
  · iintro ⟨H0, H1, H2, H3, H4, H⟩
    isplitl [H0 H1 H2 H3 H4]
    · isplitl [H0]; · iexact H0
      isplitl [H1]; · iexact H1
      isplitl [H2]; · iexact H2
      isplitl [H3] <;> iassumption
    · iexact H
  · iintro ⟨⟨H0, H1, H2, H3, H4⟩, H⟩
    isplitl [H0]; · iexact H0
    isplitl [H1]; · iexact H1
    isplitl [H2]; · iexact H2
    isplitl [H3]; · iexact H3
    isplitl [H4] <;> iassumption

omit [FloatOps F] in
/-- Its own buffers: the index buffer, the row buffer, and the others. -/
theorem ownBufs_V :
    (ownBufs (thr d L) : sProp 𝕄)
      = iprop(((∃ f, sLoc d L ↦{fullShare} f) ∗ ∃ f, rLoc d L ↦{fullShare} f)
          ∗ bigSep (((ownRefs (τ := τ) (thr d L).2).erase ((thr d L).2.devRef cc0_scoped0)).erase ((thr d L).2.devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := (thr d L).2) (b := (thr d L).2.devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := (thr d L).2) (b := (thr d L).2.devRef cc0_scoped2) rfl⟩)]
  refine eq_of ?_ ?_
  · iintro ⟨H0, H1, H⟩
    isplitl [H0 H1]
    · isplitl [H0] <;> iassumption
    · iexact H
  · iintro ⟨⟨H0, H1⟩, H⟩
    isplitl [H0]; · iexact H0
    isplitl [H1] <;> iassumption

abbrev cL (L : grid0.Coords) : Fin 2 := Fin.cast (show grid0.bound 0 = 2 from rfl) (L 0)
abbrev jL (L : grid0.Coords) : Fin 16 := Fin.cast (show grid0.bound 1 = 16 from rfl) (L 1)

theorem base_eq : base L = 0 + 8192 * (cL L).val + 512 * (jL L).val := by
  show 512 * (L 1).val + 8192 * (L 0).val = 0 + 8192 * (L 0).val + 512 * (L 1).val
  omega

/-- A task on the vector subcore at coordinates `L`, as the launch asks for it. -/
theorem tile_body (hpre : PreOK m) (O : CellTallies nD τ sig (HIx 1)) (W : Waits sig (HIx 1)) (hO : ∀ g, O g none = 0) :
    iprop(levAts (K (F := F)).L (K (F := F)).lev ∗ emp ∗ taskPart m d (cL L) (jL L) (m (oLoc d))
        ∗ scopedBufs (thr d L) ∗ scopedSems0 (thr d L) ∗ owes (thr d L) O W)
      ⊢ wp frame (wpE (defs₀ (F := F)) 𝒱₀ (thr d L) none) Set.univ
          (cc0_gather_kernel L (Memref.whole main_arg0_scv) (Memref.isWhole_whole _) (Memref.whole main_v0_scv) (Memref.isWhole_whole _) (Memref.whole main_v1_scv)
          (Memref.isWhole_whole _) (Memref.whole cc0_scoped0) (Memref.isWhole_whole _) cc0_scoped1 (Memref.whole cc0_scoped2) (Memref.isWhole_whole _)
          cc0_scoped3 cc0_scoped4)
          fun _ => iprop(taskPart m d (cL L) (jL L) (rows m d) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V facts d (cV L) (jV L), SparseCore.Cfg.scopedSems0_V (Val := Elt F) d (cV L) (jV L), ownSems0_V, ownBufs_V]
  unfold taskPart part
  rw [← base_eq]
  iintro ⟨#Hlv, -, Hp, ⟨Hs, Hbufs⟩, ⟨Hc, Hsems⟩, HO⟩
  ihave Hmw := (show levAts (K (F := F)).L (K (F := F)).lev ⊢ Transfers.MayWaits (thr d L) (default : HIx 1) O from
    (K (F := F)).mayWaits_none (thr := thr d L) hO) $$ Hlv
  iapply (wp_wand frame (wpE (defs₀ (F := F)) 𝒱₀ (thr d L) none)) $$ [Hp Hs Hc HO]
  · iapply (task d L (m (tLoc d)) (list m d) (m (oLoc d)) (off (hq (cL L)) (jL L).val) (off (hq (cL L)) (jL L).val) O W (hpre d))
    isplitr; · iexact Hmw
    isplitl [Hp]; · iexact Hp
    isplitl [Hs]; · iexact Hs
    isplitl [Hc] <;> iassumption
  iintro %_ ⟨Hp, Hs, Hc, HO⟩
  isplitl [Hp]; · iexact Hp
  isplitl [Hs Hbufs]; · isplitl [Hs] <;> iassumption
  isplitl [Hc Hsems]; · isplitl [Hc] <;> iassumption
  ihave HO := (Entails.of_eq (show owing (F := F) d L O W = iprop(∃ W', ⌜∀ p ∈ W', p ∈ W ∨ p.2 = none⌝ ∗ owes (thr d L) O W') from rfl)) $$ HO
  icases HO with ⟨%W', %hW', HO⟩
  iexists W'; isplitr
  · ipureintro; exact fun p hp => (hW' p hp).imp_right Or.inl
  · iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s) (Memref.whole main_arg0_scv) (Memref.isWhole_whole _)
          (Memref.whole main_v0_scv) (Memref.isWhole_whole _) (Memref.whole main_v1_scv) (Memref.isWhole_whole _) (Memref.whole cc0_scoped0) (Memref.isWhole_whole _)
          cc0_scoped1 (Memref.whole cc0_scoped2) (Memref.isWhole_whole _) cc0_scoped3 cc0_scoped4) ⟨⟩ c s := rfl

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hpre O W hO

end Tile

/-! ## The parts split and join -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's part is its tasks', and what is left of its shares. -/
theorem core_split (d : Dev nD) (c : Fin 2) (f : Buf (Elt F) (oLoc d)) :
    corePart m d c f = iprop((bigSep Finset.univ fun i : Fin 16 => taskPart m d c i f)
      ∗ (tLoc d ↦{rest (hq c) 16} m (tLoc d)) ∗ iLoc d ↦{rest (hq c) 16} list m d) := by
  unfold corePart taskPart part
  rw [bigSep_sep', bigSep_sep', pts_off (m (tLoc d)) (hq c) 16, pts_off (list m d) (hq c) 16, pts_cut d (0 + 8192 * c.val) 512 16 (by decide) f]
  refine eq_of ?_ ?_
  · iintro ⟨⟨H0, H0'⟩, ⟨H1, H1'⟩, H2⟩
    isplitl [H0 H1 H2]
    · isplitl [H0]; · iexact H0
      isplitl [H1] <;> iassumption
    · isplitl [H0'] <;> iassumption
  · iintro ⟨⟨H0, H1, H2⟩, H0', H1'⟩
    isplitl [H0 H0']; · isplitl [H0] <;> iassumption
    isplitl [H1 H1']; · isplitl [H1] <;> iassumption
    iexact H2

theorem vecSplit : (K (F := F)).VecSplit' (P m) 0 := by
  intro d c
  show corePart m d (Fin.cast nCore_zero c) (m (oLoc d)) ⊢ |={Set.univ}=> iprop(
      (bigSep Finset.univ fun i : Fin ((K (F := F)).nSub 0) => taskPart m d (Fin.cast nCore_zero c) (Fin.cast nSub_zero i) (m (oLoc d)))
      ∗ ((bigSep Finset.univ fun i : Fin ((K (F := F)).nSub 0) => taskPart m d (Fin.cast nCore_zero c) (Fin.cast nSub_zero i) (rows m d))
          -∗ corePart m d (Fin.cast nCore_zero c) (rows m d)))
  rw [bigSep_tasks (F := F) (fun i => taskPart m d (Fin.cast nCore_zero c) i (m (oLoc d))),
    bigSep_tasks (F := F) (fun i => taskPart m d (Fin.cast nCore_zero c) i (rows m d)), core_split, core_split]
  iintro ⟨H, Hr⟩; imodintro
  isplitl [H]; · iexact H
  iintro H
  isplitl [H] <;> iassumption

/-- The table, the list and the result whole are the SparseCores' parts. -/
theorem whole_split (d : Dev nD) (f : Buf (Elt F) (oLoc d)) :
    (iprop((tLoc d ↦{fullShare} m (tLoc d)) ∗ (iLoc d ↦{fullShare} list m d) ∗ oLoc d ↦{fullShare} f) : sProp 𝕄)
      = bigSep Finset.univ fun c : Fin 2 => corePart m d c f := by
  unfold corePart part
  rw [bigSep_sep', bigSep_sep', pts_halves, pts_halves, ← pts_cut d 0 8192 2 (by decide) f, outSet_univ]

theorem st_eq (d : Dev nD) : (bigSep Finset.univ fun c : Fin ((K (F := F)).nCore 0) => (P m).st 0 d c)
    = iprop((tLoc d ↦{fullShare} m (tLoc d)) ∗ (iLoc d ↦{fullShare} list m d) ∗ oLoc d ↦{fullShare} m (oLoc d)) := by
  rw [whole_split]; exact bigSep_cores (fun c => corePart m d c (m (oLoc d)))
theorem dn_eq (d : Dev nD) : (bigSep Finset.univ fun c : Fin ((K (F := F)).nCore 0) => (P m).dn 0 d c)
    = iprop((tLoc d ↦{fullShare} m (tLoc d)) ∗ (iLoc d ↦{fullShare} list m d) ∗ oLoc d ↦{fullShare} rows m d) := by
  rw [whole_split]; exact bigSep_cores (fun c => corePart m d c (rows m d))

/-! ## The launch's ghost state -/

def u₀ : UU := (initOf (K (F := F)).hsCells (K (F := F)).hsToks, 1)

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (F := F) m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The arrays, through the program -/

abbrev UC : Finset (DevRef τ sig) := Pipeline.ucRefs τ sig
abbrev t' : DevRef τ sig := Proc.devRef .tc (main_arg0 : Ref sig .tc)
abbrev a' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev opI : HloOp τ sig (Elt F) := StableHlo.reshape main_arg1 main_v0 (rfl : (.i32 : EltTy) = .i32) shapeCasts_S16384x1_S1x16384

/-- At the launch, with the list as a row, with the rows gathered. -/
def W0 (d : Dev nD) : Valuation τ sig (Elt F) := fun b => m (d, b)
def W1 (d : Dev nD) : Valuation τ sig (Elt F) := (opI (F := F)).result (W0 m d)
def W2 (d : Dev nD) : Valuation τ sig (Elt F) := Function.update (W1 m d) o' (rows m d)

theorem mem_uc (b : Ref sig .tc) (h : ¬ (Proc.devRef .tc b : DevRef τ sig).isScoped) : Proc.devRef .tc b ∈ UC :=
  Finset.mem_filter.mpr ⟨StableHlo.devRef_mem_tcRefs b, h⟩
theorem tio_sub : ({t', i', o'} : Finset (DevRef τ sig)) ⊆ UC := by
  intro b hb
  simp only [Finset.mem_insert, Finset.mem_singleton] at hb
  rcases hb with rfl | rfl | rfl
  · exact mem_uc main_arg0 (by decide)
  · exact mem_uc main_v0 (by decide)
  · exact mem_uc main_v1 (by decide)

omit [FloatOps F] in
/-- The arrays the call takes, out of all of them. -/
theorem held_tio (d : Dev nD) (W : Valuation τ sig (Elt F)) :
    (held (T d) UC W : sProp 𝕄) = iprop(((tLoc d ↦{fullShare} W t') ∗ (iLoc d ↦{fullShare} W i') ∗ oLoc d ↦{fullShare} W o') ∗ held (T d) (UC \ {t', i', o'}) W) := by
  rw [StableHlo.held_sub_split (T d) tio_sub W]
  refine congrArg (fun X => iprop(X ∗ held (T d) (UC \ {t', i', o'}) W)) ?_
  unfold held
  rw [SparseCore.bigSep_insert' (by decide), SparseCore.bigSep_insert' (by decide), bigSep_singleton]

theorem W1_of (d : Dev nD) (b : DevRef τ sig) (h : b ∉ ({i'} : Finset (DevRef τ sig))) : W1 m d b = m (d, b) :=
  (opI (F := F)).result_of_not_mem (W0 m d) (b := b) h
theorem W1_i (d : Dev nD) : W1 m d i' = list m d := StableHlo.reshape_result _ _ _ _ _ _ _
theorem held_W1 (d : Dev nD) :
    (held (T d) UC (W1 m d) : sProp 𝕄) = iprop(((tLoc d ↦{fullShare} m (tLoc d)) ∗ (iLoc d ↦{fullShare} list m d) ∗ oLoc d ↦{fullShare} m (oLoc d))
      ∗ held (T d) (UC \ {t', i', o'}) (W1 m d)) := by
  rw [held_tio, W1_of m d t' (by decide), W1_i, W1_of m d o' (by decide)]
theorem W2_o (d : Dev nD) : W2 m d o' = rows m d := Function.update_self _ _ _
theorem W2_of (d : Dev nD) (b : DevRef τ sig) (h : b ≠ o') : W2 m d b = W1 m d b := Function.update_of_ne h _ _
theorem W2_t (d : Dev nD) : W2 m d t' = m (tLoc d) := (W2_of m d t' (by decide)).trans (W1_of m d t' (by decide))
theorem W2_a (d : Dev nD) : W2 m d a' = m (aLoc d) := (W2_of m d a' (by decide)).trans (W1_of m d a' (by decide))
theorem held_W2 (d : Dev nD) :
    (held (T d) UC (W2 m d) : sProp 𝕄) = iprop(((tLoc d ↦{fullShare} m (tLoc d)) ∗ (iLoc d ↦{fullShare} list m d) ∗ oLoc d ↦{fullShare} rows m d)
      ∗ held (T d) (UC \ {t', i', o'}) (W1 m d)) := by
  rw [held_tio, W2_t, W2_of m d i' (by decide), W1_i, W2_o]
  refine congrArg (fun X => iprop(((tLoc d ↦{fullShare} m (tLoc d)) ∗ (iLoc d ↦{fullShare} list m d) ∗ oLoc d ↦{fullShare} rows m d) ∗ X)) ?_
  refine StableHlo.held_congr (T d) fun b hb => W2_of m d b ?_
  rintro rfl
  exact (Finset.mem_sdiff.mp hb).2 (by simp)

/-! ## @main on the TensorCore -/

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ held (T d) UC (W2 m d) ∗ (K (F := F)).tcEnd d) := by
  unfold SparseCore.Cfg.tcRes SparseCore.Cfg.tcEnd
  rw [show (unscopedBufs d fun b => m ((SparseCore.T d).loc b) : sProp 𝕄) = held (T d) UC (W0 m d) from Pipeline.unscopedBufs_held d (W0 m d)]
  simp only [main, wp_bind, wp_pure]
  iintro ⟨#Hctx, Hst, ⟨Hb, Hh, Hts, -⟩, -⟩
  iapply (wp_hlo_within 𝒱 (SparseCore.T d) none Set.univ (op := opI) (S := UC) (V := W0 m d) (Pipeline.sub_ucRefs _ (StableHlo.reshape_bufs_sub ..))) $$ [Hb Hh]
  · isplitl [Hb] <;> iassumption
  iintro ⟨Hb, Hh⟩
  ihave Hh := (Entails.of_eq (show (held (T d) UC ((opI (F := F)).result (W0 m d)) : sProp 𝕄) = _ from held_W1 m d)) $$ Hh
  icases Hh with ⟨⟨Ht, Hi, Ho⟩, Hr⟩
  rw [wp_ret]; imodintro
  iapply ((K (F := F)).wp_run (D (F := F)) 𝒱 (EH := EH) (P := P m) κ d 0)
  isplitr; · iexact Hctx
  isplitl [Hst]; · iexact Hst
  isplitl [Ht Hi Ho]
  · rw [st_eq]
    isplitl [Ht]; · iexact Ht
    isplitl [Hi] <;> iassumption
  iintro ⟨Hst, Hdn⟩
  ihave Hdn := (Entails.of_eq (dn_eq m d)) $$ Hdn
  ihave Hh := (Entails.of_eq (held_W2 m d).symm) $$ [Hdn Hr]
  · isplitl [Hdn] <;> iassumption
  imodintro
  isplitl [Hst]; · iexact Hst
  isplitl [Hh]; · iexact Hh
  isplitl [Hb] <;> iassumption

/-! ## The run -/

def fq (d : Dev nD) (s' : Phys nD τ sig (Elt F)) : Prop := ∀ b ∈ UC, s'.mem.mem (d, b) = W2 m d b

theorem hfin (d : Dev nD) (s' : Phys nD τ sig (Elt F)) : iprop(held (T d) UC (W2 m d) ∗ SI s') ⊢ (⌜fq m d s'⌝ : sProp 𝕄) := by
  unfold held
  exact (pointsTo_read_all (Ix := HIx 1) (Name := ℕ) (U := UU) (Lvl := ℕ) UC (fun b => (d, b)) (W2 m d) s').trans sep_elim_left

/-- The run: both arguments as they were, the result the rows the list names, every counter at zero. -/
def QC : PUnit × MemSt nD τ sig (Elt F) → Prop := fun r =>
  (∀ d : Dev nD, r.2.mem ((d : Thread nD τ).loc main_arg0) = m ((d : Thread nD τ).loc main_arg0)
    ∧ r.2.mem ((d : Thread nD τ).loc main_arg1) = m ((d : Thread nD τ).loc main_arg1)
    ∧ r.2.mem ((d : Thread nD τ).loc main_v1) = rows m d) ∧ r.2.sem = fun _ => 0

theorem run_main [∀ e, Nonempty (Elt F e)] (hpre : PreOK m) :
    θ_run (Cert.BackIdeal.defs (F := F)) (Cert.BackIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (fun d => held (T d) UC (W2 m d)) (u₀ (F := F)) (sep_elim_left.trans (hu₀ m)) (hmain m ρ) (fq m) (hfin m) (QC m)
    (fun s h hz => ⟨fun d => ⟨(h d _ (mem_uc main_arg0 (by decide))).trans (W2_t m d), (h d _ (mem_uc main_arg1 (by decide))).trans (W2_a m d),
      (h d _ (mem_uc main_v1 (by decide))).trans (W2_o m d)⟩, hz⟩)

end Cert.Proof.BLaunch

end
-- ==== Proof.BRef.lean ====
/-
  The last gather's result and its reference's, compared: on row numbers in the table both are the rows they name.
-/
module

public import proofs.«01_k».proof.Proof.BLaunch
public import proofs.«01_k».proof.Proof.Ref
public import proofs.«01_k».proof.Proof.Pre
public import proofs.«01_k».proof.Proof.Gen.BackReferenceIdeal.Run
public import proofs.«01_k».proof.Proof.Gen.Pre_perm_in_rows

@[expose] public section

noncomputable section

namespace Cert.Proof.BRef

open Idealize.ShloMosaic Idealize.ShloMosaic.TcCoe
open Cert.Proof.Slots (rowNo)
open Cert.Proof.BSlots (word rowsOf)

/-! ## The list as a row -/

section List
open Cert.BackIdeal Cert.BackIdeal.Gen

/-- Word `r` of the row is entry `r` of the list. -/
theorem word_row (A : S16384x1.Idx → BitVec 32) (r : Fin 16384) :
    word (shapeCast S1x16384 A shapeCasts_S16384x1_S1x16384) r.val = A (ix2 r 0) := by
  unfold word
  rw [dif_pos r.isLt]
  refine congrArg A (Shape.reshapeEquiv_eq_of_rowMajor (s := S16384x1) _ ?_)
  have e2 := Shape.rowMajor_val_two (d := ![16384, 1]) (ix2 r (0 : Fin 1))
  have e1 := Shape.rowMajor_val_two (d := ![1, 16384]) (ix2 (0 : Fin 1) r)
  refine e2.trans (Eq.trans ?_ e1.symm)
  show r.val * 1 + 0 = 0 * 16384 + r.val
  omega

/-- Every word of the row is below 16384 where every entry of the list is; the word past its end is 0. -/
theorem word_lt (A : S16384x1.Idx → BitVec 32) (h : ∀ r : Fin 16384, (A (ix2 r 0)).toNat < 16384) (k : ℕ) :
    (word (shapeCast S1x16384 A shapeCasts_S16384x1_S1x16384) k).toNat < 16384 := by
  by_cases hk : k < 16384
  · rw [word_row A ⟨k, hk⟩]
    exact h _
  · unfold word
    rw [dif_neg hk]
    decide
end List

/-! ## The precondition -/

/-- Every entry of the list is below 16384. -/
theorem decode {F : FTy → Type} [FloatOps F] (x0 : FVec F Cert.Pre_perm_in_rows.S16384x128 .f32) (x1 : IVec Cert.Pre_perm_in_rows.S16384x1 32)
    (h : Cert.Pre_perm_in_rows.fn (F := F) x0 x1 = fun _ => 1#1) (r : Fin 16384) : (x1 (ix2 r 0)).toNat < 16384 :=
  Pre.lt_of_signed _ (congrFun h (ix2 r 0))

/-! ## The reference's result -/

section Reference
open Cert.BackReferenceIdeal Cert.BackReferenceIdeal.Gen

/-- The reference's gather: the list's entries name rows, the last axis runs along the row. -/
abbrev Gd : GatherDims S16384x128 S16384x1 S16384x128 := gather_S16384x128_S16384x1_S16384x128_1_0_n_n_0_1_1128

theorem gather_at {α : Type} (x : S16384x128.Idx → α) (idx : IVec S16384x1 32) (r : Fin 16384) (o : Fin 128) :
    Host.gather Gd x idx (ix2 r o) = x (ix2 (Ref.held (idx (ix2 r 0))) o) := by
  unfold Host.gather
  refine congrArg x (funext fun a => Fin.ext ?_)
  match a with
  | ⟨0, _⟩ =>
    have hm : (0 : Fin 2) ∈ Gd.startIndexMap := List.mem_singleton.2 rfl
    have hk : (0 : Fin 2) ∉ Gd.sKept := fun h => ((Gd.mem_sKept 0).1 h).1 (List.mem_singleton.2 rfl)
    show Gd.start (ix2 r o) idx 0 + Gd.batchCoord (ix2 r o) 0 + Gd.offCoord (ix2 r o) 0 = min (idx (ix2 r 0)).toInt.toNat 16383
    rw [Gd.batchCoord_eq_zero _ _ List.not_mem_nil, Gd.offCoord_eq_zero _ _ hk]
    simp only [Nat.add_zero]
    unfold GatherDims.start
    rw [dif_pos hm]
    have hsi : Gd.siIdx (ix2 r o) ⟨Gd.startIndexMap.idxOf 0, List.idxOf_lt_length_iff.2 hm⟩ = ix2 r (0 : Fin 1) := by
      funext b
      apply Fin.ext
      fin_cases b <;> rfl
    rw [hsi]
    rfl
  | ⟨1, _⟩ =>
    have hk : (1 : Fin 2) ∈ Gd.sKept := (Gd.mem_sKept 1).2 ⟨by decide, List.not_mem_nil⟩
    have hm : (1 : Fin 2) ∉ Gd.startIndexMap := by decide
    show Gd.start (ix2 r o) idx 1 + Gd.batchCoord (ix2 r o) 1 + Gd.offCoord (ix2 r o) 1 = o.val
    rw [Gd.batchCoord_eq_zero _ _ List.not_mem_nil, Nat.add_zero]
    unfold GatherDims.start GatherDims.offCoord
    rw [dif_neg hm, dif_pos hk, Nat.zero_add]
    rfl

/-- The rows named by a list of row numbers, where a number below 0 would count from the table's end. -/
abbrev taken {F : FTy → Type} (T : S16384x128.Idx → Elt F .f32) (I : IVec S16384x1 32) : S16384x128.Idx → Elt F .f32 :=
  Host.gather Gd T (broadcastInDim S16384x1 ![0] bcast_S16384_S16384x1_0 (select (cmpi .slt (shapeCast S16384 I shapeCasts_S16384x1_S16384) (broadcastInDim S16384 ![] bcast_S_S16384 (constantI S_ 32 0#32)))
    (addi (shapeCast S16384 I shapeCasts_S16384x1_S16384) (broadcastInDim S16384 ![] bcast_S_S16384 (constantI S_ 32 16384#32))) (shapeCast S16384 I shapeCasts_S16384x1_S16384)))

theorem taken_at {F : FTy → Type} (T : S16384x128.Idx → Elt F .f32) (I : IVec S16384x1 32) (h : ∀ r : Fin 16384, (I (ix2 r 0)).toNat < 16384)
    (r : Fin 16384) (o : Fin 128) : taken T I (ix2 r o) = T (ix2 (rowNo (I (ix2 r 0))) o) := by
  pointwise [taken, gather_at]
  rw [Ref.not_neg _ (h r), Ref.select_zero, Ref.held_eq _ (h r)]

/-- They are the rows the kernel moves. -/
theorem taken_eq {F : FTy → Type} (T : S16384x128.Idx → Elt F .f32) (I : IVec S16384x1 32) (h : ∀ r : Fin 16384, (I (ix2 r 0)).toNat < 16384) :
    taken T I = rowsOf T (shapeCast Cert.BackIdeal.S1x16384 I Cert.BackIdeal.Gen.shapeCasts_S16384x1_S1x16384) := by
  funext j
  idx_vars j
  rw [taken_at T I h]
  unfold rowsOf
  exact congrArg (fun w => T (ix2 (rowNo w) j1)) (word_row I j0).symm
end Reference

/-! ## The programs' -/

section Kernel
open Cert.BackIdeal
variable {F : FTy → Type} [FloatOps F] (m : (ℓ : Loc nD τ sig) → Buf (Elt F) ℓ)

theorem preOK (h : ∀ d : Dev nD, Cert.Pre_perm_in_rows.fn (F := F) (m ((d.tc : Thread nD τ).loc main_arg0)) (m ((d.tc : Thread nD τ).loc main_arg1)) = fun _ => 1#1) :
    BLaunch.PreOK m := fun d k => word_lt (m (BLaunch.aLoc d)) (decode _ _ (h d)) k
end Kernel

end Cert.Proof.BRef

end
-- ==== Proof.BSame.lean ====
/-
  The two printings of the last gather are one program.
-/
module

public import proofs.«01_k».proof.Proof.Gen.Back
public import proofs.«01_k».proof.Proof.Gen.BackIdeal

@[expose] public section

noncomputable section

namespace Cert.Proof.BSame

open Idealize.ShloMosaic Idealize.SL.Sem

variable {F : FTy → Type} [FloatOps F]

/-- A task's text is the same. -/
theorem task : Cert.Back.cc0_gather_kernel (F := F) = Cert.BackIdeal.cc0_gather_kernel := rfl

set_option maxHeartbeats 4000000 in
/-- So are the tables of the kernels' bodies, -/
theorem bodies : Cert.Back.defs₀ (F := F) = Cert.BackIdeal.defs₀ := by
  funext p ℓ a
  match p, ℓ, a with
  | .tc, 0, _ => rfl
  | .scVector _ _, 0, _ =>
    unfold Cert.Back.defs₀ Cert.BackIdeal.defs₀
    dsimp only
    rw [task]
    rfl
  | .scScalar _, 0, _ => rfl

/-- those with the launch added, -/
theorem tables : Cert.Back.defs (F := F) = Cert.BackIdeal.defs :=
  congrArg (fun D => (Cert.BackIdeal.sc (F := F)).defs (Pipeline.defs Cert.BackIdeal.pcfgs D)) bodies

/-- and the threads' programs. -/
theorem threads : Cert.Back.threads (F := F) = Cert.BackIdeal.threads := rfl

end Cert.Proof.BSame

end
-- ==== Proof.lean ====
/-
  The claims: both readings of the kernel's program run to the end, leave their arguments and set every semaphore back to
  zero; so does the reference; and on lists that name rows, finite numbers, a mask of zeros and ones with a one in each row
  and gains that are not negative, the kernel's result is the reference's. So do the first layer's programs, and on batch
  numbers in the list and scales that are finite and not zero the first layer's results are its reference's. So do the
  programs of the points' cells, whose two results are their reference's on any arguments, and those of the ranking, whose
  two results are their reference's where every point's number is a cell's. So do the programs of the last gather, whose
  result is its reference's where every number in the list is a row's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_idx_in_rows
public import proofs.«01_k».proof.Proof.Gen.Pre_idx_and_finite
public import proofs.«01_k».proof.Proof.Gen.First
public import proofs.«01_k».proof.Proof.Gen.First.Frame
public import proofs.«01_k».proof.Proof.Gen.FirstIdeal
public import proofs.«01_k».proof.Proof.Gen.FirstIdeal.Value
public import proofs.«01_k».proof.Proof.Gen.FirstReferenceIdeal
public import proofs.«01_k».proof.Proof.Gen.FirstReferenceIdeal.Run
public import proofs.«01_k».proof.Proof.Gen.Pre_batch_in_range
public import proofs.«01_k».proof.Proof.Gen.Cells
public import proofs.«01_k».proof.Proof.Gen.Cells.Frame
public import proofs.«01_k».proof.Proof.Gen.CellsIdeal
public import proofs.«01_k».proof.Proof.Gen.CellsIdeal.Value
public import proofs.«01_k».proof.Proof.Gen.CellsReferenceIdeal
public import proofs.«01_k».proof.Proof.Gen.CellsReferenceIdeal.Run
public import proofs.«01_k».proof.Proof.Gen.Rank
public import proofs.«01_k».proof.Proof.Gen.RankIdeal
public import proofs.«01_k».proof.Proof.Gen.RankIdeal.Skeleton
public import proofs.«01_k».proof.Proof.Gen.RankIdeal.Frame
public import proofs.«01_k».proof.Proof.Gen.RankReferenceIdeal
public import proofs.«01_k».proof.Proof.Gen.RankReferenceIdeal.Run
public import proofs.«01_k».proof.Proof.Gen.Pre_cid_is_cell
public import proofs.«01_k».proof.Proof.Gen.Back
public import proofs.«01_k».proof.Proof.Gen.BackIdeal
public import proofs.«01_k».proof.Proof.Gen.BackIdeal.Skeleton
public import proofs.«01_k».proof.Proof.Gen.BackReferenceIdeal
public import proofs.«01_k».proof.Proof.Gen.BackReferenceIdeal.Run
public import proofs.«01_k».proof.Proof.Gen.Pre_perm_in_rows
public import proofs.«01_k».proof.Proof.Alg
public import proofs.«01_k».proof.Proof.Same
public import proofs.«01_k».proof.Proof.FRef
public import proofs.«01_k».proof.Proof.CRef
public import proofs.«01_k».proof.Proof.RRef
public import proofs.«01_k».proof.Proof.BRef
public import proofs.«01_k».proof.Proof.BSame
public import Idealize.ShloMosaic.Adequacy
public import Idealize.ShloMosaic.Init

@[expose] public section

noncomputable section

namespace Cert.Proof

open Idealize.ShloMosaic Idealize.SL.Sem

/-- The lists name rows. -/
theorem rows_of (m : (ℓ : Loc Cert.KernelIdeal.nD Cert.KernelIdeal.τ Cert.KernelIdeal.sig) → Buf (Elt Ideal) ℓ)
    (h : Cert.Pre_KernelIdeal_idx_and_finite m) : Launch.PreOK m :=
  Alg.preOK m fun d => (Pre.decode _ _ _ _ _ _ _ _ (h d)).1

section Frame
open Cert.KernelIdeal
variable {F : FTy → Type} [FloatOps F] [∀ e, Nonempty (Elt F e)]

/-- The run, as the claims that state no value read it. -/
theorem frame (m : (ℓ : Loc nD τ sig) → Buf (Elt F) ℓ) (ρ : Dev nD → PrngReg) (h : Launch.PreOK m) :
    θ_run (Cert.KernelIdeal.defs (F := F)) (Cert.KernelIdeal.threads (F := F)) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)) ∧ r.2.sem = fun _ => 0 :=
  (θ_run Cert.KernelIdeal.defs _ _).mono (fun _ q => ⟨fun c => ⟨(q.1 c).1 main_arg0 (by decide), (q.1 c).1 main_arg1 (by decide), (q.1 c).1 main_arg2 (by decide), (q.1 c).1 main_arg3 (by decide), (q.1 c).1 main_arg4 (by decide), (q.1 c).1 main_arg5 (by decide), (q.1 c).1 main_arg6 (by decide), (q.1 c).1 main_arg7 (by decide)⟩, q.2⟩) (Run.run_main (F := F) m ρ h)
end Frame

theorem frame_kernel : Cert.quiescent_Kernel := fun m ρ h => by
  rw [Same.tables, Same.threads]
  exact frame (F := Bits) m ρ (Alg.preOK (F := Bits) m fun d => Pre.lt_of_rows _ _ _ _ _ _ _ _ (h d))

theorem frame_ideal : Cert.quiescent_KernelIdeal := fun m ρ h =>
  frame (F := Ideal) m ρ (Alg.preOK (F := Ideal) m fun d => Pre.lt_of_rows _ _ _ _ _ _ _ _ (h d))

theorem frame_ideal_finite : Cert.quiescent_KernelIdeal_pre_idx_and_finite := fun m ρ h => frame (F := Ideal) m ρ (rows_of m h)

theorem frame_reference : Cert.quiescent_ReferenceIdeal := fun m ρ _ =>
  (θ_run Cert.ReferenceIdeal.defs _ _).mono (fun r q => ⟨fun c => (q c).2, sem_eq_zero_of_no_sems (by decide) r.2⟩) (Cert.ReferenceIdeal.Value.run (F := Ideal) m ρ)

theorem frame_reference_finite : Cert.quiescent_ReferenceIdeal_pre_idx_and_finite := fun m ρ _ =>
  (θ_run Cert.ReferenceIdeal.defs _ _).mono (fun r q => ⟨fun c => (q c).2, sem_eq_zero_of_no_sems (by decide) r.2⟩) (Cert.ReferenceIdeal.Value.run (F := Ideal) m ρ)

theorem algebraic : Cert.algebraic_KernelIdeal_ReferenceIdeal_pre_idx_and_finite := by
  intro m ρ m' ρ' h hagree
  refine ⟨fun c => Run.W6 m c (Proc.devRef .tc Cert.KernelIdeal.main_v6), (θ_run Cert.KernelIdeal.defs _ _).mono (fun _ q c => ⟨(q.1 c).2, (q.1 c).1 Cert.KernelIdeal.main_arg0 (by decide), (q.1 c).1 Cert.KernelIdeal.main_arg1 (by decide), (q.1 c).1 Cert.KernelIdeal.main_arg2 (by decide), (q.1 c).1 Cert.KernelIdeal.main_arg3 (by decide), (q.1 c).1 Cert.KernelIdeal.main_arg4 (by decide), (q.1 c).1 Cert.KernelIdeal.main_arg5 (by decide), (q.1 c).1 Cert.KernelIdeal.main_arg6 (by decide), (q.1 c).1 Cert.KernelIdeal.main_arg7 (by decide)⟩)
    (Run.run_main (F := Ideal) m ρ (rows_of m h)), ?_⟩
  refine (θ_run Cert.ReferenceIdeal.defs _ _).mono (fun _ q c => ⟨(q c).1.trans ?_, (q c).2⟩) (Cert.ReferenceIdeal.Value.run (F := Ideal) m' ρ')
  obtain ⟨e0, e1, e2, e3, e4, e5, e6, e7⟩ := hagree c
  exact Alg.close m c (StableHlo.launchContents m' c) (h c) e0 e1 e2 e3 e4 e5 e6 e7 _ rfl

/-! ## The first layer -/

theorem first_frame : Cert.quiescent_First := fun m ρ _ => Cert.First.Gen.frame (F := Bits) m ρ
theorem first_frame_ideal : Cert.quiescent_FirstIdeal := fun m ρ _ => Cert.FirstIdeal.Gen.frame (F := Ideal) m ρ
theorem first_frame_ideal_range : Cert.quiescent_FirstIdeal_pre_batch_in_range := fun m ρ _ => Cert.FirstIdeal.Gen.frame (F := Ideal) m ρ
theorem first_frame_reference : Cert.quiescent_FirstReferenceIdeal := fun m ρ _ =>
  (θ_run Cert.FirstReferenceIdeal.defs _ _).mono (fun r q => ⟨fun c => (q c).2.2.2.2.2.2, sem_eq_zero_of_no_sems (by decide) r.2⟩) (Cert.FirstReferenceIdeal.Value.run (F := Ideal) m ρ)
theorem first_frame_reference_range : Cert.quiescent_FirstReferenceIdeal_pre_batch_in_range := fun m ρ _ => first_frame_reference m ρ trivial

theorem first_algebraic : Cert.algebraic_FirstIdeal_FirstReferenceIdeal_pre_batch_in_range := by
  intro m ρ m' ρ' h hagree
  refine ⟨fun c => FArr.G7 m c, fun c => FArr.G8 m c, fun c => FPay.a1 m c, fun c => FPay.a2 m c, fun c => FPay.a3 m c, fun c => FPay.a4 m c,
    (θ_run Cert.FirstIdeal.defs _ _).mono (fun _ q c => ?_) (Cert.FirstIdeal.Value.run_blocks (F := Ideal) m ρ), ?_⟩
  · obtain ⟨r7, r8, k⟩ := q c
    exact ⟨r7.trans (FArr.arr7 m c), r8.trans (FArr.arr8 m c), k.2.1, k.2.2.1, k.2.2.2.1, k.2.2.2.2.1, k⟩
  refine (θ_run Cert.FirstReferenceIdeal.defs _ _).mono (fun _ q c => ?_) (Cert.FirstReferenceIdeal.Value.run (F := Ideal) m' ρ')
  obtain ⟨hb, hs, hr⟩ := FRef.decode _ _ _ _ _ _ _ (h c)
  obtain ⟨e0, e1, e2, e3, e4, e5, e6⟩ := hagree c
  obtain ⟨r0, r1, r2, r3, r4, r5, k⟩ := q c
  refine ⟨r0.trans ?_, r1.trans ?_, r2.trans ?_, r3.trans e2, r4.trans e3, r5.trans e4, k⟩
  · rw [e0, e1, e2, e3, e4, e5, e6]
    exact FRef.close0 m c hb hs _ fun r o => FRef.own_at _ _ _ _ _ _ _ hb r o _ (FRef.quad_at _ _ _ _ hb)
  · rw [e1, e2, e3, e4, e5]
    exact FRef.close1 m c hb hs _ fun r o => FRef.nb_at _ _ _ _ _ hb r o _ (FRef.quad_at _ _ _ _ hb)
  · rw [e1, e2, e3, e4]
    exact FRef.back_at _ _ _ _ hb hs hr _ (FRef.quad_at _ _ _ _ hb)

theorem cells_frame : Cert.quiescent_Cells := fun m ρ _ => Cert.Cells.Gen.frame (F := Bits) m ρ
theorem cells_frame_ideal : Cert.quiescent_CellsIdeal := fun m ρ _ => Cert.CellsIdeal.Gen.frame (F := Ideal) m ρ
theorem cells_frame_reference : Cert.quiescent_CellsReferenceIdeal := fun m ρ _ =>
  (θ_run Cert.CellsReferenceIdeal.defs _ _).mono (fun r q => ⟨fun c => (q c).2.2, sem_eq_zero_of_no_sems (by decide) r.2⟩) (Cert.CellsReferenceIdeal.Value.run (F := Ideal) m ρ)

theorem cells_algebraic : Cert.algebraic_CellsIdeal_CellsReferenceIdeal := by
  intro m ρ m' ρ' _ hagree
  refine ⟨fun c => CArr.G1 m c, fun c => CArr.G2 m c,
    (θ_run Cert.CellsIdeal.defs _ _).mono (fun _ q c => ?_) (Cert.CellsIdeal.Value.run_blocks (F := Ideal) m ρ), ?_⟩
  · obtain ⟨r1, r2, k⟩ := q c
    exact ⟨r1.trans (CArr.arr1 m c), r2.trans (CArr.arr2 m c), k⟩
  refine (θ_run Cert.CellsReferenceIdeal.defs _ _).mono (fun _ q c => ?_) (Cert.CellsReferenceIdeal.Value.run (F := Ideal) m' ρ')
  obtain ⟨e0, e1⟩ := hagree c
  obtain ⟨r0, r1, k⟩ := q c
  refine ⟨r0.trans ?_, r1.trans ?_, k⟩
  · rw [e0, e1]
    exact CRef.close1 m c
  · rw [e0, e1]
    exact CRef.close2 m c _ fun k => CRef.hist_at _ k

/-! ## The ranking -/

/-- The two printings of the ranking are one program. -/
theorem rank_body : Cert.Rank.cc0__rank_body (F := Bits) = Cert.RankIdeal.cc0__rank_body := rfl
theorem rank_bodies : Cert.Rank.defs₀ (F := Bits) = Cert.RankIdeal.defs₀ := by
  unfold Cert.Rank.defs₀ Cert.RankIdeal.defs₀
  rw [rank_body]
  refine congrArg Defs.onTc (funext fun ℓ => funext fun a => ?_)
  match ℓ, a with
  | 0, (t, s) => rfl
theorem rank_tables : Cert.Rank.defs (F := Bits) = Cert.RankIdeal.defs := congrArg (fun D => Pipeline.defs Cert.RankIdeal.pcfgs D) rank_bodies
theorem rank_main : Cert.Rank.main (F := Bits) = Cert.RankIdeal.main := rfl

theorem rank_frame : Cert.quiescent_Rank := fun m ρ _ => by
  rw [rank_tables, rank_main]
  exact RBody.frame (F := Bits) m ρ
theorem rank_frame_ideal : Cert.quiescent_RankIdeal := fun m ρ _ => RBody.frame (F := Ideal) m ρ
theorem rank_frame_ideal_cell : Cert.quiescent_RankIdeal_pre_cid_is_cell := fun m ρ _ => RBody.frame (F := Ideal) m ρ
theorem rank_frame_reference : Cert.quiescent_RankReferenceIdeal := fun m ρ _ =>
  (θ_run Cert.RankReferenceIdeal.defs _ _).mono (fun r q => ⟨fun c => (q c).2.2, sem_eq_zero_of_no_sems (by decide) r.2⟩) (Cert.RankReferenceIdeal.Value.run (F := Ideal) m ρ)
theorem rank_frame_reference_cell : Cert.quiescent_RankReferenceIdeal_pre_cid_is_cell := fun m ρ _ => rank_frame_reference m ρ trivial

theorem rank_algebraic : Cert.algebraic_RankIdeal_RankReferenceIdeal_pre_cid_is_cell := by
  intro m ρ m' ρ' h hagree
  have lanes : ∀ c, ∃ κ : Fin 16384 → Fin 1024, ∀ r, RVal.a0 m c (ix2 r 0) = RVal.lane (κ r) := fun c =>
    ⟨fun r => (RRef.decode _ _ (h c) r).choose, fun r => (RRef.decode _ _ (h c) r).choose_spec⟩
  choose κ hκ using lanes
  refine ⟨fun c => RVal.G2 m c (κ c), fun c => RVal.G3 m c,
    (θ_run Cert.RankIdeal.defs _ _).mono (fun _ q c => ⟨((q.1.1 c).1 2).trans (RVal.arr2 m c (κ c) (hκ c)), ((q.1.1 c).1 3).trans (RVal.arr3 m c), q.2.1 c⟩)
      (θ_run_and (RBody.run_main (F := Ideal) m ρ) (RBody.frame (F := Ideal) m ρ)), ?_⟩
  refine (θ_run Cert.RankReferenceIdeal.defs _ _).mono (fun _ q c => ?_) (Cert.RankReferenceIdeal.Value.run (F := Ideal) m' ρ')
  obtain ⟨e0, e1⟩ := hagree c
  obtain ⟨r0, r1, k⟩ := q c
  refine ⟨r0.trans ?_, r1.trans ?_, k⟩
  · rw [e0, e1]
    exact RRef.close2 m c (κ c) (hκ c) _ fun r => RRef.place_at _ _ r
  · rw [e1]
    exact RRef.close3 m c _ fun k => RRef.start_at _ k

/-! ## The last gather -/

section Back
open Cert.BackIdeal
variable {F : FTy → Type} [FloatOps F] [∀ e, Nonempty (Elt F e)]

/-- The run, as the claims that state no value read it. -/
theorem back_run (m : (ℓ : Loc nD τ sig) → Buf (Elt F) ℓ) (ρ : Dev nD → PrngReg) (h : BLaunch.PreOK m) :
    θ_run (Cert.BackIdeal.defs (F := F)) (Cert.BackIdeal.threads (F := F)) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run Cert.BackIdeal.defs _ _).mono (fun _ q => ⟨fun c => ⟨(q.1 c).1, (q.1 c).2.1⟩, q.2⟩) (BLaunch.run_main m ρ h)
end Back

theorem back_frame : Cert.quiescent_Back := fun m ρ h => by
  rw [BSame.tables, BSame.threads]
  exact back_run (F := Bits) m ρ (BRef.preOK (F := Bits) m h)
theorem back_frame_ideal : Cert.quiescent_BackIdeal := fun m ρ h => back_run (F := Ideal) m ρ (BRef.preOK (F := Ideal) m h)
theorem back_frame_reference : Cert.quiescent_BackReferenceIdeal := fun m ρ _ =>
  (θ_run Cert.BackReferenceIdeal.defs _ _).mono (fun r q => ⟨fun c => (q c).2, sem_eq_zero_of_no_sems (by decide) r.2⟩) (Cert.BackReferenceIdeal.Value.run (F := Ideal) m ρ)
theorem back_frame_reference_rows : Cert.quiescent_BackReferenceIdeal_pre_perm_in_rows := fun m ρ _ => back_frame_reference m ρ trivial

theorem back_algebraic : Cert.algebraic_BackIdeal_BackReferenceIdeal := by
  intro m ρ m' ρ' h hagree
  refine ⟨fun c => BLaunch.rows m c,
    (θ_run Cert.BackIdeal.defs _ _).mono (fun _ q c => ⟨(q.1 c).2.2, (q.1 c).1, (q.1 c).2.1⟩) (BLaunch.run_main (F := Ideal) m ρ (BRef.preOK (F := Ideal) m h)), ?_⟩
  refine (θ_run Cert.BackReferenceIdeal.defs _ _).mono (fun _ q c => ?_) (Cert.BackReferenceIdeal.Value.run (F := Ideal) m' ρ')
  obtain ⟨e0, e1⟩ := hagree c
  obtain ⟨r0, k⟩ := q c
  refine ⟨r0.trans ?_, k⟩
  rw [e0, e1]
  exact BRef.taken_eq (F := Ideal) _ _ (BRef.decode _ _ (h c))

theorem claim : Cert.Claim :=
  ⟨Cert.Kernel.Gen.facts, Cert.KernelIdeal.Gen.facts, Cert.ReferenceIdeal.Gen.facts, Cert.First.Gen.facts, Cert.FirstIdeal.Gen.facts, Cert.FirstReferenceIdeal.Gen.facts,
    Cert.Cells.Gen.facts, Cert.CellsIdeal.Gen.facts, Cert.CellsReferenceIdeal.Gen.facts,
    Cert.Rank.Gen.facts, Cert.RankIdeal.Gen.facts, Cert.RankReferenceIdeal.Gen.facts,
    Cert.Back.Gen.facts, Cert.BackIdeal.Gen.facts, Cert.BackReferenceIdeal.Gen.facts,
    Cert.Pre_idx_in_rows.Gen.facts, Cert.Pre_idx_and_finite.Gen.facts, Cert.Pre_batch_in_range.Gen.facts, Cert.Pre_cid_is_cell.Gen.facts, Cert.Pre_perm_in_rows.Gen.facts,
    frame_kernel, frame_ideal, frame_ideal_finite, frame_reference, frame_reference_finite,
    first_frame, first_frame_ideal, first_frame_ideal_range, first_frame_reference, first_frame_reference_range,
    cells_frame, cells_frame_ideal, cells_frame_reference,
    rank_frame, rank_frame_ideal, rank_frame_ideal_cell, rank_frame_reference, rank_frame_reference_cell,
    back_frame, back_frame_ideal, back_frame_reference, back_frame_reference_rows,
    trivial, algebraic, trivial, first_algebraic, trivial, cells_algebraic, trivial, rank_algebraic, trivial, back_algebraic⟩

end Cert.Proof

end
